-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v127)) (v2 : (c : Dev Cert.KernelIdeal.nD) → Buf (Elt Ideal) ((c.tc : Thread Cert.KernelIdeal.nD Cert.KernelIdeal.τ).loc Cert.KernelIdeal.main_v128)) (v3 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_v128) = v2 c
          ∧ r.2.mem ((c.tc : Thread Cert.KernelIdeal.nD Cert.KernelIdeal.τ).loc Cert.KernelIdeal.main_v129) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v11_3)) (v1 : (c : Dev Cert.FfnIdeal.nD) → Buf (Elt Ideal) ((c.tc : Thread Cert.FfnIdeal.nD Cert.FfnIdeal.τ).loc Cert.FfnIdeal.main_v13)) (v2 : (c : Dev Cert.FfnIdeal.nD) → Buf (Elt Ideal) ((c.tc : Thread Cert.FfnIdeal.nD Cert.FfnIdeal.τ).loc Cert.FfnIdeal.main_v15)) (v3 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_3) = v0 c
          ∧ r.2.mem ((c.tc : Thread Cert.FfnIdeal.nD Cert.FfnIdeal.τ).loc Cert.FfnIdeal.main_v13) = v1 c
          ∧ r.2.mem ((c.tc : Thread Cert.FfnIdeal.nD Cert.FfnIdeal.τ).loc Cert.FfnIdeal.main_v15) = v2 c
          ∧ r.2.mem ((c.tc : Thread Cert.FfnIdeal.nD Cert.FfnIdeal.τ).loc Cert.FfnIdeal.main_v16) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_v15) = v1 c
          ∧ r.2.mem ((c.tc : Thread Cert.FfnRefIdeal.nD Cert.FfnRefIdeal.τ).loc Cert.FfnRefIdeal.main_v11) = v2 c
          ∧ r.2.mem ((c.tc : Thread Cert.FfnRefIdeal.nD Cert.FfnRefIdeal.τ).loc Cert.FfnRefIdeal.main_v6) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)) →
    ∃ (v0 : (c : Dev Cert.FwdIdeal.nD) → Buf (Elt Ideal) ((c.tc : Thread Cert.FwdIdeal.nD Cert.FwdIdeal.τ).loc Cert.FwdIdeal.main_v13_5)) (v1 : (c : Dev Cert.FwdIdeal.nD) → Buf (Elt Ideal) ((c.tc : Thread Cert.FwdIdeal.nD Cert.FwdIdeal.τ).loc Cert.FwdIdeal.main_v13_1)) (v2 : (c : Dev Cert.FwdIdeal.nD) → Buf (Elt Ideal) ((c.tc : Thread Cert.FwdIdeal.nD Cert.FwdIdeal.τ).loc Cert.FwdIdeal.main_v13_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v13_5) = v0 c
          ∧ r.2.mem ((c.tc : Thread Cert.FwdIdeal.nD Cert.FwdIdeal.τ).loc Cert.FwdIdeal.main_v13_1) = v1 c
          ∧ r.2.mem ((c.tc : Thread Cert.FwdIdeal.nD Cert.FwdIdeal.τ).loc Cert.FwdIdeal.main_v13_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v58) = v0 c
          ∧ r.2.mem ((c.tc : Thread Cert.FwdRefIdeal.nD Cert.FwdRefIdeal.τ).loc Cert.FwdRefIdeal.main_v59) = v1 c
          ∧ r.2.mem ((c.tc : Thread Cert.FwdRefIdeal.nD Cert.FwdRefIdeal.τ).loc Cert.FwdRefIdeal.main_v60) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFwd : Cert.Fwd.Facts) (hFwdIdeal : Cert.FwdIdeal.Facts) (hFwdRefIdeal : Cert.FwdRefIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Fwd (hFwd := hFwd)
    ∧ quiescent_FwdIdeal (hFwdIdeal := hFwdIdeal)
    ∧ quiescent_FwdRefIdeal (hFwdRefIdeal := hFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Fwd_FwdIdeal
    ∧ algebraic_FwdIdeal_FwdRefIdeal (hFwdIdeal := hFwdIdeal) (hFwdRefIdeal := hFwdRefIdeal)
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite.lean ====
abbrev S4096x8x64 : Shape := ⟨3, ![4096, 8, 64]⟩
abbrev S4096x8 : Shape := ⟨2, ![4096, 8]⟩
abbrev S_ : Shape := ⟨0, ![]⟩

class Facts : Prop where
  bcast_S_S4096x8x64 : S_.BroadcastsInDim S4096x8x64 (![] : Fin 0 → Fin S4096x8x64.rank)
  bcast_S_S4096x8 : S_.BroadcastsInDim S4096x8 (![] : Fin 0 → Fin S4096x8.rank)

variable [Facts]

def fn {F : FTy → Type} [FloatOps F] (main_arg0 : FVec F S4096x8x64 .f32) (main_arg1 : FVec F S4096x8x64 .f32) (main_arg2 : FVec F S4096x8x64 .f32) (main_arg3 : FVec F S4096x8 .f32) (main_arg4 : FVec F S4096x8x64 .f32) : IVec S4096x8x64 1 × IVec S4096x8x64 1 × IVec S4096x8x64 1 × IVec S4096x8 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  (main_v2, main_v5, main_v8, main_v11, main_v14)
-- ==== Kernel.lean ====
abbrev S4096x8x64 : Shape := ⟨3, ![4096, 8, 64]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x512 : Shape := ⟨2, ![4096, 512]⟩
abbrev S4096x8x1 : Shape := ⟨3, ![4096, 8, 1]⟩
abbrev S4096x8x128 : Shape := ⟨3, ![4096, 8, 128]⟩
abbrev S4096x1024 : Shape := ⟨2, ![4096, 1024]⟩
abbrev S8x128 : Shape := ⟨2, ![8, 128]⟩
abbrev S4x4096x256 : Shape := ⟨3, ![4, 4096, 256]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S1x4096x256 : Shape := ⟨3, ![1, 4096, 256]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S4x4096x2x128 : Shape := ⟨4, ![4, 4096, 2, 128]⟩
abbrev S4096x4x2x128 : Shape := ⟨4, ![4096, 4, 2, 128]⟩

abbrev nBuf : Space → Nat
  | .hbm => 177
  | .vmem => 18
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8, .f32⟩
  | 4 => ⟨S4096x8x64, .f32⟩
  | 5 => ⟨S8x4096x4096, .f32⟩
  | 6 => ⟨S_, .f32⟩
  | 7 => ⟨S8x4096x4096, .f32⟩
  | 8 => ⟨S8x4096x4096, .f32⟩
  | 9 => ⟨S8x4096, .f32⟩
  | 10 => ⟨S8x4096x1, .f32⟩
  | 11 => ⟨S8x4096x4096, .f32⟩
  | 12 => ⟨S8x4096x4096, .f32⟩
  | 13 => ⟨S8x4096, .f32⟩
  | 14 => ⟨S8x1x4096, .f32⟩
  | 15 => ⟨S8x4096x4096, .f32⟩
  | 16 => ⟨S8x4096x4096, .f32⟩
  | 17 => ⟨S4096, .i32⟩
  | 18 => ⟨S1x4096, .i32⟩
  | 19 => ⟨S4096x1, .i32⟩
  | 20 => ⟨S4096x4096, .i32⟩
  | 21 => ⟨S4096x4096, .i32⟩
  | 22 => ⟨S4096x4096, .i1⟩
  | 23 => ⟨S_, .f32⟩
  | 24 => ⟨S_, .f32⟩
  | 25 => ⟨S8x4096x4096, .i1⟩
  | 26 => ⟨S8x4096x4096, .f32⟩
  | 27 => ⟨S8x4096x4096, .f32⟩
  | 28 => ⟨S_, .f32⟩
  | 29 => ⟨S8x4096, .f32⟩
  | 30 => ⟨S8x4096x1, .f32⟩
  | 31 => ⟨S8x4096x4096, .f32⟩
  | 32 => ⟨S8x4096x4096, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S8x64x4096, .f32⟩
  | 43 => ⟨S4096x8x64, .f32⟩
  | 44 => ⟨S4096x512, .f32⟩
  | 45 => ⟨S8x4096x1, .f32⟩
  | 46 => ⟨S8x4096x1, .f32⟩
  | 47 => ⟨S8x4096, .f32⟩
  | 48 => ⟨S4096x8, .f32⟩
  | 49 => ⟨S4096x8x1, .f32⟩
  | 50 => ⟨S4096x8x64, .f32⟩
  | 51 => ⟨S4096x512, .f32⟩
  | 52 => ⟨S4096x8x64, .i32⟩
  | 53 => ⟨S4096x8x64, .i32⟩
  | 54 => ⟨S4096x8x64, .i32⟩
  | 55 => ⟨S4096x8, .bf16⟩
  | 56 => ⟨S4096x8, .f32⟩
  | 57 => ⟨S4096x8, .f32⟩
  | 58 => ⟨S4096x8, .bf16⟩
  | 59 => ⟨S4096x8, .f32⟩
  | 60 => ⟨S4096x8, .f32⟩
  | 61 => ⟨S4096x8, .bf16⟩
  | 62 => ⟨S4096x8, .f32⟩
  | 63 => ⟨S4096x8x1, .f32⟩
  | 64 => ⟨S4096x8, .f32⟩
  | 65 => ⟨S4096x8x1, .f32⟩
  | 66 => ⟨S4096x8, .f32⟩
  | 67 => ⟨S4096x8x1, .f32⟩
  | 68 => ⟨S_, .f32⟩
  | 69 => ⟨S4096x8x64, .f32⟩
  | 70 => ⟨S_, .f32⟩
  | 71 => ⟨S4096x8x64, .f32⟩
  | 72 => ⟨S_, .i32⟩
  | 73 => ⟨S4096x8x64, .i32⟩
  | 74 => ⟨S4096x8x64, .i1⟩
  | 75 => ⟨S4096x8x64, .f32⟩
  | 76 => ⟨S_, .i32⟩
  | 77 => ⟨S4096x8x64, .i32⟩
  | 78 => ⟨S4096x8x64, .i1⟩
  | 79 => ⟨S4096x8x64, .f32⟩
  | 80 => ⟨S_, .i32⟩
  | 81 => ⟨S4096x8x64, .i32⟩
  | 82 => ⟨S4096x8x64, .i1⟩
  | 83 => ⟨S4096x8x64, .f32⟩
  | 84 => ⟨S_, .i32⟩
  | 85 => ⟨S4096x8x64, .i32⟩
  | 86 => ⟨S4096x8x64, .i1⟩
  | 87 => ⟨S4096x8x64, .f32⟩
  | 88 => ⟨S4096x8x64, .f32⟩
  | 89 => ⟨S_, .i32⟩
  | 90 => ⟨S4096x8x64, .i32⟩
  | 91 => ⟨S4096x8x64, .i1⟩
  | 92 => ⟨S4096x8x64, .f32⟩
  | 93 => ⟨S4096x8x64, .f32⟩
  | 94 => ⟨S_, .i32⟩
  | 95 => ⟨S4096x8x64, .i32⟩
  | 96 => ⟨S4096x8x64, .i1⟩
  | 97 => ⟨S4096x8x64, .f32⟩
  | 98 => ⟨S4096x8x64, .f32⟩
  | 99 => ⟨S4096x8x1, .f32⟩
  | 100 => ⟨S4096x8x1, .f32⟩
  | 101 => ⟨S4096x8x1, .f32⟩
  | 102 => ⟨S_, .i32⟩
  | 103 => ⟨S4096x8x64, .i32⟩
  | 104 => ⟨S4096x8x64, .i1⟩
  | 105 => ⟨S4096x8x64, .f32⟩
  | 106 => ⟨S4096x8x64, .f32⟩
  | 107 => ⟨S_, .i32⟩
  | 108 => ⟨S4096x8x64, .i32⟩
  | 109 => ⟨S4096x8x64, .i1⟩
  | 110 => ⟨S4096x8x64, .f32⟩
  | 111 => ⟨S4096x8x64, .f32⟩
  | 112 => ⟨S_, .i32⟩
  | 113 => ⟨S4096x8x64, .i32⟩
  | 114 => ⟨S4096x8x64, .i1⟩
  | 115 => ⟨S4096x8x64, .f32⟩
  | 116 => ⟨S4096x8x64, .f32⟩
  | 117 => ⟨S_, .i32⟩
  | 118 => ⟨S4096x8x64, .i32⟩
  | 119 => ⟨S4096x8x64, .i1⟩
  | 120 => ⟨S4096x8x64, .f32⟩
  | 121 => ⟨S_, .i32⟩
  | 122 => ⟨S4096x8x64, .i32⟩
  | 123 => ⟨S4096x8x64, .i1⟩
  | 124 => ⟨S4096x8x64, .f32⟩
  | 125 => ⟨S_, .i32⟩
  | 126 => ⟨S4096x8x64, .i32⟩
  | 127 => ⟨S4096x8x64, .i1⟩
  | _ => ⟨S4096x8x64, .f32⟩

abbrev hbmTy0_1 (i : Nat) : BufTy := match i % 128 with
  | 0 => ⟨S4096x8x64, .f32⟩
  | 1 => ⟨S_, .f32⟩
  | 2 => ⟨S4096x8x64, .f32⟩
  | 3 => ⟨S4096x8x64, .f32⟩
  | 4 => ⟨S4096x8x128, .f32⟩
  | 5 => ⟨S4096x1024, .f32⟩
  | 6 => ⟨S4096x1024, .bf16⟩
  | 7 => ⟨S4096x8x128, .f32⟩
  | 8 => ⟨S4096x1024, .f32⟩
  | 9 => ⟨S4096x1024, .bf16⟩
  | 10 => ⟨S_, .f32⟩
  | 11 => ⟨S8x128, .f32⟩
  | 12 => ⟨S4096x512, .f32⟩
  | 13 => ⟨S4096x512, .bf16⟩
  | 14 => ⟨S4096x512, .f32⟩
  | 15 => ⟨S4x4096x256, .f32⟩
  | 16 => ⟨S4096x1024, .f32⟩
  | 17 => ⟨S4096x512, .f32⟩
  | 18 => ⟨S4x4096x2x128, .f32⟩
  | 19 => ⟨S4096x4x2x128, .f32⟩
  | 20 => ⟨S4096x8x128, .f32⟩
  | 21 => ⟨S4096x8x128, .f32⟩
  | 22 => ⟨S_, .i32⟩
  | 23 => ⟨S4096x8x64, .i32⟩
  | 24 => ⟨S4096x8x64, .i1⟩
  | 25 => ⟨S4096x8x64, .f32⟩
  | 26 => ⟨S_, .f32⟩
  | 27 => ⟨S_, .f32⟩
  | 28 => ⟨S4096x8x64, .f32⟩
  | 29 => ⟨S4096x8x64, .f32⟩
  | 30 => ⟨S_, .f32⟩
  | 31 => ⟨S4096x8, .f32⟩
  | 32 => ⟨S_, .i32⟩
  | 33 => ⟨S4096x8x64, .i32⟩
  | 34 => ⟨S4096x8x64, .i1⟩
  | 35 => ⟨S4096x8x64, .f32⟩
  | 36 => ⟨S_, .f32⟩
  | 37 => ⟨S_, .f32⟩
  | 38 => ⟨S4096x8x64, .f32⟩
  | 39 => ⟨S4096x8x64, .f32⟩
  | 40 => ⟨S_, .f32⟩
  | 41 => ⟨S4096x8, .f32⟩
  | 42 => ⟨S4096x8x64, .f32⟩
  | 43 => ⟨S_, .f32⟩
  | 44 => ⟨S4096x8x64, .f32⟩
  | 45 => ⟨S4096x8x64, .f32⟩
  | 46 => ⟨S4096x8x64, .f32⟩
  | 47 => ⟨S4096x8x64, .f32⟩
  | 48 => ⟨S4096x8, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1x4096x256, .f32⟩
  | .local _ .vmem, ⟨13, _⟩ => ⟨S1x4096x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_c : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_7 : Ref sig .tc := ⟨.hbm, 84, rfl⟩
abbrev main_v67 : Ref sig .tc := ⟨.hbm, 85, rfl⟩
abbrev main_v68 : Ref sig .tc := ⟨.hbm, 86, rfl⟩
abbrev main_call4_v0 : Ref sig .tc := ⟨.hbm, 87, rfl⟩
abbrev main_v69 : Ref sig .tc := ⟨.hbm, 88, rfl⟩
abbrev main_c_8 : Ref sig .tc := ⟨.hbm, 89, rfl⟩
abbrev main_v70 : Ref sig .tc := ⟨.hbm, 90, rfl⟩
abbrev main_v71 : Ref sig .tc := ⟨.hbm, 91, rfl⟩
abbrev main_call5_v0 : Ref sig .tc := ⟨.hbm, 92, rfl⟩
abbrev main_v72 : Ref sig .tc := ⟨.hbm, 93, rfl⟩
abbrev main_c_9 : Ref sig .tc := ⟨.hbm, 94, rfl⟩
abbrev main_v73 : Ref sig .tc := ⟨.hbm, 95, rfl⟩
abbrev main_v74 : Ref sig .tc := ⟨.hbm, 96, rfl⟩
abbrev main_call6_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_10 : Ref sig .tc := ⟨.hbm, 102, rfl⟩
abbrev main_v79 : Ref sig .tc := ⟨.hbm, 103, rfl⟩
abbrev main_v80 : Ref sig .tc := ⟨.hbm, 104, rfl⟩
abbrev main_call7_v0 : Ref sig .tc := ⟨.hbm, 105, rfl⟩
abbrev main_v81 : Ref sig .tc := ⟨.hbm, 106, rfl⟩
abbrev main_c_11 : Ref sig .tc := ⟨.hbm, 107, rfl⟩
abbrev main_v82 : Ref sig .tc := ⟨.hbm, 108, rfl⟩
abbrev main_v83 : Ref sig .tc := ⟨.hbm, 109, rfl⟩
abbrev main_call8_v0 : Ref sig .tc := ⟨.hbm, 110, rfl⟩
abbrev main_v84 : Ref sig .tc := ⟨.hbm, 111, rfl⟩
abbrev main_c_12 : Ref sig .tc := ⟨.hbm, 112, rfl⟩
abbrev main_v85 : Ref sig .tc := ⟨.hbm, 113, rfl⟩
abbrev main_v86 : Ref sig .tc := ⟨.hbm, 114, rfl⟩
abbrev main_call9_v0 : Ref sig .tc := ⟨.hbm, 115, rfl⟩
abbrev main_v87 : Ref sig .tc := ⟨.hbm, 116, rfl⟩
abbrev main_c_13 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_14 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_15 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_17 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109_0 : Ref sig .tc := ⟨.hbm, 143, rfl⟩
abbrev main_v109_1 : Ref sig .tc := ⟨.hbm, 144, rfl⟩
abbrev main_v109_2 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_call13_v0 : Ref sig .tc := ⟨.hbm, 155, rfl⟩
abbrev main_call13_v1 : Ref sig .tc := ⟨.hbm, 156, rfl⟩
abbrev main_v117 : Ref sig .tc := ⟨.hbm, 157, rfl⟩
abbrev main_cst_20 : Ref sig .tc := ⟨.hbm, 158, rfl⟩
abbrev main_v118 : Ref sig .tc := ⟨.hbm, 159, rfl⟩
abbrev main_c_21 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_22 : Ref sig .tc := ⟨.hbm, 164, rfl⟩
abbrev main_call14_v0 : Ref sig .tc := ⟨.hbm, 165, rfl⟩
abbrev main_call14_v1 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_cst_24 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_11 : Index := 0#32
  ![v20.toNat, 0]
def k0_off2 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v31 : Index := Scalar.indexCast v19
  let c0_14 : Index := 0#32
  ![v31.toNat, 0]
def k0_off3 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v34 : Index := Scalar.indexCast v19
  let c128_15 : Index := 128#32
  ![v34.toNat, 128]
def k0_off4 (i : grid0.Coords) : Fin 3 → Nat :=
  let c0_46 : Index := 0#32
  let arg1 : BitVec 32 := BitVec.ofNat 32 (i 1).val
  let c512_i32 : BitVec 32 := 512#32
  let v18 : BitVec 32 := Scalar.muli arg1 c512_i32
  let v19 : BitVec 32 := v18
  let v121 : Index := Scalar.indexCast v19
  let c0_47 : Index := 0#32
  ![0, v121.toNat, 0]
def k0_off5 (i : grid0.Coords) : Fin 3 → Nat :=
  let c0_56 : Index := 0#32
  let arg1 : BitVec 32 := BitVec.ofNat 32 (i 1).val
  let c512_i32 : BitVec 32 := 512#32
  let v18 : BitVec 32 := Scalar.muli arg1 c512_i32
  let v19 : BitVec 32 := v18
  let v135 : Index := Scalar.indexCast v19
  let c128_57 : Index := 128#32
  ![0, v135.toNat, 128]
def k0_mult2 (i : grid0.Coords) : BitVec 32 :=
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  v145
def k0_off6 (i : grid0.Coords) : Fin 2 → Nat :=
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  let v146 : BitVec 32 := v145
  let v147 : Index := Scalar.indexCast v146
  let c0_62 : Index := 0#32
  ![v147.toNat, 0]
def k0_off7 (i : grid0.Coords) : Fin 2 → Nat :=
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  let v146 : BitVec 32 := v145
  let v158 : Index := Scalar.indexCast v146
  let c0_65 : Index := 0#32
  ![v158.toNat, 0]
def k0_off8 (i : grid0.Coords) : Fin 2 → Nat :=
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  let v146 : BitVec 32 := v145
  let v161 : Index := Scalar.indexCast v146
  let c128_66 : Index := 128#32
  ![v161.toNat, 128]
def k0_off9 (i : grid0.Coords) : Fin 3 → Nat :=
  let c0_97 : Index := 0#32
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  let v146 : BitVec 32 := v145
  let v245 : Index := Scalar.indexCast v146
  let c0_98 : Index := 0#32
  ![0, v245.toNat, 0]
def k0_off10 (i : grid0.Coords) : Fin 3 → Nat :=
  let c0_107 : Index := 0#32
  let arg1 : BitVec 32 := BitVec.ofNat 32 (i 1).val
  let c512_i32_61 : BitVec 32 := 512#32
  let v144 : BitVec 32 := Scalar.muli arg1 c512_i32_61
  let c256_i32 : BitVec 32 := 256#32
  let v145 : BitVec 32 := Scalar.addi v144 c256_i32
  let v146 : BitVec 32 := v145
  let v259 : Index := Scalar.indexCast v146
  let c128_108 : Index := 128#32
  ![0, v259.toNat, 128]
@[reducible] def k0_t1_loop (i : grid0.Coords) : Scf.Loop 32 :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_114 : BitVec 32 := 1#32
  ⟨v268, v273, c1_i32_114⟩
def k0_mult3 (i : grid0.Coords) (k0_t1 : Fin (k0_t1_loop i).trips) : BitVec 32 :=
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  v274
def k0_off11 (i : grid0.Coords) (k0_t1 : Fin (k0_t1_loop i).trips) : Fin 2 → Nat :=
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  let v275 : BitVec 32 := v274
  let v276 : Index := Scalar.indexCast v275
  let c0_117 : Index := 0#32
  ![v276.toNat, 0]
def k0_off12 (i : grid0.Coords) (k0_t1 : Fin (k0_t1_loop i).trips) : Fin 2 → Nat :=
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  let v275 : BitVec 32 := v274
  let v287 : Index := Scalar.indexCast v275
  let c0_120 : Index := 0#32
  ![v287.toNat, 0]
def k0_off13 (i : grid0.Coords) (k0_t1 : Fin (k0_t1_loop i).trips) : Fin 2 → Nat :=
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  let v275 : BitVec 32 := v274
  let v290 : Index := Scalar.indexCast v275
  let c128_121 : Index := 128#32
  ![v290.toNat, 128]
def k0_off14 (i : grid0.Coords) (k0_t1 : Fin (k0_t1_loop i).trips) : Fin 3 → Nat :=
  let c0_149 : Index := 0#32
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  let v275 : BitVec 32 := v274
  let v365 : Index := Scalar.indexCast v275
  let c0_150 : Index := 0#32
  ![0, v365.toNat, 0]
def k0_off15 (i : grid0.Coords) (k0_t1 : Fin (k0_t1_loop i).trips) : Fin 3 → Nat :=
  let c0_159 : Index := 0#32
  let arg1 : BitVec 32 := BitVec.ofNat 32 (i 1).val
  let c1_i32 : BitVec 32 := 1#32
  let v268 : BitVec 32 := Scalar.addi arg1 c1_i32
  let c1_i32_114 : BitVec 32 := 1#32
  let arg12 : BitVec 32 := Scf.iv v268 c1_i32_114 k0_t1
  let c512_i32_116 : BitVec 32 := 512#32
  let v274 : BitVec 32 := Scalar.muli arg12 c512_i32_116
  let v275 : BitVec 32 := v274
  let v379 : Index := Scalar.indexCast v275
  let c128_160 : Index := 128#32
  ![0, v379.toNat, 128]
@[reducible] def k0_t2_loop (i : grid0.Coords) : Scf.Loop 32 :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let v270 : BitVec 32 := Scalar.addi v268 v269
  let c1_i32_115 : BitVec 32 := 1#32
  ⟨v273, v270, c1_i32_115⟩
def k0_mult4 (i : grid0.Coords) (k0_t2 : Fin (k0_t2_loop i).trips) : BitVec 32 :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  v274
def k0_off16 (i : grid0.Coords) (k0_t2 : Fin (k0_t2_loop i).trips) : Fin 2 → Nat :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  let v275 : BitVec 32 := v274
  let v276 : Index := Scalar.indexCast v275
  let c0_117 : Index := 0#32
  ![v276.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  let v275 : BitVec 32 := v274
  let v287 : Index := Scalar.indexCast v275
  let c0_120 : Index := 0#32
  ![v287.toNat, 0]
def k0_off18 (i : grid0.Coords) (k0_t2 : Fin (k0_t2_loop i).trips) : Fin 2 → Nat :=
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  let v275 : BitVec 32 := v274
  let v290 : Index := Scalar.indexCast v275
  let c128_121 : Index := 128#32
  ![v290.toNat, 128]
def k0_off19 (i : grid0.Coords) (k0_t2 : Fin (k0_t2_loop i).trips) : Fin 3 → Nat :=
  let c0_149 : Index := 0#32
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  let v275 : BitVec 32 := v274
  let v365 : Index := Scalar.indexCast v275
  let c0_150 : Index := 0#32
  ![0, v365.toNat, 0]
def k0_off20 (i : grid0.Coords) (k0_t2 : Fin (k0_t2_loop i).trips) : Fin 3 → Nat :=
  let c0_159 : Index := 0#32
  let arg1 : BitVec 32 := BitVec.ofNat 32 (i 1).val
  let c1_i32 : BitVec 32 := 1#32
  let v268 : BitVec 32 := Scalar.addi arg1 c1_i32
  let c8_i32 : BitVec 32 := 8#32
  let v269 : BitVec 32 := Scalar.subi c8_i32 v268
  let c1_i32_113 : BitVec 32 := 1#32
  let v271 : BitVec 32 := Scalar.divsi v269 c1_i32_113
  let v272 : BitVec 32 := Scalar.muli v271 c1_i32_113
  let v273 : BitVec 32 := Scalar.addi v268 v272
  let c1_i32_115 : BitVec 32 := 1#32
  let arg12 : BitVec 32 := Scf.iv v273 c1_i32_115 k0_t2
  let c512_i32_116 : BitVec 32 := 512#32
  let v274 : BitVec 32 := Scalar.muli arg12 c512_i32_116
  let v275 : BitVec 32 := v274
  let v379 : Index := Scalar.indexCast v275
  let c128_160 : Index := 128#32
  ![0, v379.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x8x64 : Shape := ⟨3, ![4096, 8, 64]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 112
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8, .f32⟩
  | .hbm, ⟨4, _⟩ => ⟨S4096x8x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096, .f32⟩
  | .hbm, ⟨10, _⟩ => ⟨S8x4096x1, .f32⟩
  | .hbm, ⟨11, _⟩ => ⟨S8x4096x4096, .f32⟩
  | .hbm, ⟨12, _⟩ => ⟨S8x4096x4096, .f32⟩
  | .hbm, ⟨13, _⟩ => ⟨S8x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x64x4096, .f32⟩
  | .hbm, ⟨69, _⟩ => ⟨S4096x8x64, .f32⟩
  | .hbm, ⟨70, _⟩ => ⟨S8x64x4096, .f32⟩
  | .hbm, ⟨71, _⟩ => ⟨S8x4096x4096, .f32⟩
  | .hbm, ⟨72, _⟩ => ⟨S8x64x4096, .f32⟩
  | .hbm, ⟨73, _⟩ => ⟨S4096x8x64, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x1x4096, .f32⟩
  | .hbm, ⟨95, _⟩ => ⟨S_, .f32⟩
  | .hbm, ⟨96, _⟩ => ⟨S8x4096, .f32⟩
  | .hbm, ⟨97, _⟩ => ⟨S4096x8, .f32⟩
  | .hbm, ⟨98, _⟩ => ⟨S_, .f32⟩
  | .hbm, ⟨99, _⟩ => ⟨S8x4096, .f32⟩
  | .hbm, ⟨100, _⟩ => ⟨S8x4096x1, .f32⟩
  | .hbm, ⟨101, _⟩ => ⟨S_, .f32⟩
  | .hbm, ⟨102, _⟩ => ⟨S8x4096, .f32⟩
  | .hbm, ⟨103, _⟩ => ⟨S4096x8, .f32⟩
  | .hbm, ⟨104, _⟩ => ⟨S4096x8, .f32⟩
  | .hbm, ⟨105, _⟩ => ⟨S_, .f32⟩
  | .hbm, ⟨106, _⟩ => ⟨S8x4096x4096, .f32⟩
  | .hbm, ⟨107, _⟩ => ⟨S8x4096x4096, .f32⟩
  | .hbm, ⟨108, _⟩ => ⟨S8x4096x64, .f32⟩
  | .hbm, ⟨109, _⟩ => ⟨S4096x8x64, .f32⟩
  | .hbm, ⟨110, _⟩ => ⟨S8x4096x64, .f32⟩
  | .hbm, ⟨111, _⟩ => ⟨S4096x8x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Ffn.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1024x256 : Shape := ⟨2, ![1024, 256]⟩
abbrev S256x1024 : Shape := ⟨2, ![256, 1024]⟩
abbrev S512x1024 : Shape := ⟨2, ![512, 1024]⟩
abbrev S_ : Shape := ⟨0, ![]⟩
abbrev S256x256 : Shape := ⟨2, ![256, 256]⟩
abbrev S256x512 : Shape := ⟨2, ![256, 512]⟩
abbrev S1024x512 : Shape := ⟨2, ![1024, 512]⟩

abbrev nBuf : Space → Nat
  | .hbm => 25
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S4096x1024, .bf16⟩
  | .hbm, ⟨10, _⟩ => ⟨S4096x1024, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S2816x1024, .bf16⟩
  | .hbm, ⟨19, _⟩ => ⟨S4096x1024, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S4096x1024, .f32⟩
  | .local _ .vmem, ⟨21, _⟩ => ⟨S512x1024, .f32⟩
  | .local _ .vmem, ⟨22, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c1024_i32_92 : BitVec 32 := 1024#32
  let v214 : BitVec 32 := Scalar.muli arg1 c1024_i32_92
  v214
def k0_off1 (i : grid0.Coords) : Fin 2 → Nat :=
  let arg1 : BitVec 32 := BitVec.ofNat 32 (i 1).val
  let c1024_i32_92 : BitVec 32 := 1024#32
  let v214 : BitVec 32 := Scalar.muli arg1 c1024_i32_92
  let v215 : BitVec 32 := v214
  let v216 : Index := Scalar.indexCast v215
  let c0_93 : Index := 0#32
  ![v216.toNat, 0]
def k0_mult2 (i : grid0.Coords) : BitVec 32 :=
  let arg1 : BitVec 32 := BitVec.ofNat 32 (i 1).val
  let c1024_i32 : BitVec 32 := 1024#32
  let v42 : BitVec 32 := Scalar.muli arg1 c1024_i32
  let c0_i32_19 : BitVec 32 := 0#32
  let v43 : BitVec 32 := Scalar.addi v42 c0_i32_19
  v43
def k0_off2 (i : grid0.Coords) (c0_i32_19 : BitVec 32) : Fin 2 → Nat :=
  let arg1 : BitVec 32 := BitVec.ofNat 32 (i 1).val
  let c1024_i32 : BitVec 32 := 1024#32
  let v42 : BitVec 32 := Scalar.muli arg1 c1024_i32
  let v43 : BitVec 32 := Scalar.addi v42 c0_i32_19
  let v44 : BitVec 32 := v43
  let v45 : Index := Scalar.indexCast v44
  let c0_20 : Index := 0#32
  ![v45.toNat, 0]
def k0_mult3 (i : grid0.Coords) : BitVec 32 :=
  let arg1 : BitVec 32 := BitVec.ofNat 32 (i 1).val
  let c1024_i32_36 : BitVec 32 := 1024#32
  let v86 : BitVec 32 := Scalar.muli arg1 c1024_i32_36
  let c256_i32 : BitVec 32 := 256#32
  let v87 : BitVec 32 := Scalar.addi v86 c256_i32
  v87
def k0_mult4 (i : grid0.Coords) : BitVec 32 :=
  let arg1 : BitVec 32 := BitVec.ofNat 32 (i 1).val
  let c1024_i32_53 : BitVec 32 := 1024#32
  let v130 : BitVec 32 := Scalar.muli arg1 c1024_i32_53
  let c512_i32 : BitVec 32 := 512#32
  let v131 : BitVec 32 := Scalar.addi v130 c512_i32
  v131
def k0_mult5 (i : grid0.Coords) : BitVec 32 :=
  let arg1 : BitVec 32 := BitVec.ofNat 32 (i 1).val
  let c1024_i32_70 : BitVec 32 := 1024#32
  let v174 : BitVec 32 := Scalar.muli arg1 c1024_i32_70
  let c768_i32 : BitVec 32 := 768#32
  let v175 : BitVec 32 := Scalar.addi v174 c768_i32
  v175
def k0_cond3 (i : grid0.Coords) : BitVec 1 :=
  let arg1 : BitVec 32 := BitVec.ofNat 32 (i 1).val
  let c3_i32 : BitVec 32 := 3#32
  let v205 : BitVec 1 := Scalar.cmpi .eq arg1 c3_i32
  let v206 : BitVec 32 := Scalar.extui v205
  let c0_i32_88 : BitVec 32 := 0#32
  let v207 : BitVec 1 := Scalar.cmpi .ne v206 c0_i32_88
  v207

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Fwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4096x256 : Shape := ⟨2, ![4096, 256]⟩
abbrev S256x1024 : Shape := ⟨2, ![256, 1024]⟩
abbrev S1024x1024 : Shape := ⟨2, ![1024, 1024]⟩
abbrev S4x704x1024 : Shape := ⟨3, ![4, 704, 1024]⟩
abbrev S_ : Shape := ⟨0, ![]⟩
abbrev S4x448x1024 : Shape := ⟨3, ![4, 448, 1024]⟩
abbrev S4x2560x1024 : Shape := ⟨3, ![4, 2560, 1024]⟩
abbrev S1x1024 : Shape := ⟨2, ![1, 1024]⟩
abbrev S4096x2816 : Shape := ⟨2, ![4096, 2816]⟩
abbrev S8x128 : Shape := ⟨2, ![8, 128]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 35
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x256, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S4096x1024, .f32⟩
  | .hbm, ⟨11, _⟩ => ⟨S2816x1024, .f32⟩
  | .hbm, ⟨12, _⟩ => ⟨S4x704x1024, .f32⟩
  | .hbm, ⟨13, _⟩ => ⟨S2816x1024, .f32⟩
  | .hbm, ⟨14, _⟩ => ⟨S4x704x1024, .f32⟩
  | .hbm, ⟨15, _⟩ => ⟨S4x704x1024, .f32⟩
  | .hbm, ⟨16, _⟩ => ⟨S_, .f32⟩
  | .hbm, ⟨17, _⟩ => ⟨S4x448x1024, .f32⟩
  | .hbm, ⟨18, _⟩ => ⟨S4x2560x1024, .f32⟩
  | .hbm, ⟨19, _⟩ => ⟨S4x2560x1024, .bf16⟩
  | .hbm, ⟨20, _⟩ => ⟨S1x1024, .f32⟩
  | .hbm, ⟨21, _⟩ => ⟨S1x1024, .f32⟩
  | .hbm, ⟨22, _⟩ => ⟨S256x1024, .bf16⟩
  | .hbm, ⟨23, _⟩ => ⟨S1x1024, .f32⟩
  | .hbm, ⟨24, _⟩ => ⟨S1024x1024, .bf16⟩
  | .hbm, ⟨25, _⟩ => ⟨S4096x1024, .bf16⟩
  | .hbm, ⟨26, _⟩ => ⟨S4096x2816, .bf16⟩
  | .hbm, ⟨27, _⟩ => ⟨S4096x2816, .bf16⟩
  | .hbm, ⟨28, _⟩ => ⟨S4096x1024, .bf16⟩
  | .hbm, ⟨29, _⟩ => ⟨S4096x1024, .f32⟩
  | .hbm, ⟨30, _⟩ => ⟨S8x128, .f32⟩
  | .hbm, ⟨31, _⟩ => ⟨S1024x1024, .f32⟩
  | .hbm, ⟨32, _⟩ => ⟨S256x1024, .f32⟩
  | .hbm, ⟨33, _⟩ => ⟨S1x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S256x256, .f32⟩
  | .local _ .vmem, ⟨8, _⟩ => ⟨S256x256, .f32⟩
  | .local _ .vmem, ⟨9, _⟩ => ⟨S256x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S8x128, .f32⟩
  | .local _ .vmem, ⟨25, _⟩ => ⟨S1024x1024, .f32⟩
  | .local _ .vmem, ⟨26, _⟩ => ⟨S256x1024, .f32⟩
  | .local _ .vmem, ⟨27, _⟩ => ⟨S1x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v13_6 : Ref sig .tc := ⟨.hbm, 31, rfl⟩
abbrev main_v13_7 : Ref sig .tc := ⟨.hbm, 32, rfl⟩
abbrev main_v13_8 : Ref sig .tc := ⟨.hbm, 33, rfl⟩
abbrev main_v13_9 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== FwdRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4096x256 : Shape := ⟨2, ![4096, 256]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S8x128 : Shape := ⟨2, ![8, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x256, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S_, .f32⟩
  | .hbm, ⟨89, _⟩ => ⟨S8x128, .f32⟩
  | .hbm, ⟨90, _⟩ => ⟨S4096x2816, .bf16⟩
  | .hbm, ⟨91, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.Attn.Blocks.lean ====
module

public import proofs.«01_k».proof.Proof.Gen.KernelIdeal.Skeleton
public import Idealize.ShloMosaic.Lib.Exec
public import Idealize.ShloMosaic.Lib.VecWindow

@[expose] public section

set_option maxRecDepth 16384

noncomputable section

/-!
  What one block of rows adds, as functions of the values that the kernel loads: the names of this module compose the
  payloads of the body. A block has the keys of two heads `k0`, `k1`, the values `v` of both side by side, and of its
  rows the augmented queries `q0`, `q1`, the output `o`, its gradient `d` and the log-sums `s`. `full*` is a block of
  512 rows under the diagonal, `up*` and `lo*` are the two half-blocks on it.
-/

namespace Cert.KernelIdeal.Attn

open Cert.KernelIdeal Cert.KernelIdeal.Gen
open Idealize.ShloMosaic Idealize.ShloMosaic.TcCoe

variable {F : FTy → Type} [FloatOps F]

/-- The lane numbers of a row of 128 lanes. -/
def lanes : IVec S1x128 32 := iota .tc S1x128 32 [1] iota_S1x128_d1_w32

/-- The literal zero that fills the lanes of the other head. -/
def zeroLit : F .f32 := Scalar.ofBits .f32 0x00000000#32

section Full

variable (k0 k1 v q0 q1 : Vec F S512x128 .bf16) (o d s w : Vec F S512x128 .f32)

/-- The score gradient of the first head over a full block. -/
def fullDs0 : FVec F S512x512 .bf16 :=
  k0_pay19 lanes (k0_pay7 s) (k0_pay11 (k0_pay44 k0) q0) (k0_pay13 (k0_pay46 v) k0_pay47 d) (k0_pay15 k0_pay47 d o)

/-- The score gradient of the second head over a full block. -/
def fullDs1 : FVec F S512x512 .bf16 :=
  k0_pay20 lanes (k0_pay7 s) (k0_pay12 (k0_pay45 k1) q1) (k0_pay14 (k0_pay46 v) k0_pay48 d) (k0_pay16 k0_pay48 d o)

/-- The gradient of the values `w` with a full block added. -/
def fullDv : FVec F S512x128 .f32 :=
  k0_pay21 lanes k0_pay47 (k0_pay7 s) (k0_pay8 d) (k0_pay11 (k0_pay44 k0) q0) (k0_pay12 (k0_pay45 k1) q1) w

/-- The gradient of the first head's keys `w` with a full block added. -/
def fullDk0 : FVec F S512x128 .f32 := k0_pay100 (k0_pay9 q0) (fullDs0 k0 v q0 o d s) (k0_pay22 w)

/-- The gradient of the second head's keys `w` with a full block added. -/
def fullDk1 : FVec F S512x128 .f32 := k0_pay102 (k0_pay10 q1) (fullDs1 k1 v q1 o d s) w

/-- The gradient of the first head's queries `u` with a full block added. -/
def fullDq0 (u : Vec F S1x512x128 .f32) : FVec F S1x512x128 .f32 := k0_pay101 (k0_pay44 k0) (fullDs0 k0 v q0 o d s) u

/-- The gradient of the second head's queries `u` with a full block added. -/
def fullDq1 (u : Vec F S1x512x128 .f32) : FVec F S1x512x128 .f32 := k0_pay103 (k0_pay45 k1) (fullDs1 k1 v q1 o d s) u

end Full

section Half

variable (k0 k1 v : Vec F S512x128 .bf16) (q0 q1 : Vec F S256x128 .bf16) (o d s : Vec F S256x128 .f32)

/-- The score gradient of the first head over the upper half-block. -/
def upDs0 : FVec F S256x256 .bf16 :=
  k0_pay69 (k0_pay58 (k0_pay44 k0) (k0_pay53 q0)) (k0_pay60 (k0_pay46 v) k0_pay47 (k0_pay49 d)) (k0_pay62 k0_pay47 (k0_pay50 d o))
    (k0_pay64 lanes (k0_pay51 s))

/-- The score gradient of the second head over the upper half-block. -/
def upDs1 : FVec F S256x256 .bf16 :=
  k0_pay70 (k0_pay51 s) (k0_pay59 (k0_pay45 k1) q1) (k0_pay61 (k0_pay46 v) k0_pay48 (k0_pay49 d)) (k0_pay63 k0_pay48 (k0_pay50 d o))
    zeroLit (k0_pay65 lanes)

/-- The gradient of the values `w` of the first 256 keys with the upper half-block added. -/
def upDv (w : Vec F S256x128 .f32) : FVec F S256x128 .f32 :=
  k0_pay71 k0_pay47 (k0_pay51 s) (k0_pay52 d) (k0_pay58 (k0_pay44 k0) (k0_pay53 q0)) (k0_pay59 (k0_pay45 k1) q1)
    (k0_pay64 lanes (k0_pay51 s)) zeroLit (k0_pay65 lanes) w

/-- The gradient of the first head's first 256 keys `w` with the upper half-block added. -/
def upDk0 (w : Vec F S256x128 .f32) : FVec F S256x128 .f32 :=
  k0_pay72 (k0_pay53 q0) (k0_pay58 (k0_pay44 k0) (k0_pay53 q0)) (k0_pay60 (k0_pay46 v) k0_pay47 (k0_pay49 d)) (k0_pay62 k0_pay47 (k0_pay50 d o))
    (k0_pay64 lanes (k0_pay51 s)) w

/-- The gradient of the second head's first 256 keys `w` with the upper half-block added. -/
def upDk1 (w : Vec F S256x128 .f32) : FVec F S256x128 .f32 := k0_pay74 (k0_pay54 q1) (upDs1 k1 v q1 o d s) w

/-- The gradient of the first head's queries `u` with the upper half-block added. -/
def upDq0 (u : Vec F S1x256x128 .f32) : FVec F S1x256x128 .f32 := k0_pay73 (k0_pay55 (k0_pay44 k0)) (upDs0 k0 v q0 o d s) u

/-- The gradient of the second head's queries `u` with the upper half-block added. -/
def upDq1 (u : Vec F S1x256x128 .f32) : FVec F S1x256x128 .f32 := k0_pay75 (k0_pay56 (k0_pay45 k1)) (upDs1 k1 v q1 o d s) u

/-- The score gradient of the first head over the lower half-block. -/
def loDs0 : FVec F S256x512 .bf16 :=
  k0_pay93 (k0_pay82 (k0_pay44 k0) q0) (k0_pay84 (k0_pay46 v) k0_pay47 (k0_pay76 d)) (k0_pay86 k0_pay47 (k0_pay77 d o))
    (k0_pay88 lanes (k0_pay78 s))

/-- The score gradient of the second head over the lower half-block. -/
def loDs1 : FVec F S256x512 .bf16 :=
  k0_pay94 (k0_pay78 s) (k0_pay83 (k0_pay45 k1) q1) (k0_pay85 (k0_pay46 v) k0_pay48 (k0_pay76 d)) (k0_pay87 k0_pay48 (k0_pay77 d o))
    zeroLit (k0_pay89 lanes)

/-- The gradient of the values `w` with the lower half-block added. -/
def loDv (w : Vec F S512x128 .f32) : FVec F S512x128 .f32 :=
  k0_pay95 k0_pay47 (k0_pay78 s) (k0_pay79 d) (k0_pay82 (k0_pay44 k0) q0) (k0_pay83 (k0_pay45 k1) q1) (k0_pay88 lanes (k0_pay78 s))
    zeroLit (k0_pay89 lanes) w

/-- The gradient of the first head's keys `w` with the lower half-block added. -/
def loDk0 (w : Vec F S512x128 .f32) : FVec F S512x128 .f32 :=
  k0_pay96 (k0_pay80 q0) (k0_pay82 (k0_pay44 k0) q0) (k0_pay84 (k0_pay46 v) k0_pay47 (k0_pay76 d)) (k0_pay86 k0_pay47 (k0_pay77 d o))
    (k0_pay88 lanes (k0_pay78 s)) w

/-- The gradient of the second head's keys `w` with the lower half-block added. -/
def loDk1 (w : Vec F S512x128 .f32) : FVec F S512x128 .f32 := k0_pay98 (k0_pay81 q1) (loDs1 k1 v q1 o d s) w

/-- The gradient of the first head's queries `u` with the lower half-block added. -/
def loDq0 (u : Vec F S1x256x128 .f32) : FVec F S1x256x128 .f32 := k0_pay97 (k0_pay44 k0) (loDs0 k0 v q0 o d s) u

/-- The gradient of the second head's queries `u` with the lower half-block added. -/
def loDq1 (u : Vec F S1x256x128 .f32) : FVec F S1x256x128 .f32 := k0_pay99 (k0_pay45 k1) (loDs1 k1 v q1 o d s) u

end Half

end Cert.KernelIdeal.Attn
end
-- ==== Proof.Attn.State.lean ====
module

public import proofs.«01_k».proof.Proof.Attn.Blocks

@[expose] public section

set_option maxRecDepth 16384

noncomputable section

/-!
  The contents of the three result windows after each piece of the body, over any float type: every store puts a
  payload over a window of what was there (`VecWindow.put`), every load reads a window (`VecWindow.window`).
-/

namespace Cert.KernelIdeal.Attn

open Cert.KernelIdeal Cert.KernelIdeal.Gen
open Idealize.ShloMosaic Idealize.ShloMosaic.TcCoe
open VecWindow

variable {F : FTy → Type} [FloatOps F]

/-- The keys of the first head of the point's pair. -/
def kHead0 (x1 : Vec F S512x256 .bf16) : Vec F S512x128 .bf16 := window x1 ![0, 0] S512x128.size inb_S512x256_S512x128_0_0

/-- The keys of the second head of the point's pair. -/
def kHead1 (x1 : Vec F S512x256 .bf16) : Vec F S512x128 .bf16 := window x1 ![0, 128] S512x128.size inb_S512x256_S512x128_0_128

section

variable (i : grid0.Coords) (x0 : Vec F S4096x256 .bf16) (x1 : Vec F S512x256 .bf16) (x2 : Vec F S512x128 .bf16) (x3 x4 x5 : Vec F S4096x128 .f32)

/-- The gradient of the values after the upper half-block on the diagonal. -/
def up11 (y : Vec F S512x128 .f32) : Vec F S512x128 .f32 :=
  put y ![0, 0] S256x128.size (upDv (kHead0 x1) (kHead1 x1) (window x0 (k0_off2 i) S256x128.size (k0_off2_inb i)) (window x0 (k0_off3 i) S256x128.size (k0_off3_inb i)) (window x4 (k0_off1 i) S256x128.size (k0_off1_inb i)) (window x5 (k0_off1 i) S256x128.size (k0_off1_inb i)) (window y ![0, 0] S256x128.size inb_S512x128_S256x128_0_0))

/-- The gradient of the keys after the upper half-block on the diagonal. -/
def up10 (y : Vec F S512x256 .f32) : Vec F S512x256 .f32 :=
  put (put y ![0, 0] S256x128.size (upDk0 (kHead0 x1) x2 (window x0 (k0_off2 i) S256x128.size (k0_off2_inb i)) (window x3 (k0_off1 i) S256x128.size (k0_off1_inb i)) (window x4 (k0_off1 i) S256x128.size (k0_off1_inb i)) (window x5 (k0_off1 i) S256x128.size (k0_off1_inb i)) (window y ![0, 0] S256x128.size inb_S512x256_S256x128_0_0))) ![0, 128] S256x128.size
    (upDk1 (kHead1 x1) x2 (window x0 (k0_off3 i) S256x128.size (k0_off3_inb i)) (window x3 (k0_off1 i) S256x128.size (k0_off1_inb i)) (window x4 (k0_off1 i) S256x128.size (k0_off1_inb i)) (window x5 (k0_off1 i) S256x128.size (k0_off1_inb i)) (window y ![0, 128] S256x128.size inb_S512x256_S256x128_0_128))

/-- The gradient of the queries after the upper half-block on the diagonal. -/
def up9 (y : Vec F S1x4096x256 .f32) : Vec F S1x4096x256 .f32 :=
  put (put y (k0_off4 i) S1x256x128.size (upDq0 (kHead0 x1) x2 (window x0 (k0_off2 i) S256x128.size (k0_off2_inb i)) (window x3 (k0_off1 i) S256x128.size (k0_off1_inb i)) (window x4 (k0_off1 i) S256x128.size (k0_off1_inb i)) (window x5 (k0_off1 i) S256x128.size (k0_off1_inb i)) (window y (k0_off4 i) S1x256x128.size (k0_off4_inb i)))) (k0_off5 i) S1x256x128.size
    (upDq1 (kHead1 x1) x2 (window x0 (k0_off3 i) S256x128.size (k0_off3_inb i)) (window x3 (k0_off1 i) S256x128.size (k0_off1_inb i)) (window x4 (k0_off1 i) S256x128.size (k0_off1_inb i)) (window x5 (k0_off1 i) S256x128.size (k0_off1_inb i)) (window y (k0_off5 i) S1x256x128.size (k0_off5_inb i)))

/-- The gradient of the values after the lower half-block on the diagonal. -/
def lo11 (y : Vec F S512x128 .f32) : Vec F S512x128 .f32 :=
  put y ![0, 0] S512x128.size (loDv (kHead0 x1) (kHead1 x1) (window x0 (k0_off7 i) S256x128.size (k0_off7_inb i)) (window x0 (k0_off8 i) S256x128.size (k0_off8_inb i)) (window x4 (k0_off6 i) S256x128.size (k0_off6_inb i)) (window x5 (k0_off6 i) S256x128.size (k0_off6_inb i)) (window y ![0, 0] S512x128.size inb_S512x128_S512x128_0_0))

/-- The gradient of the keys after the lower half-block on the diagonal. -/
def lo10 (y : Vec F S512x256 .f32) : Vec F S512x256 .f32 :=
  put (put y ![0, 0] S512x128.size (loDk0 (kHead0 x1) x2 (window x0 (k0_off7 i) S256x128.size (k0_off7_inb i)) (window x3 (k0_off6 i) S256x128.size (k0_off6_inb i)) (window x4 (k0_off6 i) S256x128.size (k0_off6_inb i)) (window x5 (k0_off6 i) S256x128.size (k0_off6_inb i)) (window y ![0, 0] S512x128.size inb_S512x256_S512x128_0_0))) ![0, 128] S512x128.size
    (loDk1 (kHead1 x1) x2 (window x0 (k0_off8 i) S256x128.size (k0_off8_inb i)) (window x3 (k0_off6 i) S256x128.size (k0_off6_inb i)) (window x4 (k0_off6 i) S256x128.size (k0_off6_inb i)) (window x5 (k0_off6 i) S256x128.size (k0_off6_inb i)) (window y ![0, 128] S512x128.size inb_S512x256_S512x128_0_128))

/-- The gradient of the queries after the lower half-block on the diagonal. -/
def lo9 (y : Vec F S1x4096x256 .f32) : Vec F S1x4096x256 .f32 :=
  put (put y (k0_off9 i) S1x256x128.size (loDq0 (kHead0 x1) x2 (window x0 (k0_off7 i) S256x128.size (k0_off7_inb i)) (window x3 (k0_off6 i) S256x128.size (k0_off6_inb i)) (window x4 (k0_off6 i) S256x128.size (k0_off6_inb i)) (window x5 (k0_off6 i) S256x128.size (k0_off6_inb i)) (window y (k0_off9 i) S1x256x128.size (k0_off9_inb i)))) (k0_off10 i) S1x256x128.size
    (loDq1 (kHead1 x1) x2 (window x0 (k0_off8 i) S256x128.size (k0_off8_inb i)) (window x3 (k0_off6 i) S256x128.size (k0_off6_inb i)) (window x4 (k0_off6 i) S256x128.size (k0_off6_inb i)) (window x5 (k0_off6 i) S256x128.size (k0_off6_inb i)) (window y (k0_off10 i) S1x256x128.size (k0_off10_inb i)))

/-- The gradient of the values after one trip of the loop over the blocks under the diagonal. -/
def trip11 (k : Fin (k0_t1_loop i).trips) (y : Vec F S512x128 .f32) : Vec F S512x128 .f32 :=
  put y ![0, 0] S512x128.size (fullDv (kHead0 x1) (kHead1 x1) (window x0 (k0_off12 i k) S512x128.size (k0_off12_inb i k)) (window x0 (k0_off13 i k) S512x128.size (k0_off13_inb i k)) (window x4 (k0_off11 i k) S512x128.size (k0_off11_inb i k)) (window x5 (k0_off11 i k) S512x128.size (k0_off11_inb i k)) (window y ![0, 0] S512x128.size inb_S512x128_S512x128_0_0))

/-- The gradient of the keys after one trip of the loop over the blocks under the diagonal. -/
def trip10 (k : Fin (k0_t1_loop i).trips) (y : Vec F S512x256 .f32) : Vec F S512x256 .f32 :=
  put (put y ![0, 0] S512x128.size (fullDk0 (kHead0 x1) x2 (window x0 (k0_off12 i k) S512x128.size (k0_off12_inb i k)) (window x3 (k0_off11 i k) S512x128.size (k0_off11_inb i k)) (window x4 (k0_off11 i k) S512x128.size (k0_off11_inb i k)) (window x5 (k0_off11 i k) S512x128.size (k0_off11_inb i k)) (window y ![0, 0] S512x128.size inb_S512x256_S512x128_0_0))) ![0, 128] S512x128.size
    (fullDk1 (kHead1 x1) x2 (window x0 (k0_off13 i k) S512x128.size (k0_off13_inb i k)) (window x3 (k0_off11 i k) S512x128.size (k0_off11_inb i k)) (window x4 (k0_off11 i k) S512x128.size (k0_off11_inb i k)) (window x5 (k0_off11 i k) S512x128.size (k0_off11_inb i k)) (window y ![0, 128] S512x128.size inb_S512x256_S512x128_0_128))

/-- The gradient of the queries after one trip of the loop over the blocks under the diagonal. -/
def trip9 (k : Fin (k0_t1_loop i).trips) (y : Vec F S1x4096x256 .f32) : Vec F S1x4096x256 .f32 :=
  put (put y (k0_off14 i k) S1x512x128.size (fullDq0 (kHead0 x1) x2 (window x0 (k0_off12 i k) S512x128.size (k0_off12_inb i k)) (window x3 (k0_off11 i k) S512x128.size (k0_off11_inb i k)) (window x4 (k0_off11 i k) S512x128.size (k0_off11_inb i k)) (window x5 (k0_off11 i k) S512x128.size (k0_off11_inb i k)) (window y (k0_off14 i k) S1x512x128.size (k0_off14_inb i k)))) (k0_off15 i k) S1x512x128.size
    (fullDq1 (kHead1 x1) x2 (window x0 (k0_off13 i k) S512x128.size (k0_off13_inb i k)) (window x3 (k0_off11 i k) S512x128.size (k0_off11_inb i k)) (window x4 (k0_off11 i k) S512x128.size (k0_off11_inb i k)) (window x5 (k0_off11 i k) S512x128.size (k0_off11_inb i k)) (window y (k0_off15 i k) S1x512x128.size (k0_off15_inb i k)))

/-- The gradient of the queries after `n` trips of the loop. -/
def trips9 (y : Vec F S1x4096x256 .f32) : ℕ → Vec F S1x4096x256 .f32
  | 0 => y
  | n + 1 => if h : n < (k0_t1_loop i).trips then trip9 i x0 x1 x2 x3 x4 x5 ⟨n, h⟩ (trips9 y n) else trips9 y n

/-- The gradient of the keys after `n` trips of the loop. -/
def trips10 (y : Vec F S512x256 .f32) : ℕ → Vec F S512x256 .f32
  | 0 => y
  | n + 1 => if h : n < (k0_t1_loop i).trips then trip10 i x0 x1 x2 x3 x4 x5 ⟨n, h⟩ (trips10 y n) else trips10 y n

/-- The gradient of the values after `n` trips of the loop. -/
def trips11 (y : Vec F S512x128 .f32) : ℕ → Vec F S512x128 .f32
  | 0 => y
  | n + 1 => if h : n < (k0_t1_loop i).trips then trip11 i x0 x1 x4 x5 ⟨n, h⟩ (trips11 y n) else trips11 y n

theorem trips9_succ (y : Vec F S1x4096x256 .f32) (k : Fin (k0_t1_loop i).trips) :
    trips9 i x0 x1 x2 x3 x4 x5 y (k.val + 1) = trip9 i x0 x1 x2 x3 x4 x5 k (trips9 i x0 x1 x2 x3 x4 x5 y k.val) := dif_pos k.isLt

theorem trips10_succ (y : Vec F S512x256 .f32) (k : Fin (k0_t1_loop i).trips) :
    trips10 i x0 x1 x2 x3 x4 x5 y (k.val + 1) = trip10 i x0 x1 x2 x3 x4 x5 k (trips10 i x0 x1 x2 x3 x4 x5 y k.val) := dif_pos k.isLt

theorem trips11_succ (y : Vec F S512x128 .f32) (k : Fin (k0_t1_loop i).trips) :
    trips11 i x0 x1 x4 x5 y (k.val + 1) = trip11 i x0 x1 x4 x5 k (trips11 i x0 x1 x4 x5 y k.val) := dif_pos k.isLt

/-- What a point leaves of the gradient of the queries that the window held at `y`. -/
def body9 (y : Vec F S1x4096x256 .f32) : Vec F S1x4096x256 .f32 :=
  trips9 i x0 x1 x2 x3 x4 x5 (lo9 i x0 x1 x2 x3 x4 x5 (up9 i x0 x1 x2 x3 x4 x5 y)) (k0_t1_loop i).trips

/-- What a point leaves of the gradient of the keys. -/
def body10 : Vec F S512x256 .f32 :=
  trips10 i x0 x1 x2 x3 x4 x5 (lo10 i x0 x1 x2 x3 x4 x5 (up10 i x0 x1 x2 x3 x4 x5 k0_pay42)) (k0_t1_loop i).trips

/-- What a point leaves of the gradient of the values. -/
def body11 : Vec F S512x128 .f32 :=
  trips11 i x0 x1 x4 x5 (lo11 i x0 x1 x4 x5 (up11 i x0 x1 x4 x5 k0_pay43)) (k0_t1_loop i).trips

end

end Cert.KernelIdeal.Attn
end
-- ==== Proof.Attn.Trip.lean ====
module

public import proofs.«01_k».proof.Proof.Attn.State
public import Idealize.ShloMosaic.Lib.Exec
public import Idealize.ShloMosaic.Lib.Tactic
public import Idealize.ShloMosaic.Lib.Pipeline.Kit

@[expose] public section

set_option maxRecDepth 16384

noncomputable section

/-!
  One trip of the loop over the blocks under the diagonal: it leaves the three result windows at `trip9`, `trip10`
  and `trip11` of what they held, and the other windows as they were.
-/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

section Reads

variable {sg : RefSig} {κ : Kind} {sp : Space} {s : Shape} {e : EltTy} {Val : EltTy → Type}

/-- A load of a rectangle, as a window of what the buffer reads. -/
theorem load_window (v : View sg κ sp s e) (f : v.ty.Contents Val) {off size : Fin s.rank → ℕ} (inb : ∀ a, off a + size a ≤ s.size a) :
    v.readAt Val (Rect.unit off size inb).toLoadRect f = window (v.read Val f) off size inb :=
  View.readAt_unit v f inb rfl inb

/-- A load of a rectangle that earlier stores cover, as a window of what they leave. -/
theorem cover_window [∀ e, Nonempty (Val e)] (v : View sg κ sp s e) (L : List (View.Piece Val s e)) {off size : Fin s.rank → ℕ}
    (inb : ∀ a, off a + size a ≤ s.size a) :
    v.readCov L (Rect.unit off size inb).toLoadRect = window (v.read Val (v.writes Val v.junk L)) off size inb :=
  load_window v _ inb

/-- A store, as a put over what the earlier stores leave. -/
theorem store_put (v : View sg κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- Two stores over contents, as two puts. -/
theorem store_put2 (v : View sg κ sp s e) (f : v.ty.Contents Val) {o1 z1 o2 z2 : Fin s.rank → ℕ} (h1 : ∀ a, o1 a + z1 a ≤ s.size a)
    (h2 : ∀ a, o2 a + z2 a ≤ s.size a) (w1 : (Rect.unit o1 z1 h1).shape.Idx → Val e) (w2 : (Rect.unit o2 z2 h2).shape.Idx → Val e) :
    v.read Val (v.writes Val f [⟨Rect.unit o2 z2 h2, w2⟩, ⟨Rect.unit o1 z1 h1, w1⟩]) = put (put (v.read Val f) o1 z1 w1) o2 z2 w2 := by
  rw [store_put, store_put, View.writes_nil]

/-- One load and store over earlier stores `L` that leave `y`. -/
theorem block1 (v : View sg κ sp s e) (f : v.ty.Contents Val) (L : List (View.Piece Val s e)) (y : s.Idx → Val e) (hy : v.read Val (v.writes Val f L) = y)
    {o1 z1 : Fin s.rank → ℕ} (h1 : ∀ a, o1 a + z1 a ≤ s.size a)
    (w1 : ((Rect.unit o1 z1 h1).shape.Idx → Val e) → (Rect.unit o1 z1 h1).shape.Idx → Val e) :
    v.read Val (v.writes Val f (⟨Rect.unit o1 z1 h1, w1 (v.readAt Val (Rect.unit o1 z1 h1).toLoadRect (v.writes Val f L))⟩ :: L))
      = put y o1 z1 (w1 (window y o1 z1 h1)) := by
  rw [store_put, hy]
  exact congrArg (fun b => put y o1 z1 (w1 (window b o1 z1 h1))) hy

/-- Two loads and stores of disjoint windows over earlier stores `L` that leave `y`. -/
theorem block2 (v : View sg κ sp s e) (f : v.ty.Contents Val) (L : List (View.Piece Val s e)) (y : s.Idx → Val e) (hy : v.read Val (v.writes Val f L) = y)
    {o1 z1 o2 z2 : Fin s.rank → ℕ} (h1 : ∀ a, o1 a + z1 a ≤ s.size a) (h2 : ∀ a, o2 a + z2 a ≤ s.size a)
    (w1 : ((Rect.unit o1 z1 h1).shape.Idx → Val e) → (Rect.unit o1 z1 h1).shape.Idx → Val e)
    (w2 : ((Rect.unit o2 z2 h2).shape.Idx → Val e) → (Rect.unit o2 z2 h2).shape.Idx → Val e)
    (a : Fin s.rank) (ha : o2 a + z2 a ≤ o1 a ∨ o1 a + z1 a ≤ o2 a) :
    v.read Val (v.writes Val f (⟨Rect.unit o2 z2 h2, w2 (v.readAt Val (Rect.unit o2 z2 h2).toLoadRect
        (v.writes Val f (⟨Rect.unit o1 z1 h1, w1 (v.readAt Val (Rect.unit o1 z1 h1).toLoadRect (v.writes Val f L))⟩ :: L)))⟩
        :: ⟨Rect.unit o1 z1 h1, w1 (v.readAt Val (Rect.unit o1 z1 h1).toLoadRect (v.writes Val f L))⟩ :: L))
      = put (put y o1 z1 (w1 (window y o1 z1 h1))) o2 z2 (w2 (window y o2 z2 h2)) := by
  have hb := block1 v f L y hy h1 w1
  rw [store_put, hb]
  refine congrArg (fun b => put (put y o1 z1 (w1 (window y o1 z1 h1))) o2 z2 (w2 b)) ?_
  exact (congrArg (fun b => window b o2 z2 h2) hb).trans (window_put_of_disjoint _ _ _ _ _ h2 _ a ha)

/-- Four loads of contents and stores over them, the last two of windows that the first two do not meet. -/
theorem store_put4 (v : View sg κ sp s e) (f : v.ty.Contents Val) {o1 z1 o2 z2 o3 z3 o4 z4 : Fin s.rank → ℕ}
    (h1 : ∀ a, o1 a + z1 a ≤ s.size a) (h2 : ∀ a, o2 a + z2 a ≤ s.size a) (h3 : ∀ a, o3 a + z3 a ≤ s.size a) (h4 : ∀ a, o4 a + z4 a ≤ s.size a)
    (w1 : ((Rect.unit o1 z1 h1).shape.Idx → Val e) → (Rect.unit o1 z1 h1).shape.Idx → Val e)
    (w2 : ((Rect.unit o2 z2 h2).shape.Idx → Val e) → (Rect.unit o2 z2 h2).shape.Idx → Val e)
    (w3 : ((Rect.unit o3 z3 h3).shape.Idx → Val e) → (Rect.unit o3 z3 h3).shape.Idx → Val e)
    (w4 : ((Rect.unit o4 z4 h4).shape.Idx → Val e) → (Rect.unit o4 z4 h4).shape.Idx → Val e)
    (a31 : Fin s.rank) (d31 : o3 a31 + z3 a31 ≤ o1 a31 ∨ o1 a31 + z1 a31 ≤ o3 a31)
    (a32 : Fin s.rank) (d32 : o3 a32 + z3 a32 ≤ o2 a32 ∨ o2 a32 + z2 a32 ≤ o3 a32)
    (a41 : Fin s.rank) (d41 : o4 a41 + z4 a41 ≤ o1 a41 ∨ o1 a41 + z1 a41 ≤ o4 a41)
    (a42 : Fin s.rank) (d42 : o4 a42 + z4 a42 ≤ o2 a42 ∨ o2 a42 + z2 a42 ≤ o4 a42) :
    v.read Val (v.writes Val f [⟨Rect.unit o4 z4 h4, w4 (v.readAt Val (Rect.unit o4 z4 h4).toLoadRect f)⟩,
        ⟨Rect.unit o3 z3 h3, w3 (v.readAt Val (Rect.unit o3 z3 h3).toLoadRect f)⟩,
        ⟨Rect.unit o2 z2 h2, w2 (v.readAt Val (Rect.unit o2 z2 h2).toLoadRect f)⟩,
        ⟨Rect.unit o1 z1 h1, w1 (v.readAt Val (Rect.unit o1 z1 h1).toLoadRect f)⟩])
      = put (put (put (put (v.read Val f) o1 z1 (w1 (window (v.read Val f) o1 z1 h1))) o2 z2 (w2 (window (v.read Val f) o2 z2 h2))) o3 z3
          (w3 (window (put (put (v.read Val f) o1 z1 (w1 (window (v.read Val f) o1 z1 h1))) o2 z2 (w2 (window (v.read Val f) o2 z2 h2))) o3 z3 h3))) o4 z4
          (w4 (window (put (put (v.read Val f) o1 z1 (w1 (window (v.read Val f) o1 z1 h1))) o2 z2 (w2 (window (v.read Val f) o2 z2 h2))) o4 z4 h4)) := by
  rw [store_put, store_put, store_put, store_put, View.writes_nil]
  rw [window_put_of_disjoint _ _ _ _ _ h3 _ a32 d32, window_put_of_disjoint _ _ _ _ _ h3 _ a31 d31,
    window_put_of_disjoint _ _ _ _ _ h4 _ a42 d42, window_put_of_disjoint _ _ _ _ _ h4 _ a41 d41]
  rfl

end Reads

variable {F : FTy → Type} [FloatOps F]

local notation "𝕄G" => MT nD τ sig Unit (Elt F) ℕ (UR sig nD τ) ℕ

set_option maxHeartbeats 1000000 in
/-- One trip of the loop. -/
theorem trip (c : Dev nD) (E : Set ℕ) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S512x256 .f32) (harg10 : arg10.IsWhole) (arg11 : Memref sig .tc .vmem S512x128 .f32) (harg11 : arg11.IsWhole)
    (x0 : Vec F S4096x256 .bf16) (x1 : Vec F S512x256 .bf16) (x2 : Vec F S512x128 .bf16) (x3 x4 x5 : Vec F S4096x128 .f32)
    (y9 : Vec F S1x4096x256 .f32) (y10 : Vec F S512x256 .f32) (y11 : Vec F S512x128 .f32) (v268 : BitVec 32) (k : Fin (k0_t1_loop i).trips) :
    iprop(owns (c : Thread nD τ) arg2 fullShare x0 ∗ owns (c : Thread nD τ) arg5 fullShare x3 ∗ owns (c : Thread nD τ) arg6 fullShare x4 ∗ owns (c : Thread nD τ) arg7 fullShare x5
      ∗ owns (c : Thread nD τ) arg9 fullShare y9 ∗ owns (c : Thread nD τ) arg10 fullShare y10 ∗ owns (c : Thread nD τ) arg11 fullShare y11 : sProp 𝕄G)
    ⊢ wp frame (wpE (defs₀ (F := F)) Variants.none (c : Thread nD τ) none) E
        (k0_t1_body i arg2 harg2 arg3 harg3 arg4 harg4 arg5 harg5 arg6 harg6 arg7 harg7 arg8 harg8 arg9 harg9 arg10 harg10 arg11 harg11 (k0_pay44 (kHead0 x1)) (k0_pay45 (kHead1 x1)) (k0_pay46 x2) lanes k0_pay47 k0_pay48 v268 k ())
        (fun _ => iprop(owns (c : Thread nD τ) arg2 fullShare x0 ∗ owns (c : Thread nD τ) arg5 fullShare x3 ∗ owns (c : Thread nD τ) arg6 fullShare x4 ∗ owns (c : Thread nD τ) arg7 fullShare x5
      ∗ owns (c : Thread nD τ) arg9 fullShare (trip9 i x0 x1 x2 x3 x4 x5 k y9) ∗ owns (c : Thread nD τ) arg10 fullShare (trip10 i x0 x1 x2 x3 x4 x5 k y10)
      ∗ owns (c : Thread nD τ) arg11 fullShare (trip11 i x0 x1 x4 x5 k y11))) := by
  unfold k0_t1_body
  simp only [k0_part1_eq_skeleton, k0_part2_eq_skeleton]
  unfold owns
  iintro ⟨⟨%f0, %hf0, H0⟩, ⟨%f3, %hf3, H3⟩, ⟨%f4, %hf4, H4⟩, ⟨%f5, %hf5, H5⟩, ⟨%f9, %hf9, H9⟩, ⟨%f10, %hf10, H10⟩, ⟨%f11, %hf11, H11⟩⟩
  sl_exec
  sl_step
  isplitl [H0]
  · iexists _; isplitr; · ipureintro; exact hf0
    iexact H0
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  subst hf0 hf3 hf4 hf5 hf9 hf10 hf11
  isplitl [H9]
  · iexists _; isplitr; swap; · iexact H9
    ipureintro
    sl_unfold_words
    exact store_put2 (s := S1x4096x256) (o1 := k0_off14 i k) (z1 := S1x512x128.size) (o2 := k0_off15 i k) (z2 := S1x512x128.size) _ _ (k0_off14_inb i k) (k0_off15_inb i k) _ _
  isplitl [H10]
  · iexists _; isplitr; swap; · iexact H10
    ipureintro
    sl_unfold_words
    exact store_put2 _ _ inb_S512x256_S512x128_0_0 inb_S512x256_S512x128_0_128 _ _
  iexists _; isplitr; swap; · iexact H11
  ipureintro
  sl_unfold_words
  exact store_put _ _ inb_S512x128_S512x128_0_0 _ _

end Cert.KernelIdeal.Attn
end
-- ==== Proof.Attn.Body.lean ====
module

public import proofs.«01_k».proof.Proof.Attn.Trip
public import Idealize.ShloMosaic.Lib.LoopRemainder

@[expose] public section

set_option maxRecDepth 16384

noncomputable section

/-!
  The body at one point of the grid: it leaves the three result windows at `body9`, `body10` and `body11`, of zeros at
  the first key block and of what the block before left at the others.
-/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

/-- What the loop keeps: the windows that it reads, and the three results after `n` trips. -/
def inv (c : Dev nD) (i : grid0.Coords) (arg2 : Memref sig .tc .vmem S4096x256 .bf16) (arg5 : Memref sig .tc .vmem S4096x128 .f32) (arg6 : Memref sig .tc .vmem S4096x128 .f32) (arg7 : Memref sig .tc .vmem S4096x128 .f32) (arg9 : Memref sig .tc .vmem S1x4096x256 .f32) (arg10 : Memref sig .tc .vmem S512x256 .f32) (arg11 : Memref sig .tc .vmem S512x128 .f32)
    (x0 : Vec F S4096x256 .bf16) (x1 : Vec F S512x256 .bf16) (x2 : Vec F S512x128 .bf16) (x3 x4 x5 : Vec F S4096x128 .f32)
    (y9 : Vec F S1x4096x256 .f32) (y10 : Vec F S512x256 .f32) (y11 : Vec F S512x128 .f32) (n : ℕ) (_ : Unit) : sProp 𝕄G :=
  iprop(owns (c : Thread nD τ) arg2 fullShare x0 ∗ owns (c : Thread nD τ) arg5 fullShare x3 ∗ owns (c : Thread nD τ) arg6 fullShare x4 ∗ owns (c : Thread nD τ) arg7 fullShare x5
      ∗ owns (c : Thread nD τ) arg9 fullShare (trips9 i x0 x1 x2 x3 x4 x5 y9 n) ∗ owns (c : Thread nD τ) arg10 fullShare (trips10 i x0 x1 x2 x3 x4 x5 y10 n)
      ∗ owns (c : Thread nD τ) arg11 fullShare (trips11 i x0 x1 x4 x5 y11 n))

set_option maxHeartbeats 400000 in
/-- The body at a first key block. -/
theorem body_first (c : Dev nD) (E : Set ℕ) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S512x256 .f32) (harg10 : arg10.IsWhole) (arg11 : Memref sig .tc .vmem S512x128 .f32) (harg11 : arg11.IsWhole)
    (hc0 : (Scalar.cmpi .ne (Scalar.extui (Scalar.cmpi .eq (BitVec.ofNat 32 (i 1).val) 0#32)) 0#32) = 1#1)
    (x0 : Vec F S4096x256 .bf16) (x1 : Vec F S512x256 .bf16) (x2 : Vec F S512x128 .bf16) (x3 x4 x5 : Vec F S4096x128 .f32) (y9 : Vec F S1x4096x256 .f32) (y10 : Vec F S512x256 .f32) (y11 : Vec F S512x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg9 fullShare y9 ∗ owns (c : Thread nD τ) arg10 fullShare y10 ∗ owns (c : Thread nD τ) arg11 fullShare y11 : sProp 𝕄G)
    ⊢ wp frame (wpE (defs₀ (F := F)) Variants.none (c : Thread nD τ) none) E
        (cc0_attn_bwd i arg2 harg2 arg3 harg3 arg4 harg4 arg5 harg5 arg6 harg6 arg7 harg7 arg8 harg8 arg9 harg9 arg10 harg10 arg11 harg11)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg9 fullShare (body9 i x0 x1 x2 x3 x4 x5 k0_pay41) ∗ owns (c : Thread nD τ) arg10 fullShare (body10 i x0 x1 x2 x3 x4 x5) ∗ owns (c : Thread nD τ) arg11 fullShare (body11 i x0 x1 x4 x5))) := by
  simp only [cc0_attn_bwd_eq_skeleton]; unfold cc0_attn_bwd_skel
  simp only [k0_part11_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩⟩
  sl_exec (disch := first | sl_exact hc0)
  have e1 : View.readAt (Elt F) arg3.view (Rect.unit (s := S512x256) ![0, 0] S512x128.size inb_S512x256_S512x128_0_0).toLoadRect f1 = kHead0 x1 := by
    subst hf1; rfl
  have e2 : View.readAt (Elt F) arg3.view (Rect.unit (s := S512x256) ![0, 128] S512x128.size inb_S512x256_S512x128_0_128).toLoadRect f1 = kHead1 x1 := by
    subst hf1; rfl
  have e3 : View.readAt (Elt F) arg4.view (Rect.unit (s := S512x128) ![0, 0] S512x128.size inb_S512x128_S512x128_0_0).toLoadRect f2 = x2 := by
    subst hf2; exact View.readAt_full _ _ _
  sl_for (inv c i arg2 arg5 arg6 arg7 arg9 arg10 arg11 x0 x1 x2 x3 x4 x5 (lo9 i x0 x1 x2 x3 x4 x5 (up9 i x0 x1 x2 x3 x4 x5 k0_pay41))
      (lo10 i x0 x1 x2 x3 x4 x5 (up10 i x0 x1 x2 x3 x4 x5 k0_pay42)) (lo11 i x0 x1 x4 x5 (up11 i x0 x1 x4 x5 k0_pay43))) $$ [H0 H3 H4 H5 H9 H10 H11]
  case region =>
    intro k a
    unfold inv
    rw [trips9_succ, trips10_succ, trips11_succ]
    sl_unfold_words
    rw [e1, e2, e3]
    exact trip c E i arg2 harg2 arg3 harg3 arg4 harg4 arg5 harg5 arg6 harg6 arg7 harg7 arg8 harg8 arg9 harg9 arg10 harg10 arg11 harg11 x0 x1 x2 x3 x4 x5 _ _ _ _ k
  · unfold inv owns
    isplitl [H0]
    · iexists _; isplitr; · ipureintro; exact hf0
      iexact H0
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H9]
    · iexists _; isplitr; swap; · iexact H9
      ipureintro
      subst hf0 hf1 e3 hf3 hf4 hf5 hf9
      have z := View.read_writes_full (Val := Elt F) arg9.view arg9.view.junk inb_S1x4096x256_S1x4096x256_0_0_0 (k0_pay41 (F := F)) []
      have b := block2 (s := S1x4096x256) _ _ _ _ z (o1 := k0_off4 i) (z1 := S1x256x128.size) (o2 := k0_off5 i) (z2 := S1x256x128.size)
        (k0_off4_inb i) (k0_off5_inb i) (upDq0 (kHead0 (View.read (Elt F) arg3.view f1)) (View.readAt (Elt F) arg4.view (Rect.unit (s := S512x128) ![0, 0] S512x128.size inb_S512x128_S512x128_0_0).toLoadRect f2) (window (View.read (Elt F) arg2.view f0) (k0_off2 i) S256x128.size (k0_off2_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        (upDq1 (kHead1 (View.read (Elt F) arg3.view f1)) (View.readAt (Elt F) arg4.view (Rect.unit (s := S512x128) ![0, 0] S512x128.size inb_S512x128_S512x128_0_0).toLoadRect f2) (window (View.read (Elt F) arg2.view f0) (k0_off3 i) S256x128.size (k0_off3_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        2 (by rw [k0_off4_eq, k0_off5_eq]; exact Or.inr (show (0:ℕ) + 128 ≤ 128 by decide))
      have b2 := block2 (s := S1x4096x256) _ _ _ _ b (o1 := k0_off9 i) (z1 := S1x256x128.size) (o2 := k0_off10 i) (z2 := S1x256x128.size)
        (k0_off9_inb i) (k0_off10_inb i) (loDq0 (kHead0 (View.read (Elt F) arg3.view f1)) (View.readAt (Elt F) arg4.view (Rect.unit (s := S512x128) ![0, 0] S512x128.size inb_S512x128_S512x128_0_0).toLoadRect f2) (window (View.read (Elt F) arg2.view f0) (k0_off7 i) S256x128.size (k0_off7_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        (loDq1 (kHead1 (View.read (Elt F) arg3.view f1)) (View.readAt (Elt F) arg4.view (Rect.unit (s := S512x128) ![0, 0] S512x128.size inb_S512x128_S512x128_0_0).toLoadRect f2) (window (View.read (Elt F) arg2.view f0) (k0_off8 i) S256x128.size (k0_off8_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        2 (by rw [k0_off9_eq, k0_off10_eq]; exact Or.inr (show (0:ℕ) + 128 ≤ 128 by decide))
      exact b2
    isplitl [H10]
    · iexists _; isplitr; swap; · iexact H10
      ipureintro
      subst hf0 hf1 e3 hf3 hf4 hf5
      have z := View.read_writes_full (Val := Elt F) arg10.view arg10.view.junk inb_S512x256_S512x256_0_0 (k0_pay42 (F := F)) []
      have b := block2 (s := S512x256) _ _ _ _ z inb_S512x256_S256x128_0_0 inb_S512x256_S256x128_0_128 (upDk0 (kHead0 (View.read (Elt F) arg3.view f1)) (View.readAt (Elt F) arg4.view (Rect.unit (s := S512x128) ![0, 0] S512x128.size inb_S512x128_S512x128_0_0).toLoadRect f2) (window (View.read (Elt F) arg2.view f0) (k0_off2 i) S256x128.size (k0_off2_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        (upDk1 (kHead1 (View.read (Elt F) arg3.view f1)) (View.readAt (Elt F) arg4.view (Rect.unit (s := S512x128) ![0, 0] S512x128.size inb_S512x128_S512x128_0_0).toLoadRect f2) (window (View.read (Elt F) arg2.view f0) (k0_off3 i) S256x128.size (k0_off3_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        1 (by decide)
      have b2 := block2 (s := S512x256) _ _ _ _ b inb_S512x256_S512x128_0_0 inb_S512x256_S512x128_0_128 (loDk0 (kHead0 (View.read (Elt F) arg3.view f1)) (View.readAt (Elt F) arg4.view (Rect.unit (s := S512x128) ![0, 0] S512x128.size inb_S512x128_S512x128_0_0).toLoadRect f2) (window (View.read (Elt F) arg2.view f0) (k0_off7 i) S256x128.size (k0_off7_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        (loDk1 (kHead1 (View.read (Elt F) arg3.view f1)) (View.readAt (Elt F) arg4.view (Rect.unit (s := S512x128) ![0, 0] S512x128.size inb_S512x128_S512x128_0_0).toLoadRect f2) (window (View.read (Elt F) arg2.view f0) (k0_off8 i) S256x128.size (k0_off8_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        1 (by decide)
      exact b2
    iexists _; isplitr; swap; · iexact H11
    ipureintro
    subst hf0 hf1 e3 hf3 hf4 hf5
    have z := View.read_writes_full (Val := Elt F) arg11.view arg11.view.junk inb_S512x128_S512x128_0_0 (k0_pay43 (F := F)) []
    have b := block1 (s := S512x128) _ _ _ _ z inb_S512x128_S256x128_0_0 (upDv (kHead0 (View.read (Elt F) arg3.view f1)) (kHead1 (View.read (Elt F) arg3.view f1)) (window (View.read (Elt F) arg2.view f0) (k0_off2 i) S256x128.size (k0_off2_inb i)) (window (View.read (Elt F) arg2.view f0) (k0_off3 i) S256x128.size (k0_off3_inb i)) (window (View.read (Elt F) arg6.view f4) (k0_off1 i) S256x128.size (k0_off1_inb i)) (window (View.read (Elt F) arg7.view f5) (k0_off1 i) S256x128.size (k0_off1_inb i)))
    have b2 := block1 (s := S512x128) _ _ _ _ b inb_S512x128_S512x128_0_0 (loDv (kHead0 (View.read (Elt F) arg3.view f1)) (kHead1 (View.read (Elt F) arg3.view f1)) (window (View.read (Elt F) arg2.view f0) (k0_off7 i) S256x128.size (k0_off7_inb i)) (window (View.read (Elt F) arg2.view f0) (k0_off8 i) S256x128.size (k0_off8_inb i)) (window (View.read (Elt F) arg6.view f4) (k0_off6 i) S256x128.size (k0_off6_inb i)) (window (View.read (Elt F) arg7.view f5) (k0_off6 i) S256x128.size (k0_off6_inb i)))
    exact b2
  iintro %a HI
  sl_exec
  sl_step
  unfold inv owns
  icases HI with ⟨I0, I3, I4, I5, I9, I10, I11⟩
  isplitl [I0]; · iexact I0
  isplitl [H1]
  · iexists _; isplitr; · ipureintro; exact hf1
    iexact H1
  isplitl [H2]
  · iexists _; isplitr; · ipureintro; exact hf2
    iexact H2
  isplitl [I3]; · iexact I3
  isplitl [I4]; · iexact I4
  isplitl [I5]; · iexact I5
  isplitl [I9]; · iexact I9
  isplitl [I10]; · iexact I10
  iexact I11

set_option maxHeartbeats 400000 in
/-- The body at a later key block. -/
theorem body_next (c : Dev nD) (E : Set ℕ) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S512x256 .f32) (harg10 : arg10.IsWhole) (arg11 : Memref sig .tc .vmem S512x128 .f32) (harg11 : arg11.IsWhole)
    (hc0 : ¬ (Scalar.cmpi .ne (Scalar.extui (Scalar.cmpi .eq (BitVec.ofNat 32 (i 1).val) 0#32)) 0#32) = 1#1)
    (x0 : Vec F S4096x256 .bf16) (x1 : Vec F S512x256 .bf16) (x2 : Vec F S512x128 .bf16) (x3 x4 x5 : Vec F S4096x128 .f32) (y9 : Vec F S1x4096x256 .f32) (y10 : Vec F S512x256 .f32) (y11 : Vec F S512x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg9 fullShare y9 ∗ owns (c : Thread nD τ) arg10 fullShare y10 ∗ owns (c : Thread nD τ) arg11 fullShare y11 : sProp 𝕄G)
    ⊢ wp frame (wpE (defs₀ (F := F)) Variants.none (c : Thread nD τ) none) E
        (cc0_attn_bwd i arg2 harg2 arg3 harg3 arg4 harg4 arg5 harg5 arg6 harg6 arg7 harg7 arg8 harg8 arg9 harg9 arg10 harg10 arg11 harg11)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg9 fullShare (body9 i x0 x1 x2 x3 x4 x5 y9) ∗ owns (c : Thread nD τ) arg10 fullShare (body10 i x0 x1 x2 x3 x4 x5) ∗ owns (c : Thread nD τ) arg11 fullShare (body11 i x0 x1 x4 x5))) := by
  simp only [cc0_attn_bwd_eq_skeleton]; unfold cc0_attn_bwd_skel
  simp only [k0_part11_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩⟩
  sl_exec (disch := first | sl_exact hc0)
  have e1 : View.readAt (Elt F) arg3.view (Rect.unit (s := S512x256) ![0, 0] S512x128.size inb_S512x256_S512x128_0_0).toLoadRect f1 = kHead0 x1 := by
    subst hf1; rfl
  have e2 : View.readAt (Elt F) arg3.view (Rect.unit (s := S512x256) ![0, 128] S512x128.size inb_S512x256_S512x128_0_128).toLoadRect f1 = kHead1 x1 := by
    subst hf1; rfl
  have e3 : View.readAt (Elt F) arg4.view (Rect.unit (s := S512x128) ![0, 0] S512x128.size inb_S512x128_S512x128_0_0).toLoadRect f2 = x2 := by
    subst hf2; exact View.readAt_full _ _ _
  sl_for (inv c i arg2 arg5 arg6 arg7 arg9 arg10 arg11 x0 x1 x2 x3 x4 x5 (lo9 i x0 x1 x2 x3 x4 x5 (up9 i x0 x1 x2 x3 x4 x5 y9))
      (lo10 i x0 x1 x2 x3 x4 x5 (up10 i x0 x1 x2 x3 x4 x5 k0_pay42)) (lo11 i x0 x1 x4 x5 (up11 i x0 x1 x4 x5 k0_pay43))) $$ [H0 H3 H4 H5 H9 H10 H11]
  case region =>
    intro k a
    unfold inv
    rw [trips9_succ, trips10_succ, trips11_succ]
    sl_unfold_words
    rw [e1, e2, e3]
    exact trip c E i arg2 harg2 arg3 harg3 arg4 harg4 arg5 harg5 arg6 harg6 arg7 harg7 arg8 harg8 arg9 harg9 arg10 harg10 arg11 harg11 x0 x1 x2 x3 x4 x5 _ _ _ _ k
  · unfold inv owns
    isplitl [H0]
    · iexists _; isplitr; · ipureintro; exact hf0
      iexact H0
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H9]
    · iexists _; isplitr; swap; · iexact H9
      ipureintro
      subst hf0 hf1 e3 hf3 hf4 hf5 hf9
      have b := store_put4 (s := S1x4096x256) arg9.view f9 (o1 := k0_off4 i) (z1 := S1x256x128.size) (o2 := k0_off5 i) (z2 := S1x256x128.size)
        (o3 := k0_off9 i) (z3 := S1x256x128.size) (o4 := k0_off10 i) (z4 := S1x256x128.size)
        (k0_off4_inb i) (k0_off5_inb i) (k0_off9_inb i) (k0_off10_inb i)
        (upDq0 (kHead0 (View.read (Elt F) arg3.view f1)) (View.readAt (Elt F) arg4.view (Rect.unit (s := S512x128) ![0, 0] S512x128.size inb_S512x128_S512x128_0_0).toLoadRect f2) (window (View.read (Elt F) arg2.view f0) (k0_off2 i) S256x128.size (k0_off2_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        (upDq1 (kHead1 (View.read (Elt F) arg3.view f1)) (View.readAt (Elt F) arg4.view (Rect.unit (s := S512x128) ![0, 0] S512x128.size inb_S512x128_S512x128_0_0).toLoadRect f2) (window (View.read (Elt F) arg2.view f0) (k0_off3 i) S256x128.size (k0_off3_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        (loDq0 (kHead0 (View.read (Elt F) arg3.view f1)) (View.readAt (Elt F) arg4.view (Rect.unit (s := S512x128) ![0, 0] S512x128.size inb_S512x128_S512x128_0_0).toLoadRect f2) (window (View.read (Elt F) arg2.view f0) (k0_off7 i) S256x128.size (k0_off7_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        (loDq1 (kHead1 (View.read (Elt F) arg3.view f1)) (View.readAt (Elt F) arg4.view (Rect.unit (s := S512x128) ![0, 0] S512x128.size inb_S512x128_S512x128_0_0).toLoadRect f2) (window (View.read (Elt F) arg2.view f0) (k0_off8 i) S256x128.size (k0_off8_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        1 (by rw [k0_off9_eq, k0_off4_eq]; right; show 512 * (i 1).val + 256 ≤ 512 * (i 1).val + 256; omega)
        1 (by rw [k0_off9_eq, k0_off5_eq]; right; show 512 * (i 1).val + 256 ≤ 512 * (i 1).val + 256; omega)
        1 (by rw [k0_off10_eq, k0_off4_eq]; right; show 512 * (i 1).val + 256 ≤ 512 * (i 1).val + 256; omega)
        1 (by rw [k0_off10_eq, k0_off5_eq]; right; show 512 * (i 1).val + 256 ≤ 512 * (i 1).val + 256; omega)
      exact b
    isplitl [H10]
    · iexists _; isplitr; swap; · iexact H10
      ipureintro
      subst hf0 hf1 e3 hf3 hf4 hf5
      have z := View.read_writes_full (Val := Elt F) arg10.view arg10.view.junk inb_S512x256_S512x256_0_0 (k0_pay42 (F := F)) []
      have b := block2 (s := S512x256) _ _ _ _ z inb_S512x256_S256x128_0_0 inb_S512x256_S256x128_0_128 (upDk0 (kHead0 (View.read (Elt F) arg3.view f1)) (View.readAt (Elt F) arg4.view (Rect.unit (s := S512x128) ![0, 0] S512x128.size inb_S512x128_S512x128_0_0).toLoadRect f2) (window (View.read (Elt F) arg2.view f0) (k0_off2 i) S256x128.size (k0_off2_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        (upDk1 (kHead1 (View.read (Elt F) arg3.view f1)) (View.readAt (Elt F) arg4.view (Rect.unit (s := S512x128) ![0, 0] S512x128.size inb_S512x128_S512x128_0_0).toLoadRect f2) (window (View.read (Elt F) arg2.view f0) (k0_off3 i) S256x128.size (k0_off3_inb i)) (window (View.read (Elt F) arg5.view f3) (k0_off1 i) S256x128.size (k0_off1_inb i)) (window (View.read (Elt F) arg6.view f4) (k0_off1 i) S256x128.size (k0_off1_inb i)) (window (View.read (Elt F) arg7.view f5) (k0_off1 i) S256x128.size (k0_off1_inb i)))
        1 (by decide)
      have b2 := block2 (s := S512x256) _ _ _ _ b inb_S512x256_S512x128_0_0 inb_S512x256_S512x128_0_128 (loDk0 (kHead0 (View.read (Elt F) arg3.view f1)) (View.readAt (Elt F) arg4.view (Rect.unit (s := S512x128) ![0, 0] S512x128.size inb_S512x128_S512x128_0_0).toLoadRect f2) (window (View.read (Elt F) arg2.view f0) (k0_off7 i) S256x128.size (k0_off7_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        (loDk1 (kHead1 (View.read (Elt F) arg3.view f1)) (View.readAt (Elt F) arg4.view (Rect.unit (s := S512x128) ![0, 0] S512x128.size inb_S512x128_S512x128_0_0).toLoadRect f2) (window (View.read (Elt F) arg2.view f0) (k0_off8 i) S256x128.size (k0_off8_inb i)) (window (View.read (Elt F) arg5.view f3) (k0_off6 i) S256x128.size (k0_off6_inb i)) (window (View.read (Elt F) arg6.view f4) (k0_off6 i) S256x128.size (k0_off6_inb i)) (window (View.read (Elt F) arg7.view f5) (k0_off6 i) S256x128.size (k0_off6_inb i)))
        1 (by decide)
      exact b2
    iexists _; isplitr; swap; · iexact H11
    ipureintro
    subst hf0 hf1 e3 hf3 hf4 hf5
    have z := View.read_writes_full (Val := Elt F) arg11.view arg11.view.junk inb_S512x128_S512x128_0_0 (k0_pay43 (F := F)) []
    have b := block1 (s := S512x128) _ _ _ _ z inb_S512x128_S256x128_0_0 (upDv (kHead0 (View.read (Elt F) arg3.view f1)) (kHead1 (View.read (Elt F) arg3.view f1)) (window (View.read (Elt F) arg2.view f0) (k0_off2 i) S256x128.size (k0_off2_inb i)) (window (View.read (Elt F) arg2.view f0) (k0_off3 i) S256x128.size (k0_off3_inb i)) (window (View.read (Elt F) arg6.view f4) (k0_off1 i) S256x128.size (k0_off1_inb i)) (window (View.read (Elt F) arg7.view f5) (k0_off1 i) S256x128.size (k0_off1_inb i)))
    have b2 := block1 (s := S512x128) _ _ _ _ b inb_S512x128_S512x128_0_0 (loDv (kHead0 (View.read (Elt F) arg3.view f1)) (kHead1 (View.read (Elt F) arg3.view f1)) (window (View.read (Elt F) arg2.view f0) (k0_off7 i) S256x128.size (k0_off7_inb i)) (window (View.read (Elt F) arg2.view f0) (k0_off8 i) S256x128.size (k0_off8_inb i)) (window (View.read (Elt F) arg6.view f4) (k0_off6 i) S256x128.size (k0_off6_inb i)) (window (View.read (Elt F) arg7.view f5) (k0_off6 i) S256x128.size (k0_off6_inb i)))
    exact b2
  iintro %a HI
  sl_exec
  sl_step
  unfold inv owns
  icases HI with ⟨I0, I3, I4, I5, I9, I10, I11⟩
  isplitl [I0]; · iexact I0
  isplitl [H1]
  · iexists _; isplitr; · ipureintro; exact hf1
    iexact H1
  isplitl [H2]
  · iexists _; isplitr; · ipureintro; exact hf2
    iexact H2
  isplitl [I3]; · iexact I3
  isplitl [I4]; · iexact I4
  isplitl [I5]; · iexact I5
  isplitl [I9]; · iexact I9
  isplitl [I10]; · iexact I10
  iexact I11

end Cert.KernelIdeal.Attn
end
-- ==== Proof.Attn.Launch.lean ====
module

public import proofs.«01_k».proof.Proof.Gen.KernelIdeal.Frame
public import proofs.«01_k».proof.Proof.Attn.Body
public import Idealize.ShloMosaic.Lib.Claim

@[expose] public section

set_option maxRecDepth 16384

noncomputable section

/-!
  The launch: from any memory the program runs to the end, and leaves in the three result arrays what the points leave in
  their windows, written back.
-/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What a point leaves of the queries' gradient, over what it finds. -/
def point9 (c : Dev nD) (t : Fin cfg0.N) (y : Vec F S1x4096x256 .f32) : Vec F S1x4096x256 .f32 :=
  body9 (grid0.coords t) (iblk m c 0 t) (iblk m c 1 t) (iblk m c 2 t) (iblk m c 3 t) (iblk m c 4 t) (iblk m c 5 t) y

/-- The queries' gradient in its window after point `n`: zeros before the first key block of a pair of heads, added to since. -/
def acc9 (c : Dev nD) : (n : ℕ) → n < cfg0.N → Vec F S1x4096x256 .f32
  | 0, h => point9 m c ⟨0, h⟩ k0_pay41
  | n + 1, h => point9 m c ⟨n + 1, h⟩ (if (n + 1) % 8 = 0 then k0_pay41 else acc9 c n (Nat.lt_of_succ_lt h))

/-- The proof data: the arrays as the launch finds them, and the windows after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc9 m c t.val t.isLt
    | ⟨7, _⟩ => body10 (grid0.coords t) (iblk m c 0 t) (iblk m c 1 t) (iblk m c 2 t) (iblk m c 3 t) (iblk m c 4 t) (iblk m c 5 t)
    | ⟨8, _⟩ => body11 (grid0.coords t) (iblk m c 0 t) (iblk m c 1 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = acc9 m c t.val t.isLt := by dsimp only [dats]
theorem after_7 (c : Dev nD) (t : Fin cfg0.N) : (dats m 0 c).after 7 t = body10 (grid0.coords t) (iblk m c 0 t) (iblk m c 1 t) (iblk m c 2 t) (iblk m c 3 t) (iblk m c 4 t) (iblk m c 5 t) := by dsimp only [dats]
theorem after_8 (c : Dev nD) (t : Fin cfg0.N) : (dats m 0 c).after 8 t = body11 (grid0.coords t) (iblk m c 0 t) (iblk m c 1 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At a later key block the queries' gradient is found as the point before left it. -/
theorem before_6 (c : Dev nD) (t : Fin cfg0.N) (h : t.val % 8 ≠ 0) (d) :
    (dats m 0 c).before 6 t d = acc9 m c (t.val - 1) (Nat.lt_of_le_of_lt (Nat.sub_le _ _) t.isLt) := by
  have hf : (cfg0.win 6).flush ⟨t.val - 1, Nat.lt_of_le_of_lt (Nat.sub_le _ _) t.isLt⟩ = false := by
    rw [Bool.eq_false_iff]
    intro hf
    have := (flush0_6 _).mp hf
    have : (t.val - 1) % 8 = 7 := this
    omega
  rw [(dats m 0 c).before_out_kept 6 rfl t (by omega) hf (fun _ => rfl) (fun _ _ => rfl) d, after_6]

theorem acc9_first (c : Dev nD) (t : Fin cfg0.N) (h : t.val % 8 = 0) : acc9 m c t.val t.isLt = point9 m c t k0_pay41 := by
  obtain ⟨n, hn⟩ := t
  cases n with
  | zero => rfl
  | succ n => exact congrArg (point9 m c ⟨n + 1, hn⟩) (if_pos h)

theorem acc9_next (c : Dev nD) (t : Fin cfg0.N) (h : t.val % 8 ≠ 0) :
    acc9 m c t.val t.isLt = point9 m c t (acc9 m c (t.val - 1) (Nat.lt_of_le_of_lt (Nat.sub_le _ _) t.isLt)) := by
  obtain ⟨n, hn⟩ := t
  cases n with
  | zero => exact absurd rfl h
  | succ n => exact congrArg (point9 m c ⟨n + 1, hn⟩) (if_neg h)

/-- The condition on the key block, of the point. -/
theorem first_iff : ∀ t : Fin cfg0.N, (Scalar.cmpi .ne (Scalar.extui (Scalar.cmpi .eq (BitVec.ofNat 32 (grid0.coords t 1).val) 0#32)) 0#32) = 1#1 ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 8 = 0)

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 8 = 0
  · rw [acc9_first m c t h0]; unfold point9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [H0 H1 H2 H3 H4 H5 H6 H7 H8]
    · iapply (body_first c Set.univ (grid0.coords t) _ _ _ _ _ _ _ _ _ _ _ _ _ _ _ _ _ _ _ _ ((first_iff t).mpr h0) (iblk m c 0 t) (iblk m c 1 t) (iblk m c 2 t) (iblk m c 3 t) (iblk m c 4 t) (iblk m c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %_ HR
      isplitl [HΦ]; · iexact HΦ
      isplitl [Ho]; · iexact Ho
      iexact HR
  · simp only [before_6 m c t h0]
    rw [acc9_next m c t h0]; unfold point9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [H0 H1 H2 H3 H4 H5 H6 H7 H8]
    · iapply (body_next c Set.univ (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %_ HR
      isplitl [HΦ]; · iexact HΦ
      isplitl [Ho]; · iexact Ho
      iexact HR

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, and every counter at zero at its end. -/
theorem run_quiescent : θ_run defs (onTc (τ := τ) (main (F := F))) (s₀ m ρ) (fun r =>
    Pipeline.FramePost cfgs (dats m) 0 (Pipeline.afterTail₀ cfgs (dats m) 0 (V0 m) [hostOps1, hostOps1_1, hostOps1_2, hostOps1_3, hostOps1_4]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl) (Q' := _)

theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  (θ_run defs _ _).mono (fun _ h => h.1) (run_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Attn
end
-- ==== Proof.Attn.Same.lean ====
module

public import proofs.«01_k».proof.Defs
public import proofs.«01_k».proof.Proof.Gen.Kernel
public import proofs.«01_k».proof.Proof.Attn.Launch

@[expose] public section

set_option maxRecDepth 16384
set_option maxHeartbeats 8000000

noncomputable section

/-!
  The program and its idealization are the same text, so that one run gives both frames.
-/

namespace Cert.Kernel

open Idealize.ShloMosaic Idealize.SL.Sem

/-! Each part of the launch's body is the idealization's. -/

theorem part1_same : @Cert.Kernel.k0_part1 Bits _ _ = @Cert.KernelIdeal.k0_part1 Bits _ _ := by chain_rfl
theorem part2_same : @Cert.Kernel.k0_part2 Bits _ _ = @Cert.KernelIdeal.k0_part2 Bits _ _ := by chain_rfl
theorem part3_same : @Cert.Kernel.k0_part3 Bits _ _ = @Cert.KernelIdeal.k0_part3 Bits _ _ := by chain_rfl
theorem part4_same : @Cert.Kernel.k0_part4 Bits _ _ = @Cert.KernelIdeal.k0_part4 Bits _ _ := by chain_rfl
theorem part5_same : @Cert.Kernel.k0_part5 Bits _ _ = @Cert.KernelIdeal.k0_part5 Bits _ _ := by chain_rfl
theorem part6_same : @Cert.Kernel.k0_part6 Bits _ _ = @Cert.KernelIdeal.k0_part6 Bits _ _ := by chain_rfl
theorem part7_same : @Cert.Kernel.k0_part7 Bits _ _ = @Cert.KernelIdeal.k0_part7 Bits _ _ := by chain_rfl
theorem part8_same : @Cert.Kernel.k0_part8 Bits _ _ = @Cert.KernelIdeal.k0_part8 Bits _ _ := by chain_rfl
theorem part9_same : @Cert.Kernel.k0_part9 Bits _ _ = @Cert.KernelIdeal.k0_part9 Bits _ _ := by chain_rfl
theorem part10_same : @Cert.Kernel.k0_part10 Bits _ _ = @Cert.KernelIdeal.k0_part10 Bits _ _ := by chain_rfl
theorem part11_same : @Cert.Kernel.k0_part11 Bits _ _ = @Cert.KernelIdeal.k0_part11 Bits _ _ := by
  unfold Cert.Kernel.k0_part11 Cert.KernelIdeal.k0_part11
  rw [part1_same, part2_same, part5_same, part6_same, part7_same, part8_same, part9_same, part10_same]
  rfl

/-- The launch's body is the idealization's. -/
theorem cc0_same : @Cert.Kernel.cc0_attn_bwd Bits _ _ = @Cert.KernelIdeal.cc0_attn_bwd Bits _ _ := by
  unfold Cert.Kernel.cc0_attn_bwd Cert.KernelIdeal.cc0_attn_bwd
  rw [part3_same, part4_same, part11_same]
  rfl

/-- The table of bodies is the idealization's. -/
theorem defs0_same : Cert.Kernel.defs₀ (F := Bits) = Cert.KernelIdeal.defs₀ (F := Bits) := by
  refine congrArg Defs.onTc (funext fun l => funext fun p => ?_)
  match l, p with
  | 0, (t, s) =>
    show Cert.Kernel.cc0_attn_bwd (F := Bits) _ _ _ _ _ _ _ _ _ _ _ _ _ _ _ _ _ _ _ _ _ = _
    rw [cc0_same]
    rfl

/-- So are the bodies with the launch's pipeline, -/
theorem defs_same : Cert.Kernel.defs (F := Bits) = Cert.KernelIdeal.defs (F := Bits) :=
  congrArg (Pipeline.defs Cert.KernelIdeal.pcfgs) defs0_same

theorem main0_same : Cert.Kernel.main_part0 (F := Bits) = Cert.KernelIdeal.main_part0 (F := Bits) := by chain_rfl
theorem main1_same : Cert.Kernel.main_part1 (F := Bits) = Cert.KernelIdeal.main_part1 (F := Bits) := by chain_rfl
theorem main2_same : Cert.Kernel.main_part2 (F := Bits) = Cert.KernelIdeal.main_part2 (F := Bits) := by chain_rfl

/-- and the whole program. -/
theorem main_same : Cert.Kernel.main (F := Bits) = Cert.KernelIdeal.main (F := Bits) := by
  unfold Cert.Kernel.main Cert.KernelIdeal.main
  rw [main0_same, main1_same, main2_same]
  chain_rfl

/-- The program's frame is its idealization's run at the float formats. -/
theorem frame_program : quiescent_Kernel (hKernel := Cert.Kernel.Gen.facts) := fun m ρ _ => by
  rw [main_same, defs_same]
  exact Cert.KernelIdeal.Attn.frame (F := Bits) m ρ

end Cert.Kernel
end
-- ==== Proof.Attn.PreRead.lean ====
module

public import proofs.«01_k».proof.Proof.Gen.KernelIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

/-!
  The host operations before the launch, one at a time: the value of each as a function of the program's arguments,
  and that value at an index.
-/

namespace Cert.KernelIdeal.Pre

open Cert.KernelIdeal Cert.KernelIdeal.Gen Idealize.ShloMosaic Idealize.ShloMosaic.TcCoe Idealize.SL.Sem Idealize.ShloMosaic.StableHlo

variable {F : FTy → Type} [FloatOps F]

-- %0 = stablehlo.dot_general %arg0, %arg1, batching_dims = [1] x [1], contracting_dims = [2] x [2], precision = [DEFAULT, DEFAULT] : (tensor<4096x8x64xf32>, tensor<4096x8x64xf32>) -> tensor<8x4096x4096xf32>
def val_main_v0 (x0 x1 : (⟨S4096x8x64, .f32⟩ : BufTy).Contents (Elt F)) : (⟨S8x4096x4096, .f32⟩ : BufTy).Contents (Elt F) :=
  Host.dotGeneral dot_S4096x8x64_S4096x8x64_S8x4096x4096_2_2_0_0_1_1 none (x0) (x1)
theorem lhs_main_v0_0 (i : S8x4096x4096.Idx) (q : dot_S4096x8x64_S4096x8x64_S8x4096x4096_2_2_0_0_1_1.contr.Idx) :
    (dot_S4096x8x64_S4096x8x64_S8x4096x4096_2_2_0_0_1_1.lhsIdx i q 0).val = (i 1).val := by
  unfold DotDims.lhsIdx
  rw [dif_neg (show ¬(0 : Fin S4096x8x64.rank) ∈ dot_S4096x8x64_S4096x8x64_S8x4096x4096_2_2_0_0_1_1.lhsBatch by decide), dif_pos (show (0 : Fin S4096x8x64.rank) ∈ dot_S4096x8x64_S4096x8x64_S8x4096x4096_2_2_0_0_1_1.lhsNonContracting by decide)]
  rfl
theorem lhs_main_v0_1 (i : S8x4096x4096.Idx) (q : dot_S4096x8x64_S4096x8x64_S8x4096x4096_2_2_0_0_1_1.contr.Idx) :
    (dot_S4096x8x64_S4096x8x64_S8x4096x4096_2_2_0_0_1_1.lhsIdx i q 1).val = (i 0).val := by
  unfold DotDims.lhsIdx
  rw [dif_pos (show (1 : Fin S4096x8x64.rank) ∈ dot_S4096x8x64_S4096x8x64_S8x4096x4096_2_2_0_0_1_1.lhsBatch by decide)]
  rfl
theorem lhs_main_v0_2 (i : S8x4096x4096.Idx) (q : dot_S4096x8x64_S4096x8x64_S8x4096x4096_2_2_0_0_1_1.contr.Idx) :
    (dot_S4096x8x64_S4096x8x64_S8x4096x4096_2_2_0_0_1_1.lhsIdx i q 2).val = (q ⟨0, by decide⟩).val :=
  dot_S4096x8x64_S4096x8x64_S8x4096x4096_2_2_0_0_1_1.lhsIdx_val_of_single rfl i q
theorem rhs_main_v0_0 (i : S8x4096x4096.Idx) (q : dot_S4096x8x64_S4096x8x64_S8x4096x4096_2_2_0_0_1_1.contr.Idx) :
    (dot_S4096x8x64_S4096x8x64_S8x4096x4096_2_2_0_0_1_1.rhsIdx i q 0).val = (i 2).val := by
  unfold DotDims.rhsIdx
  rw [dif_neg (show ¬(0 : Fin S4096x8x64.rank) ∈ dot_S4096x8x64_S4096x8x64_S8x4096x4096_2_2_0_0_1_1.rhsBatch by decide), dif_pos (show (0 : Fin S4096x8x64.rank) ∈ dot_S4096x8x64_S4096x8x64_S8x4096x4096_2_2_0_0_1_1.rhsNonContracting by decide)]
  rfl
theorem rhs_main_v0_1 (i : S8x4096x4096.Idx) (q : dot_S4096x8x64_S4096x8x64_S8x4096x4096_2_2_0_0_1_1.contr.Idx) :
    (dot_S4096x8x64_S4096x8x64_S8x4096x4096_2_2_0_0_1_1.rhsIdx i q 1).val = (i 0).val := by
  unfold DotDims.rhsIdx
  rw [dif_pos (show (1 : Fin S4096x8x64.rank) ∈ dot_S4096x8x64_S4096x8x64_S8x4096x4096_2_2_0_0_1_1.rhsBatch by decide)]
  rfl
theorem rhs_main_v0_2 (i : S8x4096x4096.Idx) (q : dot_S4096x8x64_S4096x8x64_S8x4096x4096_2_2_0_0_1_1.contr.Idx) :
    (dot_S4096x8x64_S4096x8x64_S8x4096x4096_2_2_0_0_1_1.rhsIdx i q 2).val = (q ⟨0, by decide⟩).val :=
  dot_S4096x8x64_S4096x8x64_S8x4096x4096_2_2_0_0_1_1.rhsIdx_val_of_single rfl i q
abbrev lidx_main_v0 (i : S8x4096x4096.Idx) (k : Fin 64) : S4096x8x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v0 (i : S8x4096x4096.Idx) (k : Fin 64) : S4096x8x64.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v0_apply (x0 x1 : (⟨S4096x8x64, .f32⟩ : BufTy).Contents (Elt Ideal)) (i : S8x4096x4096.Idx) :
    val_main_v0 (F := Ideal) x0 x1 i = ∑ k : Fin 64, x0 (lidx_main_v0 i k) * x1 (ridx_main_v0 i k) := by
  unfold val_main_v0
  simp only [Host.dotGeneral]
  rw [Ideal.dotGeneral_apply, ← Equiv.sum_comp (ValueIdx.contrEquiv1 dot_S4096x8x64_S4096x8x64_S8x4096x4096_2_2_0_0_1_1 64 rfl rfl).symm]
  refine Finset.sum_congr rfl fun k _ => ?_
  have hk := ValueIdx.contrEquiv1_symm_val dot_S4096x8x64_S4096x8x64_S8x4096x4096_2_2_0_0_1_1 64 rfl rfl k
  have el : dot_S4096x8x64_S4096x8x64_S8x4096x4096_2_2_0_0_1_1.lhsIdx i ((ValueIdx.contrEquiv1 dot_S4096x8x64_S4096x8x64_S8x4096x4096_2_2_0_0_1_1 64 rfl rfl).symm k) = lidx_main_v0 i k := funext fun a => Fin.ext (by
    match a with
    | ⟨0, _⟩ => exact lhs_main_v0_0 _ _
    | ⟨1, _⟩ => exact lhs_main_v0_1 _ _
    | ⟨2, _⟩ => exact (lhs_main_v0_2 _ _).trans hk)
  have er : dot_S4096x8x64_S4096x8x64_S8x4096x4096_2_2_0_0_1_1.rhsIdx i ((ValueIdx.contrEquiv1 dot_S4096x8x64_S4096x8x64_S8x4096x4096_2_2_0_0_1_1 64 rfl rfl).symm k) = ridx_main_v0 i k := funext fun a => Fin.ext (by
    match a with
    | ⟨0, _⟩ => exact rhs_main_v0_0 _ _
    | ⟨1, _⟩ => exact rhs_main_v0_1 _ _
    | ⟨2, _⟩ => exact (rhs_main_v0_2 _ _).trans hk)
  rw [el, er]

-- %cst = stablehlo.constant dense<1.250000e-01> : tensor<f32>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %1 = stablehlo.broadcast_in_dim %cst, dims = [] : (tensor<f32>) -> tensor<8x4096x4096xf32>
def val_main_v1 : (⟨S8x4096x4096, .f32⟩ : BufTy).Contents (Elt F) :=
  broadcastInDim S8x4096x4096 ![] bcast_S_S8x4096x4096 (val_main_cst (F := F))
abbrev idx_main_v1 (i : S8x4096x4096.Idx) : S_.Idx := fun a => a.elim0
theorem val_main_v1_apply (i : S8x4096x4096.Idx) :
    val_main_v1 (F := F) i = val_main_cst (F := F) (idx_main_v1 i) := by
  unfold val_main_v1
  generalize val_main_cst (F := F) = y
  exact broadcastInDim_apply _ bcast_S_S8x4096x4096 y i (idx_main_v1 i) (fun a => a.elim0)

-- %2 = stablehlo.multiply %0, %1 : tensor<8x4096x4096xf32>
def val_main_v2 (x0 x1 : (⟨S4096x8x64, .f32⟩ : BufTy).Contents (Elt F)) : (⟨S8x4096x4096, .f32⟩ : BufTy).Contents (Elt F) :=
  mulf (val_main_v0 (F := F) x0 x1) (val_main_v1 (F := F))
theorem val_main_v2_apply (x0 x1 : (⟨S4096x8x64, .f32⟩ : BufTy).Contents (Elt F)) (i : S8x4096x4096.Idx) :
    val_main_v2 (F := F) x0 x1 i = FloatOps.mulf (val_main_v0 (F := F) x0 x1 i) (val_main_v1 (F := F) i) := rfl

-- %3 = stablehlo.transpose %arg3, dims = [1, 0] : (tensor<4096x8xf32>) -> tensor<8x4096xf32>
def val_main_v3 (x3 : (⟨S4096x8, .f32⟩ : BufTy).Contents (Elt F)) : (⟨S8x4096, .f32⟩ : BufTy).Contents (Elt F) :=
  transpose S8x4096 [1, 0] (x3) transposes_S4096x8_S8x4096_1_0
abbrev idx_main_v3 (i : S8x4096.Idx) : S4096x8.Idx := fun a => match a with
  | ⟨0, _⟩ => ⟨(i 1).val, (i 1).isLt⟩
  | ⟨1, _⟩ => ⟨(i 0).val, (i 0).isLt⟩
theorem val_main_v3_apply (x3 : (⟨S4096x8, .f32⟩ : BufTy).Contents (Elt F)) (i : S8x4096.Idx) :
    val_main_v3 (F := F) x3 i = x3 (idx_main_v3 i) := by
  unfold val_main_v3
  exact transpose_apply [1, 0] x3 transposes_S4096x8_S8x4096_1_0 i (idx_main_v3 i) (fun b => match b with
    | ⟨0, _⟩ => rfl
    | ⟨1, _⟩ => rfl)

-- %4 = stablehlo.broadcast_in_dim %3, dims = [0, 1] : (tensor<8x4096xf32>) -> tensor<8x4096x1xf32>
def val_main_v4 (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v3 (F := F) x3)
abbrev idx_main_v4 (i : S8x4096x1.Idx) : S8x4096.Idx := fun a => match a with
  | ⟨0, _⟩ => ⟨(i 0).val, (i 0).isLt⟩
  | ⟨1, _⟩ => ⟨(i 1).val, (i 1).isLt⟩
theorem val_main_v4_apply (x3 : (⟨S4096x8, .f32⟩ : BufTy).Contents (Elt F)) (i : S8x4096x1.Idx) :
    val_main_v4 (F := F) x3 i = val_main_v3 (F := F) x3 (idx_main_v4 i) := by
  unfold val_main_v4
  generalize val_main_v3 (F := F) x3 = y
  exact broadcastInDim_apply _ bcast_S8x4096_S8x4096x1_0_1 y i (idx_main_v4 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

-- %5 = stablehlo.broadcast_in_dim %4, dims = [0, 1, 2] : (tensor<8x4096x1xf32>) -> tensor<8x4096x4096xf32>
def val_main_v5 (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v4 (F := F) x3)
abbrev idx_main_v5 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v5_apply (x3 : (⟨S4096x8, .f32⟩ : BufTy).Contents (Elt F)) (i : S8x4096x4096.Idx) :
    val_main_v5 (F := F) x3 i = val_main_v4 (F := F) x3 (idx_main_v5 i) := by
  unfold val_main_v5
  generalize val_main_v4 (F := F) x3 = y
  exact broadcastInDim_apply _ bcast_S8x4096x1_S8x4096x4096_0_1_2 y i (idx_main_v5 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %6 = stablehlo.add %2, %5 : tensor<8x4096x4096xf32>
def val_main_v6 (x0 x1 : (⟨S4096x8x64, .f32⟩ : BufTy).Contents (Elt F)) (x3 : (⟨S4096x8, .f32⟩ : BufTy).Contents (Elt F)) : (⟨S8x4096x4096, .f32⟩ : BufTy).Contents (Elt F) :=
  addf (val_main_v2 (F := F) x0 x1) (val_main_v5 (F := F) x3)
theorem val_main_v6_apply (x0 x1 : (⟨S4096x8x64, .f32⟩ : BufTy).Contents (Elt F)) (x3 : (⟨S4096x8, .f32⟩ : BufTy).Contents (Elt F)) (i : S8x4096x4096.Idx) :
    val_main_v6 (F := F) x0 x1 x3 i = FloatOps.addf (val_main_v2 (F := F) x0 x1 i) (val_main_v5 (F := F) x3 i) := rfl

-- %7 = stablehlo.transpose %arg3, dims = [1, 0] : (tensor<4096x8xf32>) -> tensor<8x4096xf32>
def val_main_v7 (x3 : (⟨S4096x8, .f32⟩ : BufTy).Contents (Elt F)) : (⟨S8x4096, .f32⟩ : BufTy).Contents (Elt F) :=
  transpose S8x4096 [1, 0] (x3) transposes_S4096x8_S8x4096_1_0
abbrev idx_main_v7 (i : S8x4096.Idx) : S4096x8.Idx := fun a => match a with
  | ⟨0, _⟩ => ⟨(i 1).val, (i 1).isLt⟩
  | ⟨1, _⟩ => ⟨(i 0).val, (i 0).isLt⟩
theorem val_main_v7_apply (x3 : (⟨S4096x8, .f32⟩ : BufTy).Contents (Elt F)) (i : S8x4096.Idx) :
    val_main_v7 (F := F) x3 i = x3 (idx_main_v7 i) := by
  unfold val_main_v7
  exact transpose_apply [1, 0] x3 transposes_S4096x8_S8x4096_1_0 i (idx_main_v7 i) (fun b => match b with
    | ⟨0, _⟩ => rfl
    | ⟨1, _⟩ => rfl)

-- %8 = stablehlo.broadcast_in_dim %7, dims = [0, 2] : (tensor<8x4096xf32>) -> tensor<8x1x4096xf32>
def val_main_v8 (x3 : (⟨S4096x8, .f32⟩ : BufTy).Contents (Elt F)) : (⟨S8x1x4096, .f32⟩ : BufTy).Contents (Elt F) :=
  broadcastInDim S8x1x4096 ![0, 2] bcast_S8x4096_S8x1x4096_0_2 (val_main_v7 (F := F) x3)
abbrev idx_main_v8 (i : S8x1x4096.Idx) : S8x4096.Idx := fun a => match a with
  | ⟨0, _⟩ => ⟨(i 0).val, (i 0).isLt⟩
  | ⟨1, _⟩ => ⟨(i 2).val, (i 2).isLt⟩
theorem val_main_v8_apply (x3 : (⟨S4096x8, .f32⟩ : BufTy).Contents (Elt F)) (i : S8x1x4096.Idx) :
    val_main_v8 (F := F) x3 i = val_main_v7 (F := F) x3 (idx_main_v8 i) := by
  unfold val_main_v8
  generalize val_main_v7 (F := F) x3 = y
  exact broadcastInDim_apply _ bcast_S8x4096_S8x1x4096_0_2 y i (idx_main_v8 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

-- %9 = stablehlo.broadcast_in_dim %8, dims = [0, 1, 2] : (tensor<8x1x4096xf32>) -> tensor<8x4096x4096xf32>
def val_main_v9 (x3 : (⟨S4096x8, .f32⟩ : BufTy).Contents (Elt F)) : (⟨S8x4096x4096, .f32⟩ : BufTy).Contents (Elt F) :=
  broadcastInDim S8x4096x4096 ![0, 1, 2] bcast_S8x1x4096_S8x4096x4096_0_1_2 (val_main_v8 (F := F) x3)
abbrev idx_main_v9 (i : S8x4096x4096.Idx) : S8x1x4096.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v9_apply (x3 : (⟨S4096x8, .f32⟩ : BufTy).Contents (Elt F)) (i : S8x4096x4096.Idx) :
    val_main_v9 (F := F) x3 i = val_main_v8 (F := F) x3 (idx_main_v9 i) := by
  unfold val_main_v9
  generalize val_main_v8 (F := F) x3 = y
  exact broadcastInDim_apply _ bcast_S8x1x4096_S8x4096x4096_0_1_2 y i (idx_main_v9 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (4096 : Nat) = 1 then 0 else (i 2).val; rw [if_neg (by decide)])

-- %10 = stablehlo.subtract %6, %9 : tensor<8x4096x4096xf32>
def val_main_v10 (x0 x1 : (⟨S4096x8x64, .f32⟩ : BufTy).Contents (Elt F)) (x3 : (⟨S4096x8, .f32⟩ : BufTy).Contents (Elt F)) : (⟨S8x4096x4096, .f32⟩ : BufTy).Contents (Elt F) :=
  subf (val_main_v6 (F := F) x0 x1 x3) (val_main_v9 (F := F) x3)
theorem val_main_v10_apply (x0 x1 : (⟨S4096x8x64, .f32⟩ : BufTy).Contents (Elt F)) (x3 : (⟨S4096x8, .f32⟩ : BufTy).Contents (Elt F)) (i : S8x4096x4096.Idx) :
    val_main_v10 (F := F) x0 x1 x3 i = FloatOps.subf (val_main_v6 (F := F) x0 x1 x3 i) (val_main_v9 (F := F) x3 i) := rfl

-- %11 = stablehlo.iota dim = 0 : tensor<4096xi32>
def val_main_v11 : (⟨S4096, .i32⟩ : BufTy).Contents (Elt F) :=
  iotaInDim S4096 32 0
theorem val_main_v11_apply (i : S4096.Idx) :
    val_main_v11 (F := F) i = BitVec.ofNat 32 (i 0).val := rfl

-- %12 = stablehlo.broadcast_in_dim %11, dims = [1] : (tensor<4096xi32>) -> tensor<1x4096xi32>
def val_main_v12 : (⟨S1x4096, .i32⟩ : BufTy).Contents (Elt F) :=
  broadcastInDim S1x4096 ![1] bcast_S4096_S1x4096_1 (val_main_v11 (F := F))
abbrev idx_main_v12 (i : S1x4096.Idx) : S4096.Idx := fun a => match a with
  | ⟨0, _⟩ => ⟨(i 1).val, (i 1).isLt⟩
theorem val_main_v12_apply (i : S1x4096.Idx) :
    val_main_v12 (F := F) i = val_main_v11 (F := F) (idx_main_v12 i) := by
  unfold val_main_v12
  generalize val_main_v11 (F := F) = y
  exact broadcastInDim_apply _ bcast_S4096_S1x4096_1 y i (idx_main_v12 i) (fun a => match a with
    | ⟨0, _⟩ => by show (i 1).val = if (4096 : Nat) = 1 then 0 else (i 1).val; rw [if_neg (by decide)])

-- %13 = stablehlo.broadcast_in_dim %11, dims = [0] : (tensor<4096xi32>) -> tensor<4096x1xi32>
def val_main_v13 : (⟨S4096x1, .i32⟩ : BufTy).Contents (Elt F) :=
  broadcastInDim S4096x1 ![0] bcast_S4096_S4096x1_0 (val_main_v11 (F := F))
abbrev idx_main_v13 (i : S4096x1.Idx) : S4096.Idx := fun a => match a with
  | ⟨0, _⟩ => ⟨(i 0).val, (i 0).isLt⟩
theorem val_main_v13_apply (i : S4096x1.Idx) :
    val_main_v13 (F := F) i = val_main_v11 (F := F) (idx_main_v13 i) := by
  unfold val_main_v13
  generalize val_main_v11 (F := F) = y
  exact broadcastInDim_apply _ bcast_S4096_S4096x1_0 y i (idx_main_v13 i) (fun a => match a with
    | ⟨0, _⟩ => by show (i 0).val = if (4096 : Nat) = 1 then 0 else (i 0).val; rw [if_neg (by decide)])

-- %14 = stablehlo.broadcast_in_dim %12, dims = [0, 1] : (tensor<1x4096xi32>) -> tensor<4096x4096xi32>
def val_main_v14 : (⟨S4096x4096, .i32⟩ : BufTy).Contents (Elt F) :=
  broadcastInDim S4096x4096 ![0, 1] bcast_S1x4096_S4096x4096_0_1 (val_main_v12 (F := F))
abbrev idx_main_v14 (i : S4096x4096.Idx) : S1x4096.Idx := fun a => match a with
  | ⟨0, _⟩ => ⟨0, Nat.one_pos⟩
  | ⟨1, _⟩ => ⟨(i 1).val, (i 1).isLt⟩
theorem val_main_v14_apply (i : S4096x4096.Idx) :
    val_main_v14 (F := F) i = val_main_v12 (F := F) (idx_main_v14 i) := by
  unfold val_main_v14
  generalize val_main_v12 (F := F) = y
  exact broadcastInDim_apply _ bcast_S1x4096_S4096x4096_0_1 y i (idx_main_v14 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

-- %15 = stablehlo.broadcast_in_dim %13, dims = [0, 1] : (tensor<4096x1xi32>) -> tensor<4096x4096xi32>
def val_main_v15 : (⟨S4096x4096, .i32⟩ : BufTy).Contents (Elt F) :=
  broadcastInDim S4096x4096 ![0, 1] bcast_S4096x1_S4096x4096_0_1 (val_main_v13 (F := F))
abbrev idx_main_v15 (i : S4096x4096.Idx) : S4096x1.Idx := fun a => match a with
  | ⟨0, _⟩ => ⟨(i 0).val, (i 0).isLt⟩
  | ⟨1, _⟩ => ⟨0, Nat.one_pos⟩
theorem val_main_v15_apply (i : S4096x4096.Idx) :
    val_main_v15 (F := F) i = val_main_v13 (F := F) (idx_main_v15 i) := by
  unfold val_main_v15
  generalize val_main_v13 (F := F) = y
  exact broadcastInDim_apply _ bcast_S4096x1_S4096x4096_0_1 y i (idx_main_v15 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %16 = stablehlo.compare LE, %14, %15, SIGNED : (tensor<4096x4096xi32>, tensor<4096x4096xi32>) -> tensor<4096x4096xi1>
def val_main_v16 : (⟨S4096x4096, .i1⟩ : BufTy).Contents (Elt F) :=
  cmpi .sle (val_main_v14 (F := F)) (val_main_v15 (F := F))
theorem val_main_v16_apply (i : S4096x4096.Idx) :
    val_main_v16 (F := F) i = IntOp.cmpi .sle (val_main_v14 (F := F) i) (val_main_v15 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- @_where's %0 = stablehlo.convert %arg2 : tensor<f32>, in %17 = func.call @_where(…) (record main_call0)
def val_main_call0_v0 : (⟨S_, .f32⟩ : BufTy).Contents (Elt F) :=
  id (val_main_cst_0 (F := F))
theorem val_main_call0_v0_apply (i : S_.Idx) :
    val_main_call0_v0 (F := F) i = (val_main_cst_0 (F := F) i) := rfl

-- @_where's %1 = stablehlo.broadcast_in_dim %arg0, dims = [1, 2] : (tensor<4096x4096xi1>) -> tensor<8x4096x4096xi1>, in %17 = func.call @_where(…) (record main_call0)
def val_main_call0_v1 : (⟨S8x4096x4096, .i1⟩ : BufTy).Contents (Elt F) :=
  broadcastInDim S8x4096x4096 ![1, 2] bcast_S4096x4096_S8x4096x4096_1_2 (val_main_v16 (F := F))
abbrev idx_main_call0_v1 (i : S8x4096x4096.Idx) : S4096x4096.Idx := fun a => match a with
  | ⟨0, _⟩ => ⟨(i 1).val, (i 1).isLt⟩
  | ⟨1, _⟩ => ⟨(i 2).val, (i 2).isLt⟩
theorem val_main_call0_v1_apply (i : S8x4096x4096.Idx) :
    val_main_call0_v1 (F := F) i = val_main_v16 (F := F) (idx_main_call0_v1 i) := by
  unfold val_main_call0_v1
  generalize val_main_v16 (F := F) = y
  exact broadcastInDim_apply _ bcast_S4096x4096_S8x4096x4096_1_2 y i (idx_main_call0_v1 i) (fun a => match a with
    | ⟨0, _⟩ => by show (i 1).val = if (4096 : Nat) = 1 then 0 else (i 1).val; rw [if_neg (by decide)]
    | ⟨1, _⟩ => by show (i 2).val = if (4096 : Nat) = 1 then 0 else (i 2).val; rw [if_neg (by decide)])

-- @_where's %2 = stablehlo.broadcast_in_dim %0, dims = [] : (tensor<f32>) -> tensor<8x4096x4096xf32>, in %17 = func.call @_where(…) (record main_call0)
def val_main_call0_v2 : (⟨S8x4096x4096, .f32⟩ : BufTy).Contents (Elt F) :=
  broadcastInDim S8x4096x4096 ![] bcast_S_S8x4096x4096 (val_main_call0_v0 (F := F))
abbrev idx_main_call0_v2 (i : S8x4096x4096.Idx) : S_.Idx := fun a => a.elim0
theorem val_main_call0_v2_apply (i : S8x4096x4096.Idx) :
    val_main_call0_v2 (F := F) i = val_main_call0_v0 (F := F) (idx_main_call0_v2 i) := by
  unfold val_main_call0_v2
  generalize val_main_call0_v0 (F := F) = y
  exact broadcastInDim_apply _ bcast_S_S8x4096x4096 y i (idx_main_call0_v2 i) (fun a => a.elim0)

-- %17 = func.call @_where(…) (record main_call0) result 0: @_where's %3 = stablehlo.select %1, %arg1, %2 : tensor<8x4096x4096xi1>, tensor<8x4096x4096xf32>
def val_main_v17 (x0 x1 : (⟨S4096x8x64, .f32⟩ : BufTy).Contents (Elt F)) (x3 : (⟨S4096x8, .f32⟩ : BufTy).Contents (Elt F)) : (⟨S8x4096x4096, .f32⟩ : BufTy).Contents (Elt F) :=
  select (val_main_call0_v1 (F := F)) (val_main_v10 (F := F) x0 x1 x3) (val_main_call0_v2 (F := F))
theorem val_main_v17_apply (x0 x1 : (⟨S4096x8x64, .f32⟩ : BufTy).Contents (Elt F)) (x3 : (⟨S4096x8, .f32⟩ : BufTy).Contents (Elt F)) (i : S8x4096x4096.Idx) :
    val_main_v17 (F := F) x0 x1 x3 i = Scalar.select (val_main_call0_v1 (F := F) i) (val_main_v10 (F := F) x0 x1 x3 i) (val_main_call0_v2 (F := F) i) := rfl

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %18 = stablehlo.reduce(%17 init: %cst_1) applies stablehlo.maximum across dimensions = [2] : (tensor<8x4096x4096xf32>, tensor<f32>) -> tensor<8x4096xf32> {
def val_main_v18 (x0 x1 : (⟨S4096x8x64, .f32⟩ : BufTy).Contents (Elt F)) (x3 : (⟨S4096x8, .f32⟩ : BufTy).Contents (Elt F)) : (⟨S8x4096, .f32⟩ : BufTy).Contents (Elt F) :=
  Host.reduce FloatOps.maximumf (val_main_v17 (F := F) x0 x1 x3) (val_main_cst_1 (F := F)) reducesTo_S8x4096x4096_S8x4096_d2 h_S_

-- %19 = stablehlo.broadcast_in_dim %18, dims = [0, 1] : (tensor<8x4096xf32>) -> tensor<8x4096x1xf32>
def val_main_v19 (x0 x1 : (⟨S4096x8x64, .f32⟩ : BufTy).Contents (Elt F)) (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v18 (F := F) x0 x1 x3)
abbrev idx_main_v19 (i : S8x4096x1.Idx) : S8x4096.Idx := fun a => match a with
  | ⟨0, _⟩ => ⟨(i 0).val, (i 0).isLt⟩
  | ⟨1, _⟩ => ⟨(i 1).val, (i 1).isLt⟩
theorem val_main_v19_apply (x0 x1 : (⟨S4096x8x64, .f32⟩ : BufTy).Contents (Elt F)) (x3 : (⟨S4096x8, .f32⟩ : BufTy).Contents (Elt F)) (i : S8x4096x1.Idx) :
    val_main_v19 (F := F) x0 x1 x3 i = val_main_v18 (F := F) x0 x1 x3 (idx_main_v19 i) := by
  unfold val_main_v19
  generalize val_main_v18 (F := F) x0 x1 x3 = y
  exact broadcastInDim_apply _ bcast_S8x4096_S8x4096x1_0_1 y i (idx_main_v19 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

-- %20 = stablehlo.broadcast_in_dim %19, dims = [0, 1, 2] : (tensor<8x4096x1xf32>) -> tensor<8x4096x4096xf32>
def val_main_v20 (x0 x1 : (⟨S4096x8x64, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v19 (F := F) x0 x1 x3)
abbrev idx_main_v20 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v20_apply (x0 x1 : (⟨S4096x8x64, .f32⟩ : BufTy).Contents (Elt F)) (x3 : (⟨S4096x8, .f32⟩ : BufTy).Contents (Elt F)) (i : S8x4096x4096.Idx) :
    val_main_v20 (F := F) x0 x1 x3 i = val_main_v19 (F := F) x0 x1 x3 (idx_main_v20 i) := by
  unfold val_main_v20
  generalize val_main_v19 (F := F) x0 x1 x3 = y
  exact broadcastInDim_apply _ bcast_S8x4096x1_S8x4096x4096_0_1_2 y i (idx_main_v20 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %21 = stablehlo.subtract %17, %20 : tensor<8x4096x4096xf32>
def val_main_v21 (x0 x1 : (⟨S4096x8x64, .f32⟩ : BufTy).Contents (Elt F)) (x3 : (⟨S4096x8, .f32⟩ : BufTy).Contents (Elt F)) : (⟨S8x4096x4096, .f32⟩ : BufTy).Contents (Elt F) :=
  subf (val_main_v17 (F := F) x0 x1 x3) (val_main_v20 (F := F) x0 x1 x3)
theorem val_main_v21_apply (x0 x1 : (⟨S4096x8x64, .f32⟩ : BufTy).Contents (Elt F)) (x3 : (⟨S4096x8, .f32⟩ : BufTy).Contents (Elt F)) (i : S8x4096x4096.Idx) :
    val_main_v21 (F := F) x0 x1 x3 i = FloatOps.subf (val_main_v17 (F := F) x0 x1 x3 i) (val_main_v20 (F := F) x0 x1 x3 i) := rfl

-- %22 = stablehlo.exponential %21 : tensor<8x4096x4096xf32>
def val_main_v22 (x0 x1 : (⟨S4096x8x64, .f32⟩ : BufTy).Contents (Elt F)) (x3 : (⟨S4096x8, .f32⟩ : BufTy).Contents (Elt F)) : (⟨S8x4096x4096, .f32⟩ : BufTy).Contents (Elt F) :=
  Host.exp (val_main_v21 (F := F) x0 x1 x3)
theorem val_main_v22_apply (x0 x1 : (⟨S4096x8x64, .f32⟩ : BufTy).Contents (Elt F)) (x3 : (⟨S4096x8, .f32⟩ : BufTy).Contents (Elt F)) (i : S8x4096x4096.Idx) :
    val_main_v22 (F := F) x0 x1 x3 i = FloatOps.hostUnary .exp (val_main_v21 (F := F) x0 x1 x3 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %23 = stablehlo.reduce(%22 init: %cst_2) applies stablehlo.add across dimensions = [2] : (tensor<8x4096x4096xf32>, tensor<f32>) -> tensor<8x4096xf32> {
def val_main_v23 (x0 x1 : (⟨S4096x8x64, .f32⟩ : BufTy).Contents (Elt F)) (x3 : (⟨S4096x8, .f32⟩ : BufTy).Contents (Elt F)) : (⟨S8x4096, .f32⟩ : BufTy).Contents (Elt F) :=
  Host.reduceAdd (val_main_v22 (F := F) x0 x1 x3) (val_main_cst_2 (F := F)) reducesTo_S8x4096x4096_S8x4096_d2 h_S_
abbrev idx_main_v23 (i : S8x4096.Idx) (k : Fin 4096) : S8x4096x4096.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v23_apply (x0 x1 : (⟨S4096x8x64, .f32⟩ : BufTy).Contents (Elt Ideal)) (x3 : (⟨S4096x8, .f32⟩ : BufTy).Contents (Elt Ideal)) (i : S8x4096.Idx) :
    val_main_v23 (F := Ideal) x0 x1 x3 i = (val_main_cst_2 (F := Ideal)) (Shape.Idx.first h_S_) + ∑ k : Fin 4096, (val_main_v22 (F := Ideal) x0 x1 x3) (idx_main_v23 i k) := by
  unfold val_main_v23
  generalize val_main_v22 (F := Ideal) x0 x1 x3 = y0
  simp only [Host.reduceAdd, Ideal.hostReduceAdd_def]
  rw [Ideal.hostReduceAdd_single reducesTo_S8x4096x4096_S8x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %24 = stablehlo.broadcast_in_dim %23, dims = [0, 1] : (tensor<8x4096xf32>) -> tensor<8x4096x1xf32>
def val_main_v24 (x0 x1 : (⟨S4096x8x64, .f32⟩ : BufTy).Contents (Elt F)) (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v23 (F := F) x0 x1 x3)
abbrev idx_main_v24 (i : S8x4096x1.Idx) : S8x4096.Idx := fun a => match a with
  | ⟨0, _⟩ => ⟨(i 0).val, (i 0).isLt⟩
  | ⟨1, _⟩ => ⟨(i 1).val, (i 1).isLt⟩
theorem val_main_v24_apply (x0 x1 : (⟨S4096x8x64, .f32⟩ : BufTy).Contents (Elt F)) (x3 : (⟨S4096x8, .f32⟩ : BufTy).Contents (Elt F)) (i : S8x4096x1.Idx) :
    val_main_v24 (F := F) x0 x1 x3 i = val_main_v23 (F := F) x0 x1 x3 (idx_main_v24 i) := by
  unfold val_main_v24
  generalize val_main_v23 (F := F) x0 x1 x3 = y
  exact broadcastInDim_apply _ bcast_S8x4096_S8x4096x1_0_1 y i (idx_main_v24 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

-- %25 = stablehlo.broadcast_in_dim %19, dims = [0, 1, 2] : (tensor<8x4096x1xf32>) -> tensor<8x4096x4096xf32>
def val_main_v25 (x0 x1 : (⟨S4096x8x64, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v19 (F := F) x0 x1 x3)
abbrev idx_main_v25 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v25_apply (x0 x1 : (⟨S4096x8x64, .f32⟩ : BufTy).Contents (Elt F)) (x3 : (⟨S4096x8, .f32⟩ : BufTy).Contents (Elt F)) (i : S8x4096x4096.Idx) :
    val_main_v25 (F := F) x0 x1 x3 i = val_main_v19 (F := F) x0 x1 x3 (idx_main_v25 i) := by
  unfold val_main_v25
  generalize val_main_v19 (F := F) x0 x1 x3 = y
  exact broadcastInDim_apply _ bcast_S8x4096x1_S8x4096x4096_0_1_2 y i (idx_main_v25 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %26 = stablehlo.subtract %17, %25 : tensor<8x4096x4096xf32>
def val_main_v26 (x0 x1 : (⟨S4096x8x64, .f32⟩ : BufTy).Contents (Elt F)) (x3 : (⟨S4096x8, .f32⟩ : BufTy).Contents (Elt F)) : (⟨S8x4096x4096, .f32⟩ : BufTy).Contents (Elt F) :=
  subf (val_main_v17 (F := F) x0 x1 x3) (val_main_v25 (F := F) x0 x1 x3)
theorem val_main_v26_apply (x0 x1 : (⟨S4096x8x64, .f32⟩ : BufTy).Contents (Elt F)) (x3 : (⟨S4096x8, .f32⟩ : BufTy).Contents (Elt F)) (i : S8x4096x4096.Idx) :
    val_main_v26 (F := F) x0 x1 x3 i = FloatOps.subf (val_main_v17 (F := F) x0 x1 x3 i) (val_main_v25 (F := F) x0 x1 x3 i) := rfl

-- %27 = stablehlo.exponential %26 : tensor<8x4096x4096xf32>
def val_main_v27 (x0 x1 : (⟨S4096x8x64, .f32⟩ : BufTy).Contents (Elt F)) (x3 : (⟨S4096x8, .f32⟩ : BufTy).Contents (Elt F)) : (⟨S8x4096x4096, .f32⟩ : BufTy).Contents (Elt F) :=
  Host.exp (val_main_v26 (F := F) x0 x1 x3)
theorem val_main_v27_apply (x0 x1 : (⟨S4096x8x64, .f32⟩ : BufTy).Contents (Elt F)) (x3 : (⟨S4096x8, .f32⟩ : BufTy).Contents (Elt F)) (i : S8x4096x4096.Idx) :
    val_main_v27 (F := F) x0 x1 x3 i = FloatOps.hostUnary .exp (val_main_v26 (F := F) x0 x1 x3 i) := rfl

-- %28 = stablehlo.broadcast_in_dim %24, dims = [0, 1, 2] : (tensor<8x4096x1xf32>) -> tensor<8x4096x4096xf32>
def val_main_v28 (x0 x1 : (⟨S4096x8x64, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v24 (F := F) x0 x1 x3)
abbrev idx_main_v28 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v28_apply (x0 x1 : (⟨S4096x8x64, .f32⟩ : BufTy).Contents (Elt F)) (x3 : (⟨S4096x8, .f32⟩ : BufTy).Contents (Elt F)) (i : S8x4096x4096.Idx) :
    val_main_v28 (F := F) x0 x1 x3 i = val_main_v24 (F := F) x0 x1 x3 (idx_main_v28 i) := by
  unfold val_main_v28
  generalize val_main_v24 (F := F) x0 x1 x3 = y
  exact broadcastInDim_apply _ bcast_S8x4096x1_S8x4096x4096_0_1_2 y i (idx_main_v28 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %29 = stablehlo.divide %27, %28 : tensor<8x4096x4096xf32>
def val_main_v29 (x0 x1 : (⟨S4096x8x64, .f32⟩ : BufTy).Contents (Elt F)) (x3 : (⟨S4096x8, .f32⟩ : BufTy).Contents (Elt F)) : (⟨S8x4096x4096, .f32⟩ : BufTy).Contents (Elt F) :=
  Host.divf (val_main_v27 (F := F) x0 x1 x3) (val_main_v28 (F := F) x0 x1 x3)
theorem val_main_v29_apply (x0 x1 : (⟨S4096x8x64, .f32⟩ : BufTy).Contents (Elt F)) (x3 : (⟨S4096x8, .f32⟩ : BufTy).Contents (Elt F)) (i : S8x4096x4096.Idx) :
    val_main_v29 (F := F) x0 x1 x3 i = FloatOps.hostDivf (val_main_v27 (F := F) x0 x1 x3 i) (val_main_v28 (F := F) x0 x1 x3 i) := rfl

-- %30 = stablehlo.dot_general %arg2, %29, batching_dims = [1] x [0], contracting_dims = [0] x [2], precision = [DEFAULT, DEFAULT] : (tensor<4096x8x64xf32>, tensor<8x4096x4096xf32>) -> tensor<8x64x4096xf32>
def val_main_v30 (x0 x1 x2 : (⟨S4096x8x64, .f32⟩ : BufTy).Contents (Elt F)) (x3 : (⟨S4096x8, .f32⟩ : BufTy).Contents (Elt F)) : (⟨S8x64x4096, .f32⟩ : BufTy).Contents (Elt F) :=
  Host.dotGeneral dot_S4096x8x64_S8x4096x4096_S8x64x4096_0_2_2_1_1_0 none (x2) (val_main_v29 (F := F) x0 x1 x3)
theorem lhs_main_v30_0 (i : S8x64x4096.Idx) (q : dot_S4096x8x64_S8x4096x4096_S8x64x4096_0_2_2_1_1_0.contr.Idx) :
    (dot_S4096x8x64_S8x4096x4096_S8x64x4096_0_2_2_1_1_0.lhsIdx i q 0).val = (q ⟨0, by decide⟩).val :=
  dot_S4096x8x64_S8x4096x4096_S8x64x4096_0_2_2_1_1_0.lhsIdx_val_of_single rfl i q
theorem lhs_main_v30_1 (i : S8x64x4096.Idx) (q : dot_S4096x8x64_S8x4096x4096_S8x64x4096_0_2_2_1_1_0.contr.Idx) :
    (dot_S4096x8x64_S8x4096x4096_S8x64x4096_0_2_2_1_1_0.lhsIdx i q 1).val = (i 0).val := by
  unfold DotDims.lhsIdx
  rw [dif_pos (show (1 : Fin S4096x8x64.rank) ∈ dot_S4096x8x64_S8x4096x4096_S8x64x4096_0_2_2_1_1_0.lhsBatch by decide)]
  rfl
theorem lhs_main_v30_2 (i : S8x64x4096.Idx) (q : dot_S4096x8x64_S8x4096x4096_S8x64x4096_0_2_2_1_1_0.contr.Idx) :
    (dot_S4096x8x64_S8x4096x4096_S8x64x4096_0_2_2_1_1_0.lhsIdx i q 2).val = (i 1).val := by
  unfold DotDims.lhsIdx
  rw [dif_neg (show ¬(2 : Fin S4096x8x64.rank) ∈ dot_S4096x8x64_S8x4096x4096_S8x64x4096_0_2_2_1_1_0.lhsBatch by decide), dif_pos (show (2 : Fin S4096x8x64.rank) ∈ dot_S4096x8x64_S8x4096x4096_S8x64x4096_0_2_2_1_1_0.lhsNonContracting by decide)]
  rfl
theorem rhs_main_v30_0 (i : S8x64x4096.Idx) (q : dot_S4096x8x64_S8x4096x4096_S8x64x4096_0_2_2_1_1_0.contr.Idx) :
    (dot_S4096x8x64_S8x4096x4096_S8x64x4096_0_2_2_1_1_0.rhsIdx i q 0).val = (i 0).val := by
  unfold DotDims.rhsIdx
  rw [dif_pos (show (0 : Fin S8x4096x4096.rank) ∈ dot_S4096x8x64_S8x4096x4096_S8x64x4096_0_2_2_1_1_0.rhsBatch by decide)]
  rfl
theorem rhs_main_v30_1 (i : S8x64x4096.Idx) (q : dot_S4096x8x64_S8x4096x4096_S8x64x4096_0_2_2_1_1_0.contr.Idx) :
    (dot_S4096x8x64_S8x4096x4096_S8x64x4096_0_2_2_1_1_0.rhsIdx i q 1).val = (i 2).val := by
  unfold DotDims.rhsIdx
  rw [dif_neg (show ¬(1 : Fin S8x4096x4096.rank) ∈ dot_S4096x8x64_S8x4096x4096_S8x64x4096_0_2_2_1_1_0.rhsBatch by decide), dif_pos (show (1 : Fin S8x4096x4096.rank) ∈ dot_S4096x8x64_S8x4096x4096_S8x64x4096_0_2_2_1_1_0.rhsNonContracting by decide)]
  rfl
theorem rhs_main_v30_2 (i : S8x64x4096.Idx) (q : dot_S4096x8x64_S8x4096x4096_S8x64x4096_0_2_2_1_1_0.contr.Idx) :
    (dot_S4096x8x64_S8x4096x4096_S8x64x4096_0_2_2_1_1_0.rhsIdx i q 2).val = (q ⟨0, by decide⟩).val :=
  dot_S4096x8x64_S8x4096x4096_S8x64x4096_0_2_2_1_1_0.rhsIdx_val_of_single rfl i q
abbrev lidx_main_v30 (i : S8x64x4096.Idx) (k : Fin 4096) : S4096x8x64.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v30 (i : S8x64x4096.Idx) (k : Fin 4096) : S8x4096x4096.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v30_apply (x0 x1 x2 : (⟨S4096x8x64, .f32⟩ : BufTy).Contents (Elt Ideal)) (x3 : (⟨S4096x8, .f32⟩ : BufTy).Contents (Elt Ideal)) (i : S8x64x4096.Idx) :
    val_main_v30 (F := Ideal) x0 x1 x2 x3 i = ∑ k : Fin 4096, x2 (lidx_main_v30 i k) * (val_main_v29 (F := Ideal) x0 x1 x3) (ridx_main_v30 i k) := by
  unfold val_main_v30
  generalize val_main_v29 (F := Ideal) x0 x1 x3 = y0
  simp only [Host.dotGeneral]
  rw [Ideal.dotGeneral_apply, ← Equiv.sum_comp (ValueIdx.contrEquiv1 dot_S4096x8x64_S8x4096x4096_S8x64x4096_0_2_2_1_1_0 4096 rfl rfl).symm]
  refine Finset.sum_congr rfl fun k _ => ?_
  have hk := ValueIdx.contrEquiv1_symm_val dot_S4096x8x64_S8x4096x4096_S8x64x4096_0_2_2_1_1_0 4096 rfl rfl k
  have el : dot_S4096x8x64_S8x4096x4096_S8x64x4096_0_2_2_1_1_0.lhsIdx i ((ValueIdx.contrEquiv1 dot_S4096x8x64_S8x4096x4096_S8x64x4096_0_2_2_1_1_0 4096 rfl rfl).symm k) = lidx_main_v30 i k := funext fun a => Fin.ext (by
    match a with
    | ⟨0, _⟩ => exact (lhs_main_v30_0 _ _).trans hk
    | ⟨1, _⟩ => exact lhs_main_v30_1 _ _
    | ⟨2, _⟩ => exact lhs_main_v30_2 _ _)
  have er : dot_S4096x8x64_S8x4096x4096_S8x64x4096_0_2_2_1_1_0.rhsIdx i ((ValueIdx.contrEquiv1 dot_S4096x8x64_S8x4096x4096_S8x64x4096_0_2_2_1_1_0 4096 rfl rfl).symm k) = ridx_main_v30 i k := funext fun a => Fin.ext (by
    match a with
    | ⟨0, _⟩ => exact rhs_main_v30_0 _ _
    | ⟨1, _⟩ => exact rhs_main_v30_1 _ _
    | ⟨2, _⟩ => exact (rhs_main_v30_2 _ _).trans hk)
  rw [el, er]

-- %31 = stablehlo.transpose %30, dims = [2, 0, 1] : (tensor<8x64x4096xf32>) -> tensor<4096x8x64xf32>
def val_main_v31 (x0 x1 x2 : (⟨S4096x8x64, .f32⟩ : BufTy).Contents (Elt F)) (x3 : (⟨S4096x8, .f32⟩ : BufTy).Contents (Elt F)) : (⟨S4096x8x64, .f32⟩ : BufTy).Contents (Elt F) :=
  transpose S4096x8x64 [2, 0, 1] (val_main_v30 (F := F) x0 x1 x2 x3) transposes_S8x64x4096_S4096x8x64_2_0_1
abbrev idx_main_v31 (i : S4096x8x64.Idx) : S8x64x4096.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v31_apply (x0 x1 x2 : (⟨S4096x8x64, .f32⟩ : BufTy).Contents (Elt F)) (x3 : (⟨S4096x8, .f32⟩ : BufTy).Contents (Elt F)) (i : S4096x8x64.Idx) :
    val_main_v31 (F := F) x0 x1 x2 x3 i = val_main_v30 (F := F) x0 x1 x2 x3 (idx_main_v31 i) := by
  unfold val_main_v31
  generalize val_main_v30 (F := F) x0 x1 x2 x3 = y
  exact transpose_apply [2, 0, 1] y transposes_S8x64x4096_S4096x8x64_2_0_1 i (idx_main_v31 i) (fun b => match b with
    | ⟨0, _⟩ => rfl
    | ⟨1, _⟩ => rfl
    | ⟨2, _⟩ => rfl)

-- %32 = stablehlo.reshape %31 : (tensor<4096x8x64xf32>) -> tensor<4096x512xf32>
def val_main_v32 (x0 x1 x2 : (⟨S4096x8x64, .f32⟩ : BufTy).Contents (Elt F)) (x3 : (⟨S4096x8, .f32⟩ : BufTy).Contents (Elt F)) : (⟨S4096x512, .f32⟩ : BufTy).Contents (Elt F) :=
  shapeCast _ (val_main_v31 (F := F) x0 x1 x2 x3) shapeCasts_S4096x8x64_S4096x512
set_option backward.proofsInPublic true in
abbrev idx_main_v32 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v32_apply (x0 x1 x2 : (⟨S4096x8x64, .f32⟩ : BufTy).Contents (Elt F)) (x3 : (⟨S4096x8, .f32⟩ : BufTy).Contents (Elt F)) (i : S4096x512.Idx) :
    val_main_v32 (F := F) x0 x1 x2 x3 i = val_main_v31 (F := F) x0 x1 x2 x3 (idx_main_v32 i) := by
  unfold val_main_v32
  generalize val_main_v31 (F := F) x0 x1 x2 x3 = y
  exact shapeCast_apply y shapeCasts_S4096x8x64_S4096x512 i (idx_main_v32 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

-- %33 = stablehlo.log %24 : tensor<8x4096x1xf32>
def val_main_v33 (x0 x1 : (⟨S4096x8x64, .f32⟩ : BufTy).Contents (Elt F)) (x3 : (⟨S4096x8, .f32⟩ : BufTy).Contents (Elt F)) : (⟨S8x4096x1, .f32⟩ : BufTy).Contents (Elt F) :=
  Host.log (val_main_v24 (F := F) x0 x1 x3)
theorem val_main_v33_apply (x0 x1 : (⟨S4096x8x64, .f32⟩ : BufTy).Contents (Elt F)) (x3 : (⟨S4096x8, .f32⟩ : BufTy).Contents (Elt F)) (i : S8x4096x1.Idx) :
    val_main_v33 (F := F) x0 x1 x3 i = FloatOps.hostUnary .log (val_main_v24 (F := F) x0 x1 x3 i) := rfl

-- %34 = stablehlo.add %19, %33 : tensor<8x4096x1xf32>
def val_main_v34 (x0 x1 : (⟨S4096x8x64, .f32⟩ : BufTy).Contents (Elt F)) (x3 : (⟨S4096x8, .f32⟩ : BufTy).Contents (Elt F)) : (⟨S8x4096x1, .f32⟩ : BufTy).Contents (Elt F) :=
  addf (val_main_v19 (F := F) x0 x1 x3) (val_main_v33 (F := F) x0 x1 x3)
theorem val_main_v34_apply (x0 x1 : (⟨S4096x8x64, .f32⟩ : BufTy).Contents (Elt F)) (x3 : (⟨S4096x8, .f32⟩ : BufTy).Contents (Elt F)) (i : S8x4096x1.Idx) :
    val_main_v34 (F := F) x0 x1 x3 i = FloatOps.addf (val_main_v19 (F := F) x0 x1 x3 i) (val_main_v33 (F := F) x0 x1 x3 i) := rfl

-- %35 = stablehlo.reshape %34 : (tensor<8x4096x1xf32>) -> tensor<8x4096xf32>
def val_main_v35 (x0 x1 : (⟨S4096x8x64, .f32⟩ : BufTy).Contents (Elt F)) (x3 : (⟨S4096x8, .f32⟩ : BufTy).Contents (Elt F)) : (⟨S8x4096, .f32⟩ : BufTy).Contents (Elt F) :=
  shapeCast _ (val_main_v34 (F := F) x0 x1 x3) shapeCasts_S8x4096x1_S8x4096
set_option backward.proofsInPublic true in
abbrev idx_main_v35 (i : S8x4096.Idx) : S8x4096x1.Idx := fun a => match a with
  | ⟨0, _⟩ => ⟨((i 0).val * 4096 + (i 1).val) / 4096, by have h0 : (i 0).val < 8 := (i 0).isLt; have h1 : (i 1).val < 4096 := (i 1).isLt; show ((i 0).val * 4096 + (i 1).val) / 4096 < 8; omega⟩
  | ⟨1, _⟩ => ⟨((i 0).val * 4096 + (i 1).val) / 1 % 4096, by have h0 : (i 0).val < 8 := (i 0).isLt; have h1 : (i 1).val < 4096 := (i 1).isLt; show ((i 0).val * 4096 + (i 1).val) / 1 % 4096 < 4096; omega⟩
  | ⟨2, _⟩ => ⟨0, Nat.one_pos⟩
theorem val_main_v35_apply (x0 x1 : (⟨S4096x8x64, .f32⟩ : BufTy).Contents (Elt F)) (x3 : (⟨S4096x8, .f32⟩ : BufTy).Contents (Elt F)) (i : S8x4096.Idx) :
    val_main_v35 (F := F) x0 x1 x3 i = val_main_v34 (F := F) x0 x1 x3 (idx_main_v35 i) := by
  unfold val_main_v35
  generalize val_main_v34 (F := F) x0 x1 x3 = y
  exact shapeCast_apply y shapeCasts_S8x4096x1_S8x4096 i (idx_main_v35 i)
    (by rewrite [Shape.rowMajor_val_three, Shape.rowMajor_val_two]; have h0 : (i 0).val < 8 := (i 0).isLt; have h1 : (i 1).val < 4096 := (i 1).isLt; show (((i 0).val * 4096 + (i 1).val) / 4096 * 4096 + ((i 0).val * 4096 + (i 1).val) / 1 % 4096) * 1 + 0 = (i 0).val * 4096 + (i 1).val; omega)

-- %36 = stablehlo.transpose %35, dims = [1, 0] : (tensor<8x4096xf32>) -> tensor<4096x8xf32>
def val_main_v36 (x0 x1 : (⟨S4096x8x64, .f32⟩ : BufTy).Contents (Elt F)) (x3 : (⟨S4096x8, .f32⟩ : BufTy).Contents (Elt F)) : (⟨S4096x8, .f32⟩ : BufTy).Contents (Elt F) :=
  transpose S4096x8 [1, 0] (val_main_v35 (F := F) x0 x1 x3) transposes_S8x4096_S4096x8_1_0
abbrev idx_main_v36 (i : S4096x8.Idx) : S8x4096.Idx := fun a => match a with
  | ⟨0, _⟩ => ⟨(i 1).val, (i 1).isLt⟩
  | ⟨1, _⟩ => ⟨(i 0).val, (i 0).isLt⟩
theorem val_main_v36_apply (x0 x1 : (⟨S4096x8x64, .f32⟩ : BufTy).Contents (Elt F)) (x3 : (⟨S4096x8, .f32⟩ : BufTy).Contents (Elt F)) (i : S4096x8.Idx) :
    val_main_v36 (F := F) x0 x1 x3 i = val_main_v35 (F := F) x0 x1 x3 (idx_main_v36 i) := by
  unfold val_main_v36
  generalize val_main_v35 (F := F) x0 x1 x3 = y
  exact transpose_apply [1, 0] y transposes_S8x4096_S4096x8_1_0 i (idx_main_v36 i) (fun b => match b with
    | ⟨0, _⟩ => rfl
    | ⟨1, _⟩ => rfl)

-- %37 = stablehlo.broadcast_in_dim %36, dims = [0, 1] : (tensor<4096x8xf32>) -> tensor<4096x8x1xf32>
def val_main_v37 (x0 x1 : (⟨S4096x8x64, .f32⟩ : BufTy).Contents (Elt F)) (x3 : (⟨S4096x8, .f32⟩ : BufTy).Contents (Elt F)) : (⟨S4096x8x1, .f32⟩ : BufTy).Contents (Elt F) :=
  broadcastInDim S4096x8x1 ![0, 1] bcast_S4096x8_S4096x8x1_0_1 (val_main_v36 (F := F) x0 x1 x3)
abbrev idx_main_v37 (i : S4096x8x1.Idx) : S4096x8.Idx := fun a => match a with
  | ⟨0, _⟩ => ⟨(i 0).val, (i 0).isLt⟩
  | ⟨1, _⟩ => ⟨(i 1).val, (i 1).isLt⟩
theorem val_main_v37_apply (x0 x1 : (⟨S4096x8x64, .f32⟩ : BufTy).Contents (Elt F)) (x3 : (⟨S4096x8, .f32⟩ : BufTy).Contents (Elt F)) (i : S4096x8x1.Idx) :
    val_main_v37 (F := F) x0 x1 x3 i = val_main_v36 (F := F) x0 x1 x3 (idx_main_v37 i) := by
  unfold val_main_v37
  generalize val_main_v36 (F := F) x0 x1 x3 = y
  exact broadcastInDim_apply _ bcast_S4096x8_S4096x8x1_0_1 y i (idx_main_v37 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)])

-- %38 = stablehlo.broadcast_in_dim %37, dims = [0, 1, 2] : (tensor<4096x8x1xf32>) -> tensor<4096x8x64xf32>
def val_main_v38 (x0 x1 : (⟨S4096x8x64, .f32⟩ : BufTy).Contents (Elt F)) (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v37 (F := F) x0 x1 x3)
abbrev idx_main_v38 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v38_apply (x0 x1 : (⟨S4096x8x64, .f32⟩ : BufTy).Contents (Elt F)) (x3 : (⟨S4096x8, .f32⟩ : BufTy).Contents (Elt F)) (i : S4096x8x64.Idx) :
    val_main_v38 (F := F) x0 x1 x3 i = val_main_v37 (F := F) x0 x1 x3 (idx_main_v38 i) := by
  unfold val_main_v38
  generalize val_main_v37 (F := F) x0 x1 x3 = y
  exact broadcastInDim_apply _ bcast_S4096x8x1_S4096x8x64_0_1_2 y i (idx_main_v38 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %39 = stablehlo.reshape %38 : (tensor<4096x8x64xf32>) -> tensor<4096x512xf32>
def val_main_v39 (x0 x1 : (⟨S4096x8x64, .f32⟩ : BufTy).Contents (Elt F)) (x3 : (⟨S4096x8, .f32⟩ : BufTy).Contents (Elt F)) : (⟨S4096x512, .f32⟩ : BufTy).Contents (Elt F) :=
  shapeCast _ (val_main_v38 (F := F) x0 x1 x3) shapeCasts_S4096x8x64_S4096x512
set_option backward.proofsInPublic true in
abbrev idx_main_v39 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v39_apply (x0 x1 : (⟨S4096x8x64, .f32⟩ : BufTy).Contents (Elt F)) (x3 : (⟨S4096x8, .f32⟩ : BufTy).Contents (Elt F)) (i : S4096x512.Idx) :
    val_main_v39 (F := F) x0 x1 x3 i = val_main_v38 (F := F) x0 x1 x3 (idx_main_v39 i) := by
  unfold val_main_v39
  generalize val_main_v38 (F := F) x0 x1 x3 = y
  exact shapeCast_apply y shapeCasts_S4096x8x64_S4096x512 i (idx_main_v39 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

-- %40 = stablehlo.iota dim = 2 : tensor<4096x8x64xi32>
def val_main_v40 : (⟨S4096x8x64, .i32⟩ : BufTy).Contents (Elt F) :=
  iotaInDim S4096x8x64 32 2
theorem val_main_v40_apply (i : S4096x8x64.Idx) :
    val_main_v40 (F := F) i = BitVec.ofNat 32 (i 2).val := rfl

-- %41 = stablehlo.iota dim = 1 : tensor<4096x8x64xi32>
def val_main_v41 : (⟨S4096x8x64, .i32⟩ : BufTy).Contents (Elt F) :=
  iotaInDim S4096x8x64 32 1
theorem val_main_v41_apply (i : S4096x8x64.Idx) :
    val_main_v41 (F := F) i = BitVec.ofNat 32 (i 1).val := rfl

-- %42 = stablehlo.subtract %40, %41 : tensor<4096x8x64xi32>
def val_main_v42 : (⟨S4096x8x64, .i32⟩ : BufTy).Contents (Elt F) :=
  subi (val_main_v40 (F := F)) (val_main_v41 (F := F))
theorem val_main_v42_apply (i : S4096x8x64.Idx) :
    val_main_v42 (F := F) i = IntOp.subi (val_main_v40 (F := F) i) (val_main_v41 (F := F) i) := rfl

-- %43 = stablehlo.convert %arg3 : (tensor<4096x8xf32>) -> tensor<4096x8xbf16>
def val_main_v43 (x3 : (⟨S4096x8, .f32⟩ : BufTy).Contents (Elt F)) : (⟨S4096x8, .bf16⟩ : BufTy).Contents (Elt F) :=
  truncf .bf16 (x3) bitsLt_bf16_f32
theorem val_main_v43_apply (x3 : (⟨S4096x8, .f32⟩ : BufTy).Contents (Elt F)) (i : S4096x8.Idx) :
    val_main_v43 (F := F) x3 i = FloatOps.truncf .bf16 bitsLt_bf16_f32 (x3 i) := rfl

-- %44 = stablehlo.convert %43 : (tensor<4096x8xbf16>) -> tensor<4096x8xf32>
def val_main_v44 (x3 : (⟨S4096x8, .f32⟩ : BufTy).Contents (Elt F)) : (⟨S4096x8, .f32⟩ : BufTy).Contents (Elt F) :=
  extf .f32 (val_main_v43 (F := F) x3) bitsLt_bf16_f32
theorem val_main_v44_apply (x3 : (⟨S4096x8, .f32⟩ : BufTy).Contents (Elt F)) (i : S4096x8.Idx) :
    val_main_v44 (F := F) x3 i = FloatOps.extf .f32 bitsLt_bf16_f32 (val_main_v43 (F := F) x3 i) := rfl

-- %45 = stablehlo.subtract %arg3, %44 : tensor<4096x8xf32>
def val_main_v45 (x3 : (⟨S4096x8, .f32⟩ : BufTy).Contents (Elt F)) : (⟨S4096x8, .f32⟩ : BufTy).Contents (Elt F) :=
  subf (x3) (val_main_v44 (F := F) x3)
theorem val_main_v45_apply (x3 : (⟨S4096x8, .f32⟩ : BufTy).Contents (Elt F)) (i : S4096x8.Idx) :
    val_main_v45 (F := F) x3 i = FloatOps.subf (x3 i) (val_main_v44 (F := F) x3 i) := rfl

-- %46 = stablehlo.convert %45 : (tensor<4096x8xf32>) -> tensor<4096x8xbf16>
def val_main_v46 (x3 : (⟨S4096x8, .f32⟩ : BufTy).Contents (Elt F)) : (⟨S4096x8, .bf16⟩ : BufTy).Contents (Elt F) :=
  truncf .bf16 (val_main_v45 (F := F) x3) bitsLt_bf16_f32
theorem val_main_v46_apply (x3 : (⟨S4096x8, .f32⟩ : BufTy).Contents (Elt F)) (i : S4096x8.Idx) :
    val_main_v46 (F := F) x3 i = FloatOps.truncf .bf16 bitsLt_bf16_f32 (val_main_v45 (F := F) x3 i) := rfl

-- %47 = stablehlo.convert %46 : (tensor<4096x8xbf16>) -> tensor<4096x8xf32>
def val_main_v47 (x3 : (⟨S4096x8, .f32⟩ : BufTy).Contents (Elt F)) : (⟨S4096x8, .f32⟩ : BufTy).Contents (Elt F) :=
  extf .f32 (val_main_v46 (F := F) x3) bitsLt_bf16_f32
theorem val_main_v47_apply (x3 : (⟨S4096x8, .f32⟩ : BufTy).Contents (Elt F)) (i : S4096x8.Idx) :
    val_main_v47 (F := F) x3 i = FloatOps.extf .f32 bitsLt_bf16_f32 (val_main_v46 (F := F) x3 i) := rfl

-- %48 = stablehlo.subtract %45, %47 : tensor<4096x8xf32>
def val_main_v48 (x3 : (⟨S4096x8, .f32⟩ : BufTy).Contents (Elt F)) : (⟨S4096x8, .f32⟩ : BufTy).Contents (Elt F) :=
  subf (val_main_v45 (F := F) x3) (val_main_v47 (F := F) x3)
theorem val_main_v48_apply (x3 : (⟨S4096x8, .f32⟩ : BufTy).Contents (Elt F)) (i : S4096x8.Idx) :
    val_main_v48 (F := F) x3 i = FloatOps.subf (val_main_v45 (F := F) x3 i) (val_main_v47 (F := F) x3 i) := rfl

-- %49 = stablehlo.convert %48 : (tensor<4096x8xf32>) -> tensor<4096x8xbf16>
def val_main_v49 (x3 : (⟨S4096x8, .f32⟩ : BufTy).Contents (Elt F)) : (⟨S4096x8, .bf16⟩ : BufTy).Contents (Elt F) :=
  truncf .bf16 (val_main_v48 (F := F) x3) bitsLt_bf16_f32
theorem val_main_v49_apply (x3 : (⟨S4096x8, .f32⟩ : BufTy).Contents (Elt F)) (i : S4096x8.Idx) :
    val_main_v49 (F := F) x3 i = FloatOps.truncf .bf16 bitsLt_bf16_f32 (val_main_v48 (F := F) x3 i) := rfl

-- %50 = stablehlo.convert %43 : (tensor<4096x8xbf16>) -> tensor<4096x8xf32>
def val_main_v50 (x3 : (⟨S4096x8, .f32⟩ : BufTy).Contents (Elt F)) : (⟨S4096x8, .f32⟩ : BufTy).Contents (Elt F) :=
  extf .f32 (val_main_v43 (F := F) x3) bitsLt_bf16_f32
theorem val_main_v50_apply (x3 : (⟨S4096x8, .f32⟩ : BufTy).Contents (Elt F)) (i : S4096x8.Idx) :
    val_main_v50 (F := F) x3 i = FloatOps.extf .f32 bitsLt_bf16_f32 (val_main_v43 (F := F) x3 i) := rfl

-- %51 = stablehlo.broadcast_in_dim %50, dims = [0, 1] : (tensor<4096x8xf32>) -> tensor<4096x8x1xf32>
def val_main_v51 (x3 : (⟨S4096x8, .f32⟩ : BufTy).Contents (Elt F)) : (⟨S4096x8x1, .f32⟩ : BufTy).Contents (Elt F) :=
  broadcastInDim S4096x8x1 ![0, 1] bcast_S4096x8_S4096x8x1_0_1 (val_main_v50 (F := F) x3)
abbrev idx_main_v51 (i : S4096x8x1.Idx) : S4096x8.Idx := fun a => match a with
  | ⟨0, _⟩ => ⟨(i 0).val, (i 0).isLt⟩
  | ⟨1, _⟩ => ⟨(i 1).val, (i 1).isLt⟩
theorem val_main_v51_apply (x3 : (⟨S4096x8, .f32⟩ : BufTy).Contents (Elt F)) (i : S4096x8x1.Idx) :
    val_main_v51 (F := F) x3 i = val_main_v50 (F := F) x3 (idx_main_v51 i) := by
  unfold val_main_v51
  generalize val_main_v50 (F := F) x3 = y
  exact broadcastInDim_apply _ bcast_S4096x8_S4096x8x1_0_1 y i (idx_main_v51 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)])

-- %52 = stablehlo.convert %46 : (tensor<4096x8xbf16>) -> tensor<4096x8xf32>
def val_main_v52 (x3 : (⟨S4096x8, .f32⟩ : BufTy).Contents (Elt F)) : (⟨S4096x8, .f32⟩ : BufTy).Contents (Elt F) :=
  extf .f32 (val_main_v46 (F := F) x3) bitsLt_bf16_f32
theorem val_main_v52_apply (x3 : (⟨S4096x8, .f32⟩ : BufTy).Contents (Elt F)) (i : S4096x8.Idx) :
    val_main_v52 (F := F) x3 i = FloatOps.extf .f32 bitsLt_bf16_f32 (val_main_v46 (F := F) x3 i) := rfl

-- %53 = stablehlo.broadcast_in_dim %52, dims = [0, 1] : (tensor<4096x8xf32>) -> tensor<4096x8x1xf32>
def val_main_v53 (x3 : (⟨S4096x8, .f32⟩ : BufTy).Contents (Elt F)) : (⟨S4096x8x1, .f32⟩ : BufTy).Contents (Elt F) :=
  broadcastInDim S4096x8x1 ![0, 1] bcast_S4096x8_S4096x8x1_0_1 (val_main_v52 (F := F) x3)
abbrev idx_main_v53 (i : S4096x8x1.Idx) : S4096x8.Idx := fun a => match a with
  | ⟨0, _⟩ => ⟨(i 0).val, (i 0).isLt⟩
  | ⟨1, _⟩ => ⟨(i 1).val, (i 1).isLt⟩
theorem val_main_v53_apply (x3 : (⟨S4096x8, .f32⟩ : BufTy).Contents (Elt F)) (i : S4096x8x1.Idx) :
    val_main_v53 (F := F) x3 i = val_main_v52 (F := F) x3 (idx_main_v53 i) := by
  unfold val_main_v53
  generalize val_main_v52 (F := F) x3 = y
  exact broadcastInDim_apply _ bcast_S4096x8_S4096x8x1_0_1 y i (idx_main_v53 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)])

-- %54 = stablehlo.convert %49 : (tensor<4096x8xbf16>) -> tensor<4096x8xf32>
def val_main_v54 (x3 : (⟨S4096x8, .f32⟩ : BufTy).Contents (Elt F)) : (⟨S4096x8, .f32⟩ : BufTy).Contents (Elt F) :=
  extf .f32 (val_main_v49 (F := F) x3) bitsLt_bf16_f32
theorem val_main_v54_apply (x3 : (⟨S4096x8, .f32⟩ : BufTy).Contents (Elt F)) (i : S4096x8.Idx) :
    val_main_v54 (F := F) x3 i = FloatOps.extf .f32 bitsLt_bf16_f32 (val_main_v49 (F := F) x3 i) := rfl

-- %55 = stablehlo.broadcast_in_dim %54, dims = [0, 1] : (tensor<4096x8xf32>) -> tensor<4096x8x1xf32>
def val_main_v55 (x3 : (⟨S4096x8, .f32⟩ : BufTy).Contents (Elt F)) : (⟨S4096x8x1, .f32⟩ : BufTy).Contents (Elt F) :=
  broadcastInDim S4096x8x1 ![0, 1] bcast_S4096x8_S4096x8x1_0_1 (val_main_v54 (F := F) x3)
abbrev idx_main_v55 (i : S4096x8x1.Idx) : S4096x8.Idx := fun a => match a with
  | ⟨0, _⟩ => ⟨(i 0).val, (i 0).isLt⟩
  | ⟨1, _⟩ => ⟨(i 1).val, (i 1).isLt⟩
theorem val_main_v55_apply (x3 : (⟨S4096x8, .f32⟩ : BufTy).Contents (Elt F)) (i : S4096x8x1.Idx) :
    val_main_v55 (F := F) x3 i = val_main_v54 (F := F) x3 (idx_main_v55 i) := by
  unfold val_main_v55
  generalize val_main_v54 (F := F) x3 = y
  exact broadcastInDim_apply _ bcast_S4096x8_S4096x8x1_0_1 y i (idx_main_v55 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)])

-- %cst_3 = stablehlo.constant dense<1.000000e+00> : tensor<f32>
def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

-- %56 = stablehlo.broadcast_in_dim %cst_3, dims = [] : (tensor<f32>) -> tensor<4096x8x64xf32>
def val_main_v56 : (⟨S4096x8x64, .f32⟩ : BufTy).Contents (Elt F) :=
  broadcastInDim S4096x8x64 ![] bcast_S_S4096x8x64 (val_main_cst_3 (F := F))
abbrev idx_main_v56 (i : S4096x8x64.Idx) : S_.Idx := fun a => a.elim0
theorem val_main_v56_apply (i : S4096x8x64.Idx) :
    val_main_v56 (F := F) i = val_main_cst_3 (F := F) (idx_main_v56 i) := by
  unfold val_main_v56
  generalize val_main_cst_3 (F := F) = y
  exact broadcastInDim_apply _ bcast_S_S4096x8x64 y i (idx_main_v56 i) (fun a => a.elim0)

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %57 = stablehlo.broadcast_in_dim %cst_4, dims = [] : (tensor<f32>) -> tensor<4096x8x64xf32>
def val_main_v57 : (⟨S4096x8x64, .f32⟩ : BufTy).Contents (Elt F) :=
  broadcastInDim S4096x8x64 ![] bcast_S_S4096x8x64 (val_main_cst_4 (F := F))
abbrev idx_main_v57 (i : S4096x8x64.Idx) : S_.Idx := fun a => a.elim0
theorem val_main_v57_apply (i : S4096x8x64.Idx) :
    val_main_v57 (F := F) i = val_main_cst_4 (F := F) (idx_main_v57 i) := by
  unfold val_main_v57
  generalize val_main_cst_4 (F := F) = y
  exact broadcastInDim_apply _ bcast_S_S4096x8x64 y i (idx_main_v57 i) (fun a => a.elim0)

-- %c = stablehlo.constant dense<40> : tensor<i32>
def val_main_c : (⟨S_, .i32⟩ : BufTy).Contents (Elt F) :=
  constantI S_ 32 40#32
theorem val_main_c_apply (i : S_.Idx) :
    val_main_c (F := F) i = 40#32 := rfl

-- %58 = stablehlo.broadcast_in_dim %c, dims = [] : (tensor<i32>) -> tensor<4096x8x64xi32>
def val_main_v58 : (⟨S4096x8x64, .i32⟩ : BufTy).Contents (Elt F) :=
  broadcastInDim S4096x8x64 ![] bcast_S_S4096x8x64 (val_main_c (F := F))
abbrev idx_main_v58 (i : S4096x8x64.Idx) : S_.Idx := fun a => a.elim0
theorem val_main_v58_apply (i : S4096x8x64.Idx) :
    val_main_v58 (F := F) i = val_main_c (F := F) (idx_main_v58 i) := by
  unfold val_main_v58
  generalize val_main_c (F := F) = y
  exact broadcastInDim_apply _ bcast_S_S4096x8x64 y i (idx_main_v58 i) (fun a => a.elim0)

-- %59 = stablehlo.compare EQ, %42, %58, SIGNED : (tensor<4096x8x64xi32>, tensor<4096x8x64xi32>) -> tensor<4096x8x64xi1>
def val_main_v59 : (⟨S4096x8x64, .i1⟩ : BufTy).Contents (Elt F) :=
  cmpi .eq (val_main_v42 (F := F)) (val_main_v58 (F := F))
theorem val_main_v59_apply (i : S4096x8x64.Idx) :
    val_main_v59 (F := F) i = IntOp.cmpi .eq (val_main_v42 (F := F) i) (val_main_v58 (F := F) i) := rfl

-- %60 = func.call @_where_0(…) (record main_call1) result 0: @_where_0's %0 = stablehlo.select %arg0, %arg1, %arg2 : tensor<4096x8x64xi1>, tensor<4096x8x64xf32>
def val_main_v60 : (⟨S4096x8x64, .f32⟩ : BufTy).Contents (Elt F) :=
  select (val_main_v59 (F := F)) (val_main_v56 (F := F)) (val_main_v57 (F := F))
theorem val_main_v60_apply (i : S4096x8x64.Idx) :
    val_main_v60 (F := F) i = Scalar.select (val_main_v59 (F := F) i) (val_main_v56 (F := F) i) (val_main_v57 (F := F) i) := rfl

-- %c_5 = stablehlo.constant dense<32> : tensor<i32>
def val_main_c_5 : (⟨S_, .i32⟩ : BufTy).Contents (Elt F) :=
  constantI S_ 32 32#32
theorem val_main_c_5_apply (i : S_.Idx) :
    val_main_c_5 (F := F) i = 32#32 := rfl

-- %61 = stablehlo.broadcast_in_dim %c_5, dims = [] : (tensor<i32>) -> tensor<4096x8x64xi32>
def val_main_v61 : (⟨S4096x8x64, .i32⟩ : BufTy).Contents (Elt F) :=
  broadcastInDim S4096x8x64 ![] bcast_S_S4096x8x64 (val_main_c_5 (F := F))
abbrev idx_main_v61 (i : S4096x8x64.Idx) : S_.Idx := fun a => a.elim0
theorem val_main_v61_apply (i : S4096x8x64.Idx) :
    val_main_v61 (F := F) i = val_main_c_5 (F := F) (idx_main_v61 i) := by
  unfold val_main_v61
  generalize val_main_c_5 (F := F) = y
  exact broadcastInDim_apply _ bcast_S_S4096x8x64 y i (idx_main_v61 i) (fun a => a.elim0)

-- %62 = stablehlo.compare EQ, %42, %61, SIGNED : (tensor<4096x8x64xi32>, tensor<4096x8x64xi32>) -> tensor<4096x8x64xi1>
def val_main_v62 : (⟨S4096x8x64, .i1⟩ : BufTy).Contents (Elt F) :=
  cmpi .eq (val_main_v42 (F := F)) (val_main_v61 (F := F))
theorem val_main_v62_apply (i : S4096x8x64.Idx) :
    val_main_v62 (F := F) i = IntOp.cmpi .eq (val_main_v42 (F := F) i) (val_main_v61 (F := F) i) := rfl

-- %63 = func.call @_where_0(…) (record main_call2) result 0: @_where_0's %0 = stablehlo.select %arg0, %arg1, %arg2 : tensor<4096x8x64xi1>, tensor<4096x8x64xf32>
def val_main_v63 : (⟨S4096x8x64, .f32⟩ : BufTy).Contents (Elt F) :=
  select (val_main_v62 (F := F)) (val_main_v56 (F := F)) (val_main_v60 (F := F))
theorem val_main_v63_apply (i : S4096x8x64.Idx) :
    val_main_v63 (F := F) i = Scalar.select (val_main_v62 (F := F) i) (val_main_v56 (F := F) i) (val_main_v60 (F := F) i) := rfl

-- %c_6 = stablehlo.constant dense<24> : tensor<i32>
def val_main_c_6 : (⟨S_, .i32⟩ : BufTy).Contents (Elt F) :=
  constantI S_ 32 24#32
theorem val_main_c_6_apply (i : S_.Idx) :
    val_main_c_6 (F := F) i = 24#32 := rfl

-- %64 = stablehlo.broadcast_in_dim %c_6, dims = [] : (tensor<i32>) -> tensor<4096x8x64xi32>
def val_main_v64 : (⟨S4096x8x64, .i32⟩ : BufTy).Contents (Elt F) :=
  broadcastInDim S4096x8x64 ![] bcast_S_S4096x8x64 (val_main_c_6 (F := F))
abbrev idx_main_v64 (i : S4096x8x64.Idx) : S_.Idx := fun a => a.elim0
theorem val_main_v64_apply (i : S4096x8x64.Idx) :
    val_main_v64 (F := F) i = val_main_c_6 (F := F) (idx_main_v64 i) := by
  unfold val_main_v64
  generalize val_main_c_6 (F := F) = y
  exact broadcastInDim_apply _ bcast_S_S4096x8x64 y i (idx_main_v64 i) (fun a => a.elim0)

-- %65 = stablehlo.compare EQ, %42, %64, SIGNED : (tensor<4096x8x64xi32>, tensor<4096x8x64xi32>) -> tensor<4096x8x64xi1>
def val_main_v65 : (⟨S4096x8x64, .i1⟩ : BufTy).Contents (Elt F) :=
  cmpi .eq (val_main_v42 (F := F)) (val_main_v64 (F := F))
theorem val_main_v65_apply (i : S4096x8x64.Idx) :
    val_main_v65 (F := F) i = IntOp.cmpi .eq (val_main_v42 (F := F) i) (val_main_v64 (F := F) i) := rfl

-- %66 = func.call @_where_0(…) (record main_call3) result 0: @_where_0's %0 = stablehlo.select %arg0, %arg1, %arg2 : tensor<4096x8x64xi1>, tensor<4096x8x64xf32>
def val_main_v66 : (⟨S4096x8x64, .f32⟩ : BufTy).Contents (Elt F) :=
  select (val_main_v65 (F := F)) (val_main_v56 (F := F)) (val_main_v63 (F := F))
theorem val_main_v66_apply (i : S4096x8x64.Idx) :
    val_main_v66 (F := F) i = Scalar.select (val_main_v65 (F := F) i) (val_main_v56 (F := F) i) (val_main_v63 (F := F) i) := rfl

-- %c_7 = stablehlo.constant dense<16> : tensor<i32>
def val_main_c_7 : (⟨S_, .i32⟩ : BufTy).Contents (Elt F) :=
  constantI S_ 32 16#32
theorem val_main_c_7_apply (i : S_.Idx) :
    val_main_c_7 (F := F) i = 16#32 := rfl

-- %67 = stablehlo.broadcast_in_dim %c_7, dims = [] : (tensor<i32>) -> tensor<4096x8x64xi32>
def val_main_v67 : (⟨S4096x8x64, .i32⟩ : BufTy).Contents (Elt F) :=
  broadcastInDim S4096x8x64 ![] bcast_S_S4096x8x64 (val_main_c_7 (F := F))
abbrev idx_main_v67 (i : S4096x8x64.Idx) : S_.Idx := fun a => a.elim0
theorem val_main_v67_apply (i : S4096x8x64.Idx) :
    val_main_v67 (F := F) i = val_main_c_7 (F := F) (idx_main_v67 i) := by
  unfold val_main_v67
  generalize val_main_c_7 (F := F) = y
  exact broadcastInDim_apply _ bcast_S_S4096x8x64 y i (idx_main_v67 i) (fun a => a.elim0)

-- %68 = stablehlo.compare EQ, %42, %67, SIGNED : (tensor<4096x8x64xi32>, tensor<4096x8x64xi32>) -> tensor<4096x8x64xi1>
def val_main_v68 : (⟨S4096x8x64, .i1⟩ : BufTy).Contents (Elt F) :=
  cmpi .eq (val_main_v42 (F := F)) (val_main_v67 (F := F))
theorem val_main_v68_apply (i : S4096x8x64.Idx) :
    val_main_v68 (F := F) i = IntOp.cmpi .eq (val_main_v42 (F := F) i) (val_main_v67 (F := F) i) := rfl

-- @_where_1's %0 = stablehlo.broadcast_in_dim %arg1, dims = [0, 1, 2] : (tensor<4096x8x1xf32>) -> tensor<4096x8x64xf32>, in %69 = func.call @_where_1(…) (record main_call4)
def val_main_call4_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v55 (F := F) x3)
abbrev idx_main_call4_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call4_v0_apply (x3 : (⟨S4096x8, .f32⟩ : BufTy).Contents (Elt F)) (i : S4096x8x64.Idx) :
    val_main_call4_v0 (F := F) x3 i = val_main_v55 (F := F) x3 (idx_main_call4_v0 i) := by
  unfold val_main_call4_v0
  generalize val_main_v55 (F := F) x3 = y
  exact broadcastInDim_apply _ bcast_S4096x8x1_S4096x8x64_0_1_2 y i (idx_main_call4_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %69 = func.call @_where_1(…) (record main_call4) result 0: @_where_1's %1 = stablehlo.select %arg0, %0, %arg2 : tensor<4096x8x64xi1>, tensor<4096x8x64xf32>
def val_main_v69 (x3 : (⟨S4096x8, .f32⟩ : BufTy).Contents (Elt F)) : (⟨S4096x8x64, .f32⟩ : BufTy).Contents (Elt F) :=
  select (val_main_v68 (F := F)) (val_main_call4_v0 (F := F) x3) (val_main_v66 (F := F))
theorem val_main_v69_apply (x3 : (⟨S4096x8, .f32⟩ : BufTy).Contents (Elt F)) (i : S4096x8x64.Idx) :
    val_main_v69 (F := F) x3 i = Scalar.select (val_main_v68 (F := F) i) (val_main_call4_v0 (F := F) x3 i) (val_main_v66 (F := F) i) := rfl

-- %c_8 = stablehlo.constant dense<8> : tensor<i32>
def val_main_c_8 : (⟨S_, .i32⟩ : BufTy).Contents (Elt F) :=
  constantI S_ 32 8#32
theorem val_main_c_8_apply (i : S_.Idx) :
    val_main_c_8 (F := F) i = 8#32 := rfl

-- %70 = stablehlo.broadcast_in_dim %c_8, dims = [] : (tensor<i32>) -> tensor<4096x8x64xi32>
def val_main_v70 : (⟨S4096x8x64, .i32⟩ : BufTy).Contents (Elt F) :=
  broadcastInDim S4096x8x64 ![] bcast_S_S4096x8x64 (val_main_c_8 (F := F))
abbrev idx_main_v70 (i : S4096x8x64.Idx) : S_.Idx := fun a => a.elim0
theorem val_main_v70_apply (i : S4096x8x64.Idx) :
    val_main_v70 (F := F) i = val_main_c_8 (F := F) (idx_main_v70 i) := by
  unfold val_main_v70
  generalize val_main_c_8 (F := F) = y
  exact broadcastInDim_apply _ bcast_S_S4096x8x64 y i (idx_main_v70 i) (fun a => a.elim0)

-- %71 = stablehlo.compare EQ, %42, %70, SIGNED : (tensor<4096x8x64xi32>, tensor<4096x8x64xi32>) -> tensor<4096x8x64xi1>
def val_main_v71 : (⟨S4096x8x64, .i1⟩ : BufTy).Contents (Elt F) :=
  cmpi .eq (val_main_v42 (F := F)) (val_main_v70 (F := F))
theorem val_main_v71_apply (i : S4096x8x64.Idx) :
    val_main_v71 (F := F) i = IntOp.cmpi .eq (val_main_v42 (F := F) i) (val_main_v70 (F := F) i) := rfl

-- @_where_1's %0 = stablehlo.broadcast_in_dim %arg1, dims = [0, 1, 2] : (tensor<4096x8x1xf32>) -> tensor<4096x8x64xf32>, in %72 = func.call @_where_1(…) (record main_call5)
def val_main_call5_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v53 (F := F) x3)
abbrev idx_main_call5_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call5_v0_apply (x3 : (⟨S4096x8, .f32⟩ : BufTy).Contents (Elt F)) (i : S4096x8x64.Idx) :
    val_main_call5_v0 (F := F) x3 i = val_main_v53 (F := F) x3 (idx_main_call5_v0 i) := by
  unfold val_main_call5_v0
  generalize val_main_v53 (F := F) x3 = y
  exact broadcastInDim_apply _ bcast_S4096x8x1_S4096x8x64_0_1_2 y i (idx_main_call5_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %72 = func.call @_where_1(…) (record main_call5) result 0: @_where_1's %1 = stablehlo.select %arg0, %0, %arg2 : tensor<4096x8x64xi1>, tensor<4096x8x64xf32>
def val_main_v72 (x3 : (⟨S4096x8, .f32⟩ : BufTy).Contents (Elt F)) : (⟨S4096x8x64, .f32⟩ : BufTy).Contents (Elt F) :=
  select (val_main_v71 (F := F)) (val_main_call5_v0 (F := F) x3) (val_main_v69 (F := F) x3)
theorem val_main_v72_apply (x3 : (⟨S4096x8, .f32⟩ : BufTy).Contents (Elt F)) (i : S4096x8x64.Idx) :
    val_main_v72 (F := F) x3 i = Scalar.select (val_main_v71 (F := F) i) (val_main_call5_v0 (F := F) x3 i) (val_main_v69 (F := F) x3 i) := rfl

-- %c_9 = stablehlo.constant dense<0> : tensor<i32>
def val_main_c_9 : (⟨S_, .i32⟩ : BufTy).Contents (Elt F) :=
  constantI S_ 32 0#32
theorem val_main_c_9_apply (i : S_.Idx) :
    val_main_c_9 (F := F) i = 0#32 := rfl

-- %73 = stablehlo.broadcast_in_dim %c_9, dims = [] : (tensor<i32>) -> tensor<4096x8x64xi32>
def val_main_v73 : (⟨S4096x8x64, .i32⟩ : BufTy).Contents (Elt F) :=
  broadcastInDim S4096x8x64 ![] bcast_S_S4096x8x64 (val_main_c_9 (F := F))
abbrev idx_main_v73 (i : S4096x8x64.Idx) : S_.Idx := fun a => a.elim0
theorem val_main_v73_apply (i : S4096x8x64.Idx) :
    val_main_v73 (F := F) i = val_main_c_9 (F := F) (idx_main_v73 i) := by
  unfold val_main_v73
  generalize val_main_c_9 (F := F) = y
  exact broadcastInDim_apply _ bcast_S_S4096x8x64 y i (idx_main_v73 i) (fun a => a.elim0)

-- %74 = stablehlo.compare EQ, %42, %73, SIGNED : (tensor<4096x8x64xi32>, tensor<4096x8x64xi32>) -> tensor<4096x8x64xi1>
def val_main_v74 : (⟨S4096x8x64, .i1⟩ : BufTy).Contents (Elt F) :=
  cmpi .eq (val_main_v42 (F := F)) (val_main_v73 (F := F))
theorem val_main_v74_apply (i : S4096x8x64.Idx) :
    val_main_v74 (F := F) i = IntOp.cmpi .eq (val_main_v42 (F := F) i) (val_main_v73 (F := F) i) := rfl

-- @_where_1's %0 = stablehlo.broadcast_in_dim %arg1, dims = [0, 1, 2] : (tensor<4096x8x1xf32>) -> tensor<4096x8x64xf32>, in %75 = func.call @_where_1(…) (record main_call6)
def val_main_call6_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v51 (F := F) x3)
abbrev idx_main_call6_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call6_v0_apply (x3 : (⟨S4096x8, .f32⟩ : BufTy).Contents (Elt F)) (i : S4096x8x64.Idx) :
    val_main_call6_v0 (F := F) x3 i = val_main_v51 (F := F) x3 (idx_main_call6_v0 i) := by
  unfold val_main_call6_v0
  generalize val_main_v51 (F := F) x3 = y
  exact broadcastInDim_apply _ bcast_S4096x8x1_S4096x8x64_0_1_2 y i (idx_main_call6_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %75 = func.call @_where_1(…) (record main_call6) result 0: @_where_1's %1 = stablehlo.select %arg0, %0, %arg2 : tensor<4096x8x64xi1>, tensor<4096x8x64xf32>
def val_main_v75 (x3 : (⟨S4096x8, .f32⟩ : BufTy).Contents (Elt F)) : (⟨S4096x8x64, .f32⟩ : BufTy).Contents (Elt F) :=
  select (val_main_v74 (F := F)) (val_main_call6_v0 (F := F) x3) (val_main_v72 (F := F) x3)
theorem val_main_v75_apply (x3 : (⟨S4096x8, .f32⟩ : BufTy).Contents (Elt F)) (i : S4096x8x64.Idx) :
    val_main_v75 (F := F) x3 i = Scalar.select (val_main_v74 (F := F) i) (val_main_call6_v0 (F := F) x3 i) (val_main_v72 (F := F) x3 i) := rfl

-- %76 = stablehlo.negate %51 : tensor<4096x8x1xf32>
def val_main_v76 (x3 : (⟨S4096x8, .f32⟩ : BufTy).Contents (Elt F)) : (⟨S4096x8x1, .f32⟩ : BufTy).Contents (Elt F) :=
  Host.negf (val_main_v51 (F := F) x3)
theorem val_main_v76_apply (x3 : (⟨S4096x8, .f32⟩ : BufTy).Contents (Elt F)) (i : S4096x8x1.Idx) :
    val_main_v76 (F := F) x3 i = FloatOps.hostNegf (val_main_v51 (F := F) x3 i) := rfl

-- %77 = stablehlo.negate %53 : tensor<4096x8x1xf32>
def val_main_v77 (x3 : (⟨S4096x8, .f32⟩ : BufTy).Contents (Elt F)) : (⟨S4096x8x1, .f32⟩ : BufTy).Contents (Elt F) :=
  Host.negf (val_main_v53 (F := F) x3)
theorem val_main_v77_apply (x3 : (⟨S4096x8, .f32⟩ : BufTy).Contents (Elt F)) (i : S4096x8x1.Idx) :
    val_main_v77 (F := F) x3 i = FloatOps.hostNegf (val_main_v53 (F := F) x3 i) := rfl

-- %78 = stablehlo.negate %55 : tensor<4096x8x1xf32>
def val_main_v78 (x3 : (⟨S4096x8, .f32⟩ : BufTy).Contents (Elt F)) : (⟨S4096x8x1, .f32⟩ : BufTy).Contents (Elt F) :=
  Host.negf (val_main_v55 (F := F) x3)
theorem val_main_v78_apply (x3 : (⟨S4096x8, .f32⟩ : BufTy).Contents (Elt F)) (i : S4096x8x1.Idx) :
    val_main_v78 (F := F) x3 i = FloatOps.hostNegf (val_main_v55 (F := F) x3 i) := rfl

-- %c_10 = stablehlo.constant dense<40> : tensor<i32>
def val_main_c_10 : (⟨S_, .i32⟩ : BufTy).Contents (Elt F) :=
  constantI S_ 32 40#32
theorem val_main_c_10_apply (i : S_.Idx) :
    val_main_c_10 (F := F) i = 40#32 := rfl

-- %79 = stablehlo.broadcast_in_dim %c_10, dims = [] : (tensor<i32>) -> tensor<4096x8x64xi32>
def val_main_v79 : (⟨S4096x8x64, .i32⟩ : BufTy).Contents (Elt F) :=
  broadcastInDim S4096x8x64 ![] bcast_S_S4096x8x64 (val_main_c_10 (F := F))
abbrev idx_main_v79 (i : S4096x8x64.Idx) : S_.Idx := fun a => a.elim0
theorem val_main_v79_apply (i : S4096x8x64.Idx) :
    val_main_v79 (F := F) i = val_main_c_10 (F := F) (idx_main_v79 i) := by
  unfold val_main_v79
  generalize val_main_c_10 (F := F) = y
  exact broadcastInDim_apply _ bcast_S_S4096x8x64 y i (idx_main_v79 i) (fun a => a.elim0)

-- %80 = stablehlo.compare EQ, %42, %79, SIGNED : (tensor<4096x8x64xi32>, tensor<4096x8x64xi32>) -> tensor<4096x8x64xi1>
def val_main_v80 : (⟨S4096x8x64, .i1⟩ : BufTy).Contents (Elt F) :=
  cmpi .eq (val_main_v42 (F := F)) (val_main_v79 (F := F))
theorem val_main_v80_apply (i : S4096x8x64.Idx) :
    val_main_v80 (F := F) i = IntOp.cmpi .eq (val_main_v42 (F := F) i) (val_main_v79 (F := F) i) := rfl

-- @_where_1's %0 = stablehlo.broadcast_in_dim %arg1, dims = [0, 1, 2] : (tensor<4096x8x1xf32>) -> tensor<4096x8x64xf32>, in %81 = func.call @_where_1(…) (record main_call7)
def val_main_call7_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v78 (F := F) x3)
abbrev idx_main_call7_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call7_v0_apply (x3 : (⟨S4096x8, .f32⟩ : BufTy).Contents (Elt F)) (i : S4096x8x64.Idx) :
    val_main_call7_v0 (F := F) x3 i = val_main_v78 (F := F) x3 (idx_main_call7_v0 i) := by
  unfold val_main_call7_v0
  generalize val_main_v78 (F := F) x3 = y
  exact broadcastInDim_apply _ bcast_S4096x8x1_S4096x8x64_0_1_2 y i (idx_main_call7_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %81 = func.call @_where_1(…) (record main_call7) result 0: @_where_1's %1 = stablehlo.select %arg0, %0, %arg2 : tensor<4096x8x64xi1>, tensor<4096x8x64xf32>
def val_main_v81 (x3 : (⟨S4096x8, .f32⟩ : BufTy).Contents (Elt F)) : (⟨S4096x8x64, .f32⟩ : BufTy).Contents (Elt F) :=
  select (val_main_v80 (F := F)) (val_main_call7_v0 (F := F) x3) (val_main_v57 (F := F))
theorem val_main_v81_apply (x3 : (⟨S4096x8, .f32⟩ : BufTy).Contents (Elt F)) (i : S4096x8x64.Idx) :
    val_main_v81 (F := F) x3 i = Scalar.select (val_main_v80 (F := F) i) (val_main_call7_v0 (F := F) x3 i) (val_main_v57 (F := F) i) := rfl

-- %c_11 = stablehlo.constant dense<32> : tensor<i32>
def val_main_c_11 : (⟨S_, .i32⟩ : BufTy).Contents (Elt F) :=
  constantI S_ 32 32#32
theorem val_main_c_11_apply (i : S_.Idx) :
    val_main_c_11 (F := F) i = 32#32 := rfl

-- %82 = stablehlo.broadcast_in_dim %c_11, dims = [] : (tensor<i32>) -> tensor<4096x8x64xi32>
def val_main_v82 : (⟨S4096x8x64, .i32⟩ : BufTy).Contents (Elt F) :=
  broadcastInDim S4096x8x64 ![] bcast_S_S4096x8x64 (val_main_c_11 (F := F))
abbrev idx_main_v82 (i : S4096x8x64.Idx) : S_.Idx := fun a => a.elim0
theorem val_main_v82_apply (i : S4096x8x64.Idx) :
    val_main_v82 (F := F) i = val_main_c_11 (F := F) (idx_main_v82 i) := by
  unfold val_main_v82
  generalize val_main_c_11 (F := F) = y
  exact broadcastInDim_apply _ bcast_S_S4096x8x64 y i (idx_main_v82 i) (fun a => a.elim0)

-- %83 = stablehlo.compare EQ, %42, %82, SIGNED : (tensor<4096x8x64xi32>, tensor<4096x8x64xi32>) -> tensor<4096x8x64xi1>
def val_main_v83 : (⟨S4096x8x64, .i1⟩ : BufTy).Contents (Elt F) :=
  cmpi .eq (val_main_v42 (F := F)) (val_main_v82 (F := F))
theorem val_main_v83_apply (i : S4096x8x64.Idx) :
    val_main_v83 (F := F) i = IntOp.cmpi .eq (val_main_v42 (F := F) i) (val_main_v82 (F := F) i) := rfl

-- @_where_1's %0 = stablehlo.broadcast_in_dim %arg1, dims = [0, 1, 2] : (tensor<4096x8x1xf32>) -> tensor<4096x8x64xf32>, in %84 = func.call @_where_1(…) (record main_call8)
def val_main_call8_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v77 (F := F) x3)
abbrev idx_main_call8_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call8_v0_apply (x3 : (⟨S4096x8, .f32⟩ : BufTy).Contents (Elt F)) (i : S4096x8x64.Idx) :
    val_main_call8_v0 (F := F) x3 i = val_main_v77 (F := F) x3 (idx_main_call8_v0 i) := by
  unfold val_main_call8_v0
  generalize val_main_v77 (F := F) x3 = y
  exact broadcastInDim_apply _ bcast_S4096x8x1_S4096x8x64_0_1_2 y i (idx_main_call8_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %84 = func.call @_where_1(…) (record main_call8) result 0: @_where_1's %1 = stablehlo.select %arg0, %0, %arg2 : tensor<4096x8x64xi1>, tensor<4096x8x64xf32>
def val_main_v84 (x3 : (⟨S4096x8, .f32⟩ : BufTy).Contents (Elt F)) : (⟨S4096x8x64, .f32⟩ : BufTy).Contents (Elt F) :=
  select (val_main_v83 (F := F)) (val_main_call8_v0 (F := F) x3) (val_main_v81 (F := F) x3)
theorem val_main_v84_apply (x3 : (⟨S4096x8, .f32⟩ : BufTy).Contents (Elt F)) (i : S4096x8x64.Idx) :
    val_main_v84 (F := F) x3 i = Scalar.select (val_main_v83 (F := F) i) (val_main_call8_v0 (F := F) x3 i) (val_main_v81 (F := F) x3 i) := rfl

-- %c_12 = stablehlo.constant dense<24> : tensor<i32>
def val_main_c_12 : (⟨S_, .i32⟩ : BufTy).Contents (Elt F) :=
  constantI S_ 32 24#32
theorem val_main_c_12_apply (i : S_.Idx) :
    val_main_c_12 (F := F) i = 24#32 := rfl

-- %85 = stablehlo.broadcast_in_dim %c_12, dims = [] : (tensor<i32>) -> tensor<4096x8x64xi32>
def val_main_v85 : (⟨S4096x8x64, .i32⟩ : BufTy).Contents (Elt F) :=
  broadcastInDim S4096x8x64 ![] bcast_S_S4096x8x64 (val_main_c_12 (F := F))
abbrev idx_main_v85 (i : S4096x8x64.Idx) : S_.Idx := fun a => a.elim0
theorem val_main_v85_apply (i : S4096x8x64.Idx) :
    val_main_v85 (F := F) i = val_main_c_12 (F := F) (idx_main_v85 i) := by
  unfold val_main_v85
  generalize val_main_c_12 (F := F) = y
  exact broadcastInDim_apply _ bcast_S_S4096x8x64 y i (idx_main_v85 i) (fun a => a.elim0)

-- %86 = stablehlo.compare EQ, %42, %85, SIGNED : (tensor<4096x8x64xi32>, tensor<4096x8x64xi32>) -> tensor<4096x8x64xi1>
def val_main_v86 : (⟨S4096x8x64, .i1⟩ : BufTy).Contents (Elt F) :=
  cmpi .eq (val_main_v42 (F := F)) (val_main_v85 (F := F))
theorem val_main_v86_apply (i : S4096x8x64.Idx) :
    val_main_v86 (F := F) i = IntOp.cmpi .eq (val_main_v42 (F := F) i) (val_main_v85 (F := F) i) := rfl

-- @_where_1's %0 = stablehlo.broadcast_in_dim %arg1, dims = [0, 1, 2] : (tensor<4096x8x1xf32>) -> tensor<4096x8x64xf32>, in %87 = func.call @_where_1(…) (record main_call9)
def val_main_call9_v0 (x3 : (⟨S4096x8, .f32⟩ : BufTy).Contents (Elt F)) : (⟨S4096x8x64, .f32⟩ : BufTy).Contents (Elt F) :=
  broadcastInDim S4096x8x64 ![0, 1, 2] bcast_S4096x8x1_S4096x8x64_0_1_2 (val_main_v76 (F := F) x3)
abbrev idx_main_call9_v0 (i : S4096x8x64.Idx) : S4096x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call9_v0_apply (x3 : (⟨S4096x8, .f32⟩ : BufTy).Contents (Elt F)) (i : S4096x8x64.Idx) :
    val_main_call9_v0 (F := F) x3 i = val_main_v76 (F := F) x3 (idx_main_call9_v0 i) := by
  unfold val_main_call9_v0
  generalize val_main_v76 (F := F) x3 = y
  exact broadcastInDim_apply _ bcast_S4096x8x1_S4096x8x64_0_1_2 y i (idx_main_call9_v0 i) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

-- %87 = func.call @_where_1(…) (record main_call9) result 0: @_where_1's %1 = stablehlo.select %arg0, %0, %arg2 : tensor<4096x8x64xi1>, tensor<4096x8x64xf32>
def val_main_v87 (x3 : (⟨S4096x8, .f32⟩ : BufTy).Contents (Elt F)) : (⟨S4096x8x64, .f32⟩ : BufTy).Contents (Elt F) :=
  select (val_main_v86 (F := F)) (val_main_call9_v0 (F := F) x3) (val_main_v84 (F := F) x3)
theorem val_main_v87_apply (x3 : (⟨S4096x8, .f32⟩ : BufTy).Contents (Elt F)) (i : S4096x8x64.Idx) :
    val_main_v87 (F := F) x3 i = Scalar.select (val_main_v86 (F := F) i) (val_main_call9_v0 (F := F) x3 i) (val_main_v84 (F := F) x3 i) := rfl

-- %c_13 = stablehlo.constant dense<16> : tensor<i32>
def val_main_c_13 : (⟨S_, .i32⟩ : BufTy).Contents (Elt F) :=
  constantI S_ 32 16#32
theorem val_main_c_13_apply (i : S_.Idx) :
    val_main_c_13 (F := F) i = 16#32 := rfl

-- %88 = stablehlo.broadcast_in_dim %c_13, dims = [] : (tensor<i32>) -> tensor<4096x8x64xi32>
def val_main_v88 : (⟨S4096x8x64, .i32⟩ : BufTy).Contents (Elt F) :=
  broadcastInDim S4096x8x64 ![] bcast_S_S4096x8x64 (val_main_c_13 (F := F))
abbrev idx_main_v88 (i : S4096x8x64.Idx) : S_.Idx := fun a => a.elim0
theorem val_main_v88_apply (i : S4096x8x64.Idx) :
    val_main_v88 (F := F) i = val_main_c_13 (F := F) (idx_main_v88 i) := by
  unfold val_main_v88
  generalize val_main_c_13 (F := F) = y
  exact broadcastInDim_apply _ bcast_S_S4096x8x64 y i (idx_main_v88 i) (fun a => a.elim0)

-- %89 = stablehlo.compare EQ, %42, %88, SIGNED : (tensor<4096x8x64xi32>, tensor<4096x8x64xi32>) -> tensor<4096x8x64xi1>
def val_main_v89 : (⟨S4096x8x64, .i1⟩ : BufTy).Contents (Elt F) :=
  cmpi .eq (val_main_v42 (F := F)) (val_main_v88 (F := F))
theorem val_main_v89_apply (i : S4096x8x64.Idx) :
    val_main_v89 (F := F) i = IntOp.cmpi .eq (val_main_v42 (F := F) i) (val_main_v88 (F := F) i) := rfl

-- %90 = func.call @_where_0(…) (record main_call10) result 0: @_where_0's %0 = stablehlo.select %arg0, %arg1, %arg2 : tensor<4096x8x64xi1>, tensor<4096x8x64xf32>
def val_main_v90 (x3 : (⟨S4096x8, .f32⟩ : BufTy).Contents (Elt F)) : (⟨S4096x8x64, .f32⟩ : BufTy).Contents (Elt F) :=
  select (val_main_v89 (F := F)) (val_main_v56 (F := F)) (val_main_v87 (F := F) x3)
theorem val_main_v90_apply (x3 : (⟨S4096x8, .f32⟩ : BufTy).Contents (Elt F)) (i : S4096x8x64.Idx) :
    val_main_v90 (F := F) x3 i = Scalar.select (val_main_v89 (F := F) i) (val_main_v56 (F := F) i) (val_main_v87 (F := F) x3 i) := rfl

-- %c_14 = stablehlo.constant dense<8> : tensor<i32>
def val_main_c_14 : (⟨S_, .i32⟩ : BufTy).Contents (Elt F) :=
  constantI S_ 32 8#32
theorem val_main_c_14_apply (i : S_.Idx) :
    val_main_c_14 (F := F) i = 8#32 := rfl

-- %91 = stablehlo.broadcast_in_dim %c_14, dims = [] : (tensor<i32>) -> tensor<4096x8x64xi32>
def val_main_v91 : (⟨S4096x8x64, .i32⟩ : BufTy).Contents (Elt F) :=
  broadcastInDim S4096x8x64 ![] bcast_S_S4096x8x64 (val_main_c_14 (F := F))
abbrev idx_main_v91 (i : S4096x8x64.Idx) : S_.Idx := fun a => a.elim0
theorem val_main_v91_apply (i : S4096x8x64.Idx) :
    val_main_v91 (F := F) i = val_main_c_14 (F := F) (idx_main_v91 i) := by
  unfold val_main_v91
  generalize val_main_c_14 (F := F) = y
  exact broadcastInDim_apply _ bcast_S_S4096x8x64 y i (idx_main_v91 i) (fun a => a.elim0)

-- %92 = stablehlo.compare EQ, %42, %91, SIGNED : (tensor<4096x8x64xi32>, tensor<4096x8x64xi32>) -> tensor<4096x8x64xi1>
def val_main_v92 : (⟨S4096x8x64, .i1⟩ : BufTy).Contents (Elt F) :=
  cmpi .eq (val_main_v42 (F := F)) (val_main_v91 (F := F))
theorem val_main_v92_apply (i : S4096x8x64.Idx) :
    val_main_v92 (F := F) i = IntOp.cmpi .eq (val_main_v42 (F := F) i) (val_main_v91 (F := F) i) := rfl

-- %93 = func.call @_where_0(…) (record main_call11) result 0: @_where_0's %0 = stablehlo.select %arg0, %arg1, %arg2 : tensor<4096x8x64xi1>, tensor<4096x8x64xf32>
def val_main_v93 (x3 : (⟨S4096x8, .f32⟩ : BufTy).Contents (Elt F)) : (⟨S4096x8x64, .f32⟩ : BufTy).Contents (Elt F) :=
  select (val_main_v92 (F := F)) (val_main_v56 (F := F)) (val_main_v90 (F := F) x3)
theorem val_main_v93_apply (x3 : (⟨S4096x8, .f32⟩ : BufTy).Contents (Elt F)) (i : S4096x8x64.Idx) :
    val_main_v93 (F := F) x3 i = Scalar.select (val_main_v92 (F := F) i) (val_main_v56 (F := F) i) (val_main_v90 (F := F) x3 i) := rfl

-- %c_15 = stablehlo.constant dense<0> : tensor<i32>
def val_main_c_15 : (⟨S_, .i32⟩ : BufTy).Contents (Elt F) :=
  constantI S_ 32 0#32
theorem val_main_c_15_apply (i : S_.Idx) :
    val_main_c_15 (F := F) i = 0#32 := rfl

-- %94 = stablehlo.broadcast_in_dim %c_15, dims = [] : (tensor<i32>) -> tensor<4096x8x64xi32>
def val_main_v94 : (⟨S4096x8x64, .i32⟩ : BufTy).Contents (Elt F) :=
  broadcastInDim S4096x8x64 ![] bcast_S_S4096x8x64 (val_main_c_15 (F := F))
abbrev idx_main_v94 (i : S4096x8x64.Idx) : S_.Idx := fun a => a.elim0
theorem val_main_v94_apply (i : S4096x8x64.Idx) :
    val_main_v94 (F := F) i = val_main_c_15 (F := F) (idx_main_v94 i) := by
  unfold val_main_v94
  generalize val_main_c_15 (F := F) = y
  exact broadcastInDim_apply _ bcast_S_S4096x8x64 y i (idx_main_v94 i) (fun a => a.elim0)

-- %95 = stablehlo.compare EQ, %42, %94, SIGNED : (tensor<4096x8x64xi32>, tensor<4096x8x64xi32>) -> tensor<4096x8x64xi1>
def val_main_v95 : (⟨S4096x8x64, .i1⟩ : BufTy).Contents (Elt F) :=
  cmpi .eq (val_main_v42 (F := F)) (val_main_v94 (F := F))
theorem val_main_v95_apply (i : S4096x8x64.Idx) :
    val_main_v95 (F := F) i = IntOp.cmpi .eq (val_main_v42 (F := F) i) (val_main_v94 (F := F) i) := rfl

-- %96 = func.call @_where_0(…) (record main_call12) result 0: @_where_0's %0 = stablehlo.select %arg0, %arg1, %arg2 : tensor<4096x8x64xi1>, tensor<4096x8x64xf32>
def val_main_v96 (x3 : (⟨S4096x8, .f32⟩ : BufTy).Contents (Elt F)) : (⟨S4096x8x64, .f32⟩ : BufTy).Contents (Elt F) :=
  select (val_main_v95 (F := F)) (val_main_v56 (F := F)) (val_main_v93 (F := F) x3)
theorem val_main_v96_apply (x3 : (⟨S4096x8, .f32⟩ : BufTy).Contents (Elt F)) (i : S4096x8x64.Idx) :
    val_main_v96 (F := F) x3 i = Scalar.select (val_main_v95 (F := F) i) (val_main_v56 (F := F) i) (val_main_v93 (F := F) x3 i) := rfl

-- %cst_16 = stablehlo.constant dense<1.250000e-01> : tensor<f32>
def val_main_cst_16 : (⟨S_, .f32⟩ : BufTy).Contents (Elt F) :=
  constant S_ .f32 0x3E000000#32
theorem val_main_cst_16_apply (i : S_.Idx) :
    val_main_cst_16 (F := F) i = FloatOps.ofBits .f32 0x3E000000#32 := rfl

-- %97 = stablehlo.broadcast_in_dim %cst_16, dims = [] : (tensor<f32>) -> tensor<4096x8x64xf32>
def val_main_v97 : (⟨S4096x8x64, .f32⟩ : BufTy).Contents (Elt F) :=
  broadcastInDim S4096x8x64 ![] bcast_S_S4096x8x64 (val_main_cst_16 (F := F))
abbrev idx_main_v97 (i : S4096x8x64.Idx) : S_.Idx := fun a => a.elim0
theorem val_main_v97_apply (i : S4096x8x64.Idx) :
    val_main_v97 (F := F) i = val_main_cst_16 (F := F) (idx_main_v97 i) := by
  unfold val_main_v97
  generalize val_main_cst_16 (F := F) = y
  exact broadcastInDim_apply _ bcast_S_S4096x8x64 y i (idx_main_v97 i) (fun a => a.elim0)

-- %98 = stablehlo.multiply %arg0, %97 : tensor<4096x8x64xf32>
def val_main_v98 (x0 : (⟨S4096x8x64, .f32⟩ : BufTy).Contents (Elt F)) : (⟨S4096x8x64, .f32⟩ : BufTy).Contents (Elt F) :=
  mulf (x0) (val_main_v97 (F := F))
theorem val_main_v98_apply (x0 : (⟨S4096x8x64, .f32⟩ : BufTy).Contents (Elt F)) (i : S4096x8x64.Idx) :
    val_main_v98 (F := F) x0 i = FloatOps.mulf (x0 i) (val_main_v97 (F := F) i) := rfl

-- %99 = stablehlo.concatenate %98, %75, dim = 2 : (tensor<4096x8x64xf32>, tensor<4096x8x64xf32>) -> tensor<4096x8x128xf32>
def val_main_v99 (x0 : (⟨S4096x8x64, .f32⟩ : BufTy).Contents (Elt F)) (x3 : (⟨S4096x8, .f32⟩ : BufTy).Contents (Elt F)) : (⟨S4096x8x128, .f32⟩ : BufTy).Contents (Elt F) :=
  concatenate S4096x8x128 2 [⟨S4096x8x64, (val_main_v98 (F := F) x0)⟩, ⟨S4096x8x64, (val_main_v75 (F := F) x3)⟩] concatenates_S4096x8x64_S4096x8x64_S4096x8x128_d2

-- %100 = stablehlo.reshape %99 : (tensor<4096x8x128xf32>) -> tensor<4096x1024xf32>
def val_main_v100 (x0 : (⟨S4096x8x64, .f32⟩ : BufTy).Contents (Elt F)) (x3 : (⟨S4096x8, .f32⟩ : BufTy).Contents (Elt F)) : (⟨S4096x1024, .f32⟩ : BufTy).Contents (Elt F) :=
  shapeCast _ (val_main_v99 (F := F) x0 x3) shapeCasts_S4096x8x128_S4096x1024
set_option backward.proofsInPublic true in
abbrev idx_main_v100 (i : S4096x1024.Idx) : S4096x8x128.Idx := fun a => match a with
  | ⟨0, _⟩ => ⟨((i 0).val * 1024 + (i 1).val) / 1024, by have h0 : (i 0).val < 4096 := (i 0).isLt; have h1 : (i 1).val < 1024 := (i 1).isLt; show ((i 0).val * 1024 + (i 1).val) / 1024 < 4096; omega⟩
  | ⟨1, _⟩ => ⟨((i 0).val * 1024 + (i 1).val) / 128 % 8, by have h0 : (i 0).val < 4096 := (i 0).isLt; have h1 : (i 1).val < 1024 := (i 1).isLt; show ((i 0).val * 1024 + (i 1).val) / 128 % 8 < 8; omega⟩
  | ⟨2, _⟩ => ⟨((i 0).val * 1024 + (i 1).val) % 128, by have h0 : (i 0).val < 4096 := (i 0).isLt; have h1 : (i 1).val < 1024 := (i 1).isLt; show ((i 0).val * 1024 + (i 1).val) % 128 < 128; omega⟩
theorem val_main_v100_apply (x0 : (⟨S4096x8x64, .f32⟩ : BufTy).Contents (Elt F)) (x3 : (⟨S4096x8, .f32⟩ : BufTy).Contents (Elt F)) (i : S4096x1024.Idx) :
    val_main_v100 (F := F) x0 x3 i = val_main_v99 (F := F) x0 x3 (idx_main_v100 i) := by
  unfold val_main_v100
  generalize val_main_v99 (F := F) x0 x3 = y
  exact shapeCast_apply y shapeCasts_S4096x8x128_S4096x1024 i (idx_main_v100 i)
    (by rewrite [Shape.rowMajor_val_three, Shape.rowMajor_val_two]; have h0 : (i 0).val < 4096 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

-- %101 = stablehlo.convert %100 : (tensor<4096x1024xf32>) -> tensor<4096x1024xbf16>
def val_main_v101 (x0 : (⟨S4096x8x64, .f32⟩ : BufTy).Contents (Elt F)) (x3 : (⟨S4096x8, .f32⟩ : BufTy).Contents (Elt F)) : (⟨S4096x1024, .bf16⟩ : BufTy).Contents (Elt F) :=
  truncf .bf16 (val_main_v100 (F := F) x0 x3) bitsLt_bf16_f32
theorem val_main_v101_apply (x0 : (⟨S4096x8x64, .f32⟩ : BufTy).Contents (Elt F)) (x3 : (⟨S4096x8, .f32⟩ : BufTy).Contents (Elt F)) (i : S4096x1024.Idx) :
    val_main_v101 (F := F) x0 x3 i = FloatOps.truncf .bf16 bitsLt_bf16_f32 (val_main_v100 (F := F) x0 x3 i) := rfl

-- %102 = stablehlo.concatenate %arg1, %96, dim = 2 : (tensor<4096x8x64xf32>, tensor<4096x8x64xf32>) -> tensor<4096x8x128xf32>
def val_main_v102 (x1 : (⟨S4096x8x64, .f32⟩ : BufTy).Contents (Elt F)) (x3 : (⟨S4096x8, .f32⟩ : BufTy).Contents (Elt F)) : (⟨S4096x8x128, .f32⟩ : BufTy).Contents (Elt F) :=
  concatenate S4096x8x128 2 [⟨S4096x8x64, (x1)⟩, ⟨S4096x8x64, (val_main_v96 (F := F) x3)⟩] concatenates_S4096x8x64_S4096x8x64_S4096x8x128_d2

-- %103 = stablehlo.reshape %102 : (tensor<4096x8x128xf32>) -> tensor<4096x1024xf32>
def val_main_v103 (x1 : (⟨S4096x8x64, .f32⟩ : BufTy).Contents (Elt F)) (x3 : (⟨S4096x8, .f32⟩ : BufTy).Contents (Elt F)) : (⟨S4096x1024, .f32⟩ : BufTy).Contents (Elt F) :=
  shapeCast _ (val_main_v102 (F := F) x1 x3) shapeCasts_S4096x8x128_S4096x1024
set_option backward.proofsInPublic true in
abbrev idx_main_v103 (i : S4096x1024.Idx) : S4096x8x128.Idx := fun a => match a with
  | ⟨0, _⟩ => ⟨((i 0).val * 1024 + (i 1).val) / 1024, by have h0 : (i 0).val < 4096 := (i 0).isLt; have h1 : (i 1).val < 1024 := (i 1).isLt; show ((i 0).val * 1024 + (i 1).val) / 1024 < 4096; omega⟩
  | ⟨1, _⟩ => ⟨((i 0).val * 1024 + (i 1).val) / 128 % 8, by have h0 : (i 0).val < 4096 := (i 0).isLt; have h1 : (i 1).val < 1024 := (i 1).isLt; show ((i 0).val * 1024 + (i 1).val) / 128 % 8 < 8; omega⟩
  | ⟨2, _⟩ => ⟨((i 0).val * 1024 + (i 1).val) % 128, by have h0 : (i 0).val < 4096 := (i 0).isLt; have h1 : (i 1).val < 1024 := (i 1).isLt; show ((i 0).val * 1024 + (i 1).val) % 128 < 128; omega⟩
theorem val_main_v103_apply (x1 : (⟨S4096x8x64, .f32⟩ : BufTy).Contents (Elt F)) (x3 : (⟨S4096x8, .f32⟩ : BufTy).Contents (Elt F)) (i : S4096x1024.Idx) :
    val_main_v103 (F := F) x1 x3 i = val_main_v102 (F := F) x1 x3 (idx_main_v103 i) := by
  unfold val_main_v103
  generalize val_main_v102 (F := F) x1 x3 = y
  exact shapeCast_apply y shapeCasts_S4096x8x128_S4096x1024 i (idx_main_v103 i)
    (by rewrite [Shape.rowMajor_val_three, Shape.rowMajor_val_two]; have h0 : (i 0).val < 4096 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

-- %104 = stablehlo.convert %103 : (tensor<4096x1024xf32>) -> tensor<4096x1024xbf16>
def val_main_v104 (x1 : (⟨S4096x8x64, .f32⟩ : BufTy).Contents (Elt F)) (x3 : (⟨S4096x8, .f32⟩ : BufTy).Contents (Elt F)) : (⟨S4096x1024, .bf16⟩ : BufTy).Contents (Elt F) :=
  truncf .bf16 (val_main_v103 (F := F) x1 x3) bitsLt_bf16_f32
theorem val_main_v104_apply (x1 : (⟨S4096x8x64, .f32⟩ : BufTy).Contents (Elt F)) (x3 : (⟨S4096x8, .f32⟩ : BufTy).Contents (Elt F)) (i : S4096x1024.Idx) :
    val_main_v104 (F := F) x1 x3 i = FloatOps.truncf .bf16 bitsLt_bf16_f32 (val_main_v103 (F := F) x1 x3 i) := rfl

-- %cst_17 = stablehlo.constant dense<0.000000e+00> : tensor<f32>
def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

-- %105 = stablehlo.broadcast_in_dim %cst_17, dims = [] : (tensor<f32>) -> tensor<8x128xf32>
def val_main_v105 : (⟨S8x128, .f32⟩ : BufTy).Contents (Elt F) :=
  broadcastInDim S8x128 ![] bcast_S_S8x128 (val_main_cst_17 (F := F))
abbrev idx_main_v105 (i : S8x128.Idx) : S_.Idx := fun a => a.elim0
theorem val_main_v105_apply (i : S8x128.Idx) :
    val_main_v105 (F := F) i = val_main_cst_17 (F := F) (idx_main_v105 i) := by
  unfold val_main_v105
  generalize val_main_cst_17 (F := F) = y
  exact broadcastInDim_apply _ bcast_S_S8x128 y i (idx_main_v105 i) (fun a => a.elim0)

-- %106 = stablehlo.reshape %arg2 : (tensor<4096x8x64xf32>) -> tensor<4096x512xf32>
def val_main_v106 (x2 : (⟨S4096x8x64, .f32⟩ : BufTy).Contents (Elt F)) : (⟨S4096x512, .f32⟩ : BufTy).Contents (Elt F) :=
  shapeCast _ (x2) shapeCasts_S4096x8x64_S4096x512
set_option backward.proofsInPublic true in
abbrev idx_main_v106 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v106_apply (x2 : (⟨S4096x8x64, .f32⟩ : BufTy).Contents (Elt F)) (i : S4096x512.Idx) :
    val_main_v106 (F := F) x2 i = x2 (idx_main_v106 i) := by
  unfold val_main_v106
  exact shapeCast_apply x2 shapeCasts_S4096x8x64_S4096x512 i (idx_main_v106 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

-- %107 = stablehlo.convert %106 : (tensor<4096x512xf32>) -> tensor<4096x512xbf16>
def val_main_v107 (x2 : (⟨S4096x8x64, .f32⟩ : BufTy).Contents (Elt F)) : (⟨S4096x512, .bf16⟩ : BufTy).Contents (Elt F) :=
  truncf .bf16 (val_main_v106 (F := F) x2) bitsLt_bf16_f32
theorem val_main_v107_apply (x2 : (⟨S4096x8x64, .f32⟩ : BufTy).Contents (Elt F)) (i : S4096x512.Idx) :
    val_main_v107 (F := F) x2 i = FloatOps.truncf .bf16 bitsLt_bf16_f32 (val_main_v106 (F := F) x2 i) := rfl

-- %108 = stablehlo.reshape %arg4 : (tensor<4096x8x64xf32>) -> tensor<4096x512xf32>
def val_main_v108 (x4 : (⟨S4096x8x64, .f32⟩ : BufTy).Contents (Elt F)) : (⟨S4096x512, .f32⟩ : BufTy).Contents (Elt F) :=
  shapeCast _ (x4) shapeCasts_S4096x8x64_S4096x512
set_option backward.proofsInPublic true in
abbrev idx_main_v108 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v108_apply (x4 : (⟨S4096x8x64, .f32⟩ : BufTy).Contents (Elt F)) (i : S4096x512.Idx) :
    val_main_v108 (F := F) x4 i = x4 (idx_main_v108 i) := by
  unfold val_main_v108
  exact shapeCast_apply x4 shapeCasts_S4096x8x64_S4096x512 i (idx_main_v108 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

end Cert.KernelIdeal.Pre

end
-- ==== Proof.Attn.PostRead.lean ====
module

public import proofs.«01_k».proof.Proof.Gen.KernelIdeal
public import Idealize.ShloMosaic.Lib.StableHlo.Run
public import Idealize.ShloMosaic.Lib.Pipeline.Value
public import Idealize.ShloMosaic.PureOps.Ideal.Laws

@[expose] public section

noncomputable section

/-!
  The host operations after the launch, one at a time: the value of each as a function of the launch's results,
  and that value at an index.
-/

namespace Cert.KernelIdeal.Post

open Cert.KernelIdeal Cert.KernelIdeal.Gen Idealize.ShloMosaic Idealize.ShloMosaic.TcCoe Idealize.SL.Sem Idealize.ShloMosaic.StableHlo

variable {F : FTy → Type} [FloatOps F]

-- %0 = stablehlo.iota dim = 2 : tensor<4096x8x64xi32>
def val_main_v0 : (⟨S4096x8x64, .i32⟩ : BufTy).Contents (Elt F) :=
  iotaInDim S4096x8x64 32 2
theorem val_main_v0_apply (i : S4096x8x64.Idx) :
    val_main_v0 (F := F) i = BitVec.ofNat 32 (i 2).val := rfl

-- %1 = stablehlo.iota dim = 1 : tensor<4096x8x64xi32>
def val_main_v1 : (⟨S4096x8x64, .i32⟩ : BufTy).Contents (Elt F) :=
  iotaInDim S4096x8x64 32 1
theorem val_main_v1_apply (i : S4096x8x64.Idx) :
    val_main_v1 (F := F) i = BitVec.ofNat 32 (i 1).val := rfl

-- %2 = stablehlo.subtract %0, %1 : tensor<4096x8x64xi32>
def val_main_v2 : (⟨S4096x8x64, .i32⟩ : BufTy).Contents (Elt F) :=
  subi (val_main_v0 (F := F)) (val_main_v1 (F := F))
theorem val_main_v2_apply (i : S4096x8x64.Idx) :
    val_main_v2 (F := F) i = IntOp.subi (val_main_v0 (F := F) i) (val_main_v1 (F := F) i) := rfl

-- %3 = stablehlo.reshape %arg0 : (tensor<4x4096x256xf32>) -> tensor<4x4096x2x128xf32>
def val_main_v3 (x0 : (⟨S4x4096x256, .f32⟩ : BufTy).Contents (Elt F)) : (⟨S4x4096x2x128, .f32⟩ : BufTy).Contents (Elt F) :=
  shapeCast _ (x0) shapeCasts_S4x4096x256_S4x4096x2x128
set_option backward.proofsInPublic true in
abbrev idx_main_v3 (i : S4x4096x2x128.Idx) : S4x4096x256.Idx := fun a => match a with
  | ⟨0, _⟩ => ⟨((((i 0).val * 4096 + (i 1).val) * 2 + (i 2).val) * 128 + (i 3).val) / 1048576, by have h0 : (i 0).val < 4 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) / 1048576 < 4; omega⟩
  | ⟨1, _⟩ => ⟨((((i 0).val * 4096 + (i 1).val) * 2 + (i 2).val) * 128 + (i 3).val) / 256 % 4096, by have h0 : (i 0).val < 4 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) / 256 % 4096 < 4096; omega⟩
  | ⟨2, _⟩ => ⟨((((i 0).val * 4096 + (i 1).val) * 2 + (i 2).val) * 128 + (i 3).val) % 256, by have h0 : (i 0).val < 4 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) % 256 < 256; omega⟩
theorem val_main_v3_apply (x0 : (⟨S4x4096x256, .f32⟩ : BufTy).Contents (Elt F)) (i : S4x4096x2x128.Idx) :
    val_main_v3 (F := F) x0 i = x0 (idx_main_v3 i) := by
  unfold val_main_v3
  exact shapeCast_apply x0 shapeCasts_S4x4096x256_S4x4096x2x128 i (idx_main_v3 i)
    (by rewrite [Shape.rowMajor_val_three, Shape.rowMajor_val_four]; have h0 : (i 0).val < 4 := (i 0).isLt; have h1 : (i 1).val < 4096 := (i 1).isLt; have h2 : (i 2).val < 2 := (i 2).isLt; have h3 : (i 3).val < 128 := (i 3).isLt; show (((((i 0).val * 4096 + (i 1).val) * 2 + (i 2).val) * 128 + (i 3).val) / 1048576 * 4096 + ((((i 0).val * 4096 + (i 1).val) * 2 + (i 2).val) * 128 + (i 3).val) / 256 % 4096) * 256 + ((((i 0).val * 4096 + (i 1).val) * 2 + (i 2).val) * 128 + (i 3).val) % 256 = (((i 0).val * 4096 + (i 1).val) * 2 + (i 2).val) * 128 + (i 3).val; omega)

-- %4 = stablehlo.transpose %3, dims = [1, 0, 2, 3] : (tensor<4x4096x2x128xf32>) -> tensor<4096x4x2x128xf32>
def val_main_v4 (x0 : (⟨S4x4096x256, .f32⟩ : BufTy).Contents (Elt F)) : (⟨S4096x4x2x128, .f32⟩ : BufTy).Contents (Elt F) :=
  transpose S4096x4x2x128 [1, 0, 2, 3] (val_main_v3 (F := F) x0) transposes_S4x4096x2x128_S4096x4x2x128_1_0_2_3
abbrev idx_main_v4 (i : S4096x4x2x128.Idx) : S4x4096x2x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩
theorem val_main_v4_apply (x0 : (⟨S4x4096x256, .f32⟩ : BufTy).Contents (Elt F)) (i : S4096x4x2x128.Idx) :
    val_main_v4 (F := F) x0 i = val_main_v3 (F := F) x0 (idx_main_v4 i) := by
  unfold val_main_v4
  generalize val_main_v3 (F := F) x0 = y
  exact transpose_apply [1, 0, 2, 3] y transposes_S4x4096x2x128_S4096x4x2x128_1_0_2_3 i (idx_main_v4 i) (fun b => match b with
    | ⟨0, _⟩ => rfl
    | ⟨1, _⟩ => rfl
    | ⟨2, _⟩ => rfl
    | ⟨3, _⟩ => rfl)

-- %5 = stablehlo.reshape %4 : (tensor<4096x4x2x128xf32>) -> tensor<4096x8x128xf32>
def val_main_v5 (x0 : (⟨S4x4096x256, .f32⟩ : BufTy).Contents (Elt F)) : (⟨S4096x8x128, .f32⟩ : BufTy).Contents (Elt F) :=
  shapeCast _ (val_main_v4 (F := F) x0) shapeCasts_S4096x4x2x128_S4096x8x128
set_option backward.proofsInPublic true in
abbrev idx_main_v5 (i : S4096x8x128.Idx) : S4096x4x2x128.Idx := fun a => match a with
  | ⟨0, _⟩ => ⟨(((i 0).val * 8 + (i 1).val) * 128 + (i 2).val) / 1024, by have h0 : (i 0).val < 4096 := (i 0).isLt; have h1 : (i 1).val < 8 := (i 1).isLt; have h2 : (i 2).val < 128 := (i 2).isLt; show (((i 0).val * 8 + (i 1).val) * 128 + (i 2).val) / 1024 < 4096; omega⟩
  | ⟨1, _⟩ => ⟨(((i 0).val * 8 + (i 1).val) * 128 + (i 2).val) / 256 % 4, by have h0 : (i 0).val < 4096 := (i 0).isLt; have h1 : (i 1).val < 8 := (i 1).isLt; have h2 : (i 2).val < 128 := (i 2).isLt; show (((i 0).val * 8 + (i 1).val) * 128 + (i 2).val) / 256 % 4 < 4; omega⟩
  | ⟨2, _⟩ => ⟨(((i 0).val * 8 + (i 1).val) * 128 + (i 2).val) / 128 % 2, by have h0 : (i 0).val < 4096 := (i 0).isLt; have h1 : (i 1).val < 8 := (i 1).isLt; have h2 : (i 2).val < 128 := (i 2).isLt; show (((i 0).val * 8 + (i 1).val) * 128 + (i 2).val) / 128 % 2 < 2; omega⟩
  | ⟨3, _⟩ => ⟨(((i 0).val * 8 + (i 1).val) * 128 + (i 2).val) % 128, by have h0 : (i 0).val < 4096 := (i 0).isLt; have h1 : (i 1).val < 8 := (i 1).isLt; have h2 : (i 2).val < 128 := (i 2).isLt; show (((i 0).val * 8 + (i 1).val) * 128 + (i 2).val) % 128 < 128; omega⟩
theorem val_main_v5_apply (x0 : (⟨S4x4096x256, .f32⟩ : BufTy).Contents (Elt F)) (i : S4096x8x128.Idx) :
    val_main_v5 (F := F) x0 i = val_main_v4 (F := F) x0 (idx_main_v5 i) := by
  unfold val_main_v5
  generalize val_main_v4 (F := F) x0 = y
  exact shapeCast_apply y shapeCasts_S4096x4x2x128_S4096x8x128 i (idx_main_v5 i)
    (by rewrite [Shape.rowMajor_val_four, Shape.rowMajor_val_three]; have h0 : (i 0).val < 4096 := (i 0).isLt; have h1 : (i 1).val < 8 := (i 1).isLt; have h2 : (i 2).val < 128 := (i 2).isLt; show (((((i 0).val * 8 + (i 1).val) * 128 + (i 2).val) / 1024 * 4 + (((i 0).val * 8 + (i 1).val) * 128 + (i 2).val) / 256 % 4) * 2 + (((i 0).val * 8 + (i 1).val) * 128 + (i 2).val) / 128 % 2) * 128 + (((i 0).val * 8 + (i 1).val) * 128 + (i 2).val) % 128 = ((i 0).val * 8 + (i 1).val) * 128 + (i 2).val; omega)

-- %6 = stablehlo.reshape %arg1 : (tensor<4096x1024xf32>) -> tensor<4096x8x128xf32>
def val_main_v6 (x1 : (⟨S4096x1024, .f32⟩ : BufTy).Contents (Elt F)) : (⟨S4096x8x128, .f32⟩ : BufTy).Contents (Elt F) :=
  shapeCast _ (x1) shapeCasts_S4096x1024_S4096x8x128
set_option backward.proofsInPublic true in
abbrev idx_main_v6 (i : S4096x8x128.Idx) : S4096x1024.Idx := fun a => match a with
  | ⟨0, _⟩ => ⟨(((i 0).val * 8 + (i 1).val) * 128 + (i 2).val) / 1024, by have h0 : (i 0).val < 4096 := (i 0).isLt; have h1 : (i 1).val < 8 := (i 1).isLt; have h2 : (i 2).val < 128 := (i 2).isLt; show (((i 0).val * 8 + (i 1).val) * 128 + (i 2).val) / 1024 < 4096; omega⟩
  | ⟨1, _⟩ => ⟨(((i 0).val * 8 + (i 1).val) * 128 + (i 2).val) % 1024, by have h0 : (i 0).val < 4096 := (i 0).isLt; have h1 : (i 1).val < 8 := (i 1).isLt; have h2 : (i 2).val < 128 := (i 2).isLt; show (((i 0).val * 8 + (i 1).val) * 128 + (i 2).val) % 1024 < 1024; omega⟩
theorem val_main_v6_apply (x1 : (⟨S4096x1024, .f32⟩ : BufTy).Contents (Elt F)) (i : S4096x8x128.Idx) :
    val_main_v6 (F := F) x1 i = x1 (idx_main_v6 i) := by
  unfold val_main_v6
  exact shapeCast_apply x1 shapeCasts_S4096x1024_S4096x8x128 i (idx_main_v6 i)
    (by rewrite [Shape.rowMajor_val_two, Shape.rowMajor_val_three]; have h0 : (i 0).val < 4096 := (i 0).isLt; have h1 : (i 1).val < 8 := (i 1).isLt; have h2 : (i 2).val < 128 := (i 2).isLt; show (((i 0).val * 8 + (i 1).val) * 128 + (i 2).val) / 1024 * 1024 + (((i 0).val * 8 + (i 1).val) * 128 + (i 2).val) % 1024 = ((i 0).val * 8 + (i 1).val) * 128 + (i 2).val; omega)

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %7 = stablehlo.broadcast_in_dim %c, dims = [] : (tensor<i32>) -> tensor<4096x8x64xi32>
def val_main_v7 : (⟨S4096x8x64, .i32⟩ : BufTy).Contents (Elt F) :=
  broadcastInDim S4096x8x64 ![] bcast_S_S4096x8x64 (val_main_c (F := F))
abbrev idx_main_v7 (i : S4096x8x64.Idx) : S_.Idx := fun a => a.elim0
theorem val_main_v7_apply (i : S4096x8x64.Idx) :
    val_main_v7 (F := F) i = val_main_c (F := F) (idx_main_v7 i) := by
  unfold val_main_v7
  generalize val_main_c (F := F) = y
  exact broadcastInDim_apply _ bcast_S_S4096x8x64 y i (idx_main_v7 i) (fun a => a.elim0)

-- %8 = stablehlo.compare EQ, %2, %7, SIGNED : (tensor<4096x8x64xi32>, tensor<4096x8x64xi32>) -> tensor<4096x8x64xi1>
def val_main_v8 : (⟨S4096x8x64, .i1⟩ : BufTy).Contents (Elt F) :=
  cmpi .eq (val_main_v2 (F := F)) (val_main_v7 (F := F))
theorem val_main_v8_apply (i : S4096x8x64.Idx) :
    val_main_v8 (F := F) i = IntOp.cmpi .eq (val_main_v2 (F := F) i) (val_main_v7 (F := F) i) := rfl

-- %9 = stablehlo.slice %5 [0:4096, 0:8, 64:128] : (tensor<4096x8x128xf32>) -> tensor<4096x8x64xf32>
def val_main_v9 (x0 : (⟨S4x4096x256, .f32⟩ : BufTy).Contents (Elt F)) : (⟨S4096x8x64, .f32⟩ : BufTy).Contents (Elt F) :=
  extractStridedSlice S4096x8x64 ![0, 0, 64] (val_main_v5 (F := F) x0) slices_S4096x8x128_S4096x8x64_0_0_64
set_option backward.proofsInPublic true in
abbrev idx_main_v9 (i : S4096x8x64.Idx) : S4096x8x128.Idx := fun a => match a with
  | ⟨0, _⟩ => ⟨(i 0).val, (i 0).isLt⟩
  | ⟨1, _⟩ => ⟨(i 1).val, (i 1).isLt⟩
  | ⟨2, _⟩ => ⟨64 + (i 2).val, by have h2 : (i 2).val < 64 := (i 2).isLt; show 64 + (i 2).val < 128; omega⟩
theorem val_main_v9_apply (x0 : (⟨S4x4096x256, .f32⟩ : BufTy).Contents (Elt F)) (i : S4096x8x64.Idx) :
    val_main_v9 (F := F) x0 i = val_main_v5 (F := F) x0 (idx_main_v9 i) := by
  unfold val_main_v9
  generalize val_main_v5 (F := F) x0 = y
  exact extractStridedSlice_apply ![0, 0, 64] y slices_S4096x8x128_S4096x8x64_0_0_64 i (idx_main_v9 i) (fun a => match a with
    | ⟨0, _⟩ => by show (i 0).val = 0 + (i 0).val; omega
    | ⟨1, _⟩ => by show (i 1).val = 0 + (i 1).val; omega
    | ⟨2, _⟩ => by show 64 + (i 2).val = 64 + (i 2).val; omega)

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- @_where's %0 = stablehlo.convert %arg2 : tensor<f32>, in %10 = func.call @_where(…) (record main_call0)
def val_main_call0_v0 : (⟨S_, .f32⟩ : BufTy).Contents (Elt F) :=
  id (val_main_cst (F := F))
theorem val_main_call0_v0_apply (i : S_.Idx) :
    val_main_call0_v0 (F := F) i = (val_main_cst (F := F) i) := rfl

-- @_where's %1 = stablehlo.broadcast_in_dim %0, dims = [] : (tensor<f32>) -> tensor<4096x8x64xf32>, in %10 = func.call @_where(…) (record main_call0)
def val_main_call0_v1 : (⟨S4096x8x64, .f32⟩ : BufTy).Contents (Elt F) :=
  broadcastInDim S4096x8x64 ![] bcast_S_S4096x8x64 (val_main_call0_v0 (F := F))
abbrev idx_main_call0_v1 (i : S4096x8x64.Idx) : S_.Idx := fun a => a.elim0
theorem val_main_call0_v1_apply (i : S4096x8x64.Idx) :
    val_main_call0_v1 (F := F) i = val_main_call0_v0 (F := F) (idx_main_call0_v1 i) := by
  unfold val_main_call0_v1
  generalize val_main_call0_v0 (F := F) = y
  exact broadcastInDim_apply _ bcast_S_S4096x8x64 y i (idx_main_call0_v1 i) (fun a => a.elim0)

-- %10 = func.call @_where(…) (record main_call0) result 0: @_where's %2 = stablehlo.select %arg0, %arg1, %1 : tensor<4096x8x64xi1>, tensor<4096x8x64xf32>
def val_main_v10 (x0 : (⟨S4x4096x256, .f32⟩ : BufTy).Contents (Elt F)) : (⟨S4096x8x64, .f32⟩ : BufTy).Contents (Elt F) :=
  select (val_main_v8 (F := F)) (val_main_v9 (F := F) x0) (val_main_call0_v1 (F := F))
theorem val_main_v10_apply (x0 : (⟨S4x4096x256, .f32⟩ : BufTy).Contents (Elt F)) (i : S4096x8x64.Idx) :
    val_main_v10 (F := F) x0 i = Scalar.select (val_main_v8 (F := F) i) (val_main_v9 (F := F) x0 i) (val_main_call0_v1 (F := F) i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %11 = stablehlo.reduce(%10 init: %cst_0) applies stablehlo.add across dimensions = [2] : (tensor<4096x8x64xf32>, tensor<f32>) -> tensor<4096x8xf32> {
def val_main_v11 (x0 : (⟨S4x4096x256, .f32⟩ : BufTy).Contents (Elt F)) : (⟨S4096x8, .f32⟩ : BufTy).Contents (Elt F) :=
  Host.reduceAdd (val_main_v10 (F := F) x0) (val_main_cst_0 (F := F)) reducesTo_S4096x8x64_S4096x8_d2 h_S_
abbrev idx_main_v11 (i : S4096x8.Idx) (k : Fin 64) : S4096x8x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v11_apply (x0 : (⟨S4x4096x256, .f32⟩ : BufTy).Contents (Elt Ideal)) (i : S4096x8.Idx) :
    val_main_v11 (F := Ideal) x0 i = (val_main_cst_0 (F := Ideal)) (Shape.Idx.first h_S_) + ∑ k : Fin 64, (val_main_v10 (F := Ideal) x0) (idx_main_v11 i k) := by
  unfold val_main_v11
  generalize val_main_v10 (F := Ideal) x0 = y0
  simp only [Host.reduceAdd, Ideal.hostReduceAdd_def]
  rw [Ideal.hostReduceAdd_single reducesTo_S4096x8x64_S4096x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %c_1 = stablehlo.constant dense<24> : tensor<i32>
def val_main_c_1 : (⟨S_, .i32⟩ : BufTy).Contents (Elt F) :=
  constantI S_ 32 24#32
theorem val_main_c_1_apply (i : S_.Idx) :
    val_main_c_1 (F := F) i = 24#32 := rfl

-- %12 = stablehlo.broadcast_in_dim %c_1, dims = [] : (tensor<i32>) -> tensor<4096x8x64xi32>
def val_main_v12 : (⟨S4096x8x64, .i32⟩ : BufTy).Contents (Elt F) :=
  broadcastInDim S4096x8x64 ![] bcast_S_S4096x8x64 (val_main_c_1 (F := F))
abbrev idx_main_v12 (i : S4096x8x64.Idx) : S_.Idx := fun a => a.elim0
theorem val_main_v12_apply (i : S4096x8x64.Idx) :
    val_main_v12 (F := F) i = val_main_c_1 (F := F) (idx_main_v12 i) := by
  unfold val_main_v12
  generalize val_main_c_1 (F := F) = y
  exact broadcastInDim_apply _ bcast_S_S4096x8x64 y i (idx_main_v12 i) (fun a => a.elim0)

-- %13 = stablehlo.compare EQ, %2, %12, SIGNED : (tensor<4096x8x64xi32>, tensor<4096x8x64xi32>) -> tensor<4096x8x64xi1>
def val_main_v13 : (⟨S4096x8x64, .i1⟩ : BufTy).Contents (Elt F) :=
  cmpi .eq (val_main_v2 (F := F)) (val_main_v12 (F := F))
theorem val_main_v13_apply (i : S4096x8x64.Idx) :
    val_main_v13 (F := F) i = IntOp.cmpi .eq (val_main_v2 (F := F) i) (val_main_v12 (F := F) i) := rfl

-- %14 = stablehlo.slice %6 [0:4096, 0:8, 64:128] : (tensor<4096x8x128xf32>) -> tensor<4096x8x64xf32>
def val_main_v14 (x1 : (⟨S4096x1024, .f32⟩ : BufTy).Contents (Elt F)) : (⟨S4096x8x64, .f32⟩ : BufTy).Contents (Elt F) :=
  extractStridedSlice S4096x8x64 ![0, 0, 64] (val_main_v6 (F := F) x1) slices_S4096x8x128_S4096x8x64_0_0_64
set_option backward.proofsInPublic true in
abbrev idx_main_v14 (i : S4096x8x64.Idx) : S4096x8x128.Idx := fun a => match a with
  | ⟨0, _⟩ => ⟨(i 0).val, (i 0).isLt⟩
  | ⟨1, _⟩ => ⟨(i 1).val, (i 1).isLt⟩
  | ⟨2, _⟩ => ⟨64 + (i 2).val, by have h2 : (i 2).val < 64 := (i 2).isLt; show 64 + (i 2).val < 128; omega⟩
theorem val_main_v14_apply (x1 : (⟨S4096x1024, .f32⟩ : BufTy).Contents (Elt F)) (i : S4096x8x64.Idx) :
    val_main_v14 (F := F) x1 i = val_main_v6 (F := F) x1 (idx_main_v14 i) := by
  unfold val_main_v14
  generalize val_main_v6 (F := F) x1 = y
  exact extractStridedSlice_apply ![0, 0, 64] y slices_S4096x8x128_S4096x8x64_0_0_64 i (idx_main_v14 i) (fun a => match a with
    | ⟨0, _⟩ => by show (i 0).val = 0 + (i 0).val; omega
    | ⟨1, _⟩ => by show (i 1).val = 0 + (i 1).val; omega
    | ⟨2, _⟩ => by show 64 + (i 2).val = 64 + (i 2).val; omega)

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- @_where's %0 = stablehlo.convert %arg2 : tensor<f32>, in %15 = func.call @_where(…) (record main_call1)
def val_main_call1_v0 : (⟨S_, .f32⟩ : BufTy).Contents (Elt F) :=
  id (val_main_cst_2 (F := F))
theorem val_main_call1_v0_apply (i : S_.Idx) :
    val_main_call1_v0 (F := F) i = (val_main_cst_2 (F := F) i) := rfl

-- @_where's %1 = stablehlo.broadcast_in_dim %0, dims = [] : (tensor<f32>) -> tensor<4096x8x64xf32>, in %15 = func.call @_where(…) (record main_call1)
def val_main_call1_v1 : (⟨S4096x8x64, .f32⟩ : BufTy).Contents (Elt F) :=
  broadcastInDim S4096x8x64 ![] bcast_S_S4096x8x64 (val_main_call1_v0 (F := F))
abbrev idx_main_call1_v1 (i : S4096x8x64.Idx) : S_.Idx := fun a => a.elim0
theorem val_main_call1_v1_apply (i : S4096x8x64.Idx) :
    val_main_call1_v1 (F := F) i = val_main_call1_v0 (F := F) (idx_main_call1_v1 i) := by
  unfold val_main_call1_v1
  generalize val_main_call1_v0 (F := F) = y
  exact broadcastInDim_apply _ bcast_S_S4096x8x64 y i (idx_main_call1_v1 i) (fun a => a.elim0)

-- %15 = func.call @_where(…) (record main_call1) result 0: @_where's %2 = stablehlo.select %arg0, %arg1, %1 : tensor<4096x8x64xi1>, tensor<4096x8x64xf32>
def val_main_v15 (x1 : (⟨S4096x1024, .f32⟩ : BufTy).Contents (Elt F)) : (⟨S4096x8x64, .f32⟩ : BufTy).Contents (Elt F) :=
  select (val_main_v13 (F := F)) (val_main_v14 (F := F) x1) (val_main_call1_v1 (F := F))
theorem val_main_v15_apply (x1 : (⟨S4096x1024, .f32⟩ : BufTy).Contents (Elt F)) (i : S4096x8x64.Idx) :
    val_main_v15 (F := F) x1 i = Scalar.select (val_main_v13 (F := F) i) (val_main_v14 (F := F) x1 i) (val_main_call1_v1 (F := F) i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %16 = stablehlo.reduce(%15 init: %cst_3) applies stablehlo.add across dimensions = [2] : (tensor<4096x8x64xf32>, tensor<f32>) -> tensor<4096x8xf32> {
def val_main_v16 (x1 : (⟨S4096x1024, .f32⟩ : BufTy).Contents (Elt F)) : (⟨S4096x8, .f32⟩ : BufTy).Contents (Elt F) :=
  Host.reduceAdd (val_main_v15 (F := F) x1) (val_main_cst_3 (F := F)) reducesTo_S4096x8x64_S4096x8_d2 h_S_
abbrev idx_main_v16 (i : S4096x8.Idx) (k : Fin 64) : S4096x8x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v16_apply (x1 : (⟨S4096x1024, .f32⟩ : BufTy).Contents (Elt Ideal)) (i : S4096x8.Idx) :
    val_main_v16 (F := Ideal) x1 i = (val_main_cst_3 (F := Ideal)) (Shape.Idx.first h_S_) + ∑ k : Fin 64, (val_main_v15 (F := Ideal) x1) (idx_main_v16 i k) := by
  unfold val_main_v16
  generalize val_main_v15 (F := Ideal) x1 = y0
  simp only [Host.reduceAdd, Ideal.hostReduceAdd_def]
  rw [Ideal.hostReduceAdd_single reducesTo_S4096x8x64_S4096x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %17 = stablehlo.slice %5 [0:4096, 0:8, 0:64] : (tensor<4096x8x128xf32>) -> tensor<4096x8x64xf32>
def val_main_v17 (x0 : (⟨S4x4096x256, .f32⟩ : BufTy).Contents (Elt F)) : (⟨S4096x8x64, .f32⟩ : BufTy).Contents (Elt F) :=
  extractStridedSlice S4096x8x64 ![0, 0, 0] (val_main_v5 (F := F) x0) slices_S4096x8x128_S4096x8x64_0_0_0
set_option backward.proofsInPublic true in
abbrev idx_main_v17 (i : S4096x8x64.Idx) : S4096x8x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
theorem val_main_v17_apply (x0 : (⟨S4x4096x256, .f32⟩ : BufTy).Contents (Elt F)) (i : S4096x8x64.Idx) :
    val_main_v17 (F := F) x0 i = val_main_v5 (F := F) x0 (idx_main_v17 i) := by
  unfold val_main_v17
  generalize val_main_v5 (F := F) x0 = y
  exact extractStridedSlice_apply ![0, 0, 0] y slices_S4096x8x128_S4096x8x64_0_0_0 i (idx_main_v17 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst_4 = stablehlo.constant dense<1.250000e-01> : tensor<f32>
def val_main_cst_4 : (⟨S_, .f32⟩ : BufTy).Contents (Elt F) :=
  constant S_ .f32 0x3E000000#32
theorem val_main_cst_4_apply (i : S_.Idx) :
    val_main_cst_4 (F := F) i = FloatOps.ofBits .f32 0x3E000000#32 := rfl

-- %18 = stablehlo.broadcast_in_dim %cst_4, dims = [] : (tensor<f32>) -> tensor<4096x8x64xf32>
def val_main_v18 : (⟨S4096x8x64, .f32⟩ : BufTy).Contents (Elt F) :=
  broadcastInDim S4096x8x64 ![] bcast_S_S4096x8x64 (val_main_cst_4 (F := F))
abbrev idx_main_v18 (i : S4096x8x64.Idx) : S_.Idx := fun a => a.elim0
theorem val_main_v18_apply (i : S4096x8x64.Idx) :
    val_main_v18 (F := F) i = val_main_cst_4 (F := F) (idx_main_v18 i) := by
  unfold val_main_v18
  generalize val_main_cst_4 (F := F) = y
  exact broadcastInDim_apply _ bcast_S_S4096x8x64 y i (idx_main_v18 i) (fun a => a.elim0)

-- %19 = stablehlo.multiply %17, %18 : tensor<4096x8x64xf32>
def val_main_v19 (x0 : (⟨S4x4096x256, .f32⟩ : BufTy).Contents (Elt F)) : (⟨S4096x8x64, .f32⟩ : BufTy).Contents (Elt F) :=
  mulf (val_main_v17 (F := F) x0) (val_main_v18 (F := F))
theorem val_main_v19_apply (x0 : (⟨S4x4096x256, .f32⟩ : BufTy).Contents (Elt F)) (i : S4096x8x64.Idx) :
    val_main_v19 (F := F) x0 i = FloatOps.mulf (val_main_v17 (F := F) x0 i) (val_main_v18 (F := F) i) := rfl

-- %20 = stablehlo.slice %6 [0:4096, 0:8, 0:64] : (tensor<4096x8x128xf32>) -> tensor<4096x8x64xf32>
def val_main_v20 (x1 : (⟨S4096x1024, .f32⟩ : BufTy).Contents (Elt F)) : (⟨S4096x8x64, .f32⟩ : BufTy).Contents (Elt F) :=
  extractStridedSlice S4096x8x64 ![0, 0, 0] (val_main_v6 (F := F) x1) slices_S4096x8x128_S4096x8x64_0_0_0
set_option backward.proofsInPublic true in
abbrev idx_main_v20 (i : S4096x8x64.Idx) : S4096x8x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
theorem val_main_v20_apply (x1 : (⟨S4096x1024, .f32⟩ : BufTy).Contents (Elt F)) (i : S4096x8x64.Idx) :
    val_main_v20 (F := F) x1 i = val_main_v6 (F := F) x1 (idx_main_v20 i) := by
  unfold val_main_v20
  generalize val_main_v6 (F := F) x1 = y
  exact extractStridedSlice_apply ![0, 0, 0] y slices_S4096x8x128_S4096x8x64_0_0_0 i (idx_main_v20 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %21 = stablehlo.reshape %arg2 : (tensor<4096x512xf32>) -> tensor<4096x8x64xf32>
def val_main_v21 (x2 : (⟨S4096x512, .f32⟩ : BufTy).Contents (Elt F)) : (⟨S4096x8x64, .f32⟩ : BufTy).Contents (Elt F) :=
  shapeCast _ (x2) shapeCasts_S4096x512_S4096x8x64
set_option backward.proofsInPublic true in
abbrev idx_main_v21 (i : S4096x8x64.Idx) : S4096x512.Idx := fun a => match a with
  | ⟨0, _⟩ => ⟨(((i 0).val * 8 + (i 1).val) * 64 + (i 2).val) / 512, by have h0 : (i 0).val < 4096 := (i 0).isLt; have h1 : (i 1).val < 8 := (i 1).isLt; have h2 : (i 2).val < 64 := (i 2).isLt; show (((i 0).val * 8 + (i 1).val) * 64 + (i 2).val) / 512 < 4096; omega⟩
  | ⟨1, _⟩ => ⟨(((i 0).val * 8 + (i 1).val) * 64 + (i 2).val) % 512, by have h0 : (i 0).val < 4096 := (i 0).isLt; have h1 : (i 1).val < 8 := (i 1).isLt; have h2 : (i 2).val < 64 := (i 2).isLt; show (((i 0).val * 8 + (i 1).val) * 64 + (i 2).val) % 512 < 512; omega⟩
theorem val_main_v21_apply (x2 : (⟨S4096x512, .f32⟩ : BufTy).Contents (Elt F)) (i : S4096x8x64.Idx) :
    val_main_v21 (F := F) x2 i = x2 (idx_main_v21 i) := by
  unfold val_main_v21
  exact shapeCast_apply x2 shapeCasts_S4096x512_S4096x8x64 i (idx_main_v21 i)
    (by rewrite [Shape.rowMajor_val_two, Shape.rowMajor_val_three]; have h0 : (i 0).val < 4096 := (i 0).isLt; have h1 : (i 1).val < 8 := (i 1).isLt; have h2 : (i 2).val < 64 := (i 2).isLt; show (((i 0).val * 8 + (i 1).val) * 64 + (i 2).val) / 512 * 512 + (((i 0).val * 8 + (i 1).val) * 64 + (i 2).val) % 512 = ((i 0).val * 8 + (i 1).val) * 64 + (i 2).val; omega)

-- %22 = stablehlo.subtract %11, %16 : tensor<4096x8xf32>
def val_main_v22 (x0 : (⟨S4x4096x256, .f32⟩ : BufTy).Contents (Elt F)) (x1 : (⟨S4096x1024, .f32⟩ : BufTy).Contents (Elt F)) : (⟨S4096x8, .f32⟩ : BufTy).Contents (Elt F) :=
  subf (val_main_v11 (F := F) x0) (val_main_v16 (F := F) x1)
theorem val_main_v22_apply (x0 : (⟨S4x4096x256, .f32⟩ : BufTy).Contents (Elt F)) (x1 : (⟨S4096x1024, .f32⟩ : BufTy).Contents (Elt F)) (i : S4096x8.Idx) :
    val_main_v22 (F := F) x0 x1 i = FloatOps.subf (val_main_v11 (F := F) x0 i) (val_main_v16 (F := F) x1 i) := rfl

end Cert.KernelIdeal.Post

end
-- ==== Proof.Attn.Entry.lean ====
module

public import proofs.«01_k».proof.Proof.Gen.KernelIdeal.Frame
public import proofs.«01_k».proof.Proof.Attn.PreRead
public import proofs.«01_k».proof.Proof.Attn.PostRead
public import Idealize.ShloMosaic.Lib.StableHlo.Run

@[expose] public section

set_option maxRecDepth 16384

noncomputable section

/-!
  What the host operations leave: the arrays that the launch is given, and the results read off the launch's arrays.
-/

namespace Cert.KernelIdeal.Attn

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

theorem V_main_v42 : V m c main_v42 = Pre.val_main_v42 (F := F)  := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v42) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v101 : V m c main_v101 = Pre.val_main_v101 (F := F) (m ((c : Thread nD τ).loc main_arg0)) (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v101) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v104 : V m c main_v104 = Pre.val_main_v104 (F := F) (m ((c : Thread nD τ).loc main_arg1)) (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v104) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v107 : V m c main_v107 = Pre.val_main_v107 (F := F) (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v107) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v108 : V m c main_v108 = Pre.val_main_v108 (F := F) (m ((c : Thread nD τ).loc main_arg4)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v108) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v32 : V m c main_v32 = Pre.val_main_v32 (F := F) (m ((c : Thread nD τ).loc main_arg0)) (m ((c : Thread nD τ).loc main_arg1)) (m ((c : Thread nD τ).loc main_arg2)) (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v32) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem V_main_v39 : V m c main_v39 = Pre.val_main_v39 (F := F) (m ((c : Thread nD τ).loc main_arg0)) (m ((c : Thread nD τ).loc main_arg1)) (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v39) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append, TRef.nullary, TRef.ternary, TRef.unary, TRef.toBuf, TRef.ofBuf, cast_eq]
  after_results_simp <;> rfl

theorem tail_main_v126 (U : Valuation τ sig (Elt F)) :
    StableHlo.after (List.flatten [hostOps1, hostOps1_1, hostOps1_2, hostOps1_3, hostOps1_4]) U (Proc.devRef .tc main_v126) = Post.val_main_v19 (F := F) (U (Proc.devRef .tc main_v109_0)) := by
  simp only [hostOps1, hostOps1_1, hostOps1_2, hostOps1_3, hostOps1_4, List.flatten_cons, List.flatten_nil, List.append_nil, List.cons_append, List.nil_append, TRef.nullary, TRef.ternary, TRef.unary, TRef.toBuf, TRef.ofBuf, cast_eq]
  after_results_simp <;> rfl

theorem tail_main_v127 (U : Valuation τ sig (Elt F)) :
    StableHlo.after (List.flatten [hostOps1, hostOps1_1, hostOps1_2, hostOps1_3, hostOps1_4]) U (Proc.devRef .tc main_v127) = Post.val_main_v20 (F := F) (U (Proc.devRef .tc main_v109_1)) := by
  simp only [hostOps1, hostOps1_1, hostOps1_2, hostOps1_3, hostOps1_4, List.flatten_cons, List.flatten_nil, List.append_nil, List.cons_append, List.nil_append, TRef.nullary, TRef.ternary, TRef.unary, TRef.toBuf, TRef.ofBuf, cast_eq]
  after_results_simp <;> rfl

theorem tail_main_v128 (U : Valuation τ sig (Elt F)) :
    StableHlo.after (List.flatten [hostOps1, hostOps1_1, hostOps1_2, hostOps1_3, hostOps1_4]) U (Proc.devRef .tc main_v128) = Post.val_main_v21 (F := F) (U (Proc.devRef .tc main_v109_2)) := by
  simp only [hostOps1, hostOps1_1, hostOps1_2, hostOps1_3, hostOps1_4, List.flatten_cons, List.flatten_nil, List.append_nil, List.cons_append, List.nil_append, TRef.nullary, TRef.ternary, TRef.unary, TRef.toBuf, TRef.ofBuf, cast_eq]
  after_results_simp <;> rfl

theorem tail_main_v129 (U : Valuation τ sig (Elt F)) (h : U (Proc.devRef .tc main_v42) = Post.val_main_v2 (F := F)) :
    StableHlo.after (List.flatten [hostOps1, hostOps1_1, hostOps1_2, hostOps1_3, hostOps1_4]) U (Proc.devRef .tc main_v129) = Post.val_main_v22 (F := F) (U (Proc.devRef .tc main_v109_0)) (U (Proc.devRef .tc main_v109_1)) := by
  simp only [hostOps1, hostOps1_1, hostOps1_2, hostOps1_3, hostOps1_4, List.flatten_cons, List.flatten_nil, List.append_nil, List.cons_append, List.nil_append, TRef.nullary, TRef.ternary, TRef.unary, TRef.toBuf, TRef.ofBuf, cast_eq]
  after_results_simp <;> first | rfl | (rw [h]; rfl)

end Cert.KernelIdeal.Attn
end
-- ==== Proof.Attn.Pay.lean ====
module

public import proofs.«01_k».proof.Proof.Attn.Blocks
public import Idealize.ShloMosaic.Lib.Pointwise
public import Idealize.ShloMosaic.Lib.WordCmp

@[expose] public section

set_option maxRecDepth 16384

noncomputable section

/-!
  The composites of `Blocks` over the reals, at one element: what a block adds, as a sum over its rows or its keys.
-/

namespace Cert.KernelIdeal.Attn

open Cert.KernelIdeal Cert.KernelIdeal.Gen
open Idealize.ShloMosaic Idealize.ShloMosaic.TcCoe Idealize.ShloMosaic.Pointwise

/-- The head of two that a lane of 128 belongs to. -/
def headOf (l : Fin 128) : Fin 2 := if l.val < 64 then 0 else 1

/-- The weight of a query `q` with the log-sum `s` at a key `k`. -/
def wtF (q k : Fin 128 → EReal) (s : EReal) : EReal := Ideal.exp ((∑ l, q l * k l) - s)

/-- The product of two rows over the lanes of a head. -/
def dotH (h : Fin 2) (d v : Fin 128 → EReal) : EReal := ∑ l, if headOf l = h then d l * v l else 0

/-- The score gradient of a query at a key: `d` is the output's gradient, `v` the key's value, `o` the output. -/
def dsF (h : Fin 2) (q k v o d : Fin 128 → EReal) (s : EReal) : EReal := wtF q k s * (dotH h d v - dotH h d o)

theorem lane_lt (l : Fin 128) (a b : EReal) :
    Scalar.select (IntOp.cmpi .slt (BitVec.ofNat 32 l.val) 64#32) a b = if headOf l = 0 then a else b := by
  have h : ∀ l : Fin 128, IntOp.cmpi .slt (BitVec.ofNat 32 l.val) 64#32 = if headOf l = 0 then 1#1 else 0#1 := by decide +kernel
  rw [h l]; split <;> rfl

theorem lane_ge (l : Fin 128) (a b : EReal) :
    Scalar.select (IntOp.cmpi .sge (BitVec.ofNat 32 l.val) 64#32) a b = if headOf l = 1 then a else b := by
  have h : ∀ l : Fin 128, IntOp.cmpi .sge (BitVec.ofNat 32 l.val) 64#32 = if headOf l = 1 then 1#1 else 0#1 := by decide +kernel
  rw [h l]; split <;> rfl

theorem lane_eq0 (l : Fin 128) (a b : EReal) :
    Scalar.select (IntOp.cmpi .eq (BitVec.ofNat 32 l.val) 0#32) a b = if l = 0 then a else b := by
  have h : ∀ l : Fin 128, IntOp.cmpi .eq (BitVec.ofNat 32 l.val) 0#32 = if l = 0 then 1#1 else 0#1 := by decide +kernel
  rw [h l]; split <;> rfl

theorem lane_eq64 (l : Fin 128) (a b : EReal) :
    Scalar.select (IntOp.cmpi .eq (BitVec.ofNat 32 l.val) 64#32) a b = if l = 64 then a else b := by
  have h : ∀ l : Fin 128, IntOp.cmpi .eq (BitVec.ofNat 32 l.val) 64#32 = if l = 64 then 1#1 else 0#1 := by decide +kernel
  rw [h l]; split <;> rfl

/-- A key of the first 256 of a block of 512. -/
def up8 (c : Fin 256) : Fin 512 := ⟨c.val, by omega⟩

theorem mask_up (r c : Fin 256) (a b : EReal) :
    Scalar.select (IntOp.cmpi .sle (BitVec.ofNat 32 c.val) (IntOp.addi (BitVec.ofNat 32 r.val) 0#32)) a b = if c.val ≤ r.val then a else b := by
  have h : IntOp.cmpi .sle (BitVec.ofNat 32 c.val) (IntOp.addi (BitVec.ofNat 32 r.val) 0#32) = BitVec.ofBool (decide (c.val ≤ r.val)) := by
    rw [show IntOp.addi (BitVec.ofNat 32 r.val) 0#32 = BitVec.ofNat 32 r.val from BitVec.add_zero _]
    exact WordCmp.cmpi_sle_ofNat (by omega) (by omega)
  rw [h]; by_cases hc : c.val ≤ r.val <;> simp [hc, Scalar.select]

theorem mask_lo (r : Fin 256) (c : Fin 512) (a b : EReal) :
    Scalar.select (IntOp.cmpi .sle (BitVec.ofNat 32 c.val) (IntOp.addi (BitVec.ofNat 32 r.val) 256#32)) a b = if c.val ≤ r.val + 256 then a else b := by
  have h : IntOp.cmpi .sle (BitVec.ofNat 32 c.val) (IntOp.addi (BitVec.ofNat 32 r.val) 256#32) = BitVec.ofBool (decide (c.val ≤ r.val + 256)) := by
    rw [show IntOp.addi (BitVec.ofNat 32 r.val) 256#32 = BitVec.ofNat 32 (r.val + 256) from (BitVec.ofNat_add _ _).symm]
    exact WordCmp.cmpi_sle_ofNat (by omega) (by omega)
  rw [h]; by_cases hc : c.val ≤ r.val + 256 <;> simp [hc, Scalar.select]

section Full

variable (k0 k1 v q0 q1 : Vec Ideal S512x128 .bf16) (o d s w : Vec Ideal S512x128 .f32) (u : Vec Ideal S1x512x128 .f32)

theorem fullDs0_at (r : Fin 512) (c : Fin 512) : fullDs0 k0 v q0 o d s (ix2 r c)
    = dsF 0 (fun l => q0 (ix2 r l)) (fun l => k0 (ix2 c l)) (fun l => v (ix2 c l)) (fun l => o (ix2 r l)) (fun l => d (ix2 r l)) (s (ix2 r 0)) := by
  unfold dsF wtF dotH
  pointwise [fullDs0, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem fullDs1_at (r : Fin 512) (c : Fin 512) : fullDs1 k1 v q1 o d s (ix2 r c)
    = dsF 1 (fun l => q1 (ix2 r l)) (fun l => k1 (ix2 c l)) (fun l => v (ix2 c l)) (fun l => o (ix2 r l)) (fun l => d (ix2 r l)) (s (ix2 r 64)) := by
  unfold dsF wtF dotH
  pointwise [fullDs1, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem fullDk0_at (r : Fin 512) (l : Fin 128) : fullDk0 k0 v q0 o d s w (ix2 r l)
    = w (ix2 r l) + ∑ x, fullDs0 k0 v q0 o d s (ix2 x r) * q0 (ix2 x l) := by
  generalize hD : fullDs0 k0 v q0 o d s = D
  pointwise [fullDk0, hD, k0_pay100, k0_pay9, k0_pay10, k0_pay22, k0_pay53, k0_pay54, k0_pay80, k0_pay81]

theorem fullDq0_at (r : Fin 512) (l : Fin 128) : fullDq0 k0 v q0 o d s u (ix3 0 r l)
    = u (ix3 0 r l) + ∑ x, fullDs0 k0 v q0 o d s (ix2 r x) * k0 (ix2 x l) := by
  generalize hD : fullDs0 k0 v q0 o d s = D
  pointwise [fullDq0, hD, k0_pay101, k0_pay44, k0_pay45, k0_pay55, k0_pay56]

theorem fullDk1_at (r : Fin 512) (l : Fin 128) : fullDk1 k1 v q1 o d s w (ix2 r l)
    = w (ix2 r l) + ∑ x, fullDs1 k1 v q1 o d s (ix2 x r) * q1 (ix2 x l) := by
  generalize hD : fullDs1 k1 v q1 o d s = D
  pointwise [fullDk1, hD, k0_pay102, k0_pay9, k0_pay10, k0_pay22, k0_pay53, k0_pay54, k0_pay80, k0_pay81]

theorem fullDq1_at (r : Fin 512) (l : Fin 128) : fullDq1 k1 v q1 o d s u (ix3 0 r l)
    = u (ix3 0 r l) + ∑ x, fullDs1 k1 v q1 o d s (ix2 r x) * k1 (ix2 x l) := by
  generalize hD : fullDs1 k1 v q1 o d s = D
  pointwise [fullDq1, hD, k0_pay103, k0_pay44, k0_pay45, k0_pay55, k0_pay56]

theorem fullDv_at (r : Fin 512) (l : Fin 128) : fullDv k0 k1 q0 q1 d s w (ix2 r l)
    = w (ix2 r l) + ∑ x, (if headOf l = 0 then wtF (fun l => q0 (ix2 x l)) (fun l => k0 (ix2 r l)) (s (ix2 x 0)) else wtF (fun l => q1 (ix2 x l)) (fun l => k1 (ix2 r l)) (s (ix2 x 64))) * d (ix2 x l) := by
  unfold wtF
  pointwise [fullDv, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]
  split <;> rfl

end Full

section Up

variable (k0 k1 v : Vec Ideal S512x128 .bf16) (q0 q1 : Vec Ideal S256x128 .bf16) (o d s w : Vec Ideal S256x128 .f32) (u : Vec Ideal S1x256x128 .f32)

theorem upDs0_at (r : Fin 256) (c : Fin 256) : upDs0 k0 v q0 o d s (ix2 r c)
    = if c.val ≤ r.val then dsF 0 (fun l => q0 (ix2 r l)) (fun l => k0 (ix2 (up8 c) l)) (fun l => v (ix2 (up8 c) l)) (fun l => o (ix2 r l)) (fun l => d (ix2 r l)) (s (ix2 r 0)) else 0 := by
  unfold dsF wtF dotH up8
  pointwise [upDs0, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem upDs1_at (r : Fin 256) (c : Fin 256) : upDs1 k1 v q1 o d s (ix2 r c)
    = if c.val ≤ r.val then dsF 1 (fun l => q1 (ix2 r l)) (fun l => k1 (ix2 (up8 c) l)) (fun l => v (ix2 (up8 c) l)) (fun l => o (ix2 r l)) (fun l => d (ix2 r l)) (s (ix2 r 64)) else 0 := by
  unfold dsF wtF dotH up8
  pointwise [upDs1, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem upDk0_at (r : Fin 256) (l : Fin 128) : upDk0 k0 v q0 o d s w (ix2 r l)
    = w (ix2 r l) + ∑ x, upDs0 k0 v q0 o d s (ix2 x r) * q0 (ix2 x l) := by
  unfold upDk0 upDs0
  pointwise [upDk0, k0_pay72, k0_pay9, k0_pay10, k0_pay22, k0_pay53, k0_pay54, k0_pay80, k0_pay81]

theorem upDq0_at (r : Fin 256) (l : Fin 128) : upDq0 k0 v q0 o d s u (ix3 0 r l)
    = u (ix3 0 r l) + ∑ x, upDs0 k0 v q0 o d s (ix2 r x) * k0 (ix2 (up8 x) l) := by
  unfold up8
  generalize hD : upDs0 k0 v q0 o d s = D
  pointwise [upDq0, hD, k0_pay73, k0_pay44, k0_pay45, k0_pay55, k0_pay56]

theorem upDk1_at (r : Fin 256) (l : Fin 128) : upDk1 k1 v q1 o d s w (ix2 r l)
    = w (ix2 r l) + ∑ x, upDs1 k1 v q1 o d s (ix2 x r) * q1 (ix2 x l) := by
  generalize hD : upDs1 k1 v q1 o d s = D
  pointwise [upDk1, hD, k0_pay74, k0_pay9, k0_pay10, k0_pay22, k0_pay53, k0_pay54, k0_pay80, k0_pay81]

theorem upDq1_at (r : Fin 256) (l : Fin 128) : upDq1 k1 v q1 o d s u (ix3 0 r l)
    = u (ix3 0 r l) + ∑ x, upDs1 k1 v q1 o d s (ix2 r x) * k1 (ix2 (up8 x) l) := by
  unfold up8
  generalize hD : upDs1 k1 v q1 o d s = D
  pointwise [upDq1, hD, k0_pay75, k0_pay44, k0_pay45, k0_pay55, k0_pay56]

theorem upDv_at (r : Fin 256) (l : Fin 128) : upDv k0 k1 q0 q1 d s w (ix2 r l)
    = w (ix2 r l) + ∑ x, if r.val ≤ x.val then (if headOf l = 0 then wtF (fun l => q0 (ix2 x l)) (fun l => k0 (ix2 (up8 r) l)) (s (ix2 x 0)) else wtF (fun l => q1 (ix2 x l)) (fun l => k1 (ix2 (up8 r) l)) (s (ix2 x 64))) * d (ix2 x l) else 0 := by
  unfold wtF up8
  pointwise [upDv, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]
  split <;> rfl

end Up

section Lo

variable (k0 k1 v : Vec Ideal S512x128 .bf16) (q0 q1 : Vec Ideal S256x128 .bf16) (o d s : Vec Ideal S256x128 .f32) (w : Vec Ideal S512x128 .f32) (u : Vec Ideal S1x256x128 .f32)

theorem loDs0_at (r : Fin 256) (c : Fin 512) : loDs0 k0 v q0 o d s (ix2 r c)
    = if c.val ≤ r.val + 256 then dsF 0 (fun l => q0 (ix2 r l)) (fun l => k0 (ix2 c l)) (fun l => v (ix2 c l)) (fun l => o (ix2 r l)) (fun l => d (ix2 r l)) (s (ix2 r 0)) else 0 := by
  unfold dsF wtF dotH
  pointwise [loDs0, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem loDs1_at (r : Fin 256) (c : Fin 512) : loDs1 k1 v q1 o d s (ix2 r c)
    = if c.val ≤ r.val + 256 then dsF 1 (fun l => q1 (ix2 r l)) (fun l => k1 (ix2 c l)) (fun l => v (ix2 c l)) (fun l => o (ix2 r l)) (fun l => d (ix2 r l)) (s (ix2 r 64)) else 0 := by
  unfold dsF wtF dotH
  pointwise [loDs1, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]

theorem loDk0_at (r : Fin 512) (l : Fin 128) : loDk0 k0 v q0 o d s w (ix2 r l)
    = w (ix2 r l) + ∑ x, loDs0 k0 v q0 o d s (ix2 x r) * q0 (ix2 x l) := by
  unfold loDk0 loDs0
  pointwise [loDk0, k0_pay96, k0_pay9, k0_pay10, k0_pay22, k0_pay53, k0_pay54, k0_pay80, k0_pay81]

theorem loDq0_at (r : Fin 256) (l : Fin 128) : loDq0 k0 v q0 o d s u (ix3 0 r l)
    = u (ix3 0 r l) + ∑ x, loDs0 k0 v q0 o d s (ix2 r x) * k0 (ix2 x l) := by
  generalize hD : loDs0 k0 v q0 o d s = D
  pointwise [loDq0, hD, k0_pay97, k0_pay44, k0_pay45, k0_pay55, k0_pay56]

theorem loDk1_at (r : Fin 512) (l : Fin 128) : loDk1 k1 v q1 o d s w (ix2 r l)
    = w (ix2 r l) + ∑ x, loDs1 k1 v q1 o d s (ix2 x r) * q1 (ix2 x l) := by
  generalize hD : loDs1 k1 v q1 o d s = D
  pointwise [loDk1, hD, k0_pay98, k0_pay9, k0_pay10, k0_pay22, k0_pay53, k0_pay54, k0_pay80, k0_pay81]

theorem loDq1_at (r : Fin 256) (l : Fin 128) : loDq1 k1 v q1 o d s u (ix3 0 r l)
    = u (ix3 0 r l) + ∑ x, loDs1 k1 v q1 o d s (ix2 r x) * k1 (ix2 x l) := by
  generalize hD : loDs1 k1 v q1 o d s = D
  pointwise [loDq1, hD, k0_pay99, k0_pay44, k0_pay45, k0_pay55, k0_pay56]

set_option maxHeartbeats 800000 in
theorem loDv_at (r : Fin 512) (l : Fin 128) : loDv k0 k1 q0 q1 d s w (ix2 r l)
    = w (ix2 r l) + ∑ x, if r.val ≤ x.val + 256 then (if headOf l = 0 then wtF (fun l => q0 (ix2 x l)) (fun l => k0 (ix2 r l)) (s (ix2 x 0)) else wtF (fun l => q1 (ix2 x l)) (fun l => k1 (ix2 r l)) (s (ix2 x 64))) * d (ix2 x l) else 0 := by
  unfold wtF
  pointwise [loDv, lanes, zeroLit, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  simp only [lane_lt, lane_ge, lane_eq0, lane_eq64, mask_up, mask_lo, Finset.sum_ite_eq', Finset.mem_univ, if_true]
  split <;> rfl

end Lo

end Cert.KernelIdeal.Attn
end
-- ==== Proof.Attn.Closed.lean ====
module

public import proofs.«01_k».proof.Proof.Attn.State
public import proofs.«01_k».proof.Proof.Attn.Pay

@[expose] public section

set_option maxRecDepth 16384

noncomputable section

/-!
  The closed form of what a grid point leaves, over the reals: of each row of keys the sum over all queries that see it,
  of each row of queries what was there and the sum over the point's keys.
-/

namespace Cert.KernelIdeal.Attn

open Cert.KernelIdeal Cert.KernelIdeal.Gen
open Idealize.ShloMosaic Idealize.ShloMosaic.TcCoe Idealize.ShloMosaic.Pointwise
open VecWindow

section Generic

variable {s : Shape} {α : Type}

/-- A put at an index of its window. -/
theorem put_in (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  have hm : ∀ a, off a ≤ (y a).val ∧ (y a).val < off a + size a := fun a => by
    have := h a; have := (z a).isLt; omega
  unfold put
  rw [dif_pos hm]
  exact congrArg w (funext fun a => Fin.ext (by show (y a).val - off a = (z a).val; have := h a; omega))

/-- A put at an index off its window. -/
theorem put_out (x : s.Idx → α) (off size : Fin s.rank → ℕ) (w : ((a : Fin s.rank) → Fin (size a)) → α) (y : s.Idx) (a : Fin s.rank)
    (h : (y a).val < off a ∨ off a + size a ≤ (y a).val) : put x off size w y = x y := by
  unfold put
  rw [dif_neg fun hm => by have := hm a; omega]

/-- A window at an index. -/
theorem window_at (x : s.Idx → α) {off off' : Fin s.rank → ℕ} (size : Fin s.rank → ℕ) (inb : ∀ a, off a + size a ≤ s.size a)
    (z : (Rect.unit off size inb).shape.Idx) (y : s.Idx) (e : off = off') (h : ∀ a, (y a).val = off' a + (z a).val) :
    window x off size inb z = x y := by
  subst e
  exact congrArg x (funext fun a => Fin.ext (by show off a + 1 * (z a).val = (y a).val; have := h a; omega))

end Generic

/-- The sum of the first `N` of 4096 terms. -/
def sumTo (f : Fin 4096 → EReal) (N : ℕ) : EReal := ∑ n ∈ Finset.range N, if h : n < 4096 then f ⟨n, h⟩ else 0

theorem sumTo_zero (f : Fin 4096 → EReal) (N : ℕ) (h : ∀ Q : Fin 4096, Q.val < N → f Q = 0) : sumTo f N = 0 :=
  Finset.sum_eq_zero fun n hn => by
    by_cases hn' : n < 4096
    · rw [dif_pos hn']; exact h ⟨n, hn'⟩ (Finset.mem_range.mp hn)
    · rw [dif_neg hn']

theorem sumTo_add (f : Fin 4096 → EReal) (N m : ℕ) (h : N + m ≤ 4096) :
    sumTo f (N + m) = sumTo f N + ∑ x : Fin m, f ⟨N + x.val, by omega⟩ := by
  unfold sumTo
  rw [Finset.sum_range_add, Finset.sum_range (fun x => if h : N + x < 4096 then f ⟨N + x, h⟩ else 0)]
  exact congrArg _ (Finset.sum_congr rfl fun x _ => dif_pos (by omega))

theorem sumTo_all (f : Fin 4096 → EReal) : sumTo f 4096 = ∑ Q, f Q := by
  unfold sumTo
  rw [Finset.sum_range (fun x => if h : x < 4096 then f ⟨x, h⟩ else 0)]
  exact Finset.sum_congr rfl fun x _ => dif_pos x.isLt

/-- A lane of the pair of heads. -/
def ln (h : Fin 2) (l : Fin 128) : Fin 256 := ⟨128 * h.val + l.val, by omega⟩

/-- The lane of the log-sum of a head. -/
def ls (h : Fin 2) : Fin 128 := ⟨64 * h.val, by omega⟩

/-- The head of a lane of the pair. -/
def hd (c : Fin 256) : Fin 2 := ⟨c.val / 128, by omega⟩

theorem hd_ln (h : Fin 2) (l : Fin 128) : hd (ln h l) = h := Fin.ext (by show (128 * h.val + l.val) / 128 = h.val; omega)

theorem wtF_congr {q q' k k' : Fin 128 → EReal} {s s' : EReal} (hq : ∀ l, q l = q' l) (hk : ∀ l, k l = k' l) (hs : s = s') : wtF q k s = wtF q' k' s' := by
  obtain rfl : q = q' := funext hq
  obtain rfl : k = k' := funext hk
  rw [hs]

theorem dsF_congr (h : Fin 2) {q q' k k' v v' o o' d d' : Fin 128 → EReal} {s s' : EReal} (hq : ∀ l, q l = q' l) (hk : ∀ l, k l = k' l)
    (hv : ∀ l, v l = v' l) (ho : ∀ l, o l = o' l) (hd : ∀ l, d l = d' l) (hs : s = s') : dsF h q k v o d s = dsF h q' k' v' o' d' s' := by
  obtain rfl : q = q' := funext hq
  obtain rfl : k = k' := funext hk
  obtain rfl : v = v' := funext hv
  obtain rfl : o = o' := funext ho
  obtain rfl : d = d' := funext hd
  rw [hs]

section Point

variable (i : grid0.Coords) (x0 : Vec Ideal S4096x256 .bf16) (x1 : Vec Ideal S512x256 .bf16) (x2 : Vec Ideal S512x128 .bf16)
  (x3 x4 x5 : Vec Ideal S4096x128 .f32)

/-- The weight of query `Q` at key `k` of the point, of head `h`. -/
def W (h : Fin 2) (Q : Fin 4096) (k : Fin 512) : EReal :=
  wtF (fun l => x0 (ix2 Q (ln h l))) (fun l => x1 (ix2 k (ln h l))) (x5 (ix2 Q (ls h)))

/-- The score gradient of query `Q` at key `k` of the point, of head `h`. -/
def D (h : Fin 2) (Q : Fin 4096) (k : Fin 512) : EReal :=
  dsF h (fun l => x0 (ix2 Q (ln h l))) (fun l => x1 (ix2 k (ln h l))) (fun l => x2 (ix2 k l)) (fun l => x3 (ix2 Q l)) (fun l => x4 (ix2 Q l)) (x5 (ix2 Q (ls h)))

/-- The values' gradient from the first `N` queries. -/
def C11 (N : ℕ) : Vec Ideal S512x128 .f32 := fun y => sumTo (fun Q => if 512 * (i 1).val + (y 0).val ≤ Q.val
  then W x0 x1 x5 (headOf (y 1)) Q (y 0) * x4 (ix2 Q (y 1)) else 0) N

/-- The keys' gradient from the first `N` queries. -/
def C10 (N : ℕ) : Vec Ideal S512x256 .f32 := fun y => sumTo (fun Q => if 512 * (i 1).val + (y 0).val ≤ Q.val
  then D x0 x1 x2 x3 x4 x5 (hd (y 1)) Q (y 0) * x0 (ix2 Q (y 1)) else 0) N

/-- What the point's keys add to a query's gradient. -/
def Eq9 (Q : Fin 4096) (c : Fin 256) : EReal := ∑ k : Fin 512, if 512 * (i 1).val + k.val ≤ Q.val
  then D x0 x1 x2 x3 x4 x5 (hd c) Q k * x1 (ix2 k c) else 0

/-- The gradient of the first `N` queries, over `y`. -/
def C9 (y : Vec Ideal S1x4096x256 .f32) (N : ℕ) : Vec Ideal S1x4096x256 .f32 := fun z =>
  if (z 1).val < N then y z + Eq9 i x0 x1 x2 x3 x4 x5 (z 1) (z 2) else y z

theorem ln_cases (c : Fin 256) : (∃ l, c = ln 0 l) ∨ ∃ l, c = ln 1 l := by
  by_cases h : c.val < 128
  · exact Or.inl ⟨⟨c.val, h⟩, Fin.ext (by show c.val = 128 * 0 + c.val; omega)⟩
  · exact Or.inr ⟨⟨c.val - 128, by omega⟩, Fin.ext (by show c.val = 128 * 1 + (c.val - 128); omega)⟩

theorem sum_up8 (g : Fin 512 → EReal) (h : ∀ k : Fin 512, 256 ≤ k.val → g k = 0) : ∑ k, g k = ∑ x, g (up8 x) := by
  refine (Fin.sum_univ_add (a := 256) (b := 256) g).trans ?_
  rw [Finset.sum_eq_zero fun (x : Fin 256) _ => h (Fin.natAdd 256 x) (by show 256 ≤ 256 + x.val; omega), add_zero]
  rfl

theorem coord_lt : (i 1).val < 8 := (i 1).isLt

theorem key0 (r : Fin 512) (l : Fin 128) : kHead0 x1 (ix2 r l) = x1 (ix2 r (ln 0 l)) :=
  window_at _ _ _ _ _ rfl (by
    intro a; fin_cases a
    · exact (Nat.zero_add _).symm
    · show 128 * 0 + l.val = 0 + l.val; omega)

theorem key1 (r : Fin 512) (l : Fin 128) : kHead1 x1 (ix2 r l) = x1 (ix2 r (ln 1 l)) :=
  window_at _ _ _ _ _ rfl (by
    intro a; fin_cases a
    · exact (Nat.zero_add _).symm
    · show 128 * 1 + l.val = 128 + l.val; omega)

/-- Row `r` of the block, of all rows. -/
def upR (r : Fin 256) : Fin 4096 := ⟨512 * (i 1).val + r.val, (by have := coord_lt i; omega)⟩

theorem up_row (x : Vec Ideal S4096x128 .f32) (r : Fin 256) (l : Fin 128) :
    window x (k0_off1 i) S256x128.size (k0_off1_inb i) (ix2 r l) = x (ix2 (upR i r) l) :=
  window_at _ _ _ _ _ (k0_off1_eq i) (by
    intro a; fin_cases a
    · rfl
    · exact (Nat.zero_add _).symm)

theorem up_q0 (r : Fin 256) (l : Fin 128) :
    window x0 (k0_off2 i) S256x128.size (k0_off2_inb i) (ix2 r l) = x0 (ix2 (upR i r) (ln 0 l)) :=
  window_at _ _ _ _ _ (k0_off2_eq i) (by
    intro a; fin_cases a
    · rfl
    · show 128 * 0 + l.val = 0 + l.val; omega)

theorem up_q1 (r : Fin 256) (l : Fin 128) :
    window x0 (k0_off3 i) S256x128.size (k0_off3_inb i) (ix2 r l) = x0 (ix2 (upR i r) (ln 1 l)) :=
  window_at _ _ _ _ _ (k0_off3_eq i) (by
    intro a; fin_cases a
    · rfl
    · show 128 * 1 + l.val = 128 + l.val; omega)

theorem up_D0 (r : Fin 256) (c : Fin 256) :
    upDs0 (kHead0 x1) x2 (window x0 (k0_off2 i) S256x128.size (k0_off2_inb i)) (window x3 (k0_off1 i) S256x128.size (k0_off1_inb i)) (window x4 (k0_off1 i) S256x128.size (k0_off1_inb i)) (window x5 (k0_off1 i) S256x128.size (k0_off1_inb i)) (ix2 r c)
      = if 512 * (i 1).val + (up8 c).val ≤ (upR i r).val then D x0 x1 x2 x3 x4 x5 0 (upR i r) (up8 c) else 0 := by
  rw [upDs0_at]
  have e2 : dsF 0 (fun l => (window x0 (k0_off2 i) S256x128.size (k0_off2_inb i)) (ix2 r l)) (fun l => kHead0 x1 (ix2 (up8 c) l)) (fun l => x2 (ix2 (up8 c) l)) (fun l => (window x3 (k0_off1 i) S256x128.size (k0_off1_inb i)) (ix2 r l))
      (fun l => (window x4 (k0_off1 i) S256x128.size (k0_off1_inb i)) (ix2 r l)) ((window x5 (k0_off1 i) S256x128.size (k0_off1_inb i)) (ix2 r 0)) = D x0 x1 x2 x3 x4 x5 0 (upR i r) (up8 c) :=
    dsF_congr 0 (fun l => up_q0 i x0 r l) (fun l => key0 x1 _ l) (fun _ => rfl) (fun l => up_row i x3 r l) (fun l => up_row i x4 r l) (up_row i x5 r 0)
  have e : (c.val ≤ r.val) ↔ 512 * (i 1).val + (up8 c).val ≤ (upR i r).val := by
    show _ ↔ 512 * (i 1).val + c.val ≤ 512 * (i 1).val + r.val; omega
  exact if_congr e e2 rfl

theorem up_D1 (r : Fin 256) (c : Fin 256) :
    upDs1 (kHead1 x1) x2 (window x0 (k0_off3 i) S256x128.size (k0_off3_inb i)) (window x3 (k0_off1 i) S256x128.size (k0_off1_inb i)) (window x4 (k0_off1 i) S256x128.size (k0_off1_inb i)) (window x5 (k0_off1 i) S256x128.size (k0_off1_inb i)) (ix2 r c)
      = if 512 * (i 1).val + (up8 c).val ≤ (upR i r).val then D x0 x1 x2 x3 x4 x5 1 (upR i r) (up8 c) else 0 := by
  rw [upDs1_at]
  have e2 : dsF 1 (fun l => (window x0 (k0_off3 i) S256x128.size (k0_off3_inb i)) (ix2 r l)) (fun l => kHead1 x1 (ix2 (up8 c) l)) (fun l => x2 (ix2 (up8 c) l)) (fun l => (window x3 (k0_off1 i) S256x128.size (k0_off1_inb i)) (ix2 r l))
      (fun l => (window x4 (k0_off1 i) S256x128.size (k0_off1_inb i)) (ix2 r l)) ((window x5 (k0_off1 i) S256x128.size (k0_off1_inb i)) (ix2 r 64)) = D x0 x1 x2 x3 x4 x5 1 (upR i r) (up8 c) :=
    dsF_congr 1 (fun l => up_q1 i x0 r l) (fun l => key1 x1 _ l) (fun _ => rfl) (fun l => up_row i x3 r l) (fun l => up_row i x4 r l) (up_row i x5 r 64)
  have e : (c.val ≤ r.val) ↔ 512 * (i 1).val + (up8 c).val ≤ (upR i r).val := by
    show _ ↔ 512 * (i 1).val + c.val ≤ 512 * (i 1).val + r.val; omega
  exact if_congr e e2 rfl

theorem up_W0 (r : Fin 256) (c : Fin 512) :
    wtF (fun l => (window x0 (k0_off2 i) S256x128.size (k0_off2_inb i)) (ix2 r l)) (fun l => kHead0 x1 (ix2 c l)) ((window x5 (k0_off1 i) S256x128.size (k0_off1_inb i)) (ix2 r 0)) = W x0 x1 x5 0 (upR i r) c :=
  wtF_congr (fun l => up_q0 i x0 r l) (fun l => key0 x1 _ l) (up_row i x5 r 0)

theorem up_W1 (r : Fin 256) (c : Fin 512) :
    wtF (fun l => (window x0 (k0_off3 i) S256x128.size (k0_off3_inb i)) (ix2 r l)) (fun l => kHead1 x1 (ix2 c l)) ((window x5 (k0_off1 i) S256x128.size (k0_off1_inb i)) (ix2 r 64)) = W x0 x1 x5 1 (upR i r) c :=
  wtF_congr (fun l => up_q1 i x0 r l) (fun l => key1 x1 _ l) (up_row i x5 r 64)

theorem up_11 : up11 i x0 x1 x4 x5 (C11 i x0 x1 x4 x5 (512 * (i 1).val)) = C11 i x0 x1 x4 x5 (512 * (i 1).val + 256) := by
  funext z
  obtain ⟨r, l, rfl⟩ : ∃ (r : Fin 512) (l : Fin 128), z = ix2 r l := ⟨z 0, z 1, eq_ix2 z⟩
  unfold up11
  have hs : C11 i x0 x1 x4 x5 (512 * (i 1).val + 256) (ix2 r l) = C11 i x0 x1 x4 x5 (512 * (i 1).val) (ix2 r l) +
      ∑ x : Fin 256, (if 512 * (i 1).val + r.val ≤ 512 * (i 1).val + x.val then W x0 x1 x5 (headOf l) (upR i x) r * x4 (ix2 (upR i x) l) else 0) := sumTo_add _ (512 * (i 1).val) 256 (by have := coord_lt i; omega)
  rw [hs]
  by_cases hr : r.val < 256
  · refine (put_in (s := S512x128) _ _ S256x128.size _ _ (ix2 (⟨r.val, hr⟩ : Fin 256) l) (by intro a; fin_cases a <;> exact (Nat.zero_add _).symm)).trans ?_
    refine (upDv_at ..).trans ?_
    refine congrArg₂ (· + ·) (window_at _ _ _ _ _ rfl (by intro a; fin_cases a <;> exact (Nat.zero_add _).symm)) (Finset.sum_congr rfl fun x _ => ?_)
    show _ = if 512 * (i 1).val + r.val ≤ 512 * (i 1).val + x.val then W x0 x1 x5 (headOf l) (upR i x) r * x4 (ix2 (upR i x) l) else 0
    have w0 := up_W0 i x0 x1 x5 x r
    have w1 := up_W1 i x0 x1 x5 x r
    have dd := up_row i x4 x l
    have hW : (if headOf l = 0 then W x0 x1 x5 0 (upR i x) r else W x0 x1 x5 1 (upR i x) r) = W x0 x1 x5 (headOf l) (upR i x) r := by
      have : headOf l = 0 ∨ headOf l = 1 := by generalize headOf l = t; revert t; decide
      rcases this with e | e <;> rw [e] <;> rfl
    exact if_congr (by show r.val ≤ x.val ↔ 512 * (i 1).val + r.val ≤ 512 * (i 1).val + x.val; omega) (congrArg₂ (· * ·) ((if_congr Iff.rfl w0 w1).trans hW) dd) rfl
  · rw [put_out _ _ _ _ _ 0 (Or.inr (by show 0 + 256 ≤ r.val; omega)), Finset.sum_eq_zero fun x _ => if_neg (by show ¬ 512 * (i 1).val + r.val ≤ 512 * (i 1).val + x.val; omega), add_zero]

theorem up_10 : up10 i x0 x1 x2 x3 x4 x5 (C10 i x0 x1 x2 x3 x4 x5 (512 * (i 1).val)) = C10 i x0 x1 x2 x3 x4 x5 (512 * (i 1).val + 256) := by
  funext z
  obtain ⟨r, c, rfl⟩ : ∃ (r : Fin 512) (c : Fin 256), z = ix2 r c := ⟨z 0, z 1, eq_ix2 z⟩
  unfold up10
  have hs : C10 i x0 x1 x2 x3 x4 x5 (512 * (i 1).val + 256) (ix2 r c) = C10 i x0 x1 x2 x3 x4 x5 (512 * (i 1).val) (ix2 r c) +
      ∑ x : Fin 256, (if 512 * (i 1).val + r.val ≤ 512 * (i 1).val + x.val then D x0 x1 x2 x3 x4 x5 (hd c) (upR i x) r * x0 (ix2 (upR i x) c) else 0) := sumTo_add _ (512 * (i 1).val) 256 (by have := coord_lt i; omega)
  rw [hs]
  by_cases hr : r.val < 256
  swap
  · rw [put_out _ _ _ _ _ 0 (Or.inr (by show 0 + 256 ≤ r.val; omega)), put_out _ _ _ _ _ 0 (Or.inr (by show 0 + 256 ≤ r.val; omega)), Finset.sum_eq_zero fun x _ => if_neg (by show ¬ 512 * (i 1).val + r.val ≤ 512 * (i 1).val + x.val; omega), add_zero]
  rcases ln_cases c with ⟨l, rfl⟩ | ⟨l, rfl⟩
  · refine ((put_out _ _ _ _ _ 1 (Or.inl (show 128 * 0 + l.val < 128 by omega))).trans (put_in (s := S512x256) _ _ S256x128.size _ _ (ix2 (⟨r.val, hr⟩ : Fin 256) l) (by intro a; fin_cases a; (exact (Nat.zero_add _).symm); (show 128 * 0 + l.val = 0 + l.val; omega)))).trans ((upDk0_at ..).trans ?_)
    refine congrArg₂ (· + ·) (window_at _ _ _ _ _ rfl (by intro a; fin_cases a; (exact (Nat.zero_add _).symm); (show 128 * 0 + l.val = 0 + l.val; omega))) (Finset.sum_congr rfl fun x _ => ?_)
    rw [up_D0 i x0 x1 x2 x3 x4 x5 x (⟨r.val, hr⟩ : Fin 256), ite_mul, zero_mul]
    show _ = if 512 * (i 1).val + r.val ≤ 512 * (i 1).val + x.val then D x0 x1 x2 x3 x4 x5 (hd (ln 0 l)) (upR i x) r * x0 (ix2 (upR i x) (ln 0 l)) else 0
    rw [hd_ln]
    exact if_congr Iff.rfl (congrArg (D x0 x1 x2 x3 x4 x5 0 (upR i x) r * ·) (up_q0 i x0 x l)) rfl
  · refine ((put_in (s := S512x256) _ _ S256x128.size _ _ (ix2 (⟨r.val, hr⟩ : Fin 256) l) (by intro a; fin_cases a; (exact (Nat.zero_add _).symm); rfl))).trans ((upDk1_at ..).trans ?_)
    refine congrArg₂ (· + ·) (window_at _ _ _ _ _ rfl (by intro a; fin_cases a; (exact (Nat.zero_add _).symm); rfl)) (Finset.sum_congr rfl fun x _ => ?_)
    rw [up_D1 i x0 x1 x2 x3 x4 x5 x (⟨r.val, hr⟩ : Fin 256), ite_mul, zero_mul]
    show _ = if 512 * (i 1).val + r.val ≤ 512 * (i 1).val + x.val then D x0 x1 x2 x3 x4 x5 (hd (ln 1 l)) (upR i x) r * x0 (ix2 (upR i x) (ln 1 l)) else 0
    rw [hd_ln]
    exact if_congr Iff.rfl (congrArg (D x0 x1 x2 x3 x4 x5 1 (upR i x) r * ·) (up_q1 i x0 x l)) rfl

theorem up_9 (y : Vec Ideal S1x4096x256 .f32) : up9 i x0 x1 x2 x3 x4 x5 (C9 i x0 x1 x2 x3 x4 x5 y (512 * (i 1).val)) = C9 i x0 x1 x2 x3 x4 x5 y (512 * (i 1).val + 256) := by
  funext z
  obtain ⟨Q, c, rfl⟩ : ∃ (Q : Fin 4096) (c : Fin 256), z = ix3 (0 : Fin 1) Q c :=
    ⟨z 1, z 2, (eq_ix3 z).trans (by congr 1; exact Fin.ext (by have := (z 0).isLt; show (z 0).val = 0; have h1 : (z 0).val < 1 := this; omega))⟩
  unfold up9
  by_cases h1 : Q.val < 512 * (i 1).val
  · rw [put_out _ _ _ _ _ 1 (Or.inl (by rw [k0_off5_eq]; exact h1)), put_out _ _ _ _ _ 1 (Or.inl (by rw [k0_off4_eq]; exact h1))]
    show (if Q.val < 512 * (i 1).val then _ else _) = if Q.val < 512 * (i 1).val + 256 then _ else _
    rw [if_pos h1, if_pos (by omega)]
  by_cases h2 : 512 * (i 1).val + 256 ≤ Q.val
  · rw [put_out _ _ _ _ _ 1 (Or.inr (by rw [k0_off5_eq]; exact h2)), put_out _ _ _ _ _ 1 (Or.inr (by rw [k0_off4_eq]; exact h2))]
    show (if Q.val < 512 * (i 1).val then _ else _) = if Q.val < 512 * (i 1).val + 256 then _ else _
    rw [if_neg h1, if_neg (by omega)]
  have hlow : ∀ c : Fin 256, C9 i x0 x1 x2 x3 x4 x5 y (512 * (i 1).val) (ix3 (0 : Fin 1) Q c) = y (ix3 (0 : Fin 1) Q c) := fun c => if_neg h1
  have hhigh : ∀ c : Fin 256, C9 i x0 x1 x2 x3 x4 x5 y (512 * (i 1).val + 256) (ix3 (0 : Fin 1) Q c) = y (ix3 (0 : Fin 1) Q c) + Eq9 i x0 x1 x2 x3 x4 x5 Q c := fun c => if_pos (show Q.val < 512 * (i 1).val + 256 by omega)
  have hQ : upR i (⟨Q.val - (512 * (i 1).val), by omega⟩ : Fin 256) = Q := Fin.ext (by show 512 * (i 1).val + (Q.val - (512 * (i 1).val)) = Q.val; omega)
  rcases ln_cases c with ⟨l, rfl⟩ | ⟨l, rfl⟩
  · refine ((put_out (s := S1x4096x256) _ (k0_off5 i) S1x256x128.size _ (ix3 (0 : Fin 1) Q (ln 0 l)) 2 (Or.inl (by rw [k0_off5_eq]; show 128 * 0 + l.val < 128; omega))).trans (put_in (s := S1x4096x256) _ (k0_off4 i) S1x256x128.size _ _ (ix3 (0 : Fin 1) (⟨Q.val - (512 * (i 1).val), by omega⟩ : Fin 256) l) (by rw [k0_off4_eq]; intro a; fin_cases a; rfl; (show Q.val = 512 * (i 1).val + (Q.val - (512 * (i 1).val)); omega); (show 128 * 0 + l.val = 0 + l.val; omega)))).trans ((upDq0_at ..).trans ?_)
    refine Eq.trans (congrArg₂ (· + ·) (window_at _ _ _ _ (ix3 (0 : Fin 1) Q (ln 0 l)) (k0_off4_eq i) (by intro a; fin_cases a; rfl; (show Q.val = 512 * (i 1).val + (Q.val - (512 * (i 1).val)); omega); (show 128 * 0 + l.val = 0 + l.val; omega))) rfl) ?_
    rw [hlow (ln 0 l), hhigh (ln 0 l)]
    refine congrArg (y (ix3 (0 : Fin 1) Q (ln 0 l)) + ·) ?_
    unfold Eq9
    rw [sum_up8 _ fun k hk => if_neg (by show ¬ 512 * (i 1).val + k.val ≤ Q.val; omega)]
    refine Finset.sum_congr rfl fun x _ => ?_
    rw [up_D0 i x0 x1 x2 x3 x4 x5 (⟨Q.val - (512 * (i 1).val), by omega⟩ : Fin 256) x, ite_mul, zero_mul, hQ, hd_ln, key0]
  · refine ((put_in (s := S1x4096x256) _ (k0_off5 i) S1x256x128.size _ _ (ix3 (0 : Fin 1) (⟨Q.val - (512 * (i 1).val), by omega⟩ : Fin 256) l) (by rw [k0_off5_eq]; intro a; fin_cases a; rfl; (show Q.val = 512 * (i 1).val + (Q.val - (512 * (i 1).val)); omega); rfl))).trans ((upDq1_at ..).trans ?_)
    refine Eq.trans (congrArg₂ (· + ·) (window_at _ _ _ _ (ix3 (0 : Fin 1) Q (ln 1 l)) (k0_off5_eq i) (by intro a; fin_cases a; rfl; (show Q.val = 512 * (i 1).val + (Q.val - (512 * (i 1).val)); omega); rfl)) rfl) ?_
    rw [hlow (ln 1 l), hhigh (ln 1 l)]
    refine congrArg (y (ix3 (0 : Fin 1) Q (ln 1 l)) + ·) ?_
    unfold Eq9
    rw [sum_up8 _ fun k hk => if_neg (by show ¬ 512 * (i 1).val + k.val ≤ Q.val; omega)]
    refine Finset.sum_congr rfl fun x _ => ?_
    rw [up_D1 i x0 x1 x2 x3 x4 x5 (⟨Q.val - (512 * (i 1).val), by omega⟩ : Fin 256) x, ite_mul, zero_mul, hQ, hd_ln, key1]

/-- Row `r` of the block, of all rows. -/
def loR (r : Fin 256) : Fin 4096 := ⟨512 * (i 1).val + 256 + r.val, (by have := coord_lt i; omega)⟩

theorem lo_row (x : Vec Ideal S4096x128 .f32) (r : Fin 256) (l : Fin 128) :
    window x (k0_off6 i) S256x128.size (k0_off6_inb i) (ix2 r l) = x (ix2 (loR i r) l) :=
  window_at _ _ _ _ _ (k0_off6_eq i) (by
    intro a; fin_cases a
    · rfl
    · exact (Nat.zero_add _).symm)

theorem lo_q0 (r : Fin 256) (l : Fin 128) :
    window x0 (k0_off7 i) S256x128.size (k0_off7_inb i) (ix2 r l) = x0 (ix2 (loR i r) (ln 0 l)) :=
  window_at _ _ _ _ _ (k0_off7_eq i) (by
    intro a; fin_cases a
    · rfl
    · show 128 * 0 + l.val = 0 + l.val; omega)

theorem lo_q1 (r : Fin 256) (l : Fin 128) :
    window x0 (k0_off8 i) S256x128.size (k0_off8_inb i) (ix2 r l) = x0 (ix2 (loR i r) (ln 1 l)) :=
  window_at _ _ _ _ _ (k0_off8_eq i) (by
    intro a; fin_cases a
    · rfl
    · show 128 * 1 + l.val = 128 + l.val; omega)

theorem lo_D0 (r : Fin 256) (c : Fin 512) :
    loDs0 (kHead0 x1) x2 (window x0 (k0_off7 i) S256x128.size (k0_off7_inb i)) (window x3 (k0_off6 i) S256x128.size (k0_off6_inb i)) (window x4 (k0_off6 i) S256x128.size (k0_off6_inb i)) (window x5 (k0_off6 i) S256x128.size (k0_off6_inb i)) (ix2 r c)
      = if 512 * (i 1).val + c.val ≤ (loR i r).val then D x0 x1 x2 x3 x4 x5 0 (loR i r) c else 0 := by
  rw [loDs0_at]
  have e2 : dsF 0 (fun l => (window x0 (k0_off7 i) S256x128.size (k0_off7_inb i)) (ix2 r l)) (fun l => kHead0 x1 (ix2 c l)) (fun l => x2 (ix2 c l)) (fun l => (window x3 (k0_off6 i) S256x128.size (k0_off6_inb i)) (ix2 r l))
      (fun l => (window x4 (k0_off6 i) S256x128.size (k0_off6_inb i)) (ix2 r l)) ((window x5 (k0_off6 i) S256x128.size (k0_off6_inb i)) (ix2 r 0)) = D x0 x1 x2 x3 x4 x5 0 (loR i r) c :=
    dsF_congr 0 (fun l => lo_q0 i x0 r l) (fun l => key0 x1 _ l) (fun _ => rfl) (fun l => lo_row i x3 r l) (fun l => lo_row i x4 r l) (lo_row i x5 r 0)
  have e : (c.val ≤ r.val + 256) ↔ 512 * (i 1).val + c.val ≤ (loR i r).val := by
    show _ ↔ 512 * (i 1).val + c.val ≤ 512 * (i 1).val + 256 + r.val; omega
  exact if_congr e e2 rfl

theorem lo_D1 (r : Fin 256) (c : Fin 512) :
    loDs1 (kHead1 x1) x2 (window x0 (k0_off8 i) S256x128.size (k0_off8_inb i)) (window x3 (k0_off6 i) S256x128.size (k0_off6_inb i)) (window x4 (k0_off6 i) S256x128.size (k0_off6_inb i)) (window x5 (k0_off6 i) S256x128.size (k0_off6_inb i)) (ix2 r c)
      = if 512 * (i 1).val + c.val ≤ (loR i r).val then D x0 x1 x2 x3 x4 x5 1 (loR i r) c else 0 := by
  rw [loDs1_at]
  have e2 : dsF 1 (fun l => (window x0 (k0_off8 i) S256x128.size (k0_off8_inb i)) (ix2 r l)) (fun l => kHead1 x1 (ix2 c l)) (fun l => x2 (ix2 c l)) (fun l => (window x3 (k0_off6 i) S256x128.size (k0_off6_inb i)) (ix2 r l))
      (fun l => (window x4 (k0_off6 i) S256x128.size (k0_off6_inb i)) (ix2 r l)) ((window x5 (k0_off6 i) S256x128.size (k0_off6_inb i)) (ix2 r 64)) = D x0 x1 x2 x3 x4 x5 1 (loR i r) c :=
    dsF_congr 1 (fun l => lo_q1 i x0 r l) (fun l => key1 x1 _ l) (fun _ => rfl) (fun l => lo_row i x3 r l) (fun l => lo_row i x4 r l) (lo_row i x5 r 64)
  have e : (c.val ≤ r.val + 256) ↔ 512 * (i 1).val + c.val ≤ (loR i r).val := by
    show _ ↔ 512 * (i 1).val + c.val ≤ 512 * (i 1).val + 256 + r.val; omega
  exact if_congr e e2 rfl

theorem lo_W0 (r : Fin 256) (c : Fin 512) :
    wtF (fun l => (window x0 (k0_off7 i) S256x128.size (k0_off7_inb i)) (ix2 r l)) (fun l => kHead0 x1 (ix2 c l)) ((window x5 (k0_off6 i) S256x128.size (k0_off6_inb i)) (ix2 r 0)) = W x0 x1 x5 0 (loR i r) c :=
  wtF_congr (fun l => lo_q0 i x0 r l) (fun l => key0 x1 _ l) (lo_row i x5 r 0)

theorem lo_W1 (r : Fin 256) (c : Fin 512) :
    wtF (fun l => (window x0 (k0_off8 i) S256x128.size (k0_off8_inb i)) (ix2 r l)) (fun l => kHead1 x1 (ix2 c l)) ((window x5 (k0_off6 i) S256x128.size (k0_off6_inb i)) (ix2 r 64)) = W x0 x1 x5 1 (loR i r) c :=
  wtF_congr (fun l => lo_q1 i x0 r l) (fun l => key1 x1 _ l) (lo_row i x5 r 64)

theorem lo_11 : lo11 i x0 x1 x4 x5 (C11 i x0 x1 x4 x5 (512 * (i 1).val + 256)) = C11 i x0 x1 x4 x5 (512 * (i 1).val + 256 + 256) := by
  funext z
  obtain ⟨r, l, rfl⟩ : ∃ (r : Fin 512) (l : Fin 128), z = ix2 r l := ⟨z 0, z 1, eq_ix2 z⟩
  unfold lo11
  have hs : C11 i x0 x1 x4 x5 (512 * (i 1).val + 256 + 256) (ix2 r l) = C11 i x0 x1 x4 x5 (512 * (i 1).val + 256) (ix2 r l) +
      ∑ x : Fin 256, (if 512 * (i 1).val + r.val ≤ 512 * (i 1).val + 256 + x.val then W x0 x1 x5 (headOf l) (loR i x) r * x4 (ix2 (loR i x) l) else 0) := sumTo_add _ (512 * (i 1).val + 256) 256 (by have := coord_lt i; omega)
  rw [hs]
  refine (put_in (s := S512x128) _ _ S512x128.size _ _ (ix2 r l) (by intro a; fin_cases a <;> exact (Nat.zero_add _).symm)).trans ?_
  refine (loDv_at ..).trans ?_
  refine congrArg₂ (· + ·) (window_at _ _ _ _ _ rfl (by intro a; fin_cases a <;> exact (Nat.zero_add _).symm)) (Finset.sum_congr rfl fun x _ => ?_)
  show _ = if 512 * (i 1).val + r.val ≤ 512 * (i 1).val + 256 + x.val then W x0 x1 x5 (headOf l) (loR i x) r * x4 (ix2 (loR i x) l) else 0
  have w0 := lo_W0 i x0 x1 x5 x r
  have w1 := lo_W1 i x0 x1 x5 x r
  have dd := lo_row i x4 x l
  have hW : (if headOf l = 0 then W x0 x1 x5 0 (loR i x) r else W x0 x1 x5 1 (loR i x) r) = W x0 x1 x5 (headOf l) (loR i x) r := by
    have : headOf l = 0 ∨ headOf l = 1 := by generalize headOf l = t; revert t; decide
    rcases this with e | e <;> rw [e] <;> rfl
  exact if_congr (by omega) (congrArg₂ (· * ·) ((if_congr Iff.rfl w0 w1).trans hW) dd) rfl

theorem lo_10 : lo10 i x0 x1 x2 x3 x4 x5 (C10 i x0 x1 x2 x3 x4 x5 (512 * (i 1).val + 256)) = C10 i x0 x1 x2 x3 x4 x5 (512 * (i 1).val + 256 + 256) := by
  funext z
  obtain ⟨r, c, rfl⟩ : ∃ (r : Fin 512) (c : Fin 256), z = ix2 r c := ⟨z 0, z 1, eq_ix2 z⟩
  unfold lo10
  have hs : C10 i x0 x1 x2 x3 x4 x5 (512 * (i 1).val + 256 + 256) (ix2 r c) = C10 i x0 x1 x2 x3 x4 x5 (512 * (i 1).val + 256) (ix2 r c) +
      ∑ x : Fin 256, (if 512 * (i 1).val + r.val ≤ 512 * (i 1).val + 256 + x.val then D x0 x1 x2 x3 x4 x5 (hd c) (loR i x) r * x0 (ix2 (loR i x) c) else 0) := sumTo_add _ (512 * (i 1).val + 256) 256 (by have := coord_lt i; omega)
  rw [hs]
  rcases ln_cases c with ⟨l, rfl⟩ | ⟨l, rfl⟩
  · refine ((put_out _ _ _ _ _ 1 (Or.inl (show 128 * 0 + l.val < 128 by omega))).trans (put_in (s := S512x256) _ _ S512x128.size _ _ (ix2 r l) (by intro a; fin_cases a; (exact (Nat.zero_add _).symm); (show 128 * 0 + l.val = 0 + l.val; omega)))).trans ((loDk0_at ..).trans ?_)
    refine congrArg₂ (· + ·) (window_at _ _ _ _ _ rfl (by intro a; fin_cases a; (exact (Nat.zero_add _).symm); (show 128 * 0 + l.val = 0 + l.val; omega))) (Finset.sum_congr rfl fun x _ => ?_)
    rw [lo_D0 i x0 x1 x2 x3 x4 x5 x r, ite_mul, zero_mul]
    show _ = if 512 * (i 1).val + r.val ≤ 512 * (i 1).val + 256 + x.val then D x0 x1 x2 x3 x4 x5 (hd (ln 0 l)) (loR i x) r * x0 (ix2 (loR i x) (ln 0 l)) else 0
    rw [hd_ln]
    exact if_congr Iff.rfl (congrArg (D x0 x1 x2 x3 x4 x5 0 (loR i x) r * ·) (lo_q0 i x0 x l)) rfl
  · refine ((put_in (s := S512x256) _ _ S512x128.size _ _ (ix2 r l) (by intro a; fin_cases a; (exact (Nat.zero_add _).symm); rfl))).trans ((loDk1_at ..).trans ?_)
    refine congrArg₂ (· + ·) (window_at _ _ _ _ _ rfl (by intro a; fin_cases a; (exact (Nat.zero_add _).symm); rfl)) (Finset.sum_congr rfl fun x _ => ?_)
    rw [lo_D1 i x0 x1 x2 x3 x4 x5 x r, ite_mul, zero_mul]
    show _ = if 512 * (i 1).val + r.val ≤ 512 * (i 1).val + 256 + x.val then D x0 x1 x2 x3 x4 x5 (hd (ln 1 l)) (loR i x) r * x0 (ix2 (loR i x) (ln 1 l)) else 0
    rw [hd_ln]
    exact if_congr Iff.rfl (congrArg (D x0 x1 x2 x3 x4 x5 1 (loR i x) r * ·) (lo_q1 i x0 x l)) rfl

theorem lo_9 (y : Vec Ideal S1x4096x256 .f32) : lo9 i x0 x1 x2 x3 x4 x5 (C9 i x0 x1 x2 x3 x4 x5 y (512 * (i 1).val + 256)) = C9 i x0 x1 x2 x3 x4 x5 y (512 * (i 1).val + 256 + 256) := by
  funext z
  obtain ⟨Q, c, rfl⟩ : ∃ (Q : Fin 4096) (c : Fin 256), z = ix3 (0 : Fin 1) Q c :=
    ⟨z 1, z 2, (eq_ix3 z).trans (by congr 1; exact Fin.ext (by have := (z 0).isLt; show (z 0).val = 0; have h1 : (z 0).val < 1 := this; omega))⟩
  unfold lo9
  by_cases h1 : Q.val < 512 * (i 1).val + 256
  · rw [put_out _ _ _ _ _ 1 (Or.inl (by rw [k0_off10_eq]; exact h1)), put_out _ _ _ _ _ 1 (Or.inl (by rw [k0_off9_eq]; exact h1))]
    show (if Q.val < 512 * (i 1).val + 256 then _ else _) = if Q.val < 512 * (i 1).val + 256 + 256 then _ else _
    rw [if_pos h1, if_pos (by omega)]
  by_cases h2 : 512 * (i 1).val + 256 + 256 ≤ Q.val
  · rw [put_out _ _ _ _ _ 1 (Or.inr (by rw [k0_off10_eq]; exact h2)), put_out _ _ _ _ _ 1 (Or.inr (by rw [k0_off9_eq]; exact h2))]
    show (if Q.val < 512 * (i 1).val + 256 then _ else _) = if Q.val < 512 * (i 1).val + 256 + 256 then _ else _
    rw [if_neg h1, if_neg (by omega)]
  have hlow : ∀ c : Fin 256, C9 i x0 x1 x2 x3 x4 x5 y (512 * (i 1).val + 256) (ix3 (0 : Fin 1) Q c) = y (ix3 (0 : Fin 1) Q c) := fun c => if_neg h1
  have hhigh : ∀ c : Fin 256, C9 i x0 x1 x2 x3 x4 x5 y (512 * (i 1).val + 256 + 256) (ix3 (0 : Fin 1) Q c) = y (ix3 (0 : Fin 1) Q c) + Eq9 i x0 x1 x2 x3 x4 x5 Q c := fun c => if_pos (show Q.val < 512 * (i 1).val + 256 + 256 by omega)
  have hQ : loR i (⟨Q.val - (512 * (i 1).val + 256), by omega⟩ : Fin 256) = Q := Fin.ext (by show 512 * (i 1).val + 256 + (Q.val - (512 * (i 1).val + 256)) = Q.val; omega)
  rcases ln_cases c with ⟨l, rfl⟩ | ⟨l, rfl⟩
  · refine ((put_out (s := S1x4096x256) _ (k0_off10 i) S1x256x128.size _ (ix3 (0 : Fin 1) Q (ln 0 l)) 2 (Or.inl (by rw [k0_off10_eq]; show 128 * 0 + l.val < 128; omega))).trans (put_in (s := S1x4096x256) _ (k0_off9 i) S1x256x128.size _ _ (ix3 (0 : Fin 1) (⟨Q.val - (512 * (i 1).val + 256), by omega⟩ : Fin 256) l) (by rw [k0_off9_eq]; intro a; fin_cases a; rfl; (show Q.val = 512 * (i 1).val + 256 + (Q.val - (512 * (i 1).val + 256)); omega); (show 128 * 0 + l.val = 0 + l.val; omega)))).trans ((loDq0_at ..).trans ?_)
    refine Eq.trans (congrArg₂ (· + ·) (window_at _ _ _ _ (ix3 (0 : Fin 1) Q (ln 0 l)) (k0_off9_eq i) (by intro a; fin_cases a; rfl; (show Q.val = 512 * (i 1).val + 256 + (Q.val - (512 * (i 1).val + 256)); omega); (show 128 * 0 + l.val = 0 + l.val; omega))) rfl) ?_
    rw [hlow (ln 0 l), hhigh (ln 0 l)]
    refine congrArg (y (ix3 (0 : Fin 1) Q (ln 0 l)) + ·) ?_
    unfold Eq9
    refine Finset.sum_congr rfl fun x _ => ?_
    rw [lo_D0 i x0 x1 x2 x3 x4 x5 (⟨Q.val - (512 * (i 1).val + 256), by omega⟩ : Fin 256) x, ite_mul, zero_mul, hQ, hd_ln, key0]
  · refine ((put_in (s := S1x4096x256) _ (k0_off10 i) S1x256x128.size _ _ (ix3 (0 : Fin 1) (⟨Q.val - (512 * (i 1).val + 256), by omega⟩ : Fin 256) l) (by rw [k0_off10_eq]; intro a; fin_cases a; rfl; (show Q.val = 512 * (i 1).val + 256 + (Q.val - (512 * (i 1).val + 256)); omega); rfl))).trans ((loDq1_at ..).trans ?_)
    refine Eq.trans (congrArg₂ (· + ·) (window_at _ _ _ _ (ix3 (0 : Fin 1) Q (ln 1 l)) (k0_off10_eq i) (by intro a; fin_cases a; rfl; (show Q.val = 512 * (i 1).val + 256 + (Q.val - (512 * (i 1).val + 256)); omega); rfl)) rfl) ?_
    rw [hlow (ln 1 l), hhigh (ln 1 l)]
    refine congrArg (y (ix3 (0 : Fin 1) Q (ln 1 l)) + ·) ?_
    unfold Eq9
    refine Finset.sum_congr rfl fun x _ => ?_
    rw [lo_D1 i x0 x1 x2 x3 x4 x5 (⟨Q.val - (512 * (i 1).val + 256), by omega⟩ : Fin 256) x, ite_mul, zero_mul, hQ, hd_ln, key1]

/-- Row `r` of the block, of all rows. -/
def trR (k : Fin (k0_t1_loop i).trips) (r : Fin 512) : Fin 4096 := ⟨512 * (i 1).val + 512 * k.val + 512 + r.val, (by have := k0_off11_inb i k 0; rw [k0_off11_eq] at this; have h2 : 512 * (i 1).val + 512 * k.val + 512 + 512 ≤ 4096 := this; omega)⟩

theorem tr_row (x : Vec Ideal S4096x128 .f32) (k : Fin (k0_t1_loop i).trips) (r : Fin 512) (l : Fin 128) :
    window x (k0_off11 i k) S512x128.size (k0_off11_inb i k) (ix2 r l) = x (ix2 (trR i k r) l) :=
  window_at _ _ _ _ _ (k0_off11_eq i k) (by
    intro a; fin_cases a
    · rfl
    · exact (Nat.zero_add _).symm)

theorem tr_q0 (k : Fin (k0_t1_loop i).trips) (r : Fin 512) (l : Fin 128) :
    window x0 (k0_off12 i k) S512x128.size (k0_off12_inb i k) (ix2 r l) = x0 (ix2 (trR i k r) (ln 0 l)) :=
  window_at _ _ _ _ _ (k0_off12_eq i k) (by
    intro a; fin_cases a
    · rfl
    · show 128 * 0 + l.val = 0 + l.val; omega)

theorem tr_q1 (k : Fin (k0_t1_loop i).trips) (r : Fin 512) (l : Fin 128) :
    window x0 (k0_off13 i k) S512x128.size (k0_off13_inb i k) (ix2 r l) = x0 (ix2 (trR i k r) (ln 1 l)) :=
  window_at _ _ _ _ _ (k0_off13_eq i k) (by
    intro a; fin_cases a
    · rfl
    · show 128 * 1 + l.val = 128 + l.val; omega)

theorem tr_D0 (k : Fin (k0_t1_loop i).trips) (r : Fin 512) (c : Fin 512) :
    fullDs0 (kHead0 x1) x2 (window x0 (k0_off12 i k) S512x128.size (k0_off12_inb i k)) (window x3 (k0_off11 i k) S512x128.size (k0_off11_inb i k)) (window x4 (k0_off11 i k) S512x128.size (k0_off11_inb i k)) (window x5 (k0_off11 i k) S512x128.size (k0_off11_inb i k)) (ix2 r c)
      = if 512 * (i 1).val + c.val ≤ (trR i k r).val then D x0 x1 x2 x3 x4 x5 0 (trR i k r) c else 0 := by
  rw [fullDs0_at]
  have e2 : dsF 0 (fun l => (window x0 (k0_off12 i k) S512x128.size (k0_off12_inb i k)) (ix2 r l)) (fun l => kHead0 x1 (ix2 c l)) (fun l => x2 (ix2 c l)) (fun l => (window x3 (k0_off11 i k) S512x128.size (k0_off11_inb i k)) (ix2 r l))
      (fun l => (window x4 (k0_off11 i k) S512x128.size (k0_off11_inb i k)) (ix2 r l)) ((window x5 (k0_off11 i k) S512x128.size (k0_off11_inb i k)) (ix2 r 0)) = D x0 x1 x2 x3 x4 x5 0 (trR i k r) c :=
    dsF_congr 0 (fun l => tr_q0 i x0 k r l) (fun l => key0 x1 _ l) (fun _ => rfl) (fun l => tr_row i x3 k r l) (fun l => tr_row i x4 k r l) (tr_row i x5 k r 0)
  exact e2.trans (if_pos (show 512 * (i 1).val + c.val ≤ 512 * (i 1).val + 512 * k.val + 512 + r.val by omega)).symm

theorem tr_D1 (k : Fin (k0_t1_loop i).trips) (r : Fin 512) (c : Fin 512) :
    fullDs1 (kHead1 x1) x2 (window x0 (k0_off13 i k) S512x128.size (k0_off13_inb i k)) (window x3 (k0_off11 i k) S512x128.size (k0_off11_inb i k)) (window x4 (k0_off11 i k) S512x128.size (k0_off11_inb i k)) (window x5 (k0_off11 i k) S512x128.size (k0_off11_inb i k)) (ix2 r c)
      = if 512 * (i 1).val + c.val ≤ (trR i k r).val then D x0 x1 x2 x3 x4 x5 1 (trR i k r) c else 0 := by
  rw [fullDs1_at]
  have e2 : dsF 1 (fun l => (window x0 (k0_off13 i k) S512x128.size (k0_off13_inb i k)) (ix2 r l)) (fun l => kHead1 x1 (ix2 c l)) (fun l => x2 (ix2 c l)) (fun l => (window x3 (k0_off11 i k) S512x128.size (k0_off11_inb i k)) (ix2 r l))
      (fun l => (window x4 (k0_off11 i k) S512x128.size (k0_off11_inb i k)) (ix2 r l)) ((window x5 (k0_off11 i k) S512x128.size (k0_off11_inb i k)) (ix2 r 64)) = D x0 x1 x2 x3 x4 x5 1 (trR i k r) c :=
    dsF_congr 1 (fun l => tr_q1 i x0 k r l) (fun l => key1 x1 _ l) (fun _ => rfl) (fun l => tr_row i x3 k r l) (fun l => tr_row i x4 k r l) (tr_row i x5 k r 64)
  exact e2.trans (if_pos (show 512 * (i 1).val + c.val ≤ 512 * (i 1).val + 512 * k.val + 512 + r.val by omega)).symm

theorem tr_W0 (k : Fin (k0_t1_loop i).trips) (r : Fin 512) (c : Fin 512) :
    wtF (fun l => (window x0 (k0_off12 i k) S512x128.size (k0_off12_inb i k)) (ix2 r l)) (fun l => kHead0 x1 (ix2 c l)) ((window x5 (k0_off11 i k) S512x128.size (k0_off11_inb i k)) (ix2 r 0)) = W x0 x1 x5 0 (trR i k r) c :=
  wtF_congr (fun l => tr_q0 i x0 k r l) (fun l => key0 x1 _ l) (tr_row i x5 k r 0)

theorem tr_W1 (k : Fin (k0_t1_loop i).trips) (r : Fin 512) (c : Fin 512) :
    wtF (fun l => (window x0 (k0_off13 i k) S512x128.size (k0_off13_inb i k)) (ix2 r l)) (fun l => kHead1 x1 (ix2 c l)) ((window x5 (k0_off11 i k) S512x128.size (k0_off11_inb i k)) (ix2 r 64)) = W x0 x1 x5 1 (trR i k r) c :=
  wtF_congr (fun l => tr_q1 i x0 k r l) (fun l => key1 x1 _ l) (tr_row i x5 k r 64)

theorem tr_11 (k : Fin (k0_t1_loop i).trips) : trip11 i x0 x1 x4 x5 k (C11 i x0 x1 x4 x5 (512 * (i 1).val + 512 * k.val + 512)) = C11 i x0 x1 x4 x5 (512 * (i 1).val + 512 * k.val + 512 + 512) := by
  funext z
  obtain ⟨r, l, rfl⟩ : ∃ (r : Fin 512) (l : Fin 128), z = ix2 r l := ⟨z 0, z 1, eq_ix2 z⟩
  unfold trip11
  have hs : C11 i x0 x1 x4 x5 (512 * (i 1).val + 512 * k.val + 512 + 512) (ix2 r l) = C11 i x0 x1 x4 x5 (512 * (i 1).val + 512 * k.val + 512) (ix2 r l) +
      ∑ x : Fin 512, (if 512 * (i 1).val + r.val ≤ 512 * (i 1).val + 512 * k.val + 512 + x.val then W x0 x1 x5 (headOf l) (trR i k x) r * x4 (ix2 (trR i k x) l) else 0) := sumTo_add _ (512 * (i 1).val + 512 * k.val + 512) 512 (by have := k0_off11_inb i k 0; rw [k0_off11_eq] at this; have h2 : 512 * (i 1).val + 512 * k.val + 512 + 512 ≤ 4096 := this; omega)
  rw [hs]
  refine (put_in (s := S512x128) _ _ S512x128.size _ _ (ix2 r l) (by intro a; fin_cases a <;> exact (Nat.zero_add _).symm)).trans ?_
  refine (fullDv_at ..).trans ?_
  refine congrArg₂ (· + ·) (window_at _ _ _ _ _ rfl (by intro a; fin_cases a <;> exact (Nat.zero_add _).symm)) (Finset.sum_congr rfl fun x _ => ?_)
  show _ = if 512 * (i 1).val + r.val ≤ 512 * (i 1).val + 512 * k.val + 512 + x.val then W x0 x1 x5 (headOf l) (trR i k x) r * x4 (ix2 (trR i k x) l) else 0
  have w0 := tr_W0 i x0 x1 x5 k x r
  have w1 := tr_W1 i x0 x1 x5 k x r
  have dd := tr_row i x4 k x l
  have hW : (if headOf l = 0 then W x0 x1 x5 0 (trR i k x) r else W x0 x1 x5 1 (trR i k x) r) = W x0 x1 x5 (headOf l) (trR i k x) r := by
    have : headOf l = 0 ∨ headOf l = 1 := by generalize headOf l = t; revert t; decide
    rcases this with e | e <;> rw [e] <;> rfl
  exact (congrArg₂ (· * ·) ((if_congr Iff.rfl w0 w1).trans hW) dd).trans (if_pos (show 512 * (i 1).val + r.val ≤ 512 * (i 1).val + 512 * k.val + 512 + x.val by omega)).symm

theorem tr_10 (k : Fin (k0_t1_loop i).trips) : trip10 i x0 x1 x2 x3 x4 x5 k (C10 i x0 x1 x2 x3 x4 x5 (512 * (i 1).val + 512 * k.val + 512)) = C10 i x0 x1 x2 x3 x4 x5 (512 * (i 1).val + 512 * k.val + 512 + 512) := by
  funext z
  obtain ⟨r, c, rfl⟩ : ∃ (r : Fin 512) (c : Fin 256), z = ix2 r c := ⟨z 0, z 1, eq_ix2 z⟩
  unfold trip10
  have hs : C10 i x0 x1 x2 x3 x4 x5 (512 * (i 1).val + 512 * k.val + 512 + 512) (ix2 r c) = C10 i x0 x1 x2 x3 x4 x5 (512 * (i 1).val + 512 * k.val + 512) (ix2 r c) +
      ∑ x : Fin 512, (if 512 * (i 1).val + r.val ≤ 512 * (i 1).val + 512 * k.val + 512 + x.val then D x0 x1 x2 x3 x4 x5 (hd c) (trR i k x) r * x0 (ix2 (trR i k x) c) else 0) := sumTo_add _ (512 * (i 1).val + 512 * k.val + 512) 512 (by have := k0_off11_inb i k 0; rw [k0_off11_eq] at this; have h2 : 512 * (i 1).val + 512 * k.val + 512 + 512 ≤ 4096 := this; omega)
  rw [hs]
  rcases ln_cases c with ⟨l, rfl⟩ | ⟨l, rfl⟩
  · refine ((put_out _ _ _ _ _ 1 (Or.inl (show 128 * 0 + l.val < 128 by omega))).trans (put_in (s := S512x256) _ _ S512x128.size _ _ (ix2 r l) (by intro a; fin_cases a; (exact (Nat.zero_add _).symm); (show 128 * 0 + l.val = 0 + l.val; omega)))).trans ((fullDk0_at ..).trans ?_)
    refine congrArg₂ (· + ·) (window_at _ _ _ _ _ rfl (by intro a; fin_cases a; (exact (Nat.zero_add _).symm); (show 128 * 0 + l.val = 0 + l.val; omega))) (Finset.sum_congr rfl fun x _ => ?_)
    rw [tr_D0 i x0 x1 x2 x3 x4 x5 k x r, ite_mul, zero_mul]
    show _ = if 512 * (i 1).val + r.val ≤ 512 * (i 1).val + 512 * k.val + 512 + x.val then D x0 x1 x2 x3 x4 x5 (hd (ln 0 l)) (trR i k x) r * x0 (ix2 (trR i k x) (ln 0 l)) else 0
    rw [hd_ln]
    exact if_congr Iff.rfl (congrArg (D x0 x1 x2 x3 x4 x5 0 (trR i k x) r * ·) (tr_q0 i x0 k x l)) rfl
  · refine ((put_in (s := S512x256) _ _ S512x128.size _ _ (ix2 r l) (by intro a; fin_cases a; (exact (Nat.zero_add _).symm); rfl))).trans ((fullDk1_at ..).trans ?_)
    refine congrArg₂ (· + ·) (window_at _ _ _ _ _ rfl (by intro a; fin_cases a; (exact (Nat.zero_add _).symm); rfl)) (Finset.sum_congr rfl fun x _ => ?_)
    rw [tr_D1 i x0 x1 x2 x3 x4 x5 k x r, ite_mul, zero_mul]
    show _ = if 512 * (i 1).val + r.val ≤ 512 * (i 1).val + 512 * k.val + 512 + x.val then D x0 x1 x2 x3 x4 x5 (hd (ln 1 l)) (trR i k x) r * x0 (ix2 (trR i k x) (ln 1 l)) else 0
    rw [hd_ln]
    exact if_congr Iff.rfl (congrArg (D x0 x1 x2 x3 x4 x5 1 (trR i k x) r * ·) (tr_q1 i x0 k x l)) rfl

theorem tr_9 (k : Fin (k0_t1_loop i).trips) (y : Vec Ideal S1x4096x256 .f32) : trip9 i x0 x1 x2 x3 x4 x5 k (C9 i x0 x1 x2 x3 x4 x5 y (512 * (i 1).val + 512 * k.val + 512)) = C9 i x0 x1 x2 x3 x4 x5 y (512 * (i 1).val + 512 * k.val + 512 + 512) := by
  funext z
  obtain ⟨Q, c, rfl⟩ : ∃ (Q : Fin 4096) (c : Fin 256), z = ix3 (0 : Fin 1) Q c :=
    ⟨z 1, z 2, (eq_ix3 z).trans (by congr 1; exact Fin.ext (by have := (z 0).isLt; show (z 0).val = 0; have h1 : (z 0).val < 1 := this; omega))⟩
  unfold trip9
  by_cases h1 : Q.val < 512 * (i 1).val + 512 * k.val + 512
  · rw [put_out _ _ _ _ _ 1 (Or.inl (by rw [k0_off15_eq]; exact h1)), put_out _ _ _ _ _ 1 (Or.inl (by rw [k0_off14_eq]; exact h1))]
    show (if Q.val < 512 * (i 1).val + 512 * k.val + 512 then _ else _) = if Q.val < 512 * (i 1).val + 512 * k.val + 512 + 512 then _ else _
    rw [if_pos h1, if_pos (by omega)]
  by_cases h2 : 512 * (i 1).val + 512 * k.val + 512 + 512 ≤ Q.val
  · rw [put_out _ _ _ _ _ 1 (Or.inr (by rw [k0_off15_eq]; exact h2)), put_out _ _ _ _ _ 1 (Or.inr (by rw [k0_off14_eq]; exact h2))]
    show (if Q.val < 512 * (i 1).val + 512 * k.val + 512 then _ else _) = if Q.val < 512 * (i 1).val + 512 * k.val + 512 + 512 then _ else _
    rw [if_neg h1, if_neg (by omega)]
  have hlow : ∀ c : Fin 256, C9 i x0 x1 x2 x3 x4 x5 y (512 * (i 1).val + 512 * k.val + 512) (ix3 (0 : Fin 1) Q c) = y (ix3 (0 : Fin 1) Q c) := fun c => if_neg h1
  have hhigh : ∀ c : Fin 256, C9 i x0 x1 x2 x3 x4 x5 y (512 * (i 1).val + 512 * k.val + 512 + 512) (ix3 (0 : Fin 1) Q c) = y (ix3 (0 : Fin 1) Q c) + Eq9 i x0 x1 x2 x3 x4 x5 Q c := fun c => if_pos (show Q.val < 512 * (i 1).val + 512 * k.val + 512 + 512 by omega)
  have hQ : trR i k (⟨Q.val - (512 * (i 1).val + 512 * k.val + 512), by omega⟩ : Fin 512) = Q := Fin.ext (by show 512 * (i 1).val + 512 * k.val + 512 + (Q.val - (512 * (i 1).val + 512 * k.val + 512)) = Q.val; omega)
  rcases ln_cases c with ⟨l, rfl⟩ | ⟨l, rfl⟩
  · refine ((put_out (s := S1x4096x256) _ (k0_off15 i k) S1x512x128.size _ (ix3 (0 : Fin 1) Q (ln 0 l)) 2 (Or.inl (by rw [k0_off15_eq]; show 128 * 0 + l.val < 128; omega))).trans (put_in (s := S1x4096x256) _ (k0_off14 i k) S1x512x128.size _ _ (ix3 (0 : Fin 1) (⟨Q.val - (512 * (i 1).val + 512 * k.val + 512), by omega⟩ : Fin 512) l) (by rw [k0_off14_eq]; intro a; fin_cases a; rfl; (show Q.val = 512 * (i 1).val + 512 * k.val + 512 + (Q.val - (512 * (i 1).val + 512 * k.val + 512)); omega); (show 128 * 0 + l.val = 0 + l.val; omega)))).trans ((fullDq0_at ..).trans ?_)
    refine Eq.trans (congrArg₂ (· + ·) (window_at _ _ _ _ (ix3 (0 : Fin 1) Q (ln 0 l)) (k0_off14_eq i k) (by intro a; fin_cases a; rfl; (show Q.val = 512 * (i 1).val + 512 * k.val + 512 + (Q.val - (512 * (i 1).val + 512 * k.val + 512)); omega); (show 128 * 0 + l.val = 0 + l.val; omega))) rfl) ?_
    rw [hlow (ln 0 l), hhigh (ln 0 l)]
    refine congrArg (y (ix3 (0 : Fin 1) Q (ln 0 l)) + ·) ?_
    unfold Eq9
    refine Finset.sum_congr rfl fun x _ => ?_
    rw [tr_D0 i x0 x1 x2 x3 x4 x5 k (⟨Q.val - (512 * (i 1).val + 512 * k.val + 512), by omega⟩ : Fin 512) x, ite_mul, zero_mul, hQ, hd_ln, key0]
  · refine ((put_in (s := S1x4096x256) _ (k0_off15 i k) S1x512x128.size _ _ (ix3 (0 : Fin 1) (⟨Q.val - (512 * (i 1).val + 512 * k.val + 512), by omega⟩ : Fin 512) l) (by rw [k0_off15_eq]; intro a; fin_cases a; rfl; (show Q.val = 512 * (i 1).val + 512 * k.val + 512 + (Q.val - (512 * (i 1).val + 512 * k.val + 512)); omega); rfl))).trans ((fullDq1_at ..).trans ?_)
    refine Eq.trans (congrArg₂ (· + ·) (window_at _ _ _ _ (ix3 (0 : Fin 1) Q (ln 1 l)) (k0_off15_eq i k) (by intro a; fin_cases a; rfl; (show Q.val = 512 * (i 1).val + 512 * k.val + 512 + (Q.val - (512 * (i 1).val + 512 * k.val + 512)); omega); rfl)) rfl) ?_
    rw [hlow (ln 1 l), hhigh (ln 1 l)]
    refine congrArg (y (ix3 (0 : Fin 1) Q (ln 1 l)) + ·) ?_
    unfold Eq9
    refine Finset.sum_congr rfl fun x _ => ?_
    rw [tr_D1 i x0 x1 x2 x3 x4 x5 k (⟨Q.val - (512 * (i 1).val + 512 * k.val + 512), by omega⟩ : Fin 512) x, ite_mul, zero_mul, hQ, hd_ln, key1]

/-- The number of trips of the loop. -/
theorem trips_eq : (k0_t1_loop i).trips = 7 - (i 1).val :=
  (by decide +kernel : ∀ i : grid0.Coords, (k0_t1_loop i).trips = 7 - (i 1).val) i

theorem trips_9 (y : Vec Ideal S1x4096x256 .f32) (n : ℕ) (h : n ≤ (k0_t1_loop i).trips) :
    trips9 i x0 x1 x2 x3 x4 x5 (C9 i x0 x1 x2 x3 x4 x5 y (512 * (i 1).val + 256 + 256)) n = C9 i x0 x1 x2 x3 x4 x5 y (512 * (i 1).val + 512 * n + 512) := by
  induction n with
  | zero => rfl
  | succ n ih => exact (trips9_succ i x0 x1 x2 x3 x4 x5 _ ⟨n, h⟩).trans ((congrArg _ (ih (by omega))).trans (tr_9 i x0 x1 x2 x3 x4 x5 ⟨n, h⟩ y))

theorem trips_10 (n : ℕ) (h : n ≤ (k0_t1_loop i).trips) :
    trips10 i x0 x1 x2 x3 x4 x5 (C10 i x0 x1 x2 x3 x4 x5 (512 * (i 1).val + 256 + 256)) n = C10 i x0 x1 x2 x3 x4 x5 (512 * (i 1).val + 512 * n + 512) := by
  induction n with
  | zero => rfl
  | succ n ih => exact (trips10_succ i x0 x1 x2 x3 x4 x5 _ ⟨n, h⟩).trans ((congrArg _ (ih (by omega))).trans (tr_10 i x0 x1 x2 x3 x4 x5 ⟨n, h⟩))

theorem trips_11 (n : ℕ) (h : n ≤ (k0_t1_loop i).trips) :
    trips11 i x0 x1 x4 x5 (C11 i x0 x1 x4 x5 (512 * (i 1).val + 256 + 256)) n = C11 i x0 x1 x4 x5 (512 * (i 1).val + 512 * n + 512) := by
  induction n with
  | zero => rfl
  | succ n ih => exact (trips11_succ i x0 x1 x4 x5 _ ⟨n, h⟩).trans ((congrArg _ (ih (by omega))).trans (tr_11 i x0 x1 x4 x5 ⟨n, h⟩))

theorem all_rows : 512 * (i 1).val + 512 * (k0_t1_loop i).trips + 512 = 4096 := by
  have := coord_lt i; rw [trips_eq]; omega

/-- Before the first row of keys nothing is added to a query. -/
theorem start_9 (y : Vec Ideal S1x4096x256 .f32) : C9 i x0 x1 x2 x3 x4 x5 y (512 * (i 1).val) = y := by
  funext z
  show (if (z 1).val < 512 * (i 1).val then _ else _) = _
  by_cases h : (z 1).val < 512 * (i 1).val
  · rw [if_pos h]
    have : Eq9 i x0 x1 x2 x3 x4 x5 (z 1) (z 2) = 0 := Finset.sum_eq_zero fun k _ => if_neg (by omega)
    rw [this, add_zero]
  · rw [if_neg h]

theorem start_10 : k0_pay42 (F := Ideal) = C10 i x0 x1 x2 x3 x4 x5 (512 * (i 1).val) := by
  funext y
  refine Eq.trans ?_ (sumTo_zero _ _ fun Q hQ => if_neg (by omega)).symm
  obtain ⟨r, c, rfl⟩ : ∃ (r : Fin 512) (c : Fin 256), y = ix2 r c := ⟨y 0, y 1, eq_ix2 y⟩
  pointwise [k0_pay42]

theorem start_11 : k0_pay43 (F := Ideal) = C11 i x0 x1 x4 x5 (512 * (i 1).val) := by
  funext y
  refine Eq.trans ?_ (sumTo_zero _ _ fun Q hQ => if_neg (by omega)).symm
  obtain ⟨r, c, rfl⟩ : ∃ (r : Fin 512) (c : Fin 128), y = ix2 r c := ⟨y 0, y 1, eq_ix2 y⟩
  pointwise [k0_pay43]

/-- What the queries' window is cleared to is zero. -/
theorem clear_9 (Q : Fin 4096) (c : Fin 256) : k0_pay41 (F := Ideal) (ix3 (0 : Fin 1) Q c) = (0 : EReal) := by
  pointwise [k0_pay41]

/-- What a point leaves of the gradient of the queries: the sum over the point's keys, over what was there. -/
theorem body9_closed (y : Vec Ideal S1x4096x256 .f32) (Q : Fin 4096) (c : Fin 256) :
    body9 i x0 x1 x2 x3 x4 x5 y (ix3 (0 : Fin 1) Q c) = y (ix3 (0 : Fin 1) Q c) + Eq9 i x0 x1 x2 x3 x4 x5 Q c := by
  have e : body9 i x0 x1 x2 x3 x4 x5 y = C9 i x0 x1 x2 x3 x4 x5 y 4096 := by
    unfold body9
    rw [← start_9 i x0 x1 x2 x3 x4 x5 y, up_9, lo_9, trips_9 _ _ _ _ _ _ _ _ _ le_rfl, all_rows, start_9]
  rw [e]
  exact if_pos Q.isLt

/-- What a point leaves of the gradient of the keys: the sum over the queries that see the key. -/
theorem body10_closed (r : Fin 512) (c : Fin 256) :
    body10 i x0 x1 x2 x3 x4 x5 (ix2 r c) = ∑ Q : Fin 4096, if 512 * (i 1).val + r.val ≤ Q.val
      then D x0 x1 x2 x3 x4 x5 (hd c) Q r * x0 (ix2 Q c) else 0 := by
  have e : body10 i x0 x1 x2 x3 x4 x5 = C10 i x0 x1 x2 x3 x4 x5 4096 := by
    unfold body10
    rw [start_10 i x0 x1 x2 x3 x4 x5, up_10, lo_10, trips_10 _ _ _ _ _ _ _ _ le_rfl, all_rows]
  rw [e]
  exact sumTo_all _

/-- What a point leaves of the gradient of the values: the sum over the queries that see the key. -/
theorem body11_closed (r : Fin 512) (l : Fin 128) :
    body11 i x0 x1 x4 x5 (ix2 r l) = ∑ Q : Fin 4096, if 512 * (i 1).val + r.val ≤ Q.val
      then W x0 x1 x5 (headOf l) Q r * x4 (ix2 Q l) else 0 := by
  have e : body11 i x0 x1 x4 x5 = C11 i x0 x1 x4 x5 4096 := by
    unfold body11
    rw [start_11 i x0 x1 x4 x5, up_11, lo_11, trips_11 _ _ _ _ _ _ le_rfl, all_rows]
  rw [e]
  exact sumTo_all _

end Point

end Cert.KernelIdeal.Attn
end
-- ==== Proof.Attn.Arrays.lean ====
module

public import proofs.«01_k».proof.Proof.Attn.Launch
public import proofs.«01_k».proof.Proof.Attn.Closed
public import Idealize.ShloMosaic.Lib.Pipeline.ValueKit

@[expose] public section

set_option maxRecDepth 16384

noncomputable section

/-!
  The three result arrays of the launch, as sums over the rows of the arrays that it is given.
-/

namespace Cert.KernelIdeal.Attn

open Cert.KernelIdeal Cert.KernelIdeal.Gen
open Idealize.ShloMosaic Idealize.ShloMosaic.TcCoe Idealize.ShloMosaic.Pointwise
open Idealize.ShloMosaic.Pipeline (Dat)

/-- A lane of head `H` among the 8 heads' blocks of 128 lanes. -/
def hl (H : Fin 8) (l : Fin 128) : Fin 1024 := ⟨128 * H.val + l.val, by omega⟩

/-- A lane of head `H` among the 8 heads' blocks of 64 lanes. -/
def hw (H : Fin 8) (d : Fin 64) : Fin 512 := ⟨64 * H.val + d.val, by omega⟩

/-- A lane of the pair of heads `p` among the 4 pairs' blocks of 128 lanes. -/
def pl (p : Fin 4) (l : Fin 128) : Fin 512 := ⟨128 * p.val + l.val, by omega⟩

/-- A head of a pair. -/
def ph (p : Fin 4) (h : Fin 2) : Fin 8 := ⟨2 * p.val + h.val, by omega⟩

/-- A lane of the pair of heads `p` among the 4 pairs' blocks of 256 lanes. -/
def pc (p : Fin 4) (c : Fin 256) : Fin 1024 := ⟨256 * p.val + c.val, by omega⟩

section Arr

variable (qa ka : Vec Ideal S4096x1024 .bf16) (v : Vec Ideal S4096x512 .bf16) (o d s : Vec Ideal S4096x512 .f32)

/-- The weight of query `Q` at key `K` of head `h` of pair `p`. -/
def WG (p : Fin 4) (h : Fin 2) (Q K : Fin 4096) : EReal :=
  wtF (fun l => qa (ix2 Q (pc p (ln h l)))) (fun l => ka (ix2 K (pc p (ln h l)))) (s (ix2 Q (pl p (ls h))))

/-- The score gradient of query `Q` at key `K` of head `h` of pair `p`. -/
def DG (p : Fin 4) (h : Fin 2) (Q K : Fin 4096) : EReal :=
  dsF h (fun l => qa (ix2 Q (pc p (ln h l)))) (fun l => ka (ix2 K (pc p (ln h l)))) (fun l => v (ix2 K (pl p l)))
    (fun l => o (ix2 Q (pl p l))) (fun l => d (ix2 Q (pl p l))) (s (ix2 Q (pl p (ls h))))

/-- The queries' gradient of pair `p`. -/
def dqG (p : Fin 4) (Q : Fin 4096) (c : Fin 256) : EReal :=
  ∑ K : Fin 4096, if K.val ≤ Q.val then DG qa ka v o d s p (hd c) Q K * ka (ix2 K (pc p c)) else 0

/-- The keys' gradient of pair `p`. -/
def dkG (K : Fin 4096) (p : Fin 4) (c : Fin 256) : EReal :=
  ∑ Q : Fin 4096, if K.val ≤ Q.val then DG qa ka v o d s p (hd c) Q K * qa (ix2 Q (pc p c)) else 0

/-- The values' gradient of pair `p`. -/
def dvG (K : Fin 4096) (p : Fin 4) (l : Fin 128) : EReal :=
  ∑ Q : Fin 4096, if K.val ≤ Q.val then WG qa ka s p (headOf l) Q K * d (ix2 Q (pl p l)) else 0

end Arr

/-- The pair of heads of a point. -/
def pt (t : Fin cfg0.N) : Fin 4 := ⟨t.val / 8, by have : t.val < 32 := Nat.lt_of_lt_of_eq t.isLt N_0; omega⟩

/-- The key of a row of a point's block. -/
def pk (t : Fin cfg0.N) (r : Fin 512) : Fin 4096 := ⟨512 * (t.val % 8) + r.val, by omega⟩

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![0, t.val / 8]
    ∧ win0_6.index t = ![t.val / 8, 0, 0] ∧ win0_7.index t = ![t.val % 8, t.val / 8] ∧ win0_8.index t = ![t.val % 8, t.val / 8] :=
  (by decide +kernel : ∀ t : Fin grid0.N, _)

theorem coord (t : Fin cfg0.N) : (grid0.coords t 1).val = t.val % 8 := by
  have e1 : (grid0.coords t 1).val = t.val / 1 % 8 := Pipeline.Grid.coords_val t 1 (by decide) rfl
  rw [e1, Nat.div_one]

variable (m : (ℓ : Loc nD τ sig) → Buf (Elt Ideal) ℓ) (c : Dev nD)

theorem emb_0 (t : Fin cfg0.N) (Q : Fin 4096) (l : Fin 256) : ((cfg0.win 0).blk t).view.emb (ix2 Q l) = ix2 Q (pc (pt t) l) := by
  blk_ext [idx t] <;> simp only [pc, pk, pt] <;> omega

theorem read_0 (t : Fin cfg0.N) (X : Vec Ideal S4096x1024 .bf16) (Q : Fin 4096) (l : Fin 256) :
    ((cfg0.win 0).blk t).view.read (Elt Ideal) X (ix2 Q l) = X (ix2 Q (pc (pt t) l)) := congrArg X (emb_0 t Q l)

theorem blk_0 (t : Fin cfg0.N) (Q : Fin 4096) (l : Fin 256) : iblk m c 0 t (ix2 Q l) = V m c main_v101 (ix2 Q (pc (pt t) l)) :=
  read_0 t (V m c main_v101) Q l

theorem emb_1 (t : Fin cfg0.N) (r : Fin 512) (l : Fin 256) : ((cfg0.win 1).blk t).view.emb (ix2 r l) = ix2 (pk t r) (pc (pt t) l) := by
  blk_ext [idx t] <;> simp only [pc, pk, pt] <;> omega

theorem read_1 (t : Fin cfg0.N) (X : Vec Ideal S4096x1024 .bf16) (r : Fin 512) (l : Fin 256) :
    ((cfg0.win 1).blk t).view.read (Elt Ideal) X (ix2 r l) = X (ix2 (pk t r) (pc (pt t) l)) := congrArg X (emb_1 t r l)

theorem blk_1 (t : Fin cfg0.N) (r : Fin 512) (l : Fin 256) : iblk m c 1 t (ix2 r l) = V m c main_v104 (ix2 (pk t r) (pc (pt t) l)) :=
  read_1 t (V m c main_v104) r l

theorem emb_2 (t : Fin cfg0.N) (r : Fin 512) (l : Fin 128) : ((cfg0.win 2).blk t).view.emb (ix2 r l) = ix2 (pk t r) (pl (pt t) l) := by
  blk_ext [idx t] <;> simp only [pl, pk, pt] <;> omega

theorem read_2 (t : Fin cfg0.N) (X : Vec Ideal S4096x512 .bf16) (r : Fin 512) (l : Fin 128) :
    ((cfg0.win 2).blk t).view.read (Elt Ideal) X (ix2 r l) = X (ix2 (pk t r) (pl (pt t) l)) := congrArg X (emb_2 t r l)

theorem blk_2 (t : Fin cfg0.N) (r : Fin 512) (l : Fin 128) : iblk m c 2 t (ix2 r l) = V m c main_v107 (ix2 (pk t r) (pl (pt t) l)) :=
  read_2 t (V m c main_v107) r l

theorem emb_3 (t : Fin cfg0.N) (Q : Fin 4096) (l : Fin 128) : ((cfg0.win 3).blk t).view.emb (ix2 Q l) = ix2 Q (pl (pt t) l) := by
  blk_ext [idx t] <;> simp only [pl, pk, pt] <;> omega

theorem read_3 (t : Fin cfg0.N) (X : Vec Ideal S4096x512 .f32) (Q : Fin 4096) (l : Fin 128) :
    ((cfg0.win 3).blk t).view.read (Elt Ideal) X (ix2 Q l) = X (ix2 Q (pl (pt t) l)) := congrArg X (emb_3 t Q l)

theorem blk_3 (t : Fin cfg0.N) (Q : Fin 4096) (l : Fin 128) : iblk m c 3 t (ix2 Q l) = V m c main_v32 (ix2 Q (pl (pt t) l)) :=
  read_3 t (V m c main_v32) Q l

theorem emb_4 (t : Fin cfg0.N) (Q : Fin 4096) (l : Fin 128) : ((cfg0.win 4).blk t).view.emb (ix2 Q l) = ix2 Q (pl (pt t) l) := by
  blk_ext [idx t] <;> simp only [pl, pk, pt] <;> omega

theorem read_4 (t : Fin cfg0.N) (X : Vec Ideal S4096x512 .f32) (Q : Fin 4096) (l : Fin 128) :
    ((cfg0.win 4).blk t).view.read (Elt Ideal) X (ix2 Q l) = X (ix2 Q (pl (pt t) l)) := congrArg X (emb_4 t Q l)

theorem blk_4 (t : Fin cfg0.N) (Q : Fin 4096) (l : Fin 128) : iblk m c 4 t (ix2 Q l) = V m c main_v108 (ix2 Q (pl (pt t) l)) :=
  read_4 t (V m c main_v108) Q l

theorem emb_5 (t : Fin cfg0.N) (Q : Fin 4096) (l : Fin 128) : ((cfg0.win 5).blk t).view.emb (ix2 Q l) = ix2 Q (pl (pt t) l) := by
  blk_ext [idx t] <;> simp only [pl, pk, pt] <;> omega

theorem read_5 (t : Fin cfg0.N) (X : Vec Ideal S4096x512 .f32) (Q : Fin 4096) (l : Fin 128) :
    ((cfg0.win 5).blk t).view.read (Elt Ideal) X (ix2 Q l) = X (ix2 Q (pl (pt t) l)) := congrArg X (emb_5 t Q l)

theorem blk_5 (t : Fin cfg0.N) (Q : Fin 4096) (l : Fin 128) : iblk m c 5 t (ix2 Q l) = V m c main_v39 (ix2 Q (pl (pt t) l)) :=
  read_5 t (V m c main_v39) Q l

theorem W_at (t : Fin cfg0.N) (h : Fin 2) (Q : Fin 4096) (k : Fin 512) :
    W (iblk m c 0 t) (iblk m c 1 t) (iblk m c 5 t) h Q k = WG (V m c main_v101) (V m c main_v104) (V m c main_v39) (pt t) h Q (pk t k) :=
  wtF_congr (fun l => blk_0 m c t Q _) (fun l => blk_1 m c t k _) (blk_5 m c t Q _)

theorem D_at (t : Fin cfg0.N) (h : Fin 2) (Q : Fin 4096) (k : Fin 512) :
    D (iblk m c 0 t) (iblk m c 1 t) (iblk m c 2 t) (iblk m c 3 t) (iblk m c 4 t) (iblk m c 5 t) h Q k = DG (V m c main_v101) (V m c main_v104) (V m c main_v107) (V m c main_v32) (V m c main_v108) (V m c main_v39) (pt t) h Q (pk t k) :=
  dsF_congr h (fun l => blk_0 m c t Q _) (fun l => blk_1 m c t k _) (fun l => blk_2 m c t k l) (fun l => blk_3 m c t Q l) (fun l => blk_4 m c t Q l) (blk_5 m c t Q _)

/-- What key `K` adds to a query's gradient. -/
def termQ (p : Fin 4) (Q : Fin 4096) (l : Fin 256) (K : Fin 4096) : EReal :=
  if K.val ≤ Q.val then DG (V m c main_v101) (V m c main_v104) (V m c main_v107) (V m c main_v32) (V m c main_v108) (V m c main_v39) p (hd l) Q K * V m c main_v104 (ix2 K (pc p l)) else 0

theorem point9_at (t : Fin cfg0.N) (y : Vec Ideal S1x4096x256 .f32) (Q : Fin 4096) (l : Fin 256) :
    point9 m c t y (ix3 (0 : Fin 1) Q l) = y (ix3 (0 : Fin 1) Q l) + ∑ k : Fin 512, termQ m c (pt t) Q l (pk t k) := by
  refine (body9_closed (grid0.coords t) (iblk m c 0 t) (iblk m c 1 t) (iblk m c 2 t) (iblk m c 3 t) (iblk m c 4 t) (iblk m c 5 t) y Q l).trans (congrArg (y (ix3 (0 : Fin 1) Q l) + ·) (Finset.sum_congr rfl fun k _ => ?_))
  exact if_congr (by rw [coord t]; rfl) (congrArg₂ (· * ·) (D_at m c t (hd l) Q k) (blk_1 m c t k l)) rfl

/-- The queries' gradient after a point: the sum over the keys so far. -/
theorem acc9_at : ∀ (n : ℕ) (h : n < cfg0.N) (Q : Fin 4096) (l : Fin 256),
    acc9 m c n h (ix3 (0 : Fin 1) Q l) = sumTo (termQ m c (pt ⟨n, h⟩) Q l) (512 * (n % 8) + 512) := by
  intro n
  induction n using Nat.strong_induction_on with
  | _ n ih =>
    intro h Q l
    refine Eq.trans ?_ (sumTo_add _ _ 512 (by omega)).symm
    by_cases h0 : n % 8 = 0
    · rw [show acc9 m c n h = _ from acc9_first m c ⟨n, h⟩ h0, point9_at, clear_9]
      refine congrArg₂ (· + ·) ?_ rfl
      rw [h0]
      exact (sumTo_zero _ _ fun Q hQ => absurd hQ (by omega)).symm
    · rw [show acc9 m c n h = _ from acc9_next m c ⟨n, h⟩ h0, point9_at]
      refine congrArg₂ (· + ·) ((ih (n - 1) (by omega) (by omega) Q l).trans ?_) rfl
      rw [show (pt ⟨n - 1, by omega⟩ : Fin 4) = pt ⟨n, h⟩ from Fin.ext (show (n - 1) / 8 = n / 8 by omega), show 512 * ((n - 1) % 8) + 512 = 512 * (n % 8) by omega]

/-- The queries' gradient as the array that holds it. -/
def dqA (z : S4x4096x256.Idx) : EReal := dqG (V m c main_v101) (V m c main_v104) (V m c main_v107) (V m c main_v32) (V m c main_v108) (V m c main_v39) (z 0) (z 1) (z 2)

/-- The keys' gradient as the array that holds it. -/
def dkA (z : S4096x1024.Idx) : EReal :=
  dkG (V m c main_v101) (V m c main_v104) (V m c main_v107) (V m c main_v32) (V m c main_v108) (V m c main_v39) (z 0) ⟨(z 1).val / 256, by have h : (z 1).val < 1024 := (z 1).isLt; omega⟩ ⟨(z 1).val % 256, by omega⟩

/-- The values' gradient as the array that holds it. -/
def dvA (z : S4096x512.Idx) : EReal :=
  dvG (V m c main_v101) (V m c main_v104) (V m c main_v108) (V m c main_v39) (z 0) ⟨(z 1).val / 128, by have h : (z 1).val < 512 := (z 1).isLt; omega⟩ ⟨(z 1).val % 128, by omega⟩

theorem dkA_at (z : S4096x1024.Idx) (K : Fin 4096) (p : Fin 4) (l : Fin 256) (h0 : z 0 = K) (h1 : (z 1).val = 256 * p.val + l.val) :
    dkA m c z = dkG (V m c main_v101) (V m c main_v104) (V m c main_v107) (V m c main_v32) (V m c main_v108) (V m c main_v39) K p l :=
  congr (congr (congrArg (dkG (V m c main_v101) (V m c main_v104) (V m c main_v107) (V m c main_v32) (V m c main_v108) (V m c main_v39)) h0) (Fin.ext (show (z 1).val / 256 = p.val by omega))) (Fin.ext (show (z 1).val % 256 = l.val by omega))

theorem dvA_at (z : S4096x512.Idx) (K : Fin 4096) (p : Fin 4) (l : Fin 128) (h0 : z 0 = K) (h1 : (z 1).val = 128 * p.val + l.val) :
    dvA m c z = dvG (V m c main_v101) (V m c main_v104) (V m c main_v108) (V m c main_v39) K p l :=
  congr (congr (congrArg (dvG (V m c main_v101) (V m c main_v104) (V m c main_v108) (V m c main_v39)) h0) (Fin.ext (show (z 1).val / 128 = p.val by omega))) (Fin.ext (show (z 1).val % 128 = l.val by omega))

/-- The queries' gradient after the launch. -/
theorem final_6 : (dats m 0 c).arrAt 6 (cfgs 0).N = dqA m c := by
  refine (dats m 0 c).arrAt_eq_of_covers 6 _ (by decide +kernel) fun t hf y => ?_
  blk_simp
  rw [after_6]
  have h7 : t.val % 8 = 7 := (flush0_6 t).mp hf
  obtain ⟨Q, l, rfl⟩ : ∃ (Q : Fin 4096) (l : Fin 256), y = ix3 (0 : Fin 1) Q l :=
    ⟨y 1, y 2, (eq_ix3 y).trans (by congr 1; exact Fin.ext (by have h1 : (y 0).val < 1 := (y 0).isLt; show (y 0).val = 0; omega))⟩
  refine (acc9_at m c t.val t.isLt Q l).trans ?_
  rw [h7, show 512 * 7 + 512 = 4096 from rfl, sumTo_all]
  have e0 : ((win0_6.blk t).view.emb (ix3 (0 : Fin 1) Q l)) 0 = pt t := Fin.ext (by blk_simp [idx t]; rfl)
  have e1 : ((win0_6.blk t).view.emb (ix3 (0 : Fin 1) Q l)) 1 = Q := Fin.ext (by blk_simp [idx t])
  have e2 : ((win0_6.blk t).view.emb (ix3 (0 : Fin 1) Q l)) 2 = l := Fin.ext (by blk_simp [idx t])
  exact (congr (congr (congrArg (dqG (V m c main_v101) (V m c main_v104) (V m c main_v107) (V m c main_v32) (V m c main_v108) (V m c main_v39)) e0) e1) e2).symm

/-- The keys' gradient after the launch. -/
theorem final_7 : (dats m 0 c).arrAt 7 (cfgs 0).N = dkA m c := by
  refine (dats m 0 c).arrAt_eq_of_covers 7 _ (by decide +kernel) fun t hf y => ?_
  blk_simp
  rw [after_7]
  obtain ⟨r, l, rfl⟩ : ∃ (r : Fin 512) (l : Fin 256), y = ix2 r l := ⟨y 0, y 1, eq_ix2 y⟩
  refine (body10_closed (grid0.coords t) (iblk m c 0 t) (iblk m c 1 t) (iblk m c 2 t) (iblk m c 3 t) (iblk m c 4 t) (iblk m c 5 t) r l).trans ?_
  refine Eq.trans ?_ (dkA_at m c _ (pk t r) (pt t) l ?_ ?_).symm
  · exact Finset.sum_congr rfl fun Q _ => if_congr (by rw [coord t]; rfl) (congrArg₂ (· * ·) (D_at m c t (hd l) Q r) (blk_0 m c t Q l)) rfl
  · exact Fin.ext (by blk_simp [idx t]; show t.val % 8 * 512 + r.val = 512 * (t.val % 8) + r.val; omega)
  · blk_simp [idx t]; show t.val / 8 * 256 + l.val = 256 * (t.val / 8) + l.val; omega

/-- The values' gradient after the launch. -/
theorem final_8 : (dats m 0 c).arrAt 8 (cfgs 0).N = dvA m c := by
  refine (dats m 0 c).arrAt_eq_of_covers 8 _ (by decide +kernel) fun t hf y => ?_
  blk_simp
  rw [after_8]
  obtain ⟨r, l, rfl⟩ : ∃ (r : Fin 512) (l : Fin 128), y = ix2 r l := ⟨y 0, y 1, eq_ix2 y⟩
  refine (body11_closed (grid0.coords t) (iblk m c 0 t) (iblk m c 1 t) (iblk m c 4 t) (iblk m c 5 t) r l).trans ?_
  refine Eq.trans ?_ (dvA_at m c _ (pk t r) (pt t) l ?_ ?_).symm
  · exact Finset.sum_congr rfl fun Q _ => if_congr (by rw [coord t]; rfl) (congrArg₂ (· * ·) (W_at m c t (headOf l) Q r) (blk_4 m c t Q l)) rfl
  · exact Fin.ext (by blk_simp [idx t]; show t.val % 8 * 512 + r.val = 512 * (t.val % 8) + r.val; omega)
  · blk_simp [idx t]; show t.val / 8 * 128 + l.val = 128 * (t.val / 8) + l.val; omega

end Cert.KernelIdeal.Attn
end
-- ==== Proof.Attn.Reals.lean ====
module

public import Idealize.ShloMosaic.Lib.Pipeline.ValueKit
public import Idealize.ShloMosaic.PureOps.Ideal.Laws
public import Idealize.ShloMosaic.Lib.WordCmp

@[expose] public section

set_option maxRecDepth 16384

noncomputable section

/-!
  The attention of the step and its gradients over the real numbers.
-/

namespace Cert.Attn

open Idealize.ShloMosaic

/-- A sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional sum of real numbers, read among the extended reals. -/
theorem coe_sum_ite {ι : Type} [Fintype ι] (p : ι → Prop) [DecidablePred p] (f : ι → ℝ) :
    (∑ i, if p i then (f i : EReal) else 0) = ((∑ i, if p i then f i else 0 : ℝ) : EReal) := by
  rw [coe_sum]; exact Finset.sum_congr rfl fun i _ => by split_ifs <;> simp

/-- The word of `1/8` is the real number `1/8`. -/
theorem ofBits_eighth : (FloatOps.ofBits (F := Ideal) .f32 0x3E000000#32 : EReal) = ((1 / 8 : ℝ) : EReal) := by
  show Ideal.ofBits .f32 0x3E000000#32 = _
  simp [Ideal.ofBits, Ideal.ieee, -EReal.coe_mul]; norm_num

/-- The word of `1` is the real number `1`. -/
theorem ofBits_one : (FloatOps.ofBits (F := Ideal) .f32 0x3F800000#32 : EReal) = ((1 : ℝ) : EReal) := by
  show Ideal.ofBits .f32 0x3F800000#32 = _
  simp [Ideal.ofBits, Ideal.ieee, -EReal.coe_mul]; norm_num

/-- The word of `-∞`. -/
theorem ofBits_bot : (FloatOps.ofBits (F := Ideal) .f32 0xFF800000#32 : EReal) = ⊥ := by
  show Ideal.ofBits .f32 0xFF800000#32 = _
  simp [Ideal.ofBits, Ideal.ieee]

/-- The word of `∞`. -/
theorem ofBits_top : (FloatOps.ofBits (F := Ideal) .f32 0x7F800000#32 : EReal) = ⊤ := by
  show Ideal.ofBits .f32 0x7F800000#32 = _
  simp [Ideal.ofBits, Ideal.ieee]

/-- The word of `0` is the real number `0`. -/
theorem ofBits_zero : (FloatOps.ofBits (F := Ideal) .f32 0x00000000#32 : EReal) = ((0 : ℝ) : EReal) := by
  show Ideal.ofBits .f32 0x00000000#32 = _
  simp [Ideal.ofBits, Ideal.ieee]

/-- The causal choice: the comparison of a key's row with a query's row decides. -/
theorem causal {α : Type} (K Q : Fin 4096) (a b : α) :
    Scalar.select (IntOp.cmpi .sle (BitVec.ofNat 32 K.val) (BitVec.ofNat 32 Q.val)) a b = if K.val ≤ Q.val then a else b := by
  rw [WordCmp.cmpi_sle_ofNat (by omega) (by omega)]
  by_cases h : K.val ≤ Q.val <;> simp [h, Scalar.select]

/-- The choice of one of the further lanes of a head: the lane's number less the head's decides. -/
theorem sel {α : Type} (H : Fin 8) (e : Fin 64) (n : ℕ) (hn : n ≤ 40) (a b : α) :
    Scalar.select (IntOp.cmpi .eq (IntOp.subi (BitVec.ofNat 32 e.val) (BitVec.ofNat 32 H.val)) (BitVec.ofNat 32 n)) a b
      = if e.val = H.val + n then a else b := by
  have h : IntOp.cmpi .eq (IntOp.subi (BitVec.ofNat 32 e.val) (BitVec.ofNat 32 H.val)) (BitVec.ofNat 32 n) = BitVec.ofBool (decide (e.val = H.val + n)) := by
    show BitVec.ofBool (BitVec.ofNat 32 e.val - BitVec.ofNat 32 H.val == BitVec.ofNat 32 n) = _
    refine congrArg BitVec.ofBool (Bool.eq_iff_iff.2 ?_)
    rw [beq_iff_eq, decide_eq_true_iff, BitVec.toNat_eq, BitVec.toNat_sub, BitVec.toNat_ofNat, BitVec.toNat_ofNat, BitVec.toNat_ofNat]
    omega
  rw [h]
  by_cases h' : e.val = H.val + n <;> simp [h', Scalar.select]

/-- The greatest of a list's values, folded from `-∞`, is not `∞` where none of them is. -/
theorem foldl_max_ne_top {ι : Type} (g : ι → EReal) (hg : ∀ n, g n ≠ ⊤) (l : List ι) (r : EReal) (hr : r ≠ ⊤) :
    l.foldl (fun r n => max r (g n)) r ≠ ⊤ := by
  induction l generalizing r with
  | nil => exact hr
  | cons n l ih =>
    refine ih _ ?_
    show max r (g n) ≠ ⊤
    rcases max_choice r (g n) with h | h
    · rw [h]; exact hr
    · rw [h]; exact hg n

/-- The fold is at least its start. -/
theorem le_foldl_max {ι : Type} (g : ι → EReal) (l : List ι) (r : EReal) :
    r ≤ l.foldl (fun r n => max r (g n)) r := by
  induction l generalizing r with
  | nil => exact le_refl _
  | cons n l ih => exact (le_max_left _ _).trans (ih _)

/-- The fold is at least every value of the list. -/
theorem mem_le_foldl_max {ι : Type} (g : ι → EReal) (l : List ι) (r : EReal) (n : ι) (hn : n ∈ l) :
    g n ≤ l.foldl (fun r n => max r (g n)) r := by
  induction l generalizing r with
  | nil => exact absurd hn List.not_mem_nil
  | cons a l ih =>
    rcases List.mem_cons.1 hn with h | h
    · subst h; exact (le_max_right _ _).trans (le_foldl_max g l _)
    · exact ih _ h

/-- Real numbers by row, head and lane, as an array. -/
def lift3 (x : Fin 4096 → Fin 8 → Fin 64 → ℝ) : (⟨3, ![4096, 8, 64]⟩ : Shape).Idx → EReal := fun i => ((x (i 0) (i 1) (i 2) : ℝ) : EReal)

/-- Real numbers by row and head, as an array. -/
def lift2 (x : Fin 4096 → Fin 8 → ℝ) : (⟨2, ![4096, 8]⟩ : Shape).Idx → EReal := fun i => ((x (i 0) (i 1) : ℝ) : EReal)

/-- The difference of two reals among the extended reals, where the first may be replaced by `-∞`. -/
theorem sub_bot_ite (p : Prop) [Decidable p] (a b : ℝ) :
    (if p then (a : EReal) else ⊥) - (b : EReal) = if p then ((a - b : ℝ) : EReal) else ⊥ := by
  split_ifs
  · exact (EReal.coe_sub a b).symm
  · exact EReal.bot_sub _

/-- The exponential, zero where the score is `-∞`. -/
theorem exp_ite (p : Prop) [Decidable p] (a : ℝ) :
    Ideal.exp (if p then (a : EReal) else ⊥) = ((if p then Real.exp a else 0 : ℝ) : EReal) := by
  split_ifs <;> rfl

/-- The quotient of real numbers. -/
theorem div_real (a b : ℝ) (h : b ≠ 0) : Ideal.div (a : EReal) (b : EReal) = ((a / b : ℝ) : EReal) := by
  rw [Ideal.div_coe h, ← EReal.coe_mul, mul_one_div]

section
variable (q k v d : Fin 4096 → Fin 8 → Fin 64 → ℝ) (c : Fin 4096 → Fin 8 → ℝ) (M : Fin 8 → Fin 4096 → ℝ)

/-- The score of a query's row against a key's row: the scaled product, and the difference of the cumulative gates. -/
def sc (H : Fin 8) (Q K : Fin 4096) : ℝ := (∑ e, q Q H e * k K H e) * (1 / 8) + c Q H - c K H

/-- The unnormalised weight, zero on later keys. -/
def ex (H : Fin 8) (Q K : Fin 4096) : ℝ := if K.val ≤ Q.val then Real.exp (sc q k c H Q K - M H Q) else 0

/-- The sum of a query's weights. -/
def tot (H : Fin 8) (Q : Fin 4096) : ℝ := ∑ K, ex q k c M H Q K

/-- The weight. -/
def pr (H : Fin 8) (Q K : Fin 4096) : ℝ := ex q k c M H Q K / tot q k c M H Q

/-- The gradient of a weight. -/
def dp (H : Fin 8) (Q K : Fin 4096) : ℝ := ∑ e, d Q H e * v K H e

/-- The weighted sum of the gradients of a query's weights. -/
def dlt (H : Fin 8) (Q : Fin 4096) : ℝ := ∑ K, pr q k c M H Q K * dp v d H Q K

/-- The gradient of a score. -/
def ds (H : Fin 8) (Q K : Fin 4096) : ℝ := pr q k c M H Q K * (dp v d H Q K - dlt q k v d c M H Q)

theorem ex_nonneg (H : Fin 8) (Q K : Fin 4096) : 0 ≤ ex q k c M H Q K := by
  unfold ex; split_ifs
  · exact (Real.exp_pos _).le
  · exact le_refl _

theorem tot_pos (H : Fin 8) (Q : Fin 4096) : 0 < tot q k c M H Q := by
  refine Finset.sum_pos' (fun K _ => ex_nonneg q k c M H Q K) ⟨Q, Finset.mem_univ _, ?_⟩
  unfold ex; rw [if_pos (le_refl _)]; exact Real.exp_pos _

theorem tot_ne (H : Fin 8) (Q : Fin 4096) : tot q k c M H Q ≠ 0 := (tot_pos q k c M H Q).ne'

theorem ex_late (H : Fin 8) (Q K : Fin 4096) (h : ¬K.val ≤ Q.val) : ex q k c M H Q K = 0 := if_neg h

theorem pr_late (H : Fin 8) (Q K : Fin 4096) (h : ¬K.val ≤ Q.val) : pr q k c M H Q K = 0 := by
  unfold pr; rw [ex_late q k c M H Q K h, zero_div]

theorem ds_late (H : Fin 8) (Q K : Fin 4096) (h : ¬K.val ≤ Q.val) : ds q k v d c M H Q K = 0 := by
  unfold ds; rw [pr_late q k c M H Q K h, zero_mul]

/-- The weight as one exponential, with the logarithm of the sum taken off. -/
theorem pr_exp (H : Fin 8) (Q K : Fin 4096) (h : K.val ≤ Q.val) :
    Real.exp (sc q k c H Q K - (M H Q + Real.log (tot q k c M H Q))) = pr q k c M H Q K := by
  unfold pr ex
  rw [if_pos h, sub_add_eq_sub_sub, Real.exp_sub, Real.exp_log (tot_pos q k c M H Q)]

/-- The gradient of a score as the derivative of a quotient gives it. -/
theorem ds_quot (H : Fin 8) (Q K : Fin 4096) :
    (if K.val ≤ Q.val then (dp v d H Q K * (1 / tot q k c M H Q)
      + -(∑ J, dp v d H Q J * (1 / (tot q k c M H Q * tot q k c M H Q)) * ex q k c M H Q J)) * ex q k c M H Q K else 0)
      = ds q k v d c M H Q K := by
  split_ifs with h
  · have hs : (∑ J, dp v d H Q J * (1 / (tot q k c M H Q * tot q k c M H Q)) * ex q k c M H Q J)
        = dlt q k v d c M H Q * (1 / tot q k c M H Q) := by
      unfold dlt pr
      rw [Finset.sum_mul]
      refine Finset.sum_congr rfl fun J _ => ?_
      have := tot_ne q k c M H Q
      field_simp
    rw [hs]; unfold ds pr
    have := tot_ne q k c M H Q
    field_simp
    ring
  · exact (ds_late q k v d c M H Q K h).symm

end

end Cert.Attn
-- ==== Proof.Attn.Sums.lean ====
module

public import proofs.«01_k».proof.Proof.Attn.Arrays
public import proofs.«01_k».proof.Proof.Attn.Reals

@[expose] public section

set_option maxRecDepth 16384

noncomputable section

/-!
  The sums that the launch computes, over the real numbers, where the arrays that it is given hold the augmented rows.
-/

namespace Cert.KernelIdeal.Attn

open Cert.KernelIdeal Cert.KernelIdeal.Gen Cert.Attn
open Idealize.ShloMosaic Idealize.ShloMosaic.TcCoe Idealize.ShloMosaic.Pointwise

section
variable (q k v d : Fin 4096 → Fin 8 → Fin 64 → ℝ) (c : Fin 4096 → Fin 8 → ℝ)

/-- A lane of a head's half of the pair's 128 lanes. -/
def lane (l : Fin 128) : Fin 64 := ⟨l.val % 64, by omega⟩

/-- The further 64 lanes of a query's row. -/
def augq (Q : Fin 4096) (H : Fin 8) (e : Fin 64) : ℝ :=
  if e.val = H.val + 0 then c Q H else if e.val = H.val + 8 then 0 else if e.val = H.val + 16 then 0
    else if e.val = H.val + 24 then 1 else if e.val = H.val + 32 then 1 else if e.val = H.val + 40 then 1 else 0

/-- The further 64 lanes of a key's row. -/
def augk (K : Fin 4096) (H : Fin 8) (e : Fin 64) : ℝ :=
  if e.val = H.val + 0 then 1 else if e.val = H.val + 8 then 1 else if e.val = H.val + 16 then 1
    else if e.val = H.val + 24 then -c K H else if e.val = H.val + 32 then 0 else if e.val = H.val + 40 then 0 else 0

/-- A query's augmented row. -/
def qaR (Q : Fin 4096) (H : Fin 8) (l : Fin 128) : ℝ := if l.val < 64 then q Q H (lane l) * (1 / 8) else augq c Q H (lane l)

/-- A key's augmented row. -/
def kaR (K : Fin 4096) (H : Fin 8) (l : Fin 128) : ℝ := if l.val < 64 then k K H (lane l) else augk c K H (lane l)

/-- The attention's result. -/
def att (M : Fin 8 → Fin 4096 → ℝ) (Q : Fin 4096) (H : Fin 8) (e : Fin 64) : ℝ := ∑ K, v K H e * pr q k c M H Q K

/-- A sum over 128 lanes by its two halves. -/
theorem sum_halves {A : Type} [AddCommMonoid A] (f : Fin 128 → A) :
    ∑ l, f l = (∑ e : Fin 64, f ⟨e.val, by omega⟩) + ∑ e : Fin 64, f ⟨64 + e.val, by omega⟩ :=
  Fin.sum_univ_add (a := 64) (b := 64) f

/-- A sum over the lanes of one head. -/
theorem sum_head {A : Type} [AddCommMonoid A] (h : Fin 2) (f : Fin 128 → A) :
    (∑ l, if headOf l = h then f l else 0) = ∑ e : Fin 64, f ⟨64 * h.val + e.val, by omega⟩ := by
  rw [sum_halves]
  have h0 : ∀ e : Fin 64, headOf ⟨e.val, by omega⟩ = 0 := fun e => if_pos e.isLt
  have h1 : ∀ e : Fin 64, headOf ⟨64 + e.val, by omega⟩ = 1 := fun e => if_neg (by show ¬(64 + e.val < 64); omega)
  simp only [h0, h1]
  obtain rfl | rfl : h = 0 ∨ h = 1 := by omega
  · rw [Finset.sum_congr rfl fun (e : Fin 64) _ => if_neg (show ¬((1 : Fin 2) = 0) by decide), Finset.sum_const_zero, add_zero]
    refine Finset.sum_congr rfl fun e _ => (if_pos rfl).trans (congrArg f (Fin.ext ?_))
    show e.val = 64 * 0 + e.val; omega
  · rw [Finset.sum_congr rfl fun (e : Fin 64) _ => if_neg (show ¬((0 : Fin 2) = 1) by decide), Finset.sum_const_zero, zero_add]
    exact Finset.sum_congr rfl fun e _ => if_pos rfl

/-- The further lanes of a query's and a key's row add the difference of the cumulative gates. -/
theorem aug_dot (H : Fin 8) (Q K : Fin 4096) : (∑ e : Fin 64, augq c Q H e * augk c K H e) = c Q H - c K H := by
  have h : ∀ e : Fin 64, augq c Q H e * augk c K H e
      = (if e = ⟨H.val, by omega⟩ then c Q H else 0) + (if e = ⟨H.val + 24, by omega⟩ then -c K H else 0) := fun e => by
    have e1 : (e = (⟨H.val, by omega⟩ : Fin 64)) ↔ e.val = H.val + 0 := by rw [Fin.ext_iff, Nat.add_zero]
    have e2 : (e = (⟨H.val + 24, by omega⟩ : Fin 64)) ↔ e.val = H.val + 24 := by rw [Fin.ext_iff]
    simp only [e1, e2]
    unfold augq augk
    split_ifs <;> first | omega | simp
  rw [Finset.sum_congr rfl fun e _ => h e, Finset.sum_add_distrib, Finset.sum_ite_eq', Finset.sum_ite_eq', if_pos (Finset.mem_univ _),
    if_pos (Finset.mem_univ _), sub_eq_add_neg]

/-- The product of the augmented rows is the score. -/
theorem row_dot (H : Fin 8) (Q K : Fin 4096) : (∑ l, qaR q c Q H l * kaR k c K H l) = sc q k c H Q K := by
  rw [sum_halves]
  have h0 : ∀ e : Fin 64, qaR q c Q H ⟨e.val, by omega⟩ * kaR k c K H ⟨e.val, by omega⟩ = q Q H e * k K H e * (1 / 8) := fun e => by
    have hl : lane ⟨e.val, by omega⟩ = e := Fin.ext (show e.val % 64 = e.val by omega)
    unfold qaR kaR
    rw [if_pos (show e.val < 64 from e.isLt), if_pos (show e.val < 64 from e.isLt), hl]; ring
  have h1 : ∀ e : Fin 64, qaR q c Q H ⟨64 + e.val, by omega⟩ * kaR k c K H ⟨64 + e.val, by omega⟩ = augq c Q H e * augk c K H e := fun e => by
    have hl : lane ⟨64 + e.val, by omega⟩ = e := Fin.ext (show (64 + e.val) % 64 = e.val by omega)
    unfold qaR kaR
    rw [if_neg (show ¬(64 + e.val < 64) by omega), if_neg (show ¬(64 + e.val < 64) by omega), hl]
  rw [Finset.sum_congr rfl fun e _ => h0 e, Finset.sum_congr rfl fun e _ => h1 e, aug_dot, ← Finset.sum_mul]
  unfold sc; ring

/-- The product of the result with its gradient is the weighted sum of the gradients of the weights. -/
theorem att_dot (M : Fin 8 → Fin 4096 → ℝ) (H : Fin 8) (Q : Fin 4096) :
    (∑ e, d Q H e * att q k v c M Q H e) = dlt q k v d c M H Q := by
  unfold att dlt dp
  simp only [Finset.mul_sum]
  rw [Finset.sum_comm]
  exact Finset.sum_congr rfl fun K _ => Finset.sum_congr rfl fun e _ => by ring

section
variable (M : Fin 8 → Fin 4096 → ℝ) (qa ka : Vec Ideal S4096x1024 .bf16) (va : Vec Ideal S4096x512 .bf16) (oa da sa : Vec Ideal S4096x512 .f32)
  (hqa : ∀ Q p h l, qa (ix2 Q (pc p (ln h l))) = ((qaR q c Q (ph p h) l : ℝ) : EReal))
  (hka : ∀ K p h l, ka (ix2 K (pc p (ln h l))) = ((kaR k c K (ph p h) l : ℝ) : EReal))
  (hva : ∀ K p l, va (ix2 K (pl p l)) = ((v K (ph p (headOf l)) (lane l) : ℝ) : EReal))
  (hoa : ∀ Q p l, oa (ix2 Q (pl p l)) = ((att q k v c M Q (ph p (headOf l)) (lane l) : ℝ) : EReal))
  (hda : ∀ Q p l, da (ix2 Q (pl p l)) = ((d Q (ph p (headOf l)) (lane l) : ℝ) : EReal))
  (hsa : ∀ Q p h, sa (ix2 Q (pl p (ls h))) = ((M (ph p h) Q + Real.log (tot q k c M (ph p h) Q) : ℝ) : EReal))

include hqa hka hsa in
theorem WG_real (p : Fin 4) (h : Fin 2) (Q K : Fin 4096) (hK : K.val ≤ Q.val) :
    WG qa ka sa p h Q K = ((pr q k c M (ph p h) Q K : ℝ) : EReal) := by
  unfold WG wtF
  simp only [hqa, hka, hsa, ← EReal.coe_mul]
  rw [← coe_sum, row_dot, ← EReal.coe_sub, Ideal.exp_coe, pr_exp q k c M _ Q K hK]

/-- The product over the lanes of one head. -/
theorem dotH_real (p : Fin 4) (h : Fin 2) (x y : Fin 8 → Fin 64 → ℝ) :
    dotH h (fun l => ((x (ph p (headOf l)) (lane l) : ℝ) : EReal)) (fun l => ((y (ph p (headOf l)) (lane l) : ℝ) : EReal))
      = ((∑ e, x (ph p h) e * y (ph p h) e : ℝ) : EReal) := by
  unfold dotH
  rw [coe_sum, sum_head h]
  refine Finset.sum_congr rfl fun e _ => ?_
  have h1 : headOf ⟨64 * h.val + e.val, by omega⟩ = h := by
    match h with
    | ⟨0, _⟩ => exact if_pos (show 64 * 0 + e.val < 64 by omega)
    | ⟨1, _⟩ => exact if_neg (show ¬(64 * 1 + e.val < 64) by omega)
  have h2 : lane ⟨64 * h.val + e.val, by omega⟩ = e := Fin.ext (show (64 * h.val + e.val) % 64 = e.val by omega)
  beta_reduce
  rw [h1, h2, EReal.coe_mul]

include hqa hka hva hoa hda hsa in
theorem DG_real (p : Fin 4) (h : Fin 2) (Q K : Fin 4096) (hK : K.val ≤ Q.val) :
    DG qa ka va oa da sa p h Q K = ((ds q k v d c M (ph p h) Q K : ℝ) : EReal) := by
  have hw := WG_real q k c M qa ka sa hqa hka hsa p h Q K hK
  unfold WG at hw
  unfold DG dsF
  rw [hw]
  simp only [hva, hoa, hda]
  have e1 := dotH_real p h (fun H e => d Q H e) (fun H e => v K H e)
  have e2 := dotH_real p h (fun H e => d Q H e) (fun H e => att q k v c M Q H e)
  rw [e1, e2, att_dot, ← EReal.coe_sub, ← EReal.coe_mul]
  rfl

include hqa hka hva hoa hda hsa in
/-- The queries' gradient. -/
theorem dqG_real (p : Fin 4) (h : Fin 2) (Q : Fin 4096) (l : Fin 128) :
    dqG qa ka va oa da sa p Q (ln h l) = ((∑ K, ds q k v d c M (ph p h) Q K * kaR k c K (ph p h) l : ℝ) : EReal) := by
  unfold dqG
  rw [coe_sum, hd_ln]
  refine Finset.sum_congr rfl fun K _ => ?_
  split_ifs with hK
  · rw [DG_real q k v d c M qa ka va oa da sa hqa hka hva hoa hda hsa p h Q K hK, hka, EReal.coe_mul]
  · rw [ds_late q k v d c M _ Q K hK, zero_mul, EReal.coe_zero]

include hqa hka hva hoa hda hsa in
/-- The keys' gradient. -/
theorem dkG_real (p : Fin 4) (h : Fin 2) (K : Fin 4096) (l : Fin 128) :
    dkG qa ka va oa da sa K p (ln h l) = ((∑ Q, ds q k v d c M (ph p h) Q K * qaR q c Q (ph p h) l : ℝ) : EReal) := by
  unfold dkG
  rw [coe_sum, hd_ln]
  refine Finset.sum_congr rfl fun Q _ => ?_
  split_ifs with hK
  · rw [DG_real q k v d c M qa ka va oa da sa hqa hka hva hoa hda hsa p h Q K hK, hqa, EReal.coe_mul]
  · rw [ds_late q k v d c M _ Q K hK, zero_mul, EReal.coe_zero]

include hqa hka hda hsa in
/-- The values' gradient. -/
theorem dvG_real (p : Fin 4) (K : Fin 4096) (l : Fin 128) :
    dvG qa ka da sa K p l = ((∑ Q, d Q (ph p (headOf l)) (lane l) * pr q k c M (ph p (headOf l)) Q K : ℝ) : EReal) := by
  unfold dvG
  rw [coe_sum]
  refine Finset.sum_congr rfl fun Q _ => ?_
  split_ifs with hK
  · rw [WG_real q k c M qa ka sa hqa hka hsa p (headOf l) Q K hK, hda, ← EReal.coe_mul, mul_comm]
  · rw [pr_late q k c M _ Q K hK, mul_zero, EReal.coe_zero]

end

end

end Cert.KernelIdeal.Attn
-- ==== Proof.Attn.Given.lean ====
module

public import proofs.«01_k».proof.Proof.Attn.PreRead
public import proofs.«01_k».proof.Proof.Attn.Sums

@[expose] public section

set_option maxRecDepth 16384

noncomputable section

/-!
  What the launch is given, at real arguments, over the real numbers.
-/

namespace Cert.KernelIdeal.Pre

open Cert.KernelIdeal Cert.KernelIdeal.Gen Cert.KernelIdeal.Attn Cert.Attn
open Idealize.ShloMosaic Idealize.ShloMosaic.TcCoe Idealize.ShloMosaic.Pointwise
open Cert.KernelIdeal.Facts

section
variable (q k v d : Fin 4096 → Fin 8 → Fin 64 → ℝ) (c : Fin 4096 → Fin 8 → ℝ)

/-- The scores: on later keys `-∞`. -/
theorem r17 (H : Fin 8) (Q K : Fin 4096) :
    val_main_v17 (F := Ideal) (lift3 q) (lift3 k) (lift2 c) (ix3 H Q K) = if K.val ≤ Q.val then ((sc q k c H Q K : ℝ) : EReal) else ⊥ := by
  rw [val_main_v17_apply, val_main_call0_v1_apply, val_main_v16_apply, val_main_v14_apply, val_main_v12_apply, val_main_v11_apply,
    val_main_v15_apply, val_main_v13_apply, val_main_v11_apply, val_main_v10_apply, val_main_v6_apply, val_main_v2_apply, val_main_v0_apply,
    val_main_v1_apply, val_main_cst_apply, val_main_v5_apply, val_main_v4_apply, val_main_v3_apply, val_main_v9_apply, val_main_v8_apply,
    val_main_v7_apply, val_main_call0_v2_apply, val_main_call0_v0_apply, val_main_cst_0_apply, ofBits_eighth, ofBits_bot]
  refine (causal K Q _ _).trans ?_
  refine congrArg (fun z : EReal => if K.val ≤ Q.val then z else ⊥) ?_
  show ((∑ e : Fin 64, ((q Q H e : ℝ) : EReal) * ((k K H e : ℝ) : EReal)) * ((1 / 8 : ℝ) : EReal) + ((c Q H : ℝ) : EReal)) - ((c K H : ℝ) : EReal) = _
  unfold sc
  rw [EReal.coe_sub, EReal.coe_add, EReal.coe_mul, coe_sum]
  rfl

/-- The greatest score of a row is a real number. -/
theorem r18_real (H : Fin 8) (Q : Fin 4096) :
    val_main_v18 (F := Ideal) (lift3 q) (lift3 k) (lift2 c) (ix2 H Q) ≠ ⊤ ∧ val_main_v18 (F := Ideal) (lift3 q) (lift3 k) (lift2 c) (ix2 H Q) ≠ ⊥ := by
  have hv : ∀ i, val_main_v17 (F := Ideal) (lift3 q) (lift3 k) (lift2 c) i ≠ ⊤ := fun i => by
    have h : val_main_v17 (F := Ideal) (lift3 q) (lift3 k) (lift2 c) i = _ := (congrArg _ (eq_ix3 i)).trans (r17 q k c (i 0) (i 1) (i 2))
    rw [h]; split_ifs
    · exact EReal.coe_ne_top _
    · exact bot_ne_top
  unfold val_main_v18 Host.reduce
  constructor
  · refine foldl_max_ne_top (fun n => val_main_v17 (F := Ideal) (lift3 q) (lift3 k) (lift2 c) (S8x4096x4096.rowMajor.symm n)) (fun n => hv _) _ _ ?_
    rw [val_main_cst_1_apply, ofBits_bot]; exact bot_ne_top
  · have hm := mem_le_foldl_max (fun n => val_main_v17 (F := Ideal) (lift3 q) (lift3 k) (lift2 c) (S8x4096x4096.rowMajor.symm n))
      ((List.finRange S8x4096x4096.numel).filter fun n => reducesTo_S8x4096x4096_S8x4096_d2.drop (S8x4096x4096.rowMajor.symm n) = ix2 H Q)
      (val_main_cst_1 (F := Ideal) (Shape.Idx.first h_S_)) (S8x4096x4096.rowMajor (ix3 H Q Q)) (by
        refine List.mem_filter.2 ⟨List.mem_finRange _, ?_⟩
        rw [Equiv.symm_apply_apply]
        refine decide_eq_true (funext fun a => ?_)
        match a with
        | ⟨0, _⟩ => exact Fin.ext rfl
        | ⟨1, _⟩ => exact Fin.ext rfl)
    have hq : val_main_v17 (F := Ideal) (lift3 q) (lift3 k) (lift2 c) (S8x4096x4096.rowMajor.symm (S8x4096x4096.rowMajor (ix3 H Q Q))) = ((sc q k c H Q Q : ℝ) : EReal) := by
      rw [Equiv.symm_apply_apply, r17, if_pos (le_refl _)]
    intro hb
    have := hq ▸ hm
    exact absurd (le_bot_iff.1 (this.trans (le_of_eq hb))) (EReal.coe_ne_bot _)

/-- The greatest score of a row, as a real number. -/
def Mx (H : Fin 8) (Q : Fin 4096) : ℝ := (val_main_v18 (F := Ideal) (lift3 q) (lift3 k) (lift2 c) (ix2 H Q)).toReal

theorem r18 (H : Fin 8) (Q : Fin 4096) : val_main_v18 (F := Ideal) (lift3 q) (lift3 k) (lift2 c) (ix2 H Q) = ((Mx q k c H Q : ℝ) : EReal) :=
  (EReal.coe_toReal (r18_real q k c H Q).1 (r18_real q k c H Q).2).symm

theorem k22 (H : Fin 8) (Q K : Fin 4096) : val_main_v22 (F := Ideal) (lift3 q) (lift3 k) (lift2 c) (ix3 H Q K) = ((ex q k c (Mx q k c) H Q K : ℝ) : EReal) := by
  rw [val_main_v22_apply, val_main_v21_apply, r17, val_main_v20_apply, val_main_v19_apply]
  have h : val_main_v18 (F := Ideal) (lift3 q) (lift3 k) (lift2 c) (idx_main_v19 (idx_main_v20 (ix3 H Q K))) = ((Mx q k c H Q : ℝ) : EReal) := (congrArg _ (eq_ix2 _)).trans (r18 q k c H Q)
  rw [h]
  show Ideal.exp ((if K.val ≤ Q.val then ((sc q k c H Q K : ℝ) : EReal) else ⊥) - ((Mx q k c H Q : ℝ) : EReal)) = _
  rw [sub_bot_ite, exp_ite]
  rfl

theorem k27 (H : Fin 8) (Q K : Fin 4096) : val_main_v27 (F := Ideal) (lift3 q) (lift3 k) (lift2 c) (ix3 H Q K) = ((ex q k c (Mx q k c) H Q K : ℝ) : EReal) := by
  rw [val_main_v27_apply, val_main_v26_apply, r17, val_main_v25_apply, val_main_v19_apply]
  have h : val_main_v18 (F := Ideal) (lift3 q) (lift3 k) (lift2 c) (idx_main_v19 (idx_main_v25 (ix3 H Q K))) = ((Mx q k c H Q : ℝ) : EReal) := (congrArg _ (eq_ix2 _)).trans (r18 q k c H Q)
  rw [h]
  show Ideal.exp ((if K.val ≤ Q.val then ((sc q k c H Q K : ℝ) : EReal) else ⊥) - ((Mx q k c H Q : ℝ) : EReal)) = _
  rw [sub_bot_ite, exp_ite]
  rfl

/-- The sums of the weights. -/
theorem k24 (H : Fin 8) (Q : Fin 4096) (z : Fin 1) : val_main_v24 (F := Ideal) (lift3 q) (lift3 k) (lift2 c) (ix3 H Q z) = ((tot q k c (Mx q k c) H Q : ℝ) : EReal) := by
  rw [val_main_v24_apply, val_main_v23_apply, val_main_cst_2_apply, ofBits_zero]
  unfold tot
  rw [coe_sum, EReal.coe_zero, zero_add]
  exact Finset.sum_congr rfl fun K _ => (congrArg _ (eq_ix3 _)).trans (k22 q k c H Q K)

/-- The weights. -/
theorem k29 (H : Fin 8) (Q K : Fin 4096) : val_main_v29 (F := Ideal) (lift3 q) (lift3 k) (lift2 c) (ix3 H Q K) = ((pr q k c (Mx q k c) H Q K : ℝ) : EReal) := by
  rw [val_main_v29_apply, k27, val_main_v28_apply]
  have h : val_main_v24 (F := Ideal) (lift3 q) (lift3 k) (lift2 c) (idx_main_v28 (ix3 H Q K)) = ((tot q k c (Mx q k c) H Q : ℝ) : EReal) := (congrArg _ (eq_ix3 _)).trans (k24 q k c H Q 0)
  rw [h]
  exact div_real _ _ (tot_ne q k c _ H Q)

theorem at32 (Q : Fin 4096) (H : Fin 8) (e : Fin 64) (x : Fin 512) (hx : x.val = 64 * H.val + e.val) : idx_main_v32 (ix2 Q x) = ix3 Q H e := funext fun a => by
  match a with
  | ⟨0, _⟩ => exact Fin.ext (show (Q.val * 512 + x.val) / 512 = Q.val by omega)
  | ⟨1, _⟩ => exact Fin.ext (show (Q.val * 512 + x.val) / 64 % 8 = H.val by omega)
  | ⟨2, _⟩ => exact Fin.ext (show (Q.val * 512 + x.val) % 64 = e.val by omega)

/-- The saved result of the attention. -/
theorem k32 (Q : Fin 4096) (H : Fin 8) (e : Fin 64) (x : Fin 512) (hx : x.val = 64 * H.val + e.val) :
    val_main_v32 (F := Ideal) (lift3 q) (lift3 k) (lift3 v) (lift2 c) (ix2 Q x) = ((att q k v c (Mx q k c) Q H e : ℝ) : EReal) := by
  rw [val_main_v32_apply, at32 Q H e x hx, val_main_v31_apply, val_main_v30_apply]
  unfold att
  rw [coe_sum]
  refine Finset.sum_congr rfl fun K _ => ?_
  rw [EReal.coe_mul]
  exact congrArg₂ (fun a b : EReal => a * b) rfl ((congrArg _ (eq_ix3 _)).trans (k29 q k c H Q K))

theorem k34 (H : Fin 8) (Q : Fin 4096) (z : Fin 1) :
    val_main_v34 (F := Ideal) (lift3 q) (lift3 k) (lift2 c) (ix3 H Q z) = ((Mx q k c H Q + Real.log (tot q k c (Mx q k c) H Q) : ℝ) : EReal) := by
  rw [val_main_v34_apply, val_main_v19_apply, val_main_v33_apply, k24]
  have h : val_main_v18 (F := Ideal) (lift3 q) (lift3 k) (lift2 c) (idx_main_v19 (ix3 H Q z)) = ((Mx q k c H Q : ℝ) : EReal) := (congrArg _ (eq_ix2 _)).trans (r18 q k c H Q)
  rw [h]
  show ((Mx q k c H Q : ℝ) : EReal) + Ideal.log ((tot q k c (Mx q k c) H Q : ℝ) : EReal) = _
  rw [Ideal.log_coe, if_neg (not_le.2 (tot_pos q k c _ H Q)), EReal.coe_add]

theorem at35 (H : Fin 8) (Q : Fin 4096) : idx_main_v35 (ix2 H Q) = ix3 H Q 0 := funext fun a => by
  match a with
  | ⟨0, _⟩ => exact Fin.ext (show (H.val * 4096 + Q.val) / 4096 = H.val by omega)
  | ⟨1, _⟩ => exact Fin.ext (show (H.val * 4096 + Q.val) / 1 % 4096 = Q.val by omega)
  | ⟨2, _⟩ => exact Fin.ext rfl

theorem k35 (H : Fin 8) (Q : Fin 4096) :
    val_main_v35 (F := Ideal) (lift3 q) (lift3 k) (lift2 c) (ix2 H Q) = ((Mx q k c H Q + Real.log (tot q k c (Mx q k c) H Q) : ℝ) : EReal) := by
  rw [val_main_v35_apply, at35]; exact k34 q k c H Q 0

theorem at39 (Q : Fin 4096) (H : Fin 8) (e : Fin 64) (x : Fin 512) (hx : x.val = 64 * H.val + e.val) : idx_main_v39 (ix2 Q x) = ix3 Q H e := funext fun a => by
  match a with
  | ⟨0, _⟩ => exact Fin.ext (show (Q.val * 512 + x.val) / 512 = Q.val by omega)
  | ⟨1, _⟩ => exact Fin.ext (show (Q.val * 512 + x.val) / 64 % 8 = H.val by omega)
  | ⟨2, _⟩ => exact Fin.ext (show (Q.val * 512 + x.val) % 64 = e.val by omega)

/-- The saved logarithms of the sums. -/
theorem k39 (Q : Fin 4096) (H : Fin 8) (e : Fin 64) (x : Fin 512) (hx : x.val = 64 * H.val + e.val) :
    val_main_v39 (F := Ideal) (lift3 q) (lift3 k) (lift2 c) (ix2 Q x) = ((Mx q k c H Q + Real.log (tot q k c (Mx q k c) H Q) : ℝ) : EReal) := by
  rw [val_main_v39_apply, at39 Q H e x hx, val_main_v38_apply, val_main_v37_apply, val_main_v36_apply]
  exact (congrArg _ (eq_ix2 _)).trans (k35 q k c H Q)

theorem at106 (Q : Fin 4096) (H : Fin 8) (e : Fin 64) (x : Fin 512) (hx : x.val = 64 * H.val + e.val) : idx_main_v106 (ix2 Q x) = ix3 Q H e := funext fun a => by
  match a with
  | ⟨0, _⟩ => exact Fin.ext (show (Q.val * 512 + x.val) / 512 = Q.val by omega)
  | ⟨1, _⟩ => exact Fin.ext (show (Q.val * 512 + x.val) / 64 % 8 = H.val by omega)
  | ⟨2, _⟩ => exact Fin.ext (show (Q.val * 512 + x.val) % 64 = e.val by omega)

/-- The values. -/
theorem k107 (Q : Fin 4096) (H : Fin 8) (e : Fin 64) (x : Fin 512) (hx : x.val = 64 * H.val + e.val) :
    val_main_v107 (F := Ideal) (lift3 v) (ix2 Q x) = ((v Q H e : ℝ) : EReal) := by
  rw [val_main_v107_apply, val_main_v106_apply, at106 Q H e x hx]; rfl

theorem at108 (Q : Fin 4096) (H : Fin 8) (e : Fin 64) (x : Fin 512) (hx : x.val = 64 * H.val + e.val) : idx_main_v108 (ix2 Q x) = ix3 Q H e := funext fun a => by
  match a with
  | ⟨0, _⟩ => exact Fin.ext (show (Q.val * 512 + x.val) / 512 = Q.val by omega)
  | ⟨1, _⟩ => exact Fin.ext (show (Q.val * 512 + x.val) / 64 % 8 = H.val by omega)
  | ⟨2, _⟩ => exact Fin.ext (show (Q.val * 512 + x.val) % 64 = e.val by omega)

/-- The gradient of the result. -/
theorem k108 (Q : Fin 4096) (H : Fin 8) (e : Fin 64) (x : Fin 512) (hx : x.val = 64 * H.val + e.val) :
    val_main_v108 (F := Ideal) (lift3 d) (ix2 Q x) = ((d Q H e : ℝ) : EReal) := by
  rw [val_main_v108_apply, at108 Q H e x hx]; rfl

/-- The further lanes of the queries' rows. -/
theorem k75 (Q : Fin 4096) (H : Fin 8) (e : Fin 64) : val_main_v75 (F := Ideal) (lift2 c) (ix3 Q H e) = ((augq c Q H e : ℝ) : EReal) := by
  simp only [val_main_v75_apply, val_main_v74_apply, val_main_v73_apply, val_main_c_9_apply, val_main_v72_apply, val_main_v71_apply, val_main_v70_apply,
    val_main_c_8_apply, val_main_v69_apply, val_main_v68_apply, val_main_v67_apply, val_main_c_7_apply, val_main_v66_apply, val_main_v65_apply,
    val_main_v64_apply, val_main_c_6_apply, val_main_v63_apply, val_main_v62_apply, val_main_v61_apply, val_main_c_5_apply, val_main_v60_apply,
    val_main_v59_apply, val_main_v58_apply, val_main_c_apply, val_main_v42_apply, val_main_v40_apply, val_main_v41_apply, val_main_v56_apply,
    val_main_cst_3_apply, val_main_v57_apply, val_main_cst_4_apply, val_main_call4_v0_apply, val_main_v55_apply, val_main_v54_apply,
    val_main_v49_apply, val_main_v48_apply, val_main_v47_apply, val_main_v46_apply, val_main_v45_apply, val_main_v44_apply, val_main_v43_apply,
    val_main_call5_v0_apply, val_main_v53_apply, val_main_v52_apply, val_main_call6_v0_apply, val_main_v51_apply, val_main_v50_apply,
    ofBits_one, ofBits_zero]
  refine Eq.trans (b := Scalar.select (IntOp.cmpi .eq (IntOp.subi (BitVec.ofNat 32 e.val) (BitVec.ofNat 32 H.val)) (BitVec.ofNat 32 0)) ((c Q H : ℝ) : EReal)
    (Scalar.select (IntOp.cmpi .eq (IntOp.subi (BitVec.ofNat 32 e.val) (BitVec.ofNat 32 H.val)) (BitVec.ofNat 32 8)) (((c Q H : ℝ) : EReal) - ((c Q H : ℝ) : EReal))
    (Scalar.select (IntOp.cmpi .eq (IntOp.subi (BitVec.ofNat 32 e.val) (BitVec.ofNat 32 H.val)) (BitVec.ofNat 32 16))
      ((((c Q H : ℝ) : EReal) - ((c Q H : ℝ) : EReal)) - (((c Q H : ℝ) : EReal) - ((c Q H : ℝ) : EReal)))
    (Scalar.select (IntOp.cmpi .eq (IntOp.subi (BitVec.ofNat 32 e.val) (BitVec.ofNat 32 H.val)) (BitVec.ofNat 32 24)) ((1 : ℝ) : EReal)
    (Scalar.select (IntOp.cmpi .eq (IntOp.subi (BitVec.ofNat 32 e.val) (BitVec.ofNat 32 H.val)) (BitVec.ofNat 32 32)) ((1 : ℝ) : EReal)
    (Scalar.select (IntOp.cmpi .eq (IntOp.subi (BitVec.ofNat 32 e.val) (BitVec.ofNat 32 H.val)) (BitVec.ofNat 32 40)) ((1 : ℝ) : EReal) ((0 : ℝ) : EReal))))))) rfl ?_
  rw [sel H e 0 (by omega), sel H e 8 (by omega), sel H e 16 (by omega), sel H e 24 (by omega), sel H e 32 (by omega), sel H e 40 (by omega),
    ← EReal.coe_sub, sub_self, ← EReal.coe_sub, sub_self]
  unfold augq
  split_ifs <;> rfl

/-- The further lanes of the keys' rows. -/
theorem k96 (Q : Fin 4096) (H : Fin 8) (e : Fin 64) : val_main_v96 (F := Ideal) (lift2 c) (ix3 Q H e) = ((augk c Q H e : ℝ) : EReal) := by
  simp only [val_main_v96_apply, val_main_v95_apply, val_main_v94_apply, val_main_c_15_apply, val_main_v93_apply, val_main_v92_apply, val_main_v91_apply,
    val_main_c_14_apply, val_main_v90_apply, val_main_v89_apply, val_main_v88_apply, val_main_c_13_apply, val_main_v87_apply, val_main_v86_apply,
    val_main_v85_apply, val_main_c_12_apply, val_main_v84_apply, val_main_v83_apply, val_main_v82_apply, val_main_c_11_apply, val_main_v81_apply,
    val_main_v80_apply, val_main_v79_apply, val_main_c_10_apply, val_main_v42_apply, val_main_v40_apply, val_main_v41_apply, val_main_v56_apply,
    val_main_cst_3_apply, val_main_v57_apply, val_main_cst_4_apply, val_main_call7_v0_apply, val_main_v78_apply, val_main_v55_apply, val_main_v54_apply,
    val_main_v49_apply, val_main_v48_apply, val_main_v47_apply, val_main_v46_apply, val_main_v45_apply, val_main_v44_apply, val_main_v43_apply,
    val_main_call8_v0_apply, val_main_v77_apply, val_main_v53_apply, val_main_v52_apply, val_main_call9_v0_apply, val_main_v76_apply, val_main_v51_apply,
    val_main_v50_apply, ofBits_one, ofBits_zero]
  refine Eq.trans (b := Scalar.select (IntOp.cmpi .eq (IntOp.subi (BitVec.ofNat 32 e.val) (BitVec.ofNat 32 H.val)) (BitVec.ofNat 32 0)) ((1 : ℝ) : EReal)
    (Scalar.select (IntOp.cmpi .eq (IntOp.subi (BitVec.ofNat 32 e.val) (BitVec.ofNat 32 H.val)) (BitVec.ofNat 32 8)) ((1 : ℝ) : EReal)
    (Scalar.select (IntOp.cmpi .eq (IntOp.subi (BitVec.ofNat 32 e.val) (BitVec.ofNat 32 H.val)) (BitVec.ofNat 32 16)) ((1 : ℝ) : EReal)
    (Scalar.select (IntOp.cmpi .eq (IntOp.subi (BitVec.ofNat 32 e.val) (BitVec.ofNat 32 H.val)) (BitVec.ofNat 32 24)) (-((c Q H : ℝ) : EReal))
    (Scalar.select (IntOp.cmpi .eq (IntOp.subi (BitVec.ofNat 32 e.val) (BitVec.ofNat 32 H.val)) (BitVec.ofNat 32 32)) (-(((c Q H : ℝ) : EReal) - ((c Q H : ℝ) : EReal)))
    (Scalar.select (IntOp.cmpi .eq (IntOp.subi (BitVec.ofNat 32 e.val) (BitVec.ofNat 32 H.val)) (BitVec.ofNat 32 40))
      (-((((c Q H : ℝ) : EReal) - ((c Q H : ℝ) : EReal)) - (((c Q H : ℝ) : EReal) - ((c Q H : ℝ) : EReal)))) ((0 : ℝ) : EReal))))))) rfl ?_
  rw [sel H e 0 (by omega), sel H e 8 (by omega), sel H e 16 (by omega), sel H e 24 (by omega), sel H e 32 (by omega), sel H e 40 (by omega),
    ← EReal.coe_sub, sub_self, ← EReal.coe_sub, sub_self, ← EReal.coe_neg, ← EReal.coe_neg, neg_zero]
  unfold augk
  split_ifs <;> rfl

theorem k99 (Q : Fin 4096) (H : Fin 8) (l : Fin 128) : val_main_v99 (F := Ideal) (lift3 q) (lift2 c) (ix3 Q H l) = ((qaR q c Q H l : ℝ) : EReal) := by
  unfold val_main_v99 qaR
  by_cases h : l.val < 64
  · rw [if_pos h]
    refine (concatenate_pair_apply_left (s₁ := S4096x8x64) (s₂ := S4096x8x64) 2 _ _ _ (ix3 Q H l) rfl (ix3 Q H (lane l)) (fun b => ?_)).trans ?_
    · match b with
      | ⟨0, _⟩ => rfl
      | ⟨1, _⟩ => rfl
      | ⟨2, _⟩ => exact Nat.mod_eq_of_lt h
    · rw [val_main_v98_apply, val_main_v97_apply, val_main_cst_16_apply, ofBits_eighth, EReal.coe_mul]; rfl
  · rw [if_neg h]
    refine (concatenate_pair_apply_right (s₁ := S4096x8x64) (s₂ := S4096x8x64) 2 _ _ _ (ix3 Q H l) rfl rfl (ix3 Q H (lane l)) (fun b hb => ?_) ?_).trans (k75 c Q H (lane l))
    · match b with
      | ⟨0, _⟩ => rfl
      | ⟨1, _⟩ => rfl
      | ⟨2, _⟩ => exact absurd rfl hb
    · show l.val % 64 + 64 = l.val
      omega

theorem k102 (Q : Fin 4096) (H : Fin 8) (l : Fin 128) : val_main_v102 (F := Ideal) (lift3 k) (lift2 c) (ix3 Q H l) = ((kaR k c Q H l : ℝ) : EReal) := by
  unfold val_main_v102 kaR
  by_cases h : l.val < 64
  · rw [if_pos h]
    refine (concatenate_pair_apply_left (s₁ := S4096x8x64) (s₂ := S4096x8x64) 2 _ _ _ (ix3 Q H l) rfl (ix3 Q H (lane l)) (fun b => ?_)).trans ?_
    · match b with
      | ⟨0, _⟩ => rfl
      | ⟨1, _⟩ => rfl
      | ⟨2, _⟩ => exact Nat.mod_eq_of_lt h
    · rfl
  · rw [if_neg h]
    refine (concatenate_pair_apply_right (s₁ := S4096x8x64) (s₂ := S4096x8x64) 2 _ _ _ (ix3 Q H l) rfl rfl (ix3 Q H (lane l)) (fun b hb => ?_) ?_).trans (k96 c Q H (lane l))
    · match b with
      | ⟨0, _⟩ => rfl
      | ⟨1, _⟩ => rfl
      | ⟨2, _⟩ => exact absurd rfl hb
    · show l.val % 64 + 64 = l.val
      omega

theorem at100 (Q : Fin 4096) (H : Fin 8) (l : Fin 128) (x : Fin 1024) (hx : x.val = 128 * H.val + l.val) : idx_main_v100 (ix2 Q x) = ix3 Q H l := funext fun a => by
  match a with
  | ⟨0, _⟩ => exact Fin.ext (show (Q.val * 1024 + x.val) / 1024 = Q.val by omega)
  | ⟨1, _⟩ => exact Fin.ext (show (Q.val * 1024 + x.val) / 128 % 8 = H.val by omega)
  | ⟨2, _⟩ => exact Fin.ext (show (Q.val * 1024 + x.val) % 128 = l.val by omega)

theorem at103 (Q : Fin 4096) (H : Fin 8) (l : Fin 128) (x : Fin 1024) (hx : x.val = 128 * H.val + l.val) : idx_main_v103 (ix2 Q x) = ix3 Q H l := funext fun a => by
  match a with
  | ⟨0, _⟩ => exact Fin.ext (show (Q.val * 1024 + x.val) / 1024 = Q.val by omega)
  | ⟨1, _⟩ => exact Fin.ext (show (Q.val * 1024 + x.val) / 128 % 8 = H.val by omega)
  | ⟨2, _⟩ => exact Fin.ext (show (Q.val * 1024 + x.val) % 128 = l.val by omega)

/-- The queries' augmented rows. -/
theorem k101 (Q : Fin 4096) (H : Fin 8) (l : Fin 128) (x : Fin 1024) (hx : x.val = 128 * H.val + l.val) :
    val_main_v101 (F := Ideal) (lift3 q) (lift2 c) (ix2 Q x) = ((qaR q c Q H l : ℝ) : EReal) := by
  rw [val_main_v101_apply, val_main_v100_apply, at100 Q H l x hx, k99]; rfl

/-- The keys' augmented rows. -/
theorem k104 (Q : Fin 4096) (H : Fin 8) (l : Fin 128) (x : Fin 1024) (hx : x.val = 128 * H.val + l.val) :
    val_main_v104 (F := Ideal) (lift3 k) (lift2 c) (ix2 Q x) = ((kaR k c Q H l : ℝ) : EReal) := by
  rw [val_main_v104_apply, val_main_v103_apply, at103 Q H l x hx, k102]; rfl

end

end Cert.KernelIdeal.Pre
-- ==== Proof.Attn.Taken.lean ====
module

public import proofs.«01_k».proof.Proof.Attn.PostRead
public import proofs.«01_k».proof.Proof.Attn.Sums

@[expose] public section

set_option maxRecDepth 16384

noncomputable section

/-!
  The results that are read off the arrays that the launch leaves, over the real numbers.
-/

namespace Cert.KernelIdeal.Post

open Cert.KernelIdeal Cert.KernelIdeal.Gen Cert.KernelIdeal.Attn Cert.Attn
open Idealize.ShloMosaic Idealize.ShloMosaic.TcCoe Idealize.ShloMosaic.Pointwise

/-- The pair of a head. -/
def pa (H : Fin 8) : Fin 4 := ⟨H.val / 2, by omega⟩

/-- The head's place in its pair. -/
def par (H : Fin 8) : Fin 2 := ⟨H.val % 2, by omega⟩

theorem ph_pa (H : Fin 8) : ph (pa H) (par H) = H := Fin.ext (show 2 * (H.val / 2) + H.val % 2 = H.val by omega)

section
variable (q k v d : Fin 4096 → Fin 8 → Fin 64 → ℝ) (c : Fin 4096 → Fin 8 → ℝ)

variable (M : Fin 8 → Fin 4096 → ℝ) (X0 : Vec Ideal S4x4096x256 .f32) (X1 : Vec Ideal S4096x1024 .f32) (X2 : Vec Ideal S4096x512 .f32)
  (h0 : ∀ p h Q l, X0 (ix3 p Q (ln h l)) = ((∑ K, ds q k v d c M (ph p h) Q K * kaR k c K (ph p h) l : ℝ) : EReal))
  (h1 : ∀ K H l, X1 (ix2 K (hl H l)) = ((∑ Q, ds q k v d c M H Q K * qaR q c Q H l : ℝ) : EReal))
  (h2 : ∀ K H e, X2 (ix2 K (hw H e)) = ((∑ Q, d Q H e * pr q k c M H Q K : ℝ) : EReal))

theorem at5 (Q : Fin 4096) (H : Fin 8) (l : Fin 128) : idx_main_v5 (ix3 Q H l) = ix4 Q (pa H) (par H) l := funext fun a => by
  match a with
  | ⟨0, _⟩ => exact Fin.ext (show ((Q.val * 8 + H.val) * 128 + l.val) / 1024 = Q.val by omega)
  | ⟨1, _⟩ => exact Fin.ext (show ((Q.val * 8 + H.val) * 128 + l.val) / 256 % 4 = H.val / 2 by omega)
  | ⟨2, _⟩ => exact Fin.ext (show ((Q.val * 8 + H.val) * 128 + l.val) / 128 % 2 = H.val % 2 by omega)
  | ⟨3, _⟩ => exact Fin.ext (show ((Q.val * 8 + H.val) * 128 + l.val) % 128 = l.val by omega)

theorem at3 (p : Fin 4) (Q : Fin 4096) (h : Fin 2) (l : Fin 128) : idx_main_v3 (ix4 p Q h l) = ix3 p Q (ln h l) := funext fun a => by
  match a with
  | ⟨0, _⟩ => exact Fin.ext (show (((p.val * 4096 + Q.val) * 2 + h.val) * 128 + l.val) / 1048576 = p.val by omega)
  | ⟨1, _⟩ => exact Fin.ext (show (((p.val * 4096 + Q.val) * 2 + h.val) * 128 + l.val) / 256 % 4096 = Q.val by omega)
  | ⟨2, _⟩ => exact Fin.ext (show (((p.val * 4096 + Q.val) * 2 + h.val) * 128 + l.val) % 256 = 128 * h.val + l.val by omega)

theorem at6 (Q : Fin 4096) (H : Fin 8) (l : Fin 128) : idx_main_v6 (ix3 Q H l) = ix2 Q (hl H l) := funext fun a => by
  match a with
  | ⟨0, _⟩ => exact Fin.ext (show ((Q.val * 8 + H.val) * 128 + l.val) / 1024 = Q.val by omega)
  | ⟨1, _⟩ => exact Fin.ext (show ((Q.val * 8 + H.val) * 128 + l.val) % 1024 = 128 * H.val + l.val by omega)

theorem at21 (Q : Fin 4096) (H : Fin 8) (e : Fin 64) : idx_main_v21 (ix3 Q H e) = ix2 Q (hw H e) := funext fun a => by
  match a with
  | ⟨0, _⟩ => exact Fin.ext (show ((Q.val * 8 + H.val) * 64 + e.val) / 512 = Q.val by omega)
  | ⟨1, _⟩ => exact Fin.ext (show ((Q.val * 8 + H.val) * 64 + e.val) % 512 = 64 * H.val + e.val by omega)

include h0 in
theorem p5 (Q : Fin 4096) (H : Fin 8) (l : Fin 128) : val_main_v5 (F := Ideal) X0 (ix3 Q H l) = ((∑ K, ds q k v d c M H Q K * kaR k c K H l : ℝ) : EReal) := by
  have h4 : val_main_v4 (F := Ideal) X0 (ix4 Q (pa H) (par H) l) = val_main_v3 (F := Ideal) X0 (ix4 (pa H) Q (par H) l) :=
    (val_main_v4_apply X0 _).trans (congrArg _ (eq_ix4 _))
  rw [val_main_v5_apply, at5, h4, val_main_v3_apply, at3, h0, ph_pa]

include h1 in
theorem p6 (K : Fin 4096) (H : Fin 8) (l : Fin 128) : val_main_v6 (F := Ideal) X1 (ix3 K H l) = ((∑ Q, ds q k v d c M H Q K * qaR q c Q H l : ℝ) : EReal) := by
  rw [val_main_v6_apply, at6, h1]

include h0 in
/-- The queries' gradient. -/
theorem p19 (Q : Fin 4096) (H : Fin 8) (e : Fin 64) : val_main_v19 (F := Ideal) X0 (ix3 Q H e) = ((∑ K, ds q k v d c M H Q K * (1 / 8) * k K H e : ℝ) : EReal) := by
  rw [val_main_v19_apply, val_main_v17_apply, val_main_v18_apply, val_main_cst_4_apply, ofBits_eighth]
  have h : val_main_v5 (F := Ideal) X0 (idx_main_v17 (ix3 Q H e)) = _ := (congrArg _ (eq_ix3 _)).trans (p5 q k v d c M X0 h0 Q H ⟨e.val, by omega⟩)
  rw [h]
  refine (EReal.coe_mul _ _).symm.trans (congrArg _ ?_)
  rw [Finset.sum_mul]
  refine Finset.sum_congr rfl fun K _ => ?_
  have hk : kaR k c K H ⟨e.val, by omega⟩ = k K H e :=
    (if_pos e.isLt).trans (congrArg (k K H) (Fin.ext (Nat.mod_eq_of_lt e.isLt)))
  rw [hk]; ring

include h1 in
/-- The keys' gradient. -/
theorem p20 (K : Fin 4096) (H : Fin 8) (e : Fin 64) : val_main_v20 (F := Ideal) X1 (ix3 K H e) = ((∑ Q, ds q k v d c M H Q K * (1 / 8) * q Q H e : ℝ) : EReal) := by
  rw [val_main_v20_apply]
  refine ((congrArg _ (eq_ix3 _)).trans (p6 q k v d c M X1 h1 K H ⟨e.val, by omega⟩)).trans (congrArg _ ?_)
  refine Finset.sum_congr rfl fun Q _ => ?_
  have hq : qaR q c Q H ⟨e.val, by omega⟩ = q Q H e * (1 / 8) :=
    (if_pos e.isLt).trans (congrArg (fun z => q Q H z * (1 / 8)) (Fin.ext (Nat.mod_eq_of_lt e.isLt)))
  rw [hq]; ring

include h2 in
/-- The values' gradient. -/
theorem p21 (K : Fin 4096) (H : Fin 8) (e : Fin 64) : val_main_v21 (F := Ideal) X2 (ix3 K H e) = ((∑ Q, d Q H e * pr q k c M H Q K : ℝ) : EReal) := by
  rw [val_main_v21_apply, at21, h2]

/-- One of the further lanes picked by a sum. -/
theorem pick (f : Fin 64 → EReal) (H : Fin 8) (n : ℕ) (hn : n ≤ 40) : (∑ e : Fin 64, if e.val = H.val + n then f e else 0) = f ⟨H.val + n, by omega⟩ := by
  have h : ∀ e : Fin 64, (if e.val = H.val + n then f e else 0) = if e = ⟨H.val + n, by omega⟩ then f e else 0 := fun e => by
    simp only [Fin.ext_iff]
  rw [Finset.sum_congr rfl fun e _ => h e, Finset.sum_ite_eq', if_pos (Finset.mem_univ _)]

include h0 in
/-- The sums of the score gradients by query. -/
theorem p11 (T : Fin 4096) (H : Fin 8) : val_main_v11 (F := Ideal) X0 (ix2 T H) = ((∑ K, ds q k v d c M H T K : ℝ) : EReal) := by
  rw [val_main_v11_apply, val_main_cst_0_apply, ofBits_zero, EReal.coe_zero, zero_add]
  have h : ∀ e : Fin 64, val_main_v10 (F := Ideal) X0 (idx_main_v11 (ix2 T H) e)
      = if e.val = H.val + 0 then val_main_v5 (F := Ideal) X0 (ix3 T H ⟨64 + e.val, by omega⟩) else 0 := fun e => by
    rw [val_main_v10_apply, val_main_v8_apply, val_main_v7_apply, val_main_c_apply, val_main_v2_apply, val_main_v0_apply, val_main_v1_apply,
      val_main_call0_v1_apply, val_main_call0_v0_apply, val_main_cst_apply, ofBits_zero, val_main_v9_apply]
    refine (sel H e 0 (by omega) _ _).trans ?_
    exact congrArg (fun z : EReal => if e.val = H.val + 0 then z else 0) (congrArg _ (eq_ix3 _))
  rw [Finset.sum_congr rfl fun e _ => h e, pick (fun e => val_main_v5 (F := Ideal) X0 (ix3 T H ⟨64 + e.val, by omega⟩)) H 0 (by omega), p5 q k v d c M X0 h0]
  refine congrArg _ (Finset.sum_congr rfl fun K _ => ?_)
  have hk : kaR k c K H ⟨64 + (H.val + 0), by omega⟩ = 1 := by
    unfold kaR augk lane
    rw [if_neg (show ¬(64 + (H.val + 0) < 64) by omega), if_pos (show (64 + (H.val + 0)) % 64 = H.val + 0 by omega)]
  rw [hk, mul_one]

include h1 in
/-- The sums of the score gradients by key. -/
theorem p16 (T : Fin 4096) (H : Fin 8) : val_main_v16 (F := Ideal) X1 (ix2 T H) = ((∑ Q, ds q k v d c M H Q T : ℝ) : EReal) := by
  rw [val_main_v16_apply, val_main_cst_3_apply, ofBits_zero, EReal.coe_zero, zero_add]
  have h : ∀ e : Fin 64, val_main_v15 (F := Ideal) X1 (idx_main_v16 (ix2 T H) e)
      = if e.val = H.val + 24 then val_main_v6 (F := Ideal) X1 (ix3 T H ⟨64 + e.val, by omega⟩) else 0 := fun e => by
    rw [val_main_v15_apply, val_main_v13_apply, val_main_v12_apply, val_main_c_1_apply, val_main_v2_apply, val_main_v0_apply, val_main_v1_apply,
      val_main_call1_v1_apply, val_main_call1_v0_apply, val_main_cst_2_apply, ofBits_zero, val_main_v14_apply]
    refine (sel H e 24 (by omega) _ _).trans ?_
    exact congrArg (fun z : EReal => if e.val = H.val + 24 then z else 0) (congrArg _ (eq_ix3 _))
  rw [Finset.sum_congr rfl fun e _ => h e, pick (fun e => val_main_v6 (F := Ideal) X1 (ix3 T H ⟨64 + e.val, by omega⟩)) H 24 (by omega), p6 q k v d c M X1 h1]
  refine congrArg _ (Finset.sum_congr rfl fun Q _ => ?_)
  have hq : qaR q c Q H ⟨64 + (H.val + 24), by omega⟩ = 1 := by
    unfold qaR augq lane
    rw [if_neg (show ¬(64 + (H.val + 24) < 64) by omega), if_neg (show ¬((64 + (H.val + 24)) % 64 = H.val + 0) by omega),
      if_neg (show ¬((64 + (H.val + 24)) % 64 = H.val + 8) by omega), if_neg (show ¬((64 + (H.val + 24)) % 64 = H.val + 16) by omega),
      if_pos (show (64 + (H.val + 24)) % 64 = H.val + 24 by omega)]
  rw [hq, mul_one]

include h0 h1 in
/-- The gradient of the cumulative gates. -/
theorem p22 (T : Fin 4096) (H : Fin 8) : val_main_v22 (F := Ideal) X0 X1 (ix2 T H)
    = (((∑ K, ds q k v d c M H T K) - ∑ Q, ds q k v d c M H Q T : ℝ) : EReal) := by
  rw [val_main_v22_apply, p11 q k v d c M X0 h0, p16 q k v d c M X1 h1, EReal.coe_sub]
  rfl

end

end Cert.KernelIdeal.Post
-- ==== Proof.Attn.Ref.lean ====
module

public import proofs.«01_k».proof.Proof.Gen.ReferenceIdeal.Read
public import proofs.«01_k».proof.Proof.Attn.Reals

@[expose] public section

set_option maxRecDepth 16384

noncomputable section

/-!
  The gradients that the plain program computes, at real arguments, over the real numbers.
-/

namespace Cert.ReferenceIdeal.Real

open Cert.ReferenceIdeal Cert.ReferenceIdeal.Gen Cert.ReferenceIdeal.Read Cert.Attn
open Idealize.ShloMosaic Idealize.ShloMosaic.TcCoe Idealize.ShloMosaic.Pointwise
open Cert.ReferenceIdeal.Facts

section
variable (q k v d : Fin 4096 → Fin 8 → Fin 64 → ℝ) (c : Fin 4096 → Fin 8 → ℝ)

/-- The scores: on later keys `-∞`. -/
theorem r17 (H : Fin 8) (Q K : Fin 4096) :
    val_main_v17_0 (F := Ideal) (lift3 q) (lift3 k) (lift2 c) (ix3 H Q K) = if K.val ≤ Q.val then ((sc q k c H Q K : ℝ) : EReal) else ⊥ := by
  rw [val_main_v17_0_apply, val_main_v17_1_apply, val_main_v16_apply, val_main_v14_apply, val_main_v12_apply, val_main_v11_apply,
    val_main_v15_apply, val_main_v13_apply, val_main_v11_apply, val_main_v10_apply, val_main_v6_apply, val_main_v2_apply, val_main_v0_apply,
    val_main_v1_apply, val_main_cst_apply, val_main_v5_apply, val_main_v4_apply, val_main_v3_apply, val_main_v9_apply, val_main_v8_apply,
    val_main_v7_apply, val_main_call0_v2_apply, val_main_call0_v0_apply, val_main_cst_0_apply, ofBits_eighth, ofBits_bot]
  refine (causal K Q _ _).trans ?_
  refine congrArg (fun z : EReal => if K.val ≤ Q.val then z else ⊥) ?_
  show ((∑ e : Fin 64, ((q Q H e : ℝ) : EReal) * ((k K H e : ℝ) : EReal)) * ((1 / 8 : ℝ) : EReal) + ((c Q H : ℝ) : EReal)) - ((c K H : ℝ) : EReal) = _
  unfold sc
  rw [EReal.coe_sub, EReal.coe_add, EReal.coe_mul, coe_sum]
  rfl

/-- The greatest score of a row is a real number. -/
theorem r18_real (H : Fin 8) (Q : Fin 4096) :
    val_main_v18 (F := Ideal) (lift3 q) (lift3 k) (lift2 c) (ix2 H Q) ≠ ⊤ ∧ val_main_v18 (F := Ideal) (lift3 q) (lift3 k) (lift2 c) (ix2 H Q) ≠ ⊥ := by
  have hv : ∀ i, val_main_v17_0 (F := Ideal) (lift3 q) (lift3 k) (lift2 c) i ≠ ⊤ := fun i => by
    have h : val_main_v17_0 (F := Ideal) (lift3 q) (lift3 k) (lift2 c) i = _ := (congrArg _ (eq_ix3 i)).trans (r17 q k c (i 0) (i 1) (i 2))
    rw [h]; split_ifs
    · exact EReal.coe_ne_top _
    · exact bot_ne_top
  unfold val_main_v18 Host.reduce
  constructor
  · refine foldl_max_ne_top (fun n => val_main_v17_0 (F := Ideal) (lift3 q) (lift3 k) (lift2 c) (S8x4096x4096.rowMajor.symm n)) (fun n => hv _) _ _ ?_
    rw [val_main_cst_1_apply, ofBits_bot]; exact bot_ne_top
  · have hm := mem_le_foldl_max (fun n => val_main_v17_0 (F := Ideal) (lift3 q) (lift3 k) (lift2 c) (S8x4096x4096.rowMajor.symm n))
      ((List.finRange S8x4096x4096.numel).filter fun n => reducesTo_S8x4096x4096_S8x4096_d2.drop (S8x4096x4096.rowMajor.symm n) = ix2 H Q)
      (val_main_cst_1 (F := Ideal) (Shape.Idx.first h_S_)) (S8x4096x4096.rowMajor (ix3 H Q Q)) (by
        refine List.mem_filter.2 ⟨List.mem_finRange _, ?_⟩
        rw [Equiv.symm_apply_apply]
        refine decide_eq_true (funext fun a => ?_)
        match a with
        | ⟨0, _⟩ => exact Fin.ext rfl
        | ⟨1, _⟩ => exact Fin.ext rfl)
    have hq : val_main_v17_0 (F := Ideal) (lift3 q) (lift3 k) (lift2 c) (S8x4096x4096.rowMajor.symm (S8x4096x4096.rowMajor (ix3 H Q Q))) = ((sc q k c H Q Q : ℝ) : EReal) := by
      rw [Equiv.symm_apply_apply, r17, if_pos (le_refl _)]
    intro hb
    have := hq ▸ hm
    exact absurd (le_bot_iff.1 (this.trans (le_of_eq hb))) (EReal.coe_ne_bot _)

/-- The greatest score of a row, as a real number. -/
def Mx (H : Fin 8) (Q : Fin 4096) : ℝ := (val_main_v18 (F := Ideal) (lift3 q) (lift3 k) (lift2 c) (ix2 H Q)).toReal

theorem r18 (H : Fin 8) (Q : Fin 4096) : val_main_v18 (F := Ideal) (lift3 q) (lift3 k) (lift2 c) (ix2 H Q) = ((Mx q k c H Q : ℝ) : EReal) :=
  (EReal.coe_toReal (r18_real q k c H Q).1 (r18_real q k c H Q).2).symm

/-- The unnormalised weights. -/
theorem r38 (H : Fin 8) (Q K : Fin 4096) : val_main_v38 (F := Ideal) (lift3 q) (lift3 k) (lift2 c) (ix3 H Q K) = ((ex q k c (Mx q k c) H Q K : ℝ) : EReal) := by
  rw [val_main_v38_apply, val_main_v37_apply, r17, val_main_v36_apply, val_main_v35_apply, val_main_v25_apply, val_main_v24_apply, val_main_cst_3_apply, ofBits_bot]
  have h : val_main_v18 (F := Ideal) (lift3 q) (lift3 k) (lift2 c) (idx_main_v35 (idx_main_v36 (ix3 H Q K))) = ((Mx q k c H Q : ℝ) : EReal) := (congrArg _ (eq_ix2 _)).trans (r18 q k c H Q)
  rw [h]
  show Ideal.exp ((if K.val ≤ Q.val then ((sc q k c H Q K : ℝ) : EReal) else ⊥) - max ⊥ ((Mx q k c H Q : ℝ) : EReal)) = _
  rw [max_eq_right bot_le, sub_bot_ite, exp_ite]
  rfl

/-- The sums of the weights. -/
theorem r39 (H : Fin 8) (Q : Fin 4096) : val_main_v39 (F := Ideal) (lift3 q) (lift3 k) (lift2 c) (ix2 H Q) = ((tot q k c (Mx q k c) H Q : ℝ) : EReal) := by
  rw [val_main_v39_apply, val_main_cst_9_apply, ofBits_zero]
  unfold tot
  rw [coe_sum, EReal.coe_zero, zero_add]
  exact Finset.sum_congr rfl fun K _ => (congrArg _ (eq_ix3 _)).trans (r38 q k c H Q K)

theorem r40 (H : Fin 8) (Q : Fin 4096) (z : Fin 1) : val_main_v40 (F := Ideal) (lift3 q) (lift3 k) (lift2 c) (ix3 H Q z) = ((tot q k c (Mx q k c) H Q : ℝ) : EReal) := by
  rw [val_main_v40_apply]
  exact (congrArg _ (eq_ix2 _)).trans (r39 q k c H Q)

/-- The weights. -/
theorem r42 (H : Fin 8) (Q K : Fin 4096) : val_main_v42 (F := Ideal) (lift3 q) (lift3 k) (lift2 c) (ix3 H Q K) = ((pr q k c (Mx q k c) H Q K : ℝ) : EReal) := by
  rw [val_main_v42_apply, r38, val_main_v41_apply]
  have h : val_main_v40 (F := Ideal) (lift3 q) (lift3 k) (lift2 c) (idx_main_v41 (ix3 H Q K)) = ((tot q k c (Mx q k c) H Q : ℝ) : EReal) := (congrArg _ (eq_ix3 _)).trans (r40 q k c H Q 0)
  rw [h]
  exact div_real _ _ (tot_ne q k c _ H Q)

theorem r45 (H : Fin 8) (Q : Fin 4096) (z : Fin 1) :
    val_main_v45 (F := Ideal) (lift3 q) (lift3 k) (lift2 c) (ix3 H Q z) = ((1 / (tot q k c (Mx q k c) H Q * tot q k c (Mx q k c) H Q) : ℝ) : EReal) := by
  rw [val_main_v45_apply, val_main_v44_apply, val_main_cst_10_apply, ofBits_one, val_main_v43_apply, r40]
  exact (congrArg (Ideal.div _) (EReal.coe_mul _ _).symm).trans
    (div_real _ _ (mul_ne_zero (tot_ne q k c _ H Q) (tot_ne q k c _ H Q)))

/-- The gradients of the weights. -/
theorem r49 (H : Fin 8) (Q K : Fin 4096) : val_main_v49 (F := Ideal) (lift3 v) (lift3 d) (ix3 H Q K) = ((dp v d H Q K : ℝ) : EReal) := by
  rw [val_main_v49_apply]
  unfold dp
  rw [coe_sum]
  refine Finset.sum_congr rfl fun e _ => ?_
  rw [val_main_v48_apply, EReal.coe_mul]
  rfl

/-- The gradient of the values. -/
theorem r51 (K : Fin 4096) (H : Fin 8) (e : Fin 64) :
    val_main_v51 (F := Ideal) (lift3 q) (lift3 k) (lift2 c) (lift3 d) (ix3 K H e) = ((∑ Q, d Q H e * pr q k c (Mx q k c) H Q K : ℝ) : EReal) := by
  rw [val_main_v51_apply, val_main_v50_apply, coe_sum]
  refine Finset.sum_congr rfl fun Q _ => ?_
  rw [val_main_v48_apply, EReal.coe_mul]
  refine congrArg₂ (fun a b : EReal => a * b) rfl ?_
  exact (congrArg _ (eq_ix3 _)).trans (r42 q k c H Q K)

theorem r54 (H : Fin 8) (Q K : Fin 4096) : val_main_v54 (F := Ideal) (lift3 q) (lift3 k) (lift3 v) (lift2 c) (lift3 d) (ix3 H Q K)
    = ((dp v d H Q K * (1 / (tot q k c (Mx q k c) H Q * tot q k c (Mx q k c) H Q)) * ex q k c (Mx q k c) H Q K : ℝ) : EReal) := by
  rw [val_main_v54_apply, val_main_v53_apply, r49, r38, val_main_v52_apply, EReal.coe_mul, EReal.coe_mul]
  have h : val_main_v45 (F := Ideal) (lift3 q) (lift3 k) (lift2 c) (idx_main_v52 (ix3 H Q K)) = _ := (congrArg _ (eq_ix3 _)).trans (r45 q k c H Q 0)
  rw [h]
  rfl

theorem at56 (H : Fin 8) (Q : Fin 4096) : idx_main_v56 (ix3 H Q (0 : Fin 1)) = ix2 H Q := funext fun a => by
  match a with
  | ⟨0, _⟩ => exact Fin.ext (show ((H.val * 4096 + Q.val) * 1 + 0) / 4096 = H.val by omega)
  | ⟨1, _⟩ => exact Fin.ext (show ((H.val * 4096 + Q.val) * 1 + 0) % 4096 = Q.val by omega)

theorem at71 (H : Fin 8) (Q : Fin 4096) : idx_main_v71 (ix3 H Q (0 : Fin 1)) = ix2 H Q := funext fun a => by
  match a with
  | ⟨0, _⟩ => exact Fin.ext (show ((H.val * 4096 + Q.val) * 1 + 0) / 4096 = H.val by omega)
  | ⟨1, _⟩ => exact Fin.ext (show ((H.val * 4096 + Q.val) * 1 + 0) % 4096 = Q.val by omega)

theorem at67 (H : Fin 8) (Q : Fin 4096) : idx_main_v67 (ix3 H (0 : Fin 1) Q) = ix2 H Q := funext fun a => by
  match a with
  | ⟨0, _⟩ => exact Fin.ext (show ((H.val * 1 + 0) * 4096 + Q.val) / 4096 = H.val by omega)
  | ⟨1, _⟩ => exact Fin.ext (show ((H.val * 1 + 0) * 4096 + Q.val) % 4096 = Q.val by omega)

theorem r57 (H : Fin 8) (Q : Fin 4096) : val_main_v57 (F := Ideal) (lift3 q) (lift3 k) (lift3 v) (lift2 c) (lift3 d) (ix3 H Q 0)
    = ((-(∑ J, dp v d H Q J * (1 / (tot q k c (Mx q k c) H Q * tot q k c (Mx q k c) H Q)) * ex q k c (Mx q k c) H Q J) : ℝ) : EReal) := by
  rw [val_main_v57_apply, val_main_v56_apply, at56, val_main_v55_apply, val_main_cst_11_apply, ofBits_zero, EReal.coe_neg, coe_sum]
  refine congrArg (fun x : EReal => -x) ?_
  rw [EReal.coe_zero, zero_add]
  exact Finset.sum_congr rfl fun J _ => (congrArg _ (eq_ix3 _)).trans (r54 q k v d c H Q J)

theorem r60 (H : Fin 8) (Q : Fin 4096) : val_main_v60 (F := Ideal) (lift3 q) (lift3 k) (lift3 v) (lift2 c) (lift3 d) (ix2 H Q)
    = ((-(∑ J, dp v d H Q J * (1 / (tot q k c (Mx q k c) H Q * tot q k c (Mx q k c) H Q)) * ex q k c (Mx q k c) H Q J) : ℝ) : EReal) := by
  rw [val_main_v60_apply, val_main_cst_12_apply, ofBits_zero, EReal.coe_zero, zero_add, Fin.sum_univ_one]
  exact (congrArg _ (eq_ix3 _)).trans (r57 q k v d c H Q)

/-- The gradients of the scores. -/
theorem r64 (H : Fin 8) (Q K : Fin 4096) : val_main_v64 (F := Ideal) (lift3 q) (lift3 k) (lift3 v) (lift2 c) (lift3 d) (ix3 H Q K) = ((ds q k v d c (Mx q k c) H Q K : ℝ) : EReal) := by
  rw [val_main_v64_apply, val_main_v17_1_apply, val_main_v16_apply, val_main_v14_apply, val_main_v12_apply, val_main_v11_apply,
    val_main_v15_apply, val_main_v13_apply, val_main_v11_apply, val_main_call1_v0_apply, val_main_call1_cst_apply, ofBits_zero,
    val_main_v63_apply, val_main_v62_apply, val_main_v59_apply, r49, r38, val_main_v58_apply, val_main_v61_apply]
  have h1 : val_main_v40 (F := Ideal) (lift3 q) (lift3 k) (lift2 c) (idx_main_v58 (ix3 H Q K)) = ((tot q k c (Mx q k c) H Q : ℝ) : EReal) := (congrArg _ (eq_ix3 _)).trans (r40 q k c H Q 0)
  have h2 : val_main_v60 (F := Ideal) (lift3 q) (lift3 k) (lift3 v) (lift2 c) (lift3 d) (idx_main_v61 (ix3 H Q K)) = _ := (congrArg _ (eq_ix2 _)).trans (r60 q k v d c H Q)
  rw [h1, h2]
  refine (causal K Q _ _).trans ?_
  rw [← ds_quot]
  have h3 : FloatOps.hostDivf (F := Ideal) (φ := .f32) ((dp v d H Q K : ℝ) : EReal) ((tot q k c (Mx q k c) H Q : ℝ) : EReal)
      = ((dp v d H Q K * (1 / tot q k c (Mx q k c) H Q) : ℝ) : EReal) := by
    rw [mul_one_div]; exact div_real _ _ (tot_ne q k c _ H Q)
  rw [h3]
  split_ifs
  · exact (congrArg₂ (fun a b : EReal => a * b) (EReal.coe_add _ _).symm rfl).trans (EReal.coe_mul _ _).symm
  · rfl

theorem r67 (H : Fin 8) (T : Fin 4096) : val_main_v67 (F := Ideal) (lift3 q) (lift3 k) (lift3 v) (lift2 c) (lift3 d) (ix3 H 0 T) = ((-(∑ Q, ds q k v d c (Mx q k c) H Q T) : ℝ) : EReal) := by
  rw [val_main_v67_apply, at67, val_main_v66_apply, val_main_cst_13_apply, ofBits_zero, EReal.coe_zero, zero_add, ← Finset.sum_neg_distrib, coe_sum]
  refine Finset.sum_congr rfl fun Q _ => ?_
  rw [val_main_v65_apply, EReal.coe_neg]
  exact congrArg (fun x : EReal => -x) ((congrArg _ (eq_ix3 _)).trans (r64 q k v d c H Q T))

theorem r71 (H : Fin 8) (T : Fin 4096) : val_main_v71 (F := Ideal) (lift3 q) (lift3 k) (lift3 v) (lift2 c) (lift3 d) (ix3 H T 0) = ((∑ K, ds q k v d c (Mx q k c) H T K : ℝ) : EReal) := by
  rw [val_main_v71_apply, at71, val_main_v70_apply, val_main_cst_15_apply, ofBits_zero, EReal.coe_zero, zero_add, coe_sum]
  exact Finset.sum_congr rfl fun K _ => (congrArg _ (eq_ix3 _)).trans (r64 q k v d c H T K)

/-- The gradient of the cumulative gates. -/
theorem r74 (T : Fin 4096) (H : Fin 8) : val_main_v74 (F := Ideal) (lift3 q) (lift3 k) (lift3 v) (lift2 c) (lift3 d) (ix2 T H)
    = (((∑ K, ds q k v d c (Mx q k c) H T K) - ∑ Q, ds q k v d c (Mx q k c) H Q T : ℝ) : EReal) := by
  rw [val_main_v74_apply, val_main_v69_apply, val_main_v68_apply, val_main_v73_apply, val_main_v72_apply, Fin.sum_univ_one, Fin.sum_univ_one,
    val_main_cst_14_apply, val_main_cst_16_apply, ofBits_zero, EReal.coe_zero, zero_add, zero_add]
  have h1 : val_main_v67 (F := Ideal) (lift3 q) (lift3 k) (lift3 v) (lift2 c) (lift3 d) (idx_main_v68 (idx_main_v69 (ix2 T H)) 0) = _ := (congrArg _ (eq_ix3 _)).trans (r67 q k v d c H T)
  have h2 : val_main_v71 (F := Ideal) (lift3 q) (lift3 k) (lift3 v) (lift2 c) (lift3 d) (idx_main_v72 (idx_main_v73 (ix2 T H)) 0) = _ := (congrArg _ (eq_ix3 _)).trans (r71 q k v d c H T)
  rw [h1, h2, sub_eq_add_neg, add_comm (∑ K, ds q k v d c (Mx q k c) H T K), EReal.coe_add]
  rfl

theorem r76 (H : Fin 8) (Q K : Fin 4096) : val_main_v76 (F := Ideal) (lift3 q) (lift3 k) (lift3 v) (lift2 c) (lift3 d) (ix3 H Q K) = ((ds q k v d c (Mx q k c) H Q K * (1 / 8) : ℝ) : EReal) := by
  rw [val_main_v76_apply, r64, val_main_v75_apply, val_main_cst_17_apply, ofBits_eighth, EReal.coe_mul]
  rfl

/-- The gradient of the keys. -/
theorem r78 (K : Fin 4096) (H : Fin 8) (e : Fin 64) :
    val_main_v78 (F := Ideal) (lift3 q) (lift3 k) (lift3 v) (lift2 c) (lift3 d) (ix3 K H e) = ((∑ Q, ds q k v d c (Mx q k c) H Q K * (1 / 8) * q Q H e : ℝ) : EReal) := by
  rw [val_main_v78_apply, val_main_v77_apply, coe_sum]
  refine Finset.sum_congr rfl fun Q _ => ?_
  rw [EReal.coe_mul]
  exact congrArg₂ (fun a b : EReal => a * b) ((congrArg _ (eq_ix3 _)).trans (r76 q k v d c H Q K)) rfl

/-- The gradient of the queries. -/
theorem r80 (Q : Fin 4096) (H : Fin 8) (e : Fin 64) :
    val_main_v80 (F := Ideal) (lift3 q) (lift3 k) (lift3 v) (lift2 c) (lift3 d) (ix3 Q H e) = ((∑ K, ds q k v d c (Mx q k c) H Q K * (1 / 8) * k K H e : ℝ) : EReal) := by
  rw [val_main_v80_apply, val_main_v79_apply, coe_sum]
  refine Finset.sum_congr rfl fun K _ => ?_
  rw [EReal.coe_mul]
  exact congrArg₂ (fun a b : EReal => a * b) ((congrArg _ (eq_ix3 _)).trans (r76 q k v d c H Q K)) rfl

end

end Cert.ReferenceIdeal.Real
-- ==== Proof.Attn.Value.lean ====
module

public import proofs.«01_k».proof.Proof.Attn.Entry
public import proofs.«01_k».proof.Proof.Attn.Given
public import proofs.«01_k».proof.Proof.Attn.Taken
public import proofs.«01_k».proof.Proof.Attn.Ref

@[expose] public section

noncomputable section

/-!
  The four gradients of a program whose arguments are finite: what the launch and the host operations leave is what the
  reference computes.
-/

namespace Cert.KernelIdeal.Attn

open Cert.KernelIdeal Cert.KernelIdeal.Gen Cert.Attn
open Idealize.ShloMosaic Idealize.ShloMosaic.TcCoe Idealize.ShloMosaic.StableHlo

section
variable (q k : Fin 4096 → Fin 8 → Fin 64 → ℝ) (a : Fin 4096 → Fin 8 → ℝ)

/-- Both programs take the rows' maxima of the same scores. -/
theorem Mx_eq : Pre.Mx q k a = Cert.ReferenceIdeal.Real.Mx q k a := by
  have h : Pre.val_main_v17 (F := Ideal) (lift3 q) (lift3 k) (lift2 a) = Cert.ReferenceIdeal.Read.val_main_v17_0 (F := Ideal) (lift3 q) (lift3 k) (lift2 a) :=
    funext fun i => ((congrArg _ (eq_ix3 i)).trans (Pre.r17 q k a (i 0) (i 1) (i 2))).trans
      ((congrArg _ (eq_ix3 i)).trans (Cert.ReferenceIdeal.Real.r17 q k a (i 0) (i 1) (i 2))).symm
  funext H Q
  unfold Pre.Mx Cert.ReferenceIdeal.Real.Mx Pre.val_main_v18 Cert.ReferenceIdeal.Read.val_main_v18
  rw [h]
  rfl
end

section
variable (m : (ℓ : Loc nD τ sig) → Buf (Elt Ideal) ℓ) (c : Dev nD)
variable (q k v d : Fin 4096 → Fin 8 → Fin 64 → ℝ) (a : Fin 4096 → Fin 8 → ℝ)
  (hq : m ((c : Thread nD τ).loc main_arg0) = lift3 q) (hk : m ((c : Thread nD τ).loc main_arg1) = lift3 k)
  (hv : m ((c : Thread nD τ).loc main_arg2) = lift3 v) (ha : m ((c : Thread nD τ).loc main_arg3) = lift2 a)
  (hd : m ((c : Thread nD τ).loc main_arg4) = lift3 d)

include hq ha in
theorem in_q (Q : Fin 4096) (p : Fin 4) (h : Fin 2) (l : Fin 128) : V m c main_v101 (ix2 Q (pc p (ln h l))) = ((qaR q a Q (ph p h) l : ℝ) : EReal) := by
  rw [V_main_v101, hq, ha]
  exact Pre.k101 q a Q (ph p h) l _ (show 256 * p.val + (128 * h.val + l.val) = 128 * (2 * p.val + h.val) + l.val by omega)

include hk ha in
theorem in_k (Q : Fin 4096) (p : Fin 4) (h : Fin 2) (l : Fin 128) : V m c main_v104 (ix2 Q (pc p (ln h l))) = ((kaR k a Q (ph p h) l : ℝ) : EReal) := by
  rw [V_main_v104, hk, ha]
  exact Pre.k104 k a Q (ph p h) l _ (show 256 * p.val + (128 * h.val + l.val) = 128 * (2 * p.val + h.val) + l.val by omega)

theorem lane_pl (p : Fin 4) (l : Fin 128) : (pl p l).val = 64 * (ph p (headOf l)).val + (lane l).val := by
  show 128 * p.val + l.val = 64 * (2 * p.val + (headOf l).val) + l.val % 64
  unfold headOf
  split
  · show 128 * p.val + l.val = 64 * (2 * p.val + 0) + l.val % 64
    omega
  · show 128 * p.val + l.val = 64 * (2 * p.val + 1) + l.val % 64
    omega

include hv in
theorem in_v (Q : Fin 4096) (p : Fin 4) (l : Fin 128) : V m c main_v107 (ix2 Q (pl p l)) = ((v Q (ph p (headOf l)) (lane l) : ℝ) : EReal) := by
  rw [V_main_v107, hv]
  exact Pre.k107 v Q (ph p (headOf l)) (lane l) _ (lane_pl p l)

include hd in
theorem in_d (Q : Fin 4096) (p : Fin 4) (l : Fin 128) : V m c main_v108 (ix2 Q (pl p l)) = ((d Q (ph p (headOf l)) (lane l) : ℝ) : EReal) := by
  rw [V_main_v108, hd]
  exact Pre.k108 d Q (ph p (headOf l)) (lane l) _ (lane_pl p l)

include hq hk hv ha in
theorem in_o (Q : Fin 4096) (p : Fin 4) (l : Fin 128) :
    V m c main_v32 (ix2 Q (pl p l)) = ((att q k v a (Pre.Mx q k a) Q (ph p (headOf l)) (lane l) : ℝ) : EReal) := by
  rw [V_main_v32, hq, hk, hv, ha]
  exact Pre.k32 q k v a Q (ph p (headOf l)) (lane l) _ (lane_pl p l)

include hq hk ha in
theorem in_s (Q : Fin 4096) (p : Fin 4) (h : Fin 2) :
    V m c main_v39 (ix2 Q (pl p (ls h))) = ((Pre.Mx q k a (ph p h) Q + Real.log (tot q k a (Pre.Mx q k a) (ph p h) Q) : ℝ) : EReal) := by
  rw [V_main_v39, hq, hk, ha]
  exact Pre.k39 q k a Q (ph p h) 0 _ (show 128 * p.val + 64 * h.val = 64 * (2 * p.val + h.val) + 0 by omega)

include hq hk hv ha hd in
/-- The queries' gradient that the launch leaves. -/
theorem out_q (p : Fin 4) (h : Fin 2) (Q : Fin 4096) (l : Fin 128) :
    dqA m c (ix3 p Q (ln h l)) = ((∑ K, ds q k v d a (Pre.Mx q k a) (ph p h) Q K * kaR k a K (ph p h) l : ℝ) : EReal) :=
  dqG_real q k v d a (Pre.Mx q k a) _ _ _ _ _ _
    (fun Q p h l => in_q m c q a hq ha Q p h l) (fun K p h l => in_k m c k a hk ha K p h l) (fun K p l => in_v m c v hv K p l)
    (fun Q p l => in_o m c q k v a hq hk hv ha Q p l) (fun Q p l => in_d m c d hd Q p l) (fun Q p h => in_s m c q k a hq hk ha Q p h) p h Q l

include hq hk hv ha hd in
/-- The keys' gradient that the launch leaves. -/
theorem out_k (K : Fin 4096) (H : Fin 8) (l : Fin 128) :
    dkA m c (ix2 K (hl H l)) = ((∑ Q, ds q k v d a (Pre.Mx q k a) H Q K * qaR q a Q H l : ℝ) : EReal) := by
  rw [dkA_at m c (ix2 K (hl H l)) K (Post.pa H) (ln (Post.par H) l) rfl
    (show 128 * H.val + l.val = 256 * (H.val / 2) + (128 * (H.val % 2) + l.val) by omega)]
  refine (dkG_real q k v d a (Pre.Mx q k a) _ _ _ _ _ _
    (fun Q p h l => in_q m c q a hq ha Q p h l) (fun K p h l => in_k m c k a hk ha K p h l) (fun K p l => in_v m c v hv K p l)
    (fun Q p l => in_o m c q k v a hq hk hv ha Q p l) (fun Q p l => in_d m c d hd Q p l) (fun Q p h => in_s m c q k a hq hk ha Q p h) (Post.pa H) (Post.par H) K l).trans ?_
  rw [Post.ph_pa]

include hq hk ha hd in
/-- The values' gradient that the launch leaves. -/
theorem out_v (K : Fin 4096) (H : Fin 8) (e : Fin 64) :
    dvA m c (ix2 K (hw H e)) = ((∑ Q, d Q H e * pr q k a (Pre.Mx q k a) H Q K : ℝ) : EReal) := by
  obtain ⟨l, hl⟩ : ∃ l : Fin 128, l.val = 64 * (H.val % 2) + e.val := ⟨⟨64 * (H.val % 2) + e.val, by omega⟩, rfl⟩
  rw [dvA_at m c (ix2 K (hw H e)) K (Post.pa H) l rfl (show 64 * H.val + e.val = 128 * (H.val / 2) + l.val by omega)]
  refine (dvG_real q k d a (Pre.Mx q k a) _ _ _ _
    (fun Q p h l => in_q m c q a hq ha Q p h l) (fun K p h l => in_k m c k a hk ha K p h l)
    (fun Q p l => in_d m c d hd Q p l) (fun Q p h => in_s m c q k a hq hk ha Q p h) (Post.pa H) K l).trans ?_
  have h1 : headOf l = Post.par H := by
    unfold headOf
    refine Fin.ext ?_
    split
    · show 0 = H.val % 2
      omega
    · show 1 = H.val % 2
      omega
  have h2 : lane l = e := Fin.ext (show l.val % 64 = e.val by omega)
  rw [h1, h2, Post.ph_pa]

include hq hk hv ha hd in
/-- The queries' gradient. -/
theorem result_q : Post.val_main_v19 (F := Ideal) (dqA m c) = Cert.ReferenceIdeal.Read.val_main_v80 (F := Ideal) (lift3 q) (lift3 k) (lift3 v) (lift2 a) (lift3 d) :=
  funext fun i => ((congrArg _ (eq_ix3 i)).trans (Post.p19 q k v d a (Pre.Mx q k a) (dqA m c) (fun p h Q l => out_q m c q k v d a hq hk hv ha hd p h Q l) (i 0) (i 1) (i 2))).trans
    ((by rw [Mx_eq] : ((_ : ℝ) : EReal) = _).trans ((congrArg _ (eq_ix3 i)).trans (Cert.ReferenceIdeal.Real.r80 q k v d a (i 0) (i 1) (i 2))).symm)

include hq hk hv ha hd in
/-- The keys' gradient. -/
theorem result_k : Post.val_main_v20 (F := Ideal) (dkA m c) = Cert.ReferenceIdeal.Read.val_main_v78 (F := Ideal) (lift3 q) (lift3 k) (lift3 v) (lift2 a) (lift3 d) :=
  funext fun i => ((congrArg _ (eq_ix3 i)).trans (Post.p20 q k v d a (Pre.Mx q k a) (dkA m c) (fun K H l => out_k m c q k v d a hq hk hv ha hd K H l) (i 0) (i 1) (i 2))).trans
    ((by rw [Mx_eq] : ((_ : ℝ) : EReal) = _).trans ((congrArg _ (eq_ix3 i)).trans (Cert.ReferenceIdeal.Real.r78 q k v d a (i 0) (i 1) (i 2))).symm)

include hq hk ha hd in
/-- The values' gradient. -/
theorem result_v : Post.val_main_v21 (F := Ideal) (dvA m c) = Cert.ReferenceIdeal.Read.val_main_v51 (F := Ideal) (lift3 q) (lift3 k) (lift2 a) (lift3 d) :=
  funext fun i => ((congrArg _ (eq_ix3 i)).trans (Post.p21 q k d a (Pre.Mx q k a) (dvA m c) (fun K H e => out_v m c q k d a hq hk ha hd K H e) (i 0) (i 1) (i 2))).trans
    ((by rw [Mx_eq] : ((_ : ℝ) : EReal) = _).trans ((congrArg _ (eq_ix3 i)).trans (Cert.ReferenceIdeal.Real.r51 q k d a (i 0) (i 1) (i 2))).symm)

include hq hk hv ha hd in
/-- The gradient of the sums of the log forget gates. -/
theorem result_c : Post.val_main_v22 (F := Ideal) (dqA m c) (dkA m c) = Cert.ReferenceIdeal.Read.val_main_v74 (F := Ideal) (lift3 q) (lift3 k) (lift3 v) (lift2 a) (lift3 d) :=
  funext fun i => ((congrArg _ (eq_ix2 i)).trans (Post.p22 q k v d a (Pre.Mx q k a) (dqA m c) (dkA m c)
    (fun p h Q l => out_q m c q k v d a hq hk hv ha hd p h Q l) (fun K H l => out_k m c q k v d a hq hk hv ha hd K H l) (i 0) (i 1))).trans
    ((by rw [Mx_eq] : ((_ : ℝ) : EReal) = _).trans ((congrArg _ (eq_ix2 i)).trans (Cert.ReferenceIdeal.Real.r74 q k v d a (i 0) (i 1))).symm)

end

end Cert.KernelIdeal.Attn

end
-- ==== Proof.Attn.Results.lean ====
module

public import proofs.«01_k».proof.Proof.Attn.Value
public import Idealize.ShloMosaic.Lib.Pipeline.FrameSuffix

@[expose] public section

set_option maxRecDepth 16384

noncomputable section

/-!
  The program's run: its four results are read off the three arrays that the launch leaves, and its arguments end unchanged.
-/

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem arr_inj : Function.Injective (Pipeline.arrRef spec0) := by decide

/-- What the host operations after the launch find: the launch's arrays as it left them, everything else as before it. -/
def left (c : Dev nD) : Valuation τ sig (Elt Ideal) := Pipeline.withArrays spec0 c (V0 m c) fun w => (dats m 0 c).arrAt w (cfgs 0).N

theorem left_q (c : Dev nD) : left m c (Proc.devRef .tc main_v109_0) = dqA m c :=
  (Pipeline.withArrays_arr spec0 arr_inj c (V0 m c) (fun w => (dats m 0 c).arrAt w (cfgs 0).N) 6).trans (final_6 m c)

theorem left_k (c : Dev nD) : left m c (Proc.devRef .tc main_v109_1) = dkA m c :=
  (Pipeline.withArrays_arr spec0 arr_inj c (V0 m c) (fun w => (dats m 0 c).arrAt w (cfgs 0).N) 7).trans (final_7 m c)

theorem left_v (c : Dev nD) : left m c (Proc.devRef .tc main_v109_2) = dvA m c :=
  (Pipeline.withArrays_arr spec0 arr_inj c (V0 m c) (fun w => (dats m 0 c).arrAt w (cfgs 0).N) 8).trans (final_8 m c)

theorem left_42 (c : Dev nD) : left m c (Proc.devRef .tc main_v42) = Post.val_main_v2 (F := Ideal) :=
  (Pipeline.withArrays_of_ne spec0 c (V0 m c) _ main_v42 (by exact (by decide : ∀ w, Pipeline.arrRef spec0 w ≠ main_v42))).trans (V_main_v42 m c)

/-- The run with what it leaves in its results. -/
theorem results : θ_run defs (onTc (τ := τ) (main (F := Ideal))) ⟨m, fun _ => 0, ρ⟩ (fun r => ∀ c : Dev nD,
      r.2.mem ((c.tc : Thread nD τ).loc main_v126) = Post.val_main_v19 (F := Ideal) (dqA m c)
      ∧ r.2.mem ((c.tc : Thread nD τ).loc main_v127) = Post.val_main_v20 (F := Ideal) (dkA m c)
      ∧ r.2.mem ((c.tc : Thread nD τ).loc main_v128) = Post.val_main_v21 (F := Ideal) (dvA m c)
      ∧ r.2.mem ((c.tc : Thread nD τ).loc main_v129) = Post.val_main_v22 (F := Ideal) (dqA m c) (dkA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).2 main_v126 (Pipeline.mem_restRefs_of main_v126 (by decide) (by decide))).trans
        ((tail_main_v126 (left m c)).trans (congrArg _ (left_q m c))),
      ((h.1 c).2 main_v127 (Pipeline.mem_restRefs_of main_v127 (by decide) (by decide))).trans
        ((tail_main_v127 (left m c)).trans (congrArg _ (left_k m c))),
      ((h.1 c).2 main_v128 (Pipeline.mem_restRefs_of main_v128 (by decide) (by decide))).trans
        ((tail_main_v128 (left m c)).trans (congrArg _ (left_v m c))),
      ((h.1 c).2 main_v129 (Pipeline.mem_restRefs_of main_v129 (by decide) (by decide))).trans
        ((tail_main_v129 (left m c) (left_42 m c)).trans (congrArg₂ _ (left_q m c) (left_k m c))),
      h.2.1 c⟩) (θ_run_and (run_main m ρ) (frame m ρ))

end Cert.KernelIdeal.Attn

end
-- ==== Proof.Attn.Finite.lean ====
module

public import proofs.«01_k».proof.Pre_finite
public import proofs.«01_k».proof.Proof.Attn.Reals
public import Idealize.ShloMosaic.Lib.Pointwise.Select
public import Idealize.ShloMosaic.Lib.ValueIdx

@[expose] public section

noncomputable section

/-!
  The precondition: every element of the arguments is finite, so that the arguments are arrays of reals.
-/

namespace Cert.Pre_finite

open Idealize.ShloMosaic Cert.Attn

/-- The shape relations of the precondition's operations. -/
theorem holds : Facts where
  bcast_S_S4096x8x64 := by decide
  bcast_S_S4096x8 := by decide

/-- A number of absolute value less than `∞` is neither infinity. -/
theorem finite_of_lt {x : EReal} (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  rw [ofBits_top] at h
  have h' : max x (-x) < ⊤ := by
    by_contra hn
    have h0 : FloatOps.cmpf (F := Ideal) (φ := .f32) .olt (FloatOps.hostAbsf (F := Ideal) (φ := .f32) x) (⊤ : EReal) = 0#1 :=
      congrArg BitVec.ofBool (decide_eq_false hn)
    exact absurd (h0.symm.trans h) (by decide)
  refine EReal.coe_toReal (fun e => ?_) (fun e => ?_)
  · rw [e] at h'
    exact absurd (lt_of_le_of_lt (le_max_left _ _) h') (lt_irrefl _)
  · rw [e] at h'
    exact absurd (lt_of_le_of_lt (le_max_right _ _) h') (by rw [EReal.neg_bot]; exact lt_irrefl _)

variable (x : FVec Ideal S4096x8x64 .f32) (y : FVec Ideal S4096x8 .f32)

/-- A three-dimensional array of finite elements is an array of reals. -/
theorem lift_of_finite3 (z : FVec Ideal S_ .f32) (hz : z = constant S_ .f32 0x7F800000#32) (hb : S_.BroadcastsInDim S4096x8x64 (![] : Fin 0 → Fin S4096x8x64.rank))
    (h : cmpf .olt (Host.absf x) (broadcastInDim S4096x8x64 ![] hb z) = fun _ => 1#1) : ∃ r : Fin 4096 → Fin 8 → Fin 64 → ℝ, x = lift3 r := by
  subst hz
  refine ⟨fun a b e => (x (ix3 a b e)).toReal, funext fun i => ?_⟩
  exact (finite_of_lt (congrFun h i)).symm.trans (congrArg (fun j => (((x j : EReal).toReal : ℝ) : EReal)) (eq_ix3 i))

/-- A two-dimensional array of finite elements is an array of reals. -/
theorem lift_of_finite2 (z : FVec Ideal S_ .f32) (hz : z = constant S_ .f32 0x7F800000#32) (hb : S_.BroadcastsInDim S4096x8 (![] : Fin 0 → Fin S4096x8.rank))
    (h : cmpf .olt (Host.absf y) (broadcastInDim S4096x8 ![] hb z) = fun _ => 1#1) : ∃ r : Fin 4096 → Fin 8 → ℝ, y = lift2 r := by
  subst hz
  refine ⟨fun a b => (y (ix2 a b)).toReal, funext fun i => ?_⟩
  exact (finite_of_lt (congrFun h i)).symm.trans (congrArg (fun j => (((y j : EReal).toReal : ℝ) : EReal)) (eq_ix2 i))

end Cert.Pre_finite

end
-- ==== Proof.FfnP.State.lean ====
module

public import proofs.«01_k».proof.Proof.Gen.FfnIdeal.Skeleton
public import Idealize.ShloMosaic.Lib.VecWindow

@[expose] public section

set_option maxRecDepth 16384

noncomputable section

/-!
  What one point of the grid leaves in the buffers that the points share, as functions of what it reads.
-/

namespace Cert.FfnIdeal.FfnP

open Cert.FfnIdeal Cert.FfnIdeal.Gen
open Idealize.ShloMosaic Idealize.ShloMosaic.TcCoe
open VecWindow

variable {F : FTy → Type} [FloatOps F]

/-- The activation of 256 rows, of their gate and up values. -/
def act (g u : Vec F S256x256 .bf16) : FVec F S256x256 .bf16 := k0_pay19 (k0_pay10 u) (k0_pay12 g)

/-- The gradients of the gate and up values of 256 rows, side by side. -/
def dgu (g u : Vec F S256x256 .bf16) (d w : Vec F S256x1024 .bf16) : FVec F S256x512 .bf16 :=
  k0_pay17 (k0_pay9 g) (k0_pay11 g) (k0_pay14 g d w) (k0_pay15 u d w) (k0_pay16 g)

/-- The gradient of 256 rows of the layer's input: what was there and this point's part. -/
def dxPut (wg wu : Vec F S256x1024 .bf16) (g u : Vec F S256x256 .bf16) (d w : Vec F S256x1024 .bf16) (v : Vec F S256x1024 .f32) :
    FVec F S256x1024 .f32 :=
  k0_pay18 (k0_pay8 wg wu) (k0_pay9 g) (k0_pay11 g) (k0_pay14 g d w) (k0_pay15 u d w) (k0_pay16 g) v

theorem inb_q (q : Fin 4) : ∀ a, (![256 * q.val, 0] : Fin 2 → ℕ) a + S256x256.size a ≤ S1024x256.size a := by revert q; decide
theorem inb_d (q : Fin 4) : ∀ a, (![256 * q.val, 0] : Fin 2 → ℕ) a + S256x1024.size a ≤ S1024x1024.size a := by revert q; decide

/-- The `q`-th 256 rows of a gate or up block, -/
def rowsQ (x : Vec F S1024x256 .bf16) (q : Fin 4) : Vec F S256x256 .bf16 := window x ![256 * q.val, 0] S256x256.size (inb_q q)
/-- and of a block of the cotangent. -/
def rowsD (x : Vec F S1024x1024 .bf16) (q : Fin 4) : Vec F S256x1024 .bf16 := window x ![256 * q.val, 0] S256x1024.size (inb_d q)

/-- The gate's and up's weight gradients after a point that finds `y`. -/
def guNext (x0 : Vec F S1024x1024 .bf16) (x1 x2 : Vec F S1024x256 .bf16) (x3 : Vec F S1024x1024 .bf16) (x6 : Vec F S256x1024 .bf16)
    (y : Vec F S512x1024 .f32) : Vec F S512x1024 .f32 :=
  k0_pay1 y (concatenate S1024x512 0 [⟨S256x512, dgu (rowsQ x1 0) (rowsQ x2 0) (rowsD x3 0) x6⟩, ⟨S256x512, dgu (rowsQ x1 1) (rowsQ x2 1) (rowsD x3 1) x6⟩,
    ⟨S256x512, dgu (rowsQ x1 2) (rowsQ x2 2) (rowsD x3 2) x6⟩, ⟨S256x512, dgu (rowsQ x1 3) (rowsQ x2 3) (rowsD x3 3) x6⟩]
    concatenates_S256x512_S256x512_S256x512_S256x512_S1024x512_d0) x0

/-- The last weight's gradient after a point that finds `y`. -/
def dNext (x1 x2 : Vec F S1024x256 .bf16) (x3 : Vec F S1024x1024 .bf16) (y : Vec F S256x1024 .f32) : Vec F S256x1024 .f32 :=
  k0_pay45 (act (rowsQ x1 0) (rowsQ x2 0)) (act (rowsQ x1 1) (rowsQ x2 1)) (act (rowsQ x1 2) (rowsQ x2 2))
    (k0_pay39 (rowsQ x2 3)) (k0_pay41 (rowsQ x1 3)) y x3

/-- The buffer of the input's gradient after a point's four blocks of rows are put over what it held. -/
def put4 (i : grid0.Coords) (y : Vec F S4096x1024 .f32) (p0 p1 p2 p3 : FVec F S256x1024 .f32) : Vec F S4096x1024 .f32 :=
  put (put (put (put y (k0_off2 i 0#32) S256x1024.size p0) (k0_off2 i 256#32) S256x1024.size p1) (k0_off2 i 512#32) S256x1024.size p2)
    (k0_off2 i 768#32) S256x1024.size p3

/-- The four blocks' values. -/
def dxNext (i : grid0.Coords) (x1 x2 : Vec F S1024x256 .bf16) (x3 : Vec F S1024x1024 .bf16) (x4 x5 x6 : Vec F S256x1024 .bf16)
    (y : Vec F S4096x1024 .f32) : Vec F S4096x1024 .f32 :=
  put4 i y (dxPut x4 x5 (rowsQ x1 0) (rowsQ x2 0) (rowsD x3 0) x6 (window y (k0_off2 i 0#32) S256x1024.size (k0_off2_inb i 0)))
    (dxPut x4 x5 (rowsQ x1 1) (rowsQ x2 1) (rowsD x3 1) x6 (window y (k0_off2 i 256#32) S256x1024.size (k0_off2_inb i 1)))
    (dxPut x4 x5 (rowsQ x1 2) (rowsQ x2 2) (rowsD x3 2) x6 (window y (k0_off2 i 512#32) S256x1024.size (k0_off2_inb i 2)))
    (dxPut x4 x5 (rowsQ x1 3) (rowsQ x2 3) (rowsD x3 3) x6 (window y (k0_off2 i 768#32) S256x1024.size (k0_off2_inb i 3)))

theorem put4_congr (i : grid0.Coords) (y : Vec F S4096x1024 .f32) {p0 p1 p2 p3 p0' p1' p2' p3' : FVec F S256x1024 .f32}
    (h0 : p0 = p0') (h1 : p1 = p1') (h2 : p2 = p2') (h3 : p3 = p3') : put4 i y p0 p1 p2 p3 = put4 i y p0' p1' p2' p3' := by
  rw [h0, h1, h2, h3]

/-- The input's gradient as a point takes it up: at the first block of features its rows are set to zero. -/
def dxFrom (i : grid0.Coords) (y : Vec F S4096x1024 .f32) : Vec F S4096x1024 .f32 :=
  put y (k0_off1 i) S1024x1024.size (k0_pay5 (F := F))

/-! The four blocks of rows are treated alike. -/

theorem dx_0 (wg wu : Vec F S256x1024 .bf16) (g u : Vec F S256x256 .bf16) (d w : Vec F S256x1024 .bf16) (v : Vec F S256x1024 .f32) :
    k0_pay18 (k0_pay8 wg wu) (k0_pay9 g) (k0_pay11 g) (k0_pay14 g d w) (k0_pay15 u d w) (k0_pay16 g) v = dxPut wg wu g u d w v := rfl
theorem dx_1 (wg wu : Vec F S256x1024 .bf16) (g u : Vec F S256x256 .bf16) (d w : Vec F S256x1024 .bf16) (v : Vec F S256x1024 .f32) :
    k0_pay27 (k0_pay8 wg wu) (k0_pay20 g) (k0_pay21 u) (k0_pay22 g) (k0_pay24 d w) (k0_pay25 g d w) v = dxPut wg wu g u d w v := rfl
theorem dx_2 (wg wu : Vec F S256x1024 .bf16) (g u : Vec F S256x256 .bf16) (d w : Vec F S256x1024 .bf16) (v : Vec F S256x1024 .f32) :
    k0_pay36 (k0_pay8 wg wu) (k0_pay29 g) (k0_pay30 u) (k0_pay31 g) (k0_pay32 g) (k0_pay33 d) (k0_pay34 w) v = dxPut wg wu g u d w v := rfl
theorem dx_3 (wg wu : Vec F S256x1024 .bf16) (g u : Vec F S256x256 .bf16) (d w : Vec F S256x1024 .bf16) (v : Vec F S256x1024 .f32) :
    k0_pay44 (k0_pay8 wg wu) (k0_pay38 g) (k0_pay39 u) (k0_pay40 g) (k0_pay41 g) (k0_pay42 d) w v = dxPut wg wu g u d w v := rfl

theorem dgu_1 (g u : Vec F S256x256 .bf16) (d w : Vec F S256x1024 .bf16) :
    k0_pay26 (k0_pay20 g) (k0_pay21 u) (k0_pay22 g) (k0_pay24 d w) (k0_pay25 g d w) = dgu g u d w := rfl
theorem dgu_2 (g u : Vec F S256x256 .bf16) (d w : Vec F S256x1024 .bf16) :
    k0_pay35 (k0_pay29 g) (k0_pay30 u) (k0_pay31 g) (k0_pay32 g) (k0_pay33 d) (k0_pay34 w) = dgu g u d w := rfl
theorem dgu_3 (g u : Vec F S256x256 .bf16) (d w : Vec F S256x1024 .bf16) :
    k0_pay43 (k0_pay38 g) (k0_pay39 u) (k0_pay40 g) (k0_pay41 g) (k0_pay42 d) w = dgu g u d w := rfl

theorem act_1 (g u : Vec F S256x256 .bf16) : k0_pay28 (k0_pay21 u) (k0_pay23 g) = act g u := rfl
theorem act_2 (g u : Vec F S256x256 .bf16) : k0_pay37 (k0_pay30 u) (k0_pay32 g) = act g u := rfl

end Cert.FfnIdeal.FfnP
end
-- ==== Proof.FfnP.Steps.lean ====
module

public import proofs.«01_k».proof.Proof.FfnP.State
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (Pipeline.UD sig nD τ) ℕ

abbrev scAcc : Memref sig .tc .vmem S4096x1024 .f32 := Memref.whole cc0_scratch0
abbrev scGu : Memref sig .tc .vmem S512x1024 .f32 := Memref.whole cc0_scratch1
abbrev scD : Memref sig .tc .vmem S256x1024 .f32 := Memref.whole cc0_scratch2
abbrev hbDx : Memref sig .tc .hbm S4096x1024 .f32 := Memref.whole main_v11_3

/-- A load of a rectangle, as a window of what the buffer reads. -/
theorem load_window {sg : RefSig} {κ : Kind} {sp : Space} {s : Shape} {e : EltTy} {Val : EltTy → Type} (v : View sg κ sp s e) (f : v.ty.Contents Val)
    {off size : Fin s.rank → ℕ} (inb : ∀ a, off a + size a ≤ s.size a) :
    v.readAt Val (Rect.unit off size inb).toLoadRect f = window (v.read Val f) off size inb :=
  View.readAt_unit v f inb rfl inb

/-- A store, as a put over what the earlier stores leave. -/
theorem store_put {sg : RefSig} {κ : Kind} {sp : Space} {s : Shape} {e : EltTy} {Val : EltTy → Type} (v : View sg κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- What the buffer of the input's gradient reads after the four stores of a point, over earlier stores `L` that leave `y`. -/
theorem acc4 {sp : Space} (v : View sig .tc sp S4096x1024 .f32) (f : v.ty.Contents (Elt F)) (L : List (View.Piece (Elt F) S4096x1024 .f32))
    (y : Vec F S4096x1024 .f32) (hy : v.read (Elt F) (v.writes (Elt F) f L) = y) (i : grid0.Coords) (p0 p1 p2 p3 : FVec F S256x1024 .f32) :
    v.read (Elt F) (v.writes (Elt F) f (⟨Rect.unit (s := S4096x1024) (k0_off2 i 768#32) S256x1024.size (k0_off2_inb i 3), p3⟩
      :: ⟨Rect.unit (s := S4096x1024) (k0_off2 i 512#32) S256x1024.size (k0_off2_inb i 2), p2⟩
      :: ⟨Rect.unit (s := S4096x1024) (k0_off2 i 256#32) S256x1024.size (k0_off2_inb i 1), p1⟩
      :: ⟨Rect.unit (s := S4096x1024) (k0_off2 i 0#32) S256x1024.size (k0_off2_inb i 0), p0⟩ :: L)) = put4 i y p0 p1 p2 p3 := by
  rw [store_put, store_put, store_put, store_put, hy]
  rfl

/-- A load that the stores before it cover. -/
theorem cover_window {sg : RefSig} {κ : Kind} {sp : Space} {s : Shape} {e : EltTy} {Val : EltTy → Type} [∀ e, Nonempty (Val e)] (v : View sg κ sp s e)
    (L : List (View.Piece Val s e)) {off size : Fin s.rank → ℕ} (inb : ∀ a, off a + size a ≤ s.size a) :
    v.readCov L (Rect.unit off size inb).toLoadRect = window (v.read Val (v.writes Val v.junk L)) off size inb :=
  load_window v _ inb

/-- The same load, of what the stores are known to leave. -/
theorem cover_of {sg : RefSig} {κ : Kind} {sp : Space} {s : Shape} {e : EltTy} {Val : EltTy → Type} [∀ e, Nonempty (Val e)] (v : View sg κ sp s e)
    (L : List (View.Piece Val s e)) {off size : Fin s.rank → ℕ} (inb : ∀ a, off a + size a ≤ s.size a) {y : s.Idx → Val e}
    (h : v.read Val (v.writes Val v.junk L) = y) : v.readCov L (Rect.unit off size inb).toLoadRect = window y off size inb := by
  rw [← h]
  exact load_window v _ inb

/-- The rows a point sets to zero read the same whatever was there. -/
theorem win_zero (i : grid0.Coords) (y y' : Vec F S4096x1024 .f32) (q : Fin 4) :
    window (dxFrom i y) (k0_off2 i (BitVec.ofNat 32 (256 * q.val))) S256x1024.size (k0_off2_inb i q)
      = window (dxFrom i y') (k0_off2 i (BitVec.ofNat 32 (256 * q.val))) S256x1024.size (k0_off2_inb i q) := by
  have h : ∀ a, k0_off1 i a ≤ k0_off2 i (BitVec.ofNat 32 (256 * q.val)) a
      ∧ k0_off2 i (BitVec.ofNat 32 (256 * q.val)) a + S256x1024.size a ≤ k0_off1 i a + S1024x1024.size a := by
    rw [k0_off1_eq, k0_off2_eq]
    have hq := q.isLt
    intro a
    fin_cases a
    · show 1024 * (i 1).val ≤ 1024 * (i 1).val + 256 * q.val ∧ 1024 * (i 1).val + 256 * q.val + 256 ≤ 1024 * (i 1).val + 1024
      omega
    · show 0 ≤ 0 ∧ 0 + 1024 ≤ 0 + 1024
      omega
  exact (window_put_of_inside (s := S4096x1024) y _ _ _ _ (k0_off2_inb i q) _ h).trans
    (window_put_of_inside (s := S4096x1024) y' _ _ _ _ (k0_off2_inb i q) _ h).symm

/-- One block's store leaves another block's rows. -/
theorem win_other (i : grid0.Coords) (y : Vec F S4096x1024 .f32) (p : FVec F S256x1024 .f32) (q q' : Fin 4) (hq : q ≠ q') :
    window (put y (k0_off2 i (BitVec.ofNat 32 (256 * q.val))) S256x1024.size p) (k0_off2 i (BitVec.ofNat 32 (256 * q'.val))) S256x1024.size (k0_off2_inb i q')
      = window y (k0_off2 i (BitVec.ofNat 32 (256 * q'.val))) S256x1024.size (k0_off2_inb i q') := by
  have hq' : q.val ≠ q'.val := fun e => hq (Fin.ext e)
  refine window_put_of_disjoint (s := S4096x1024) y _ _ _ _ (k0_off2_inb i q') p 0 ?_
  rw [k0_off2_eq, k0_off2_eq]
  show 1024 * (i 1).val + 256 * q'.val + 256 ≤ 1024 * (i 1).val + 256 * q.val ∨ 1024 * (i 1).val + 256 * q.val + 256 ≤ 1024 * (i 1).val + 256 * q'.val
  omega

/-! The four blocks' loads after the rows are set to zero. -/

section
variable {sp : Space} (v : View sig .tc sp S4096x1024 .f32) (i : grid0.Coords) (h1 : k0_cond1 i = 1#1) (a : Vec F S4096x1024 .f32) (p0 p1 p2 : FVec F S256x1024 .f32)

theorem cov_0 : v.readCov (Val := Elt F) [⟨Rect.unit (s := S4096x1024) (k0_off1 i) S1024x1024.size (k0_off1_inb i h1), k0_pay5⟩]
      (Rect.unit (s := S4096x1024) (k0_off2 i 0#32) S256x1024.size (k0_off2_inb i 0)).toLoadRect = window (dxFrom i a) (k0_off2 i 0#32) S256x1024.size (k0_off2_inb i 0) := by
  refine (cover_window v _ _).trans ?_
  rw [store_put]
  exact win_zero i _ a 0

theorem cov_1 : v.readCov (Val := Elt F) [⟨Rect.unit (s := S4096x1024) (k0_off2 i 0#32) S256x1024.size (k0_off2_inb i 0), p0⟩,
        ⟨Rect.unit (s := S4096x1024) (k0_off1 i) S1024x1024.size (k0_off1_inb i h1), k0_pay5⟩]
      (Rect.unit (s := S4096x1024) (k0_off2 i 256#32) S256x1024.size (k0_off2_inb i 1)).toLoadRect = window (dxFrom i a) (k0_off2 i 256#32) S256x1024.size (k0_off2_inb i 1) := by
  refine (cover_window v _ _).trans ?_
  rw [store_put, store_put]
  exact (win_other i _ _ 0 1 (by decide)).trans (win_zero i _ a 1)

theorem cov_2 : v.readCov (Val := Elt F) [⟨Rect.unit (s := S4096x1024) (k0_off2 i 256#32) S256x1024.size (k0_off2_inb i 1), p1⟩,
        ⟨Rect.unit (s := S4096x1024) (k0_off2 i 0#32) S256x1024.size (k0_off2_inb i 0), p0⟩,
        ⟨Rect.unit (s := S4096x1024) (k0_off1 i) S1024x1024.size (k0_off1_inb i h1), k0_pay5⟩]
      (Rect.unit (s := S4096x1024) (k0_off2 i 512#32) S256x1024.size (k0_off2_inb i 2)).toLoadRect = window (dxFrom i a) (k0_off2 i 512#32) S256x1024.size (k0_off2_inb i 2) := by
  refine (cover_window v _ _).trans ?_
  rw [store_put, store_put, store_put]
  exact (win_other i _ _ 1 2 (by decide)).trans ((win_other i _ _ 0 2 (by decide)).trans (win_zero i _ a 2))

theorem cov_3 : v.readCov (Val := Elt F) [⟨Rect.unit (s := S4096x1024) (k0_off2 i 512#32) S256x1024.size (k0_off2_inb i 2), p2⟩,
        ⟨Rect.unit (s := S4096x1024) (k0_off2 i 256#32) S256x1024.size (k0_off2_inb i 1), p1⟩,
        ⟨Rect.unit (s := S4096x1024) (k0_off2 i 0#32) S256x1024.size (k0_off2_inb i 0), p0⟩,
        ⟨Rect.unit (s := S4096x1024) (k0_off1 i) S1024x1024.size (k0_off1_inb i h1), k0_pay5⟩]
      (Rect.unit (s := S4096x1024) (k0_off2 i 768#32) S256x1024.size (k0_off2_inb i 3)).toLoadRect = window (dxFrom i a) (k0_off2 i 768#32) S256x1024.size (k0_off2_inb i 3) := by
  refine (cover_window v _ _).trans ?_
  rw [store_put, store_put, store_put, store_put]
  exact (win_other i _ _ 2 3 (by decide)).trans ((win_other i _ _ 1 3 (by decide)).trans ((win_other i _ _ 0 3 (by decide)).trans (win_zero i _ a 3)))

end

theorem inb_g0 : ∀ a, (![0, 0] : Fin 2 → ℕ) a + S256x1024.size a ≤ S512x1024.size a := by decide
theorem inb_g1 : ∀ a, (![256, 0] : Fin 2 → ℕ) a + S256x1024.size a ≤ S512x1024.size a := by decide

/-- The blocks of the three weights' gradients, once the last rows' part is in. -/
def outG (g : Vec F S512x1024 .f32) : FVec F S256x1024 .bf16 := k0_pay2 (window g ![0, 0] S256x1024.size inb_g0)
def outU (g : Vec F S512x1024 .f32) : FVec F S256x1024 .bf16 := k0_pay3 (window g ![256, 0] S256x1024.size inb_g1)

end Cert.FfnIdeal.FfnP
end
-- ==== Proof.FfnP.Rows.lean ====
module

public import proofs.«01_k».proof.Proof.Gen.FfnIdeal.Frame
public import proofs.«01_k».proof.Proof.FfnP.Steps
public import Idealize.ShloMosaic.Lib.Pointwise.Index
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

/-!
  The buffer of the input's gradient, by its sixteen blocks of 256 rows: each is built up over the eleven blocks of features, one point at a time.
-/

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (Pipeline.UD sig nD τ) ℕ

variable (m : (ℓ : Loc nD τ sig) → Buf (Elt F) ℓ)

/-! The point's two coordinates, and the body's conditions on them. -/

theorem row_val (t : Fin cfg0.N) : (grid0.coords t 1).val = t.val % 4 :=
  (Pipeline.Grid.coords_val t 1 (by decide) rfl : (grid0.coords t 1).val = t.val / 1 % 4).trans (by rw [Nat.div_one])
theorem col_val (t : Fin cfg0.N) : (grid0.coords t 0).val = t.val / 4 := by
  have ht : t.val < 44 := Nat.lt_of_lt_of_eq t.isLt N_0
  have e : (grid0.coords t 0).val = t.val / 4 % 11 := Pipeline.Grid.coords_val t 0 (by decide) rfl
  omega

theorem cond1_iff (t : Fin cfg0.N) : k0_cond1 (grid0.coords t) = 1#1 ↔ t.val < 4 := by
  have ht : t.val < 44 := Nat.lt_of_lt_of_eq t.isLt N_0
  unfold k0_cond1
  simp only [col_val]
  word_cmp
theorem cond2_iff (t : Fin cfg0.N) :
    (Scalar.cmpi .ne (Scalar.extui (Scalar.cmpi .eq (BitVec.ofNat 32 (grid0.coords t 1).val) 0#32)) 0#32) = 1#1 ↔ t.val % 4 = 0 := by
  have ht : t.val < 44 := Nat.lt_of_lt_of_eq t.isLt N_0
  simp only [row_val]
  word_cmp
theorem cond3_iff (t : Fin cfg0.N) : k0_cond3 (grid0.coords t) = 1#1 ↔ t.val % 4 = 3 := by
  have ht : t.val < 44 := Nat.lt_of_lt_of_eq t.isLt N_0
  unfold k0_cond3
  simp only [row_val]
  word_cmp
theorem cond4_iff (t : Fin cfg0.N) :
    (Scalar.cmpi .ne (Scalar.extui (Scalar.andi (Scalar.cmpi .eq (BitVec.ofNat 32 (grid0.coords t 0).val) 10#32)
      (Scalar.cmpi .eq (BitVec.ofNat 32 (grid0.coords t 1).val) 3#32))) 0#32) = 1#1 ↔ t.val = 43 := by
  have ht : t.val < 44 := Nat.lt_of_lt_of_eq t.isLt N_0
  simp only [row_val, col_val]
  revert ht
  generalize t.val = n
  intro hn
  revert n
  decide +kernel

/-! The blocks of rows. -/

theorem inb_k (k : Fin 16) : ∀ a, (![256 * k.val, 0] : Fin 2 → ℕ) a + S256x1024.size a ≤ S4096x1024.size a := by revert k; decide

/-- The `k`-th 256 rows. -/
def winK (y : Vec F S4096x1024 .f32) (k : Fin 16) : Vec F S256x1024 .f32 := window y ![256 * k.val, 0] S256x1024.size (inb_k k)

theorem window_off {y : Vec F S4096x1024 .f32} {off off' : Fin 2 → ℕ} (e : off = off') (h h') :
    window (s := S4096x1024) y off S256x1024.size h = window (s := S4096x1024) y off' S256x1024.size h' := by
  subst e
  rfl

theorem off_k (i : grid0.Coords) (q : Fin 4) (k : Fin 16) (hk : k.val = 4 * (i 1).val + q.val) :
    k0_off2 i (BitVec.ofNat 32 (256 * q.val)) = ![256 * k.val, 0] := by
  rw [k0_off2_eq, hk, Nat.mul_add, ← Nat.mul_assoc]

theorem winK_at (i : grid0.Coords) (q : Fin 4) (k : Fin 16) (hk : k.val = 4 * (i 1).val + q.val) (y : Vec F S4096x1024 .f32) :
    window y (k0_off2 i (BitVec.ofNat 32 (256 * q.val))) S256x1024.size (k0_off2_inb i q) = winK y k :=
  window_off (off_k i q k hk) _ _

/-- The payload of each block's store. -/
def dxPay (i : grid0.Coords) (x1 x2 : Vec F S1024x256 .bf16) (x3 : Vec F S1024x1024 .bf16) (x4 x5 x6 : Vec F S256x1024 .bf16)
    (y : Vec F S4096x1024 .f32) (q : Fin 4) : FVec F S256x1024 .f32 :=
  dxPut x4 x5 (rowsQ x1 q) (rowsQ x2 q) (rowsD x3 q) x6 (window y (k0_off2 i (BitVec.ofNat 32 (256 * q.val))) S256x1024.size (k0_off2_inb i q))

theorem put4_win (i : grid0.Coords) (y : Vec F S4096x1024 .f32) (p : Fin 4 → FVec F S256x1024 .f32) (q : Fin 4) :
    window (put4 i y (p 0) (p 1) (p 2) (p 3)) (k0_off2 i (BitVec.ofNat 32 (256 * q.val))) S256x1024.size (k0_off2_inb i q) = p q := by
  unfold put4
  fin_cases q
  · exact (win_other i _ (p 3) 3 0 (by decide)).trans ((win_other i _ (p 2) 2 0 (by decide)).trans ((win_other i _ (p 1) 1 0 (by decide)).trans (window_put_same _ _ _ _ _)))
  · exact (win_other i _ (p 3) 3 1 (by decide)).trans ((win_other i _ (p 2) 2 1 (by decide)).trans (window_put_same _ _ _ _ _))
  · exact (win_other i _ (p 3) 3 2 (by decide)).trans (window_put_same _ _ _ _ _)
  · exact window_put_same _ _ _ _ _

/-- A point's own blocks after it, -/
theorem dxNext_own (i : grid0.Coords) (x1 x2 : Vec F S1024x256 .bf16) (x3 : Vec F S1024x1024 .bf16) (x4 x5 x6 : Vec F S256x1024 .bf16)
    (y : Vec F S4096x1024 .f32) (q : Fin 4) (k : Fin 16) (hk : k.val = 4 * (i 1).val + q.val) :
    winK (dxNext i x1 x2 x3 x4 x5 x6 y) k = dxPut x4 x5 (rowsQ x1 q) (rowsQ x2 q) (rowsD x3 q) x6 (winK y k) := by
  rw [← winK_at i q k hk, ← winK_at i q k hk]
  exact put4_win i y (dxPay i x1 x2 x3 x4 x5 x6 y) q

theorem put_else (i : grid0.Coords) (y : Vec F S4096x1024 .f32) (q : Fin 4) (p : FVec F S256x1024 .f32) (k : Fin 16) (hk : k.val / 4 ≠ (i 1).val) :
    winK (put y (k0_off2 i (BitVec.ofNat 32 (256 * q.val))) S256x1024.size p) k = winK y k := by
  have hq := q.isLt
  have hk' := k.isLt
  refine window_put_of_disjoint (s := S4096x1024) y _ _ _ _ (inb_k k) p 0 ?_
  rw [k0_off2_eq]
  show 256 * k.val + 256 ≤ 1024 * (i 1).val + 256 * q.val ∨ 1024 * (i 1).val + 256 * q.val + 256 ≤ 256 * k.val
  omega

/-- and the others. -/
theorem dxNext_else (i : grid0.Coords) (x1 x2 : Vec F S1024x256 .bf16) (x3 : Vec F S1024x1024 .bf16) (x4 x5 x6 : Vec F S256x1024 .bf16)
    (y : Vec F S4096x1024 .f32) (k : Fin 16) (hk : k.val / 4 ≠ (i 1).val) : winK (dxNext i x1 x2 x3 x4 x5 x6 y) k = winK y k :=
  (put_else i _ 3 _ k hk).trans ((put_else i _ 2 _ k hk).trans ((put_else i _ 1 _ k hk).trans (put_else i _ 0 _ k hk)))

theorem dxFrom_own (i : grid0.Coords) (y : Vec F S4096x1024 .f32) (k : Fin 16) (hk : k.val / 4 = (i 1).val) : winK (dxFrom i y) k = k0_pay7 := by
  have h : ∀ a, k0_off1 i a ≤ (![256 * k.val, 0] : Fin 2 → ℕ) a ∧ (![256 * k.val, 0] : Fin 2 → ℕ) a + S256x1024.size a ≤ k0_off1 i a + S1024x1024.size a := by
    rw [k0_off1_eq]
    intro a
    fin_cases a
    · show 1024 * (i 1).val ≤ 256 * k.val ∧ 256 * k.val + 256 ≤ 1024 * (i 1).val + 1024
      omega
    · show 0 ≤ 0 ∧ 0 + 1024 ≤ 0 + 1024
      omega
  exact (window_put_of_inside (s := S4096x1024) y _ _ _ _ (inb_k k) _ h).trans rfl

theorem dxFrom_else (i : grid0.Coords) (y : Vec F S4096x1024 .f32) (k : Fin 16) (hk : k.val / 4 ≠ (i 1).val) : winK (dxFrom i y) k = winK y k := by
  have hk' := k.isLt
  refine window_put_of_disjoint (s := S4096x1024) y _ _ _ _ (inb_k k) _ 0 ?_
  rw [k0_off1_eq]
  show 256 * k.val + 256 ≤ 1024 * (i 1).val ∨ 1024 * (i 1).val + 1024 ≤ 256 * k.val
  omega

/-! What the points leave, from the arrays. -/

/-- The point of the `n`-th block of features and the `k`-th 256 rows. -/
def pt (n : ℕ) (k : Fin 16) (h : n + 1 ≤ 11) : Fin cfg0.N := ⟨4 * n + k.val / 4, by
  have := k.isLt
  have e : cfg0.N = 44 := N_0
  omega⟩
/-- Which 256 of the point's 1024 rows. -/
def sub (k : Fin 16) : Fin 4 := ⟨k.val % 4, Nat.mod_lt _ (by decide)⟩

/-- The `k`-th 256 rows of the input's gradient after `n` blocks of features. -/
def accB (c : Dev nD) (k : Fin 16) : (n : ℕ) → n ≤ 11 → Vec F S256x1024 .f32
  | 0, _ => k0_pay7
  | n + 1, h => dxPut (iblk m c 4 (pt n k h)) (iblk m c 5 (pt n k h)) (rowsQ (iblk m c 1 (pt n k h)) (sub k)) (rowsQ (iblk m c 2 (pt n k h)) (sub k))
      (rowsD (iblk m c 3 (pt n k h)) (sub k)) (iblk m c 6 (pt n k h)) (accB c k n (Nat.le_of_succ_le h))

/-- What holds of the buffer after `t` points: a block of rows that `n` of them have treated holds its first `n` parts. -/
def Done (c : Dev nD) (t : ℕ) (a : Vec F S4096x1024 .f32) : Prop :=
  ∀ (k : Fin 16) (n : ℕ) (hn : n ≤ 11), 0 < n → (t + 3 - k.val / 4) / 4 = n → winK a k = accB m c k n hn

theorem done_zero (c : Dev nD) (a : Vec F S4096x1024 .f32) : Done m c 0 a := fun k n _ h e => by
  exfalso
  have := k.isLt
  omega

/-- The buffer as the point takes it up. -/
def accIn (t : Fin cfg0.N) (a : Vec F S4096x1024 .f32) : Vec F S4096x1024 .f32 := if t.val < 4 then dxFrom (grid0.coords t) a else a
/-- The buffer after the point. -/
def accOut (c : Dev nD) (t : Fin cfg0.N) (a : Vec F S4096x1024 .f32) : Vec F S4096x1024 .f32 :=
  dxNext (grid0.coords t) (iblk m c 1 t) (iblk m c 2 t) (iblk m c 3 t) (iblk m c 4 t) (iblk m c 5 t) (iblk m c 6 t) (accIn t a)

theorem done_succ (c : Dev nD) (t : Fin cfg0.N) (a : Vec F S4096x1024 .f32) (ha : Done m c t.val a) : Done m c (t.val + 1) (accOut m c t a) := by
  intro k n hn h0 e
  have ht : t.val < 44 := Nat.lt_of_lt_of_eq t.isLt N_0
  have hk := k.isLt
  have hr := row_val t
  unfold accOut
  by_cases hi : k.val / 4 = t.val % 4
  · obtain ⟨n, rfl⟩ : ∃ n', n = n' + 1 := ⟨n - 1, by omega⟩
    have hpt : pt n k hn = t := Fin.ext (by show 4 * n + k.val / 4 = t.val; omega)
    rw [dxNext_own _ _ _ _ _ _ _ _ (sub k) k (by rw [hr]; show k.val = 4 * (t.val % 4) + k.val % 4; omega)]
    have hin : winK (accIn t a) k = accB m c k n (Nat.le_of_succ_le hn) := by
      unfold accIn
      by_cases h4 : t.val < 4
      · rw [if_pos h4, dxFrom_own _ _ k (hi.trans hr.symm)]
        obtain rfl : n = 0 := by omega
        rfl
      · rw [if_neg h4]
        exact ha k n _ (by omega) (by omega)
    rw [hin]
    show _ = dxPut _ _ _ _ _ _ _
    rw [hpt]
  · rw [dxNext_else _ _ _ _ _ _ _ _ k (fun h => hi (h.trans hr))]
    have hin : winK (accIn t a) k = winK a k := by
      unfold accIn
      by_cases h4 : t.val < 4
      · rw [if_pos h4, dxFrom_else _ _ k (fun h => hi (h.trans hr))]
      · rw [if_neg h4]
    rw [hin]
    exact ha k n hn h0 (by omega)

/-- The input's gradient at the end. -/
def dxOut (c : Dev nD) : Vec F S4096x1024 .f32 := fun y =>
  accB m c ⟨(y 0).val / 256, by have h : (y 0).val < 4096 := (y 0).isLt; omega⟩ 11 (Nat.le_refl _) (ix2 ⟨(y 0).val % 256, Nat.mod_lt _ (by decide)⟩ (y 1))

theorem done_end (c : Dev nD) (a : Vec F S4096x1024 .f32) (ha : Done m c 44 a) : a = dxOut m c := by
  funext y
  have h : (y 0).val < 4096 := (y 0).isLt
  have e := congrFun (ha ⟨(y 0).val / 256, by omega⟩ 11 (Nat.le_refl _) (by decide) (by show (44 + 3 - (y 0).val / 256 / 4) / 4 = 11; omega))
    (ix2 ⟨(y 0).val % 256, Nat.mod_lt _ (by decide)⟩ (y 1))
  refine Eq.trans (congrArg a ?_) e
  funext x
  fin_cases x
  · exact Fin.ext (show (y 0).val = 256 * ((y 0).val / 256) + 1 * ((y 0).val % 256) by omega)
  · exact Fin.ext (show (y 1).val = 0 + 1 * (y 1).val by omega)

/-- The gate's and up's weight gradients after point `n`: taken up from zero at each block of features, -/
def guAfter (c : Dev nD) : (n : ℕ) → n < cfg0.N → Vec F S512x1024 .f32
  | 0, h => guNext (iblk m c 0 ⟨0, h⟩) (iblk m c 1 ⟨0, h⟩) (iblk m c 2 ⟨0, h⟩) (iblk m c 3 ⟨0, h⟩) (iblk m c 6 ⟨0, h⟩) k0_pay6
  | n + 1, h => guNext (iblk m c 0 ⟨n + 1, h⟩) (iblk m c 1 ⟨n + 1, h⟩) (iblk m c 2 ⟨n + 1, h⟩) (iblk m c 3 ⟨n + 1, h⟩) (iblk m c 6 ⟨n + 1, h⟩)
      (if (n + 1) % 4 = 0 then k0_pay6 else guAfter c n (Nat.lt_of_succ_lt h))
/-- and the last weight's. -/
def dAfter (c : Dev nD) : (n : ℕ) → n < cfg0.N → Vec F S256x1024 .f32
  | 0, h => dNext (iblk m c 1 ⟨0, h⟩) (iblk m c 2 ⟨0, h⟩) (iblk m c 3 ⟨0, h⟩) k0_pay7
  | n + 1, h => dNext (iblk m c 1 ⟨n + 1, h⟩) (iblk m c 2 ⟨n + 1, h⟩) (iblk m c 3 ⟨n + 1, h⟩)
      (if (n + 1) % 4 = 0 then k0_pay7 else dAfter c n (Nat.lt_of_succ_lt h))

/-- What holds of the two buffers after `n` points, inside a block of features. -/
def Held (c : Dev nD) (n : ℕ) (g : Vec F S512x1024 .f32) (d : Vec F S256x1024 .f32) : Prop :=
  n % 4 ≠ 0 → ∀ h : n - 1 < cfg0.N, g = guAfter m c (n - 1) h ∧ d = dAfter m c (n - 1) h

/-- The two buffers after a point, from what is held before it. -/
theorem held_succ (c : Dev nD) (t : Fin cfg0.N) (g : Vec F S512x1024 .f32) (d : Vec F S256x1024 .f32) (hh : Held m c t.val g d) :
    guNext (iblk m c 0 t) (iblk m c 1 t) (iblk m c 2 t) (iblk m c 3 t) (iblk m c 6 t) (if t.val % 4 = 0 then k0_pay6 else g) = guAfter m c t.val t.isLt
    ∧ dNext (iblk m c 1 t) (iblk m c 2 t) (iblk m c 3 t) (if t.val % 4 = 0 then k0_pay7 else d) = dAfter m c t.val t.isLt := by
  obtain ⟨n, hn⟩ := t
  cases n with
  | zero => exact ⟨rfl, rfl⟩
  | succ n =>
    by_cases h : (n + 1) % 4 = 0
    · constructor
      · show guNext _ _ _ _ _ (if (n + 1) % 4 = 0 then _ else _) = guNext _ _ _ _ _ (if (n + 1) % 4 = 0 then _ else _)
        rw [if_pos h, if_pos h]
      · show dNext _ _ _ (if (n + 1) % 4 = 0 then _ else _) = dNext _ _ _ (if (n + 1) % 4 = 0 then _ else _)
        rw [if_pos h, if_pos h]
    · obtain ⟨eg, ed⟩ := hh h (Nat.lt_of_succ_lt hn)
      constructor
      · show guNext _ _ _ _ _ (if (n + 1) % 4 = 0 then _ else g) = guNext _ _ _ _ _ (if (n + 1) % 4 = 0 then _ else _)
        rw [if_neg h, if_neg h, eg]; rfl
      · show dNext _ _ _ (if (n + 1) % 4 = 0 then _ else d) = dNext _ _ _ (if (n + 1) % 4 = 0 then _ else _)
        rw [if_neg h, if_neg h, ed]; rfl

theorem held_after (c : Dev nD) (t : Fin cfg0.N) : Held m c (t.val + 1) (guAfter m c t.val t.isLt) (dAfter m c t.val t.isLt) := fun _ _ => ⟨rfl, rfl⟩

end Cert.FfnIdeal.FfnP
end
-- ==== Proof.FfnP.BodyFirst.lean ====
module

public import proofs.«01_k».proof.Proof.FfnP.Steps
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (Pipeline.UD sig nD τ) ℕ

variable (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole)
  (x0 : Vec F S1024x1024 .bf16) (x1 : Vec F S1024x256 .bf16) (x2 : Vec F S1024x256 .bf16) (x3 : Vec F S1024x1024 .bf16) (x4 : Vec F S256x1024 .bf16) (x5 : Vec F S256x1024 .bf16) (x6 : Vec F S256x1024 .bf16) (y7 : Vec F S256x1024 .bf16) (y8 : Vec F S256x1024 .bf16) (y9 : Vec F S256x1024 .bf16) (a : Vec F S4096x1024 .f32) (g : Vec F S512x1024 .f32) (d : Vec F S256x1024 .f32)

set_option maxHeartbeats 1000000 in
/-- The first rows of the first block of features. -/
theorem body_00 (h1 : k0_cond1 i = 1#1) (h2 : (Scalar.cmpi .ne (Scalar.extui (Scalar.cmpi .eq (BitVec.ofNat 32 (i 1).val) 0#32)) 0#32) = 1#1) (h3 : ¬ k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare (dxNext i x1 x2 x3 x4 x5 x6 (dxFrom i a)) ∗ owns (c : Thread nD τ) scGu fullShare (guNext x0 x1 x2 x3 x6 k0_pay6) ∗ owns (c : Thread nD τ) scD fullShare (dNext x1 x2 x3 k0_pay7))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [HA]
  · iexists _; isplitr; swap; · iexact HA
    ipureintro
    refine (acc4 scAcc.view fa _ (dxFrom i _) (store_put _ _ _ _ _) i _ _ _ _).trans ?_
    rw [← e4, ← e5, ← e6]
    refine put4_congr i _ ?_ ?_ ?_ ?_
    · exact (dx_0 _ _ _ _ _ _ _).trans (congrArg (dxPut _ _ _ _ _ _) (cov_0 scAcc.view i h1 _))
    · exact (dx_1 _ _ _ _ _ _ _).trans (congrArg (dxPut _ _ _ _ _ _) (cov_1 scAcc.view i h1 _ _))
    · exact (dx_2 _ _ _ _ _ _ _).trans (congrArg (dxPut _ _ _ _ _ _) (cov_2 scAcc.view i h1 _ _ _))
    · exact (dx_3 _ _ _ _ _ _ _).trans (congrArg (dxPut _ _ _ _ _ _) (cov_3 scAcc.view i h1 _ _ _ _))
  isplitl [HG]
  · iexists _; isplitr; swap; · iexact HG
    ipureintro
    refine (View.read_writes_full (Val := Elt F) scGu.view fg inb_S512x1024_S512x1024_0_0 _ _).trans ?_
    refine (congrArg (fun z => k0_pay1 z _ _) (View.readCov_full _ _ _ _ _)).trans ?_
    rw [← e6, ← e0]
    rfl
  iexists _; isplitr; swap; · iexact HD
  ipureintro
  refine (View.read_writes_full (Val := Elt F) scD.view fd inb_S256x1024_S256x1024_0_0 _ _).trans ?_
  refine (congrArg (fun z => k0_pay45 _ _ _ _ _ z _) (View.readCov_full _ _ _ _ _)).trans ?_
  conv => rhs; rw [← e3]
  rfl

set_option maxHeartbeats 1000000 in
/-- Rows between, of the first block of features. -/
theorem body_01 (h1 : k0_cond1 i = 1#1) (h2 : ¬ (Scalar.cmpi .ne (Scalar.extui (Scalar.cmpi .eq (BitVec.ofNat 32 (i 1).val) 0#32)) 0#32) = 1#1) (h3 : ¬ k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare (dxNext i x1 x2 x3 x4 x5 x6 (dxFrom i a)) ∗ owns (c : Thread nD τ) scGu fullShare (guNext x0 x1 x2 x3 x6 g) ∗ owns (c : Thread nD τ) scD fullShare (dNext x1 x2 x3 d))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  have eg := View.readAt_full (Val := Elt F) scGu.view fg inb_S512x1024_S512x1024_0_0
  have ed := View.readAt_full (Val := Elt F) scD.view fd inb_S256x1024_S256x1024_0_0
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [HA]
  · iexists _; isplitr; swap; · iexact HA
    ipureintro
    refine (acc4 scAcc.view fa _ (dxFrom i _) (store_put _ _ _ _ _) i _ _ _ _).trans ?_
    rw [← e4, ← e5, ← e6]
    refine put4_congr i _ ?_ ?_ ?_ ?_
    · exact (dx_0 _ _ _ _ _ _ _).trans (congrArg (dxPut _ _ _ _ _ _) (cov_0 scAcc.view i h1 _))
    · exact (dx_1 _ _ _ _ _ _ _).trans (congrArg (dxPut _ _ _ _ _ _) (cov_1 scAcc.view i h1 _ _))
    · exact (dx_2 _ _ _ _ _ _ _).trans (congrArg (dxPut _ _ _ _ _ _) (cov_2 scAcc.view i h1 _ _ _))
    · exact (dx_3 _ _ _ _ _ _ _).trans (congrArg (dxPut _ _ _ _ _ _) (cov_3 scAcc.view i h1 _ _ _ _))
  isplitl [HG]
  · iexists _; isplitr; swap; · iexact HG
    ipureintro
    refine (View.read_writes_full (Val := Elt F) scGu.view fg inb_S512x1024_S512x1024_0_0 _ _).trans ?_
    rw [← e6, ← e0, ← eg]
    rfl
  iexists _; isplitr; swap; · iexact HD
  ipureintro
  refine (View.read_writes_full (Val := Elt F) scD.view fd inb_S256x1024_S256x1024_0_0 _ _).trans ?_
  rw [← ed]
  conv => rhs; rw [← e3]
  rfl

set_option maxHeartbeats 1000000 in
/-- The last rows of the first block of features. -/
theorem body_03 (h1 : k0_cond1 i = 1#1) (h2 : ¬ (Scalar.cmpi .ne (Scalar.extui (Scalar.cmpi .eq (BitVec.ofNat 32 (i 1).val) 0#32)) 0#32) = 1#1) (h3 : k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outG (guNext x0 x1 x2 x3 x6 g)) ∗ owns (c : Thread nD τ) arg10 fullShare (outU (guNext x0 x1 x2 x3 x6 g)) ∗ owns (c : Thread nD τ) arg11 fullShare (k0_pay4 (dNext x1 x2 x3 d))
      ∗ owns (c : Thread nD τ) scAcc fullShare (dxNext i x1 x2 x3 x4 x5 x6 (dxFrom i a)) ∗ owns (c : Thread nD τ) scGu fullShare (guNext x0 x1 x2 x3 x6 g) ∗ owns (c : Thread nD τ) scD fullShare (dNext x1 x2 x3 d))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  have eg := View.readAt_full (Val := Elt F) scGu.view fg inb_S512x1024_S512x1024_0_0
  have ed := View.readAt_full (Val := Elt F) scD.view fd inb_S256x1024_S256x1024_0_0
  isplitl [H7]
  · iexists _; isplitr; swap; · iexact H7
    ipureintro
    refine (View.read_writes_full (Val := Elt F) arg9.view f7 inb_S256x1024_S256x1024_0_0 _ _).trans (congrArg k0_pay2 (cover_of scGu.view _ inb_g0 ?_))
    refine (View.read_writes_full (Val := Elt F) scGu.view _ inb_S512x1024_S512x1024_0_0 _ _).trans ?_
    rw [← e6, ← e0, ← eg]
    rfl
  isplitl [H8]
  · iexists _; isplitr; swap; · iexact H8
    ipureintro
    refine (View.read_writes_full (Val := Elt F) arg10.view f8 inb_S256x1024_S256x1024_0_0 _ _).trans (congrArg k0_pay3 (cover_of scGu.view _ inb_g1 ?_))
    refine (View.read_writes_full (Val := Elt F) scGu.view _ inb_S512x1024_S512x1024_0_0 _ _).trans ?_
    rw [← e6, ← e0, ← eg]
    rfl
  isplitl [H9]
  · iexists _; isplitr; swap; · iexact H9
    ipureintro
    refine (View.read_writes_full (Val := Elt F) arg11.view f9 inb_S256x1024_S256x1024_0_0 _ _).trans (congrArg k0_pay4 ((View.readCov_full scD.view inb_S256x1024_S256x1024_0_0 inb_S256x1024_S256x1024_0_0 _ _).trans ?_))
    rw [← ed]
    conv => rhs; rw [← e3]
    rfl
  isplitl [HA]
  · iexists _; isplitr; swap; · iexact HA
    ipureintro
    refine (acc4 scAcc.view fa _ (dxFrom i _) (store_put _ _ _ _ _) i _ _ _ _).trans ?_
    rw [← e4, ← e5, ← e6]
    refine put4_congr i _ ?_ ?_ ?_ ?_
    · exact (dx_0 _ _ _ _ _ _ _).trans (congrArg (dxPut _ _ _ _ _ _) (cov_0 scAcc.view i h1 _))
    · exact (dx_1 _ _ _ _ _ _ _).trans (congrArg (dxPut _ _ _ _ _ _) (cov_1 scAcc.view i h1 _ _))
    · exact (dx_2 _ _ _ _ _ _ _).trans (congrArg (dxPut _ _ _ _ _ _) (cov_2 scAcc.view i h1 _ _ _))
    · exact (dx_3 _ _ _ _ _ _ _).trans (congrArg (dxPut _ _ _ _ _ _) (cov_3 scAcc.view i h1 _ _ _ _))
  isplitl [HG]
  · iexists _; isplitr; swap; · iexact HG
    ipureintro
    refine (View.read_writes_full (Val := Elt F) scGu.view fg inb_S512x1024_S512x1024_0_0 _ _).trans ?_
    rw [← e6, ← e0, ← eg]
    rfl
  iexists _; isplitr; swap; · iexact HD
  ipureintro
  refine (View.read_writes_full (Val := Elt F) scD.view fd inb_S256x1024_S256x1024_0_0 _ _).trans ?_
  rw [← ed]
  conv => rhs; rw [← e3]
  rfl

end Cert.FfnIdeal.FfnP
end
-- ==== Proof.FfnP.BodyNext.lean ====
module

public import proofs.«01_k».proof.Proof.FfnP.Steps
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (Pipeline.UD sig nD τ) ℕ

variable (c : Dev nD) (i : grid0.Coords) (arg2 : Memref sig .tc .vmem S1024x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole)
  (x0 : Vec F S1024x1024 .bf16) (x1 : Vec F S1024x256 .bf16) (x2 : Vec F S1024x256 .bf16) (x3 : Vec F S1024x1024 .bf16) (x4 : Vec F S256x1024 .bf16) (x5 : Vec F S256x1024 .bf16) (x6 : Vec F S256x1024 .bf16) (y7 : Vec F S256x1024 .bf16) (y8 : Vec F S256x1024 .bf16) (y9 : Vec F S256x1024 .bf16) (a : Vec F S4096x1024 .f32) (g : Vec F S512x1024 .f32) (d : Vec F S256x1024 .f32)

set_option maxHeartbeats 1000000 in
/-- The first rows of a later block. -/
theorem body_10 (h1 : ¬ k0_cond1 i = 1#1) (h2 : (Scalar.cmpi .ne (Scalar.extui (Scalar.cmpi .eq (BitVec.ofNat 32 (i 1).val) 0#32)) 0#32) = 1#1) (h3 : ¬ k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare (dxNext i x1 x2 x3 x4 x5 x6 a) ∗ owns (c : Thread nD τ) scGu fullShare (guNext x0 x1 x2 x3 x6 k0_pay6) ∗ owns (c : Thread nD τ) scD fullShare (dNext x1 x2 x3 k0_pay7))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [HA]
  · iexists _; isplitr; swap; · iexact HA
    ipureintro
    refine (acc4 scAcc.view fa [] _ rfl i _ _ _ _).trans ?_
    rw [← e4, ← e5, ← e6]
    refine put4_congr i _ ?_ ?_ ?_ ?_
    · exact (dx_0 _ _ _ _ _ _ _).trans rfl
    · exact (dx_1 _ _ _ _ _ _ _).trans rfl
    · exact (dx_2 _ _ _ _ _ _ _).trans rfl
    · exact (dx_3 _ _ _ _ _ _ _).trans rfl
  isplitl [HG]
  · iexists _; isplitr; swap; · iexact HG
    ipureintro
    refine (View.read_writes_full (Val := Elt F) scGu.view fg inb_S512x1024_S512x1024_0_0 _ _).trans ?_
    refine (congrArg (fun z => k0_pay1 z _ _) (View.readCov_full _ _ _ _ _)).trans ?_
    rw [← e6, ← e0]
    rfl
  iexists _; isplitr; swap; · iexact HD
  ipureintro
  refine (View.read_writes_full (Val := Elt F) scD.view fd inb_S256x1024_S256x1024_0_0 _ _).trans ?_
  refine (congrArg (fun z => k0_pay45 _ _ _ _ _ z _) (View.readCov_full _ _ _ _ _)).trans ?_
  conv => rhs; rw [← e3]
  rfl

set_option maxHeartbeats 1000000 in
/-- Rows between, of a later block. -/
theorem body_11 (h1 : ¬ k0_cond1 i = 1#1) (h2 : ¬ (Scalar.cmpi .ne (Scalar.extui (Scalar.cmpi .eq (BitVec.ofNat 32 (i 1).val) 0#32)) 0#32) = 1#1) (h3 : ¬ k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare (dxNext i x1 x2 x3 x4 x5 x6 a) ∗ owns (c : Thread nD τ) scGu fullShare (guNext x0 x1 x2 x3 x6 g) ∗ owns (c : Thread nD τ) scD fullShare (dNext x1 x2 x3 d))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  have eg := View.readAt_full (Val := Elt F) scGu.view fg inb_S512x1024_S512x1024_0_0
  have ed := View.readAt_full (Val := Elt F) scD.view fd inb_S256x1024_S256x1024_0_0
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [HA]
  · iexists _; isplitr; swap; · iexact HA
    ipureintro
    refine (acc4 scAcc.view fa [] _ rfl i _ _ _ _).trans ?_
    rw [← e4, ← e5, ← e6]
    refine put4_congr i _ ?_ ?_ ?_ ?_
    · exact (dx_0 _ _ _ _ _ _ _).trans rfl
    · exact (dx_1 _ _ _ _ _ _ _).trans rfl
    · exact (dx_2 _ _ _ _ _ _ _).trans rfl
    · exact (dx_3 _ _ _ _ _ _ _).trans rfl
  isplitl [HG]
  · iexists _; isplitr; swap; · iexact HG
    ipureintro
    refine (View.read_writes_full (Val := Elt F) scGu.view fg inb_S512x1024_S512x1024_0_0 _ _).trans ?_
    rw [← e6, ← e0, ← eg]
    rfl
  iexists _; isplitr; swap; · iexact HD
  ipureintro
  refine (View.read_writes_full (Val := Elt F) scD.view fd inb_S256x1024_S256x1024_0_0 _ _).trans ?_
  rw [← ed]
  conv => rhs; rw [← e3]
  rfl

set_option maxHeartbeats 1000000 in
/-- The last rows of a later block. -/
theorem body_13 (h1 : ¬ k0_cond1 i = 1#1) (h2 : ¬ (Scalar.cmpi .ne (Scalar.extui (Scalar.cmpi .eq (BitVec.ofNat 32 (i 1).val) 0#32)) 0#32) = 1#1) (h3 : k0_cond3 i = 1#1)
    (h4 : ¬ (Scalar.cmpi .ne (Scalar.extui (Scalar.andi (Scalar.cmpi .eq (BitVec.ofNat 32 (i 0).val) 10#32) (Scalar.cmpi .eq (BitVec.ofNat 32 (i 1).val) 3#32))) 0#32) = 1#1)  :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outG (guNext x0 x1 x2 x3 x6 g)) ∗ owns (c : Thread nD τ) arg10 fullShare (outU (guNext x0 x1 x2 x3 x6 g)) ∗ owns (c : Thread nD τ) arg11 fullShare (k0_pay4 (dNext x1 x2 x3 d))
      ∗ owns (c : Thread nD τ) scAcc fullShare (dxNext i x1 x2 x3 x4 x5 x6 a) ∗ owns (c : Thread nD τ) scGu fullShare (guNext x0 x1 x2 x3 x6 g) ∗ owns (c : Thread nD τ) scD fullShare (dNext x1 x2 x3 d))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  have eg := View.readAt_full (Val := Elt F) scGu.view fg inb_S512x1024_S512x1024_0_0
  have ed := View.readAt_full (Val := Elt F) scD.view fd inb_S256x1024_S256x1024_0_0
  isplitl [H7]
  · iexists _; isplitr; swap; · iexact H7
    ipureintro
    refine (View.read_writes_full (Val := Elt F) arg9.view f7 inb_S256x1024_S256x1024_0_0 _ _).trans (congrArg k0_pay2 (cover_of scGu.view _ inb_g0 ?_))
    refine (View.read_writes_full (Val := Elt F) scGu.view _ inb_S512x1024_S512x1024_0_0 _ _).trans ?_
    rw [← e6, ← e0, ← eg]
    rfl
  isplitl [H8]
  · iexists _; isplitr; swap; · iexact H8
    ipureintro
    refine (View.read_writes_full (Val := Elt F) arg10.view f8 inb_S256x1024_S256x1024_0_0 _ _).trans (congrArg k0_pay3 (cover_of scGu.view _ inb_g1 ?_))
    refine (View.read_writes_full (Val := Elt F) scGu.view _ inb_S512x1024_S512x1024_0_0 _ _).trans ?_
    rw [← e6, ← e0, ← eg]
    rfl
  isplitl [H9]
  · iexists _; isplitr; swap; · iexact H9
    ipureintro
    refine (View.read_writes_full (Val := Elt F) arg11.view f9 inb_S256x1024_S256x1024_0_0 _ _).trans (congrArg k0_pay4 ((View.readCov_full scD.view inb_S256x1024_S256x1024_0_0 inb_S256x1024_S256x1024_0_0 _ _).trans ?_))
    rw [← ed]
    conv => rhs; rw [← e3]
    rfl
  isplitl [HA]
  · iexists _; isplitr; swap; · iexact HA
    ipureintro
    refine (acc4 scAcc.view fa [] _ rfl i _ _ _ _).trans ?_
    rw [← e4, ← e5, ← e6]
    refine put4_congr i _ ?_ ?_ ?_ ?_
    · exact (dx_0 _ _ _ _ _ _ _).trans rfl
    · exact (dx_1 _ _ _ _ _ _ _).trans rfl
    · exact (dx_2 _ _ _ _ _ _ _).trans rfl
    · exact (dx_3 _ _ _ _ _ _ _).trans rfl
  isplitl [HG]
  · iexists _; isplitr; swap; · iexact HG
    ipureintro
    refine (View.read_writes_full (Val := Elt F) scGu.view fg inb_S512x1024_S512x1024_0_0 _ _).trans ?_
    rw [← e6, ← e0, ← eg]
    rfl
  iexists _; isplitr; swap; · iexact HD
  ipureintro
  refine (View.read_writes_full (Val := Elt F) scD.view fd inb_S256x1024_S256x1024_0_0 _ _).trans ?_
  rw [← ed]
  conv => rhs; rw [← e3]
  rfl

set_option maxHeartbeats 1000000 in
/-- The last point, which also copies the gradient of the input out. -/
theorem body_last (h1 : ¬ k0_cond1 i = 1#1) (h2 : ¬ (Scalar.cmpi .ne (Scalar.extui (Scalar.cmpi .eq (BitVec.ofNat 32 (i 1).val) 0#32)) 0#32) = 1#1) (h3 : k0_cond3 i = 1#1)
    (h4 : (Scalar.cmpi .ne (Scalar.extui (Scalar.andi (Scalar.cmpi .eq (BitVec.ofNat 32 (i 0).val) 10#32) (Scalar.cmpi .eq (BitVec.ofNat 32 (i 1).val) 3#32))) 0#32) = 1#1) (z : Vec F S4096x1024 .f32) (W : Waits sig Unit) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9
      ∗ owns (c : Thread nD τ) scAcc fullShare a ∗ owns (c : Thread nD τ) scGu fullShare g ∗ owns (c : Thread nD τ) scD fullShare d ∗ owns (c : Thread nD τ) hbDx fullShare z ∗ semVal ((c : Thread nD τ), SemLoc.dma 20) 0 ∗ owes (c : Thread nD τ) 0 W : sProp 𝕄G)
    ⊢ wp frame (wpE (defs₀ (F := F)) Variants.none (c : Thread nD τ) none) Set.univ
        (cc0_ffn_bwd i arg2 harg2 arg3 harg3 arg4 harg4 arg5 harg5 arg6 harg6 arg7 harg7 arg8 harg8 arg9 harg9 arg10 harg10 arg11 harg11 hbDx (Memref.isWhole_whole _) scAcc (Memref.isWhole_whole _) scGu (Memref.isWhole_whole _) scD (Memref.isWhole_whole _) cc0_scratch3)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outG (guNext x0 x1 x2 x3 x6 g)) ∗ owns (c : Thread nD τ) arg10 fullShare (outU (guNext x0 x1 x2 x3 x6 g)) ∗ owns (c : Thread nD τ) arg11 fullShare (k0_pay4 (dNext x1 x2 x3 d))
      ∗ owns (c : Thread nD τ) scAcc fullShare (dxNext i x1 x2 x3 x4 x5 x6 a) ∗ owns (c : Thread nD τ) scGu fullShare (guNext x0 x1 x2 x3 x6 g) ∗ owns (c : Thread nD τ) scD fullShare (dNext x1 x2 x3 d) ∗ owns (c : Thread nD τ) hbDx fullShare (dxNext i x1 x2 x3 x4 x5 x6 a) ∗ semVal ((c : Thread nD τ), SemLoc.dma 20) 0 ∗ owes (c : Thread nD τ) 0 (insert (SemLoc.dma 20, default) W))) := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HA⟩, ⟨%fg, %hfg, HG⟩, ⟨%fd, %hfd, HD⟩, ⟨%fz, %hfz, HZ⟩, HS, HW⟩
  sl_exec (disch := first | sl_exact h1 | sl_exact h2 | sl_exact h3 | sl_exact h4)
  sl_step
  subst hf0 hf1 hf2 hf3 hf4 hf5 hf6 hfa hfg hfd
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  have e4 := View.readAt_full (Val := Elt F) arg6.view f4 inb_S256x1024_S256x1024_0_0
  have e5 := View.readAt_full (Val := Elt F) arg7.view f5 inb_S256x1024_S256x1024_0_0
  have e6 := View.readAt_full (Val := Elt F) arg8.view f6 inb_S256x1024_S256x1024_0_0
  have e3 := View.readAt_full (Val := Elt F) arg5.view f3 inb_S1024x1024_S1024x1024_0_0
  have e0 := View.readAt_full (Val := Elt F) arg2.view f0 inb_S1024x1024_S1024x1024_0_0
  have eg := View.readAt_full (Val := Elt F) scGu.view fg inb_S512x1024_S512x1024_0_0
  have ed := View.readAt_full (Val := Elt F) scD.view fd inb_S256x1024_S256x1024_0_0
  isplitl [H7]
  · iexists _; isplitr; swap; · iexact H7
    ipureintro
    refine (View.read_writes_full (Val := Elt F) arg9.view f7 inb_S256x1024_S256x1024_0_0 _ _).trans (congrArg k0_pay2 (cover_of scGu.view _ inb_g0 ?_))
    refine (View.read_writes_full (Val := Elt F) scGu.view _ inb_S512x1024_S512x1024_0_0 _ _).trans ?_
    rw [← e6, ← e0, ← eg]
    rfl
  isplitl [H8]
  · iexists _; isplitr; swap; · iexact H8
    ipureintro
    refine (View.read_writes_full (Val := Elt F) arg10.view f8 inb_S256x1024_S256x1024_0_0 _ _).trans (congrArg k0_pay3 (cover_of scGu.view _ inb_g1 ?_))
    refine (View.read_writes_full (Val := Elt F) scGu.view _ inb_S512x1024_S512x1024_0_0 _ _).trans ?_
    rw [← e6, ← e0, ← eg]
    rfl
  isplitl [H9]
  · iexists _; isplitr; swap; · iexact H9
    ipureintro
    refine (View.read_writes_full (Val := Elt F) arg11.view f9 inb_S256x1024_S256x1024_0_0 _ _).trans (congrArg k0_pay4 ((View.readCov_full scD.view inb_S256x1024_S256x1024_0_0 inb_S256x1024_S256x1024_0_0 _ _).trans ?_))
    rw [← ed]
    conv => rhs; rw [← e3]
    rfl
  have hA : View.read (Elt F) scAcc.view (scAcc.view.writes (Elt F) fa (body_last.sl.HA_4 c i arg3 arg4 arg5 arg6 arg7 arg8 f1 f2 f3 f4 f5 f6 fa)) = dxNext i (View.read (Elt F) arg3.view f1) (View.read (Elt F) arg4.view f2)
      (View.read (Elt F) arg5.view f3) (View.read (Elt F) arg6.view f4) (View.read (Elt F) arg7.view f5) (View.read (Elt F) arg8.view f6) (View.read (Elt F) scAcc.view fa) := by
    refine (acc4 scAcc.view fa [] _ rfl i _ _ _ _).trans ?_
    rw [← e4, ← e5, ← e6]
    refine put4_congr i _ ?_ ?_ ?_ ?_
    · exact (dx_0 _ _ _ _ _ _ _).trans rfl
    · exact (dx_1 _ _ _ _ _ _ _).trans rfl
    · exact (dx_2 _ _ _ _ _ _ _).trans rfl
    · exact (dx_3 _ _ _ _ _ _ _).trans rfl
  isplitl [HA]
  · iexists _; isplitr; · ipureintro; exact hA
    iexact HA
  isplitl [HG]
  · iexists _; isplitr; swap; · iexact HG
    ipureintro
    refine (View.read_writes_full (Val := Elt F) scGu.view fg inb_S512x1024_S512x1024_0_0 _ _).trans ?_
    rw [← e6, ← e0, ← eg]
    rfl
  isplitl [HD]
  · iexists _; isplitr; swap; · iexact HD
    ipureintro
    refine (View.read_writes_full (Val := Elt F) scD.view fd inb_S256x1024_S256x1024_0_0 _ _).trans ?_
    rw [← ed]
    conv => rhs; rw [← e3]
    rfl
  isplitl [HZ]
  · iexists _; isplitr; swap; · iexact HZ
    ipureintro
    exact (View.read_writes_whole (Val := Elt F) hbDx.view fz _).trans hA
  isplitl [HS]; · iexact HS
  iexact HW

end Cert.FfnIdeal.FfnP
end
-- ==== Proof.FfnP.Points.lean ====
module

public import proofs.«01_k».proof.Proof.FfnP.Rows
public import proofs.«01_k».proof.Proof.FfnP.BodyFirst
public import proofs.«01_k».proof.Proof.FfnP.BodyNext
public import Idealize.ShloMosaic.Lib.Claim
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

/-!
  The launch: from any memory the program runs to the end, and leaves in the four result arrays what the points leave.
-/

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-- What the result array of the input's gradient holds when `n` points are done: the last one writes it. -/
def dxAt (c : Dev nD) (n : ℕ) : Vec F S4096x1024 .f32 := if n = 44 then dxOut m c else V m c main_v11_3

/-- The invariant between points: the three shared buffers, the copy's counter at zero, the result array. -/
def inv (c : Dev nD) (n : ℕ) : sProp 𝕄G :=
  iprop(∃ a g d, owns (c : Thread nD τ) scAcc fullShare a ∗ owns (c : Thread nD τ) scGu fullShare g ∗ owns (c : Thread nD τ) scD fullShare d
    ∗ ⌜Done m c n a ∧ Held m c n g d⌝ ∗ semVal ((c : Thread nD τ), SemLoc.dma 20) 0 ∗ owns (c : Thread nD τ) hbDx fullShare (dxAt m c n))

/-- The proof data: the arrays as the launch finds them, and the windows after a point. -/
def dats (_ : Fin 1) (c : Dev nD) : Dat τ (Elt F) Unit ℕ (Pipeline.UD sig nD τ) ℕ cfg0 c where
  A w := V m c (Pipeline.arrRef spec0 w)
  after w t := match w with
    | ⟨0, _⟩ => (iblk m c 0 t)
    | ⟨1, _⟩ => (iblk m c 1 t)
    | ⟨2, _⟩ => (iblk m c 2 t)
    | ⟨3, _⟩ => (iblk m c 3 t)
    | ⟨4, _⟩ => (iblk m c 4 t)
    | ⟨5, _⟩ => (iblk m c 5 t)
    | ⟨6, _⟩ => (iblk m c 6 t)
    | ⟨7, _⟩ => (outG (guAfter m c t.val t.isLt))
    | ⟨8, _⟩ => (outU (guAfter m c t.val t.isLt))
    | ⟨9, _⟩ => (k0_pay4 (dAfter m c t.val t.isLt))
  Φ t := inv m c t.val
  q _ := fullShare
  owed _ := 0

theorem A_eq (c : Dev nD) (w : Fin cfg0.W) : (dats m 0 c).A w = V m c (Pipeline.arrRef spec0 w) := by
  dsimp only [dats]
theorem Φ_castSucc (c : Dev nD) (t : Fin cfg0.N) : (dats m 0 c).Φ t.castSucc = inv m c t.val := by
  dsimp only [dats]; rfl
theorem Φ_succ (c : Dev nD) (t : Fin cfg0.N) : (dats m 0 c).Φ t.succ = inv m c (t.val + 1) := by
  dsimp only [dats]; rfl
theorem after_0 (c : Dev nD) (t : Fin cfg0.N) : (dats m 0 c).after 0 t = (iblk m c 0 t) := by dsimp only [dats]
theorem after_1 (c : Dev nD) (t : Fin cfg0.N) : (dats m 0 c).after 1 t = (iblk m c 1 t) := by dsimp only [dats]
theorem after_2 (c : Dev nD) (t : Fin cfg0.N) : (dats m 0 c).after 2 t = (iblk m c 2 t) := by dsimp only [dats]
theorem after_3 (c : Dev nD) (t : Fin cfg0.N) : (dats m 0 c).after 3 t = (iblk m c 3 t) := by dsimp only [dats]
theorem after_4 (c : Dev nD) (t : Fin cfg0.N) : (dats m 0 c).after 4 t = (iblk m c 4 t) := by dsimp only [dats]
theorem after_5 (c : Dev nD) (t : Fin cfg0.N) : (dats m 0 c).after 5 t = (iblk m c 5 t) := by dsimp only [dats]
theorem after_6 (c : Dev nD) (t : Fin cfg0.N) : (dats m 0 c).after 6 t = (iblk m c 6 t) := by dsimp only [dats]
theorem after_7 (c : Dev nD) (t : Fin cfg0.N) : (dats m 0 c).after 7 t = (outG (guAfter m c t.val t.isLt)) := by dsimp only [dats]
theorem after_8 (c : Dev nD) (t : Fin cfg0.N) : (dats m 0 c).after 8 t = (outU (guAfter m c t.val t.isLt)) := by dsimp only [dats]
theorem after_9 (c : Dev nD) (t : Fin cfg0.N) : (dats m 0 c).after 9 t = (k0_pay4 (dAfter m c t.val t.isLt)) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! What the body leaves at a point, from the arrays. -/

section
variable (c : Dev nD) (t : Fin cfg0.N)

set_option maxHeartbeats 800000 in
theorem point_idle (h : t.val % 4 ≠ 3) (y7 y8 y9 : Vec F S256x1024 .bf16) (a : Vec F S4096x1024 .f32) (g : Vec F S512x1024 .f32) (d : Vec F S256x1024 .f32) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare y7 ∗ owns (c : Thread nD τ) (win0_8.stage (cfg0.slots t 8)) fullShare y8 ∗ owns (c : Thread nD τ) (win0_9.stage (cfg0.slots t 9)) fullShare y9 ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ (bodyAt0 t) (fun _ => iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare y7 ∗ owns (c : Thread nD τ) (win0_8.stage (cfg0.slots t 8)) fullShare y8 ∗ owns (c : Thread nD τ) (win0_9.stage (cfg0.slots t 9)) fullShare y9 ∗ owns (c : Thread nD τ) scAcc fullShare (accOut m c t a) ∗ owns (c : Thread nD τ) scGu fullShare (guNext (iblk m c 0 t) (iblk m c 1 t) (iblk m c 2 t) (iblk m c 3 t) (iblk m c 6 t) (if t.val % 4 = 0 then k0_pay6 else g)) ∗ owns (c : Thread nD τ) scD fullShare (dNext (iblk m c 1 t) (iblk m c 2 t) (iblk m c 3 t) (if t.val % 4 = 0 then k0_pay7 else d)))) := by
  have ht : t.val < 44 := Nat.lt_of_lt_of_eq t.isLt N_0
  have h43 : t.val ≠ 43 := by omega
  unfold bodyAt0 accOut accIn
  by_cases h1 : t.val < 4
  · by_cases h2 : t.val % 4 = 0
    · simp only [if_pos h1, if_pos h2]
      exact body_00 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d ((cond1_iff t).mpr h1) ((cond2_iff t).mpr h2) (fun hc => h ((cond3_iff t).mp hc)) (fun hc => h43 ((cond4_iff t).mp hc))
    · simp only [if_pos h1, if_neg h2]
      exact body_01 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d ((cond1_iff t).mpr h1) (fun hc => h2 ((cond2_iff t).mp hc)) (fun hc => h ((cond3_iff t).mp hc)) (fun hc => h43 ((cond4_iff t).mp hc))
  · by_cases h2 : t.val % 4 = 0
    · simp only [if_neg h1, if_pos h2]
      exact body_10 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d (fun hc => h1 ((cond1_iff t).mp hc)) ((cond2_iff t).mpr h2) (fun hc => h ((cond3_iff t).mp hc)) (fun hc => h43 ((cond4_iff t).mp hc))
    · simp only [if_neg h1, if_neg h2]
      exact body_11 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d (fun hc => h1 ((cond1_iff t).mp hc)) (fun hc => h2 ((cond2_iff t).mp hc)) (fun hc => h ((cond3_iff t).mp hc)) (fun hc => h43 ((cond4_iff t).mp hc))

set_option maxHeartbeats 800000 in
theorem point_out (h : t.val % 4 = 3) (h43 : t.val ≠ 43) (y7 y8 y9 : Vec F S256x1024 .bf16) (a : Vec F S4096x1024 .f32) (g : Vec F S512x1024 .f32) (d : Vec F S256x1024 .f32) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare y7 ∗ owns (c : Thread nD τ) (win0_8.stage (cfg0.slots t 8)) fullShare y8 ∗ owns (c : Thread nD τ) (win0_9.stage (cfg0.slots t 9)) fullShare y9 ∗ owns (c : Thread nD τ) scAcc fullShare a ∗ owns (c : Thread nD τ) scGu fullShare g ∗ owns (c : Thread nD τ) scD fullShare d : sProp 𝕄G)
    ⊢ wp frame (wpE (defs₀ (F := F)) Variants.none (c : Thread nD τ) none) Set.univ (bodyAt0 t) (fun _ => iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (outG (guNext (iblk m c 0 t) (iblk m c 1 t) (iblk m c 2 t) (iblk m c 3 t) (iblk m c 6 t) (if t.val % 4 = 0 then k0_pay6 else g))) ∗ owns (c : Thread nD τ) (win0_8.stage (cfg0.slots t 8)) fullShare (outU (guNext (iblk m c 0 t) (iblk m c 1 t) (iblk m c 2 t) (iblk m c 3 t) (iblk m c 6 t) (if t.val % 4 = 0 then k0_pay6 else g))) ∗ owns (c : Thread nD τ) (win0_9.stage (cfg0.slots t 9)) fullShare (k0_pay4 (dNext (iblk m c 1 t) (iblk m c 2 t) (iblk m c 3 t) (if t.val % 4 = 0 then k0_pay7 else d))) ∗ owns (c : Thread nD τ) scAcc fullShare (accOut m c t a) ∗ owns (c : Thread nD τ) scGu fullShare (guNext (iblk m c 0 t) (iblk m c 1 t) (iblk m c 2 t) (iblk m c 3 t) (iblk m c 6 t) (if t.val % 4 = 0 then k0_pay6 else g)) ∗ owns (c : Thread nD τ) scD fullShare (dNext (iblk m c 1 t) (iblk m c 2 t) (iblk m c 3 t) (if t.val % 4 = 0 then k0_pay7 else d)))) := by
  have h2 : t.val % 4 ≠ 0 := by omega
  unfold bodyAt0 accOut accIn
  by_cases h1 : t.val < 4
  · simp only [if_pos h1, if_neg h2]
    exact body_03 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d ((cond1_iff t).mpr h1) (fun hc => h2 ((cond2_iff t).mp hc)) ((cond3_iff t).mpr h) (fun hc => h43 ((cond4_iff t).mp hc))
  · simp only [if_neg h1, if_neg h2]
    exact body_13 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d (fun hc => h1 ((cond1_iff t).mp hc)) (fun hc => h2 ((cond2_iff t).mp hc)) ((cond3_iff t).mpr h) (fun hc => h43 ((cond4_iff t).mp hc))

set_option maxHeartbeats 800000 in
theorem point_last (h : t.val % 4 = 3) (h43 : t.val = 43) (y7 y8 y9 : Vec F S256x1024 .bf16) (a : Vec F S4096x1024 .f32) (g : Vec F S512x1024 .f32) (d : Vec F S256x1024 .f32)
    (z : Vec F S4096x1024 .f32) (W : Waits sig Unit) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare y7 ∗ owns (c : Thread nD τ) (win0_8.stage (cfg0.slots t 8)) fullShare y8 ∗ owns (c : Thread nD τ) (win0_9.stage (cfg0.slots t 9)) fullShare y9 ∗ owns (c : Thread nD τ) scAcc fullShare a ∗ owns (c : Thread nD τ) scGu fullShare g ∗ owns (c : Thread nD τ) scD fullShare d ∗ owns (c : Thread nD τ) hbDx fullShare z
      ∗ semVal ((c : Thread nD τ), SemLoc.dma 20) 0 ∗ owes (c : Thread nD τ) 0 W : sProp 𝕄G)
    ⊢ wp frame (wpE (defs₀ (F := F)) Variants.none (c : Thread nD τ) none) Set.univ (bodyAt0 t) (fun _ => iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (outG (guNext (iblk m c 0 t) (iblk m c 1 t) (iblk m c 2 t) (iblk m c 3 t) (iblk m c 6 t) (if t.val % 4 = 0 then k0_pay6 else g))) ∗ owns (c : Thread nD τ) (win0_8.stage (cfg0.slots t 8)) fullShare (outU (guNext (iblk m c 0 t) (iblk m c 1 t) (iblk m c 2 t) (iblk m c 3 t) (iblk m c 6 t) (if t.val % 4 = 0 then k0_pay6 else g))) ∗ owns (c : Thread nD τ) (win0_9.stage (cfg0.slots t 9)) fullShare (k0_pay4 (dNext (iblk m c 1 t) (iblk m c 2 t) (iblk m c 3 t) (if t.val % 4 = 0 then k0_pay7 else d))) ∗ owns (c : Thread nD τ) scAcc fullShare (accOut m c t a) ∗ owns (c : Thread nD τ) scGu fullShare (guNext (iblk m c 0 t) (iblk m c 1 t) (iblk m c 2 t) (iblk m c 3 t) (iblk m c 6 t) (if t.val % 4 = 0 then k0_pay6 else g)) ∗ owns (c : Thread nD τ) scD fullShare (dNext (iblk m c 1 t) (iblk m c 2 t) (iblk m c 3 t) (if t.val % 4 = 0 then k0_pay7 else d))
      ∗ owns (c : Thread nD τ) hbDx fullShare (accOut m c t a) ∗ semVal ((c : Thread nD τ), SemLoc.dma 20) 0 ∗ owes (c : Thread nD τ) 0 (insert (SemLoc.dma 20, default) W))) := by
  have h2 : t.val % 4 ≠ 0 := by omega
  have h1 : ¬ t.val < 4 := by omega
  unfold bodyAt0 accOut accIn
  simp only [if_neg h1, if_neg h2]
  exact body_last c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 a g d (fun hc => h1 ((cond1_iff t).mp hc)) (fun hc => h2 ((cond2_iff t).mp hc)) ((cond3_iff t).mpr h) ((cond4_iff t).mpr h43) z W

end

/-- What the body is called with. -/
def bodyPre (c : Dev nD) (t : Fin cfg0.N) : sProp 𝕄G :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))

set_option maxHeartbeats 1600000 in
/-- The obligation at a point that stores no weight block. -/
theorem sound_idle (c : Dev nD) (t : Fin cfg0.N) (h : t.val % 4 ≠ 3) :
    bodyPre m c t ⊢ wp frame (wpE (defs₀ (F := F)) Variants.none (c : Thread nD τ) none) Set.univ (bodyAt0 t) (fun _ => iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))) := by
  have ht : t.val < 44 := Nat.lt_of_lt_of_eq t.isLt N_0
  unfold bodyPre
  simp only [before_0, before_1, before_2, before_3, before_4, before_5, before_6, after_0, after_1, after_2, after_3, after_4, after_5, after_6, Φ_castSucc, Φ_succ]
  unfold inv Dat.owesAt Pipeline.owesWithin
  rw [show (dats m 0 c).owed t.castSucc = 0 from rfl, show (dats m 0 c).owed t.succ = 0 from rfl]
  iintro ⟨⟨%a, %g, %d, HA, HG, HD, %hi, HS, HZ⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hd, hh⟩ := hi
  obtain ⟨eg, ed⟩ := held_succ m c t g d hh
  have hz : dxAt m c (t.val + 1) = dxAt m c t.val := by unfold dxAt; rw [if_neg (by omega), if_neg (by omega)]
  iapply (wp_wand_r _ _ _)
  isplitl [H0 H1 H2 H3 H4 H5 H6 H7 H8 H9 HA HG HD]
  · iapply (point_idle m c t h _ _ _ a g d)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HG]; · iexact HG
    iexact HD
  · rw [eg, ed]
    iintro %_ ⟨H0, H1, H2, H3, H4, H5, H6, H7, H8, H9, HA, HG, HD⟩
    isplitl [HA HG HD HS HZ]
    · iexists _, _, _
      isplitl [HA]; · iexact HA
      isplitl [HG]; · iexact HG
      isplitl [HD]; · iexact HD
      isplitr; · ipureintro; exact ⟨done_succ m c t a hd, held_after m c t⟩
      isplitl [HS]; · iexact HS
      rw [hz]; iexact HZ
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

set_option maxHeartbeats 1600000 in
/-- The obligation at a point that stores the weight blocks. -/
theorem sound_out (c : Dev nD) (t : Fin cfg0.N) (h : t.val % 4 = 3) :
    bodyPre m c t ⊢ wp frame (wpE (defs₀ (F := F)) Variants.none (c : Thread nD τ) none) Set.univ (bodyAt0 t) (fun _ => iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t))) := by
  have ht : t.val < 44 := Nat.lt_of_lt_of_eq t.isLt N_0
  unfold bodyPre
  simp only [before_0, before_1, before_2, before_3, before_4, before_5, before_6, after_0, after_1, after_2, after_3, after_4, after_5, after_6, after_7, after_8, after_9, Φ_castSucc, Φ_succ]
  unfold inv Dat.owesAt Pipeline.owesWithin
  rw [show (dats m 0 c).owed t.castSucc = 0 from rfl, show (dats m 0 c).owed t.succ = 0 from rfl]
  iintro ⟨⟨%a, %g, %d, HA, HG, HD, %hi, HS, HZ⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hd, hh⟩ := hi
  obtain ⟨eg, ed⟩ := held_succ m c t g d hh
  by_cases h43 : t.val = 43
  · have hz : dxAt m c (t.val + 1) = accOut m c t a := by
      unfold dxAt; rw [if_pos (by omega)]
      refine (done_end m c _ ?_).symm
      have := done_succ m c t a hd
      rwa [h43] at this
    iapply (wp_wand_r _ _ _)
    isplitl [H0 H1 H2 H3 H4 H5 H6 H7 H8 H9 HA HG HD HZ HS HW]
    · iapply (point_last m c t h h43 _ _ _ a g d _ W)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      isplitl [HG]; · iexact HG
      isplitl [HD]; · iexact HD
      isplitl [HZ]; · iexact HZ
      isplitl [HS]; · iexact HS
      iexact HW
    · rw [eg, ed]
      iintro %_ ⟨H0, H1, H2, H3, H4, H5, H6, H7, H8, H9, HA, HG, HD, HZ, HS, HW⟩
      isplitl [HA HG HD HS HZ]
      · iexists _, _, _
        isplitl [HA]; · iexact HA
        isplitl [HG]; · iexact HG
        isplitl [HD]; · iexact HD
        isplitr; · ipureintro; exact ⟨done_succ m c t a hd, held_after m c t⟩
        isplitl [HS]; · iexact HS
        rw [hz]; iexact HZ
      isplitl [HW]
      · iexists (insert (SemLoc.dma 20, default) W); isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

  · have hz : dxAt m c (t.val + 1) = dxAt m c t.val := by unfold dxAt; rw [if_neg (by omega), if_neg (by omega)]
    iapply (wp_wand_r _ _ _)
    isplitl [H0 H1 H2 H3 H4 H5 H6 H7 H8 H9 HA HG HD]
    · iapply (point_out m c t h h43 _ _ _ a g d)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      isplitl [HG]; · iexact HG
      iexact HD
    · rw [eg, ed]
      iintro %_ ⟨H0, H1, H2, H3, H4, H5, H6, H7, H8, H9, HA, HG, HD⟩
      isplitl [HA HG HD HS HZ]
      · iexists _, _, _
        isplitl [HA]; · iexact HA
        isplitl [HG]; · iexact HG
        isplitl [HD]; · iexact HD
        isplitr; · ipureintro; exact ⟨done_succ m c t a hd, held_after m c t⟩
        isplitl [HS]; · iexact HS
        rw [hz]; iexact HZ
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

end Cert.FfnIdeal.FfnP
end
-- ==== Proof.FfnP.Launch.lean ====
module

public import proofs.«01_k».proof.Proof.FfnP.Points
public import Idealize.ShloMosaic.Lib.Claim
public import Idealize.ShloMosaic.Lib.Exec
public import Idealize.ShloMosaic.Lib.Tactic
public import Idealize.ShloMosaic.Lib.MixedBatch
public import Idealize.ShloMosaic.Lib.Pipeline.Kit
public import Idealize.ShloMosaic.Lib.Pipeline.FrameSuffixV

@[expose] public section

set_option maxRecDepth 16384

noncomputable section

/-!
  The launch: from any memory the program runs to the end, and leaves in the four result arrays what the points leave.
-/

namespace Cert.FfnIdeal.FfnP

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

/-- A point's store of the weight blocks, as the pipeline knows it. -/
theorem idle_iff (t : Fin cfg0.N) : (!(k0_cond3 (cfg0.grid.coords t) == 1#1)) = true ↔ t.val % 4 ≠ 3 := by
  rw [Bool.not_eq_true', beq_eq_false_iff_ne, ne_eq, not_iff_not]
  exact cond3_iff t

set_option maxHeartbeats 1600000 in
theorem body_obligation (c : Dev nD) : BodyObligation (dats (F := F) m 0 c) (defs₀ (F := F)) Variants.none () Set.univ := fun t => by
  rw [bigSep_W0, bigSep_W0, defs₀_row]
  by_cases h : t.val % 4 = 3
  · have i7 : cfg0.idle 7 (cfg0.grid.coords t) = false := Bool.eq_false_iff.mpr fun e => (idle_iff t).mp e h
    have i8 : cfg0.idle 8 (cfg0.grid.coords t) = false := i7
    have i9 : cfg0.idle 9 (cfg0.grid.coords t) = false := i7
    refine triple_restated (sound_out m c t h) rfl .rfl fun _ => sep_mono .rfl (sep_mono .rfl (sep_mono .rfl (sep_mono .rfl (sep_mono .rfl (sep_mono .rfl (sep_mono .rfl (sep_mono .rfl (sep_mono .rfl (sep_mono ?_ (sep_mono ?_ ?_))))))))))
    · rw [i7]; exact fun _ h => h
    · rw [i8]; exact fun _ h => h
    · rw [i9]; exact fun _ h => h
  · have i7 : cfg0.idle 7 (cfg0.grid.coords t) = true := (idle_iff t).mpr h
    have i8 : cfg0.idle 8 (cfg0.grid.coords t) = true := i7
    have i9 : cfg0.idle 9 (cfg0.grid.coords t) = true := i7
    have f7 : (cfg0.win 7).flush t = false := Bool.eq_false_iff.mpr fun e => h ((flush0_7 t).mp e)
    have f8 : (cfg0.win 8).flush t = false := Bool.eq_false_iff.mpr fun e => h ((flush0_8 t).mp e)
    have f9 : (cfg0.win 9).flush t = false := Bool.eq_false_iff.mpr fun e => h ((flush0_9 t).mp e)
    refine triple_restated (sound_idle m c t h) rfl .rfl fun _ => sep_mono .rfl (sep_mono .rfl (sep_mono .rfl (sep_mono .rfl (sep_mono .rfl (sep_mono .rfl (sep_mono .rfl (sep_mono .rfl (sep_mono .rfl (sep_mono ?_ (sep_mono ?_ ?_))))))))))
    · rw [i7]; simp only [f7]; exact fun _ h => h
    · rw [i8]; simp only [f8]; exact fun _ h => h
    · rw [i9]; simp only [f9]; exact fun _ h => h

/-! The launch. -/

/-- The copy's counter. -/
abbrev osem0 : Fin 1 → SemLoc sig := fun _ => SemLoc.dma 20
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = semVal ((c : Thread nD τ), SemLoc.dma 20) 0 := by
  rw [Pipeline.ownSems0_eq_of_list c osem0 [0] (by decide) (by decide)]; rfl

/-- The array the body itself writes. -/
abbrev R0 : Finset (Ref sig .tc) := {main_v11_3}
theorem R0_sub : R0 ⊆ Pipeline.restRefs sig spec0 \ ∅ := by decide

/-- The arrays outside the windows once the points are done. -/
def G (c : Dev nD) (b : Ref sig .tc) : Buf (Elt F) ((c : Thread nD τ).loc b) := Function.update (V m c) main_v11_3 (dxOut m c) b
theorem G_dx (c : Dev nD) : G m c main_v11_3 = dxOut m c := Function.update_self _ _ _

/-- What the launch holds outside the windows, with the written array at `X`. -/
theorem ΦD_eq (c : Dev nD) (X : (c : Dev nD) → (b : Ref sig .tc) → Buf (Elt F) ((c : Thread nD τ).loc b)) :
    (Pipeline.ΦDRV osem0 spec0 ∅ R0 (V m) X c : sProp 𝕄G)
      = iprop(((∃ a, owns (c : Thread nD τ) scAcc fullShare a) ∗ (∃ g, owns (c : Thread nD τ) scGu fullShare g) ∗ (∃ d, owns (c : Thread nD τ) scD fullShare d))
          ∗ semVal ((c : Thread nD τ), SemLoc.dma 20) 0 ∗ BI.emp ∗ owns (c : Thread nD τ) hbDx fullShare (X c main_v11_3)) := by
  unfold Pipeline.ΦDRV
  rw [scopedRest0_eq, ownSems00_eq, BI.bigSep_empty, BI.bigSep_singleton]
  simp only [owns_whole]
  rfl

theorem enter (c : Dev nD) : (Pipeline.ΦDRV osem0 spec0 ∅ R0 (V m) (V m) c : sProp 𝕄G) ⊢ (dats m 0 c).Φ 0 := by
  rw [ΦD_eq]
  show _ ⊢ inv m c 0
  unfold inv
  iintro ⟨⟨⟨%a, HA⟩, ⟨%g, HG⟩, ⟨%d, HD⟩⟩, HS, -, HZ⟩
  iexists a, g, d
  isplitl [HA]; · iexact HA
  isplitl [HG]; · iexact HG
  isplitl [HD]; · iexact HD
  isplitr; · ipureintro; exact ⟨done_zero m c a, fun h => absurd rfl h⟩
  isplitl [HS]; · iexact HS
  iexact HZ

theorem leave (c : Dev nD) : (dats m 0 c).Φ (Fin.last cfg0.N) ⊢ (Pipeline.ΦDRV osem0 spec0 ∅ R0 (V m) (G m) c : sProp 𝕄G) := by
  rw [ΦD_eq, G_dx]
  have e : (dats m 0 c).Φ (Fin.last cfg0.N) = inv m c 44 := by
    show inv m c cfg0.N = _
    rw [show cfg0.N = 44 from N_0]
  rw [e]
  unfold inv
  iintro ⟨%a, %g, %d, HA, HG, HD, -, HS, HZ⟩
  isplitl [HA HG HD]
  · isplitl [HA]; · iexists a; iexact HA
    isplitl [HG]; · iexists g; iexact HG
    iexists d; iexact HD
  isplitl [HS]; · iexact HS
  isplitr; · iempintro
  iexact HZ

set_option maxHeartbeats 800000 in
theorem hmainD : Pipeline.HMainK (Ix := Unit) (Name := ℕ) (U := Pipeline.UD sig nD τ) (Lvl := ℕ) cfgs 0 defs₀ Variants.none m (main (F := F)) (V m)
    (fun _ => Pipeline.chain (([hostOps1] : List (List (HloOp τ sig (Elt F)))).map StableHlo.seq)) :=
  Pipeline.hmain_around cfgs 0 defs₀ Variants.none m main [hostOps0] [hostOps1]
    (by simp only [List.Forall]; exact hostOps0_sub) (by simp only [List.Forall]; exact hostOps0_fresh) main_chain

/-- What an array outside the windows holds at the end. -/
def endVal (c : Dev nD) (b : Ref sig .tc) : Buf (Elt F) ((c : Thread nD τ).loc b) :=
  StableHlo.after (List.flatten [hostOps1]) (Pipeline.withArrays spec0 c (Pipeline.withR (V0 m c) R0 c (G m c)) fun w => (dats m 0 c).arrAt w cfg0.N) (Proc.devRef .tc b)

set_option backward.isDefEq.respectTransparency.types false in
set_option maxHeartbeats 800000 in
/-- The launch, and every counter at zero at its end. -/
theorem run_quiescent : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endVal m c b) ∧ r.2.sem = fun _ => 0) :=
  Pipeline.θ_run_frame_dmaR_aroundV cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m) (hin := enter m) (hout := leave m) (Q' := _) (hQ' := fun _ h => h)

theorem W_arg0 (c : Dev nD) : endVal m c main_arg0 = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0))]
  exact (Pipeline.withR_of_not_mem _ _ _ _ main_arg0 (by decide)).trans (V_main_arg0 m c)

theorem W_arg1 (c : Dev nD) : endVal m c main_arg1 = m ((c : Thread nD τ).loc main_arg1) := by
  unfold endVal
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1))]
  exact (Pipeline.withR_of_not_mem _ _ _ _ main_arg1 (by decide)).trans (V_main_arg1 m c)

theorem W_arg2 (c : Dev nD) : endVal m c main_arg2 = m ((c : Thread nD τ).loc main_arg2) := by
  unfold endVal
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2))]
  exact (Pipeline.withR_of_not_mem _ _ _ _ main_arg2 (by decide)).trans (V_main_arg2 m c)

theorem W_arg3 (c : Dev nD) : endVal m c main_arg3 = m ((c : Thread nD τ).loc main_arg3) := by
  unfold endVal
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3))]
  exact (Pipeline.withR_of_not_mem _ _ _ _ main_arg3 (by decide)).trans (V_main_arg3 m c)

theorem W_arg4 (c : Dev nD) : endVal m c main_arg4 = m ((c : Thread nD τ).loc main_arg4) := by
  unfold endVal
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_arg4 (by exact (by decide : ∀ w, Pipeline.arrRef spec0 w ≠ main_arg4))]
  exact (Pipeline.withR_of_not_mem _ _ _ _ main_arg4 (by decide)).trans (V_main_arg4 m c)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (W_arg0 m c),
    ((h.1 c).2 main_arg1 (Pipeline.mem_restRefs_of main_arg1 (by decide) (by decide))).trans (W_arg1 m c),
    ((h.1 c).2 main_arg2 (Pipeline.mem_restRefs_of main_arg2 (by decide) (by decide))).trans (W_arg2 m c),
    ((h.1 c).2 main_arg3 (Pipeline.mem_restRefs_of main_arg3 (by decide) (by decide))).trans (W_arg3 m c),
    ((h.1 c).2 main_arg4 (Pipeline.mem_restRefs_of main_arg4 (by decide) (by decide))).trans (W_arg4 m c)⟩, h.2⟩) (run_quiescent m ρ)

end Cert.FfnIdeal.FfnP
end
-- ==== Proof.FfnP.Same.lean ====
module

public import proofs.«01_k».proof.Defs
public import proofs.«01_k».proof.Proof.Gen.Ffn
public import proofs.«01_k».proof.Proof.FfnP.Launch

@[expose] public section

set_option maxRecDepth 16384
set_option maxHeartbeats 4000000

noncomputable section

/-!
  The program and its idealization are the same text, so that one run gives both frames.
-/

namespace Cert.Ffn

open Idealize.ShloMosaic Idealize.SL.Sem

/-! Each part of the launch's body is the idealization's. -/

theorem part1_same : @Cert.Ffn.k0_part1 Bits _ _ = @Cert.FfnIdeal.k0_part1 Bits _ _ := rfl
theorem part2_same : @Cert.Ffn.k0_part2 Bits _ _ = @Cert.FfnIdeal.k0_part2 Bits _ _ := rfl
theorem part3_same : @Cert.Ffn.k0_part3 Bits _ _ = @Cert.FfnIdeal.k0_part3 Bits _ _ := rfl
theorem part4_same : @Cert.Ffn.k0_part4 Bits _ _ = @Cert.FfnIdeal.k0_part4 Bits _ _ := rfl
theorem part5_same : @Cert.Ffn.k0_part5 Bits _ _ = @Cert.FfnIdeal.k0_part5 Bits _ _ := rfl

/-- The launch's body is the idealization's. -/
theorem cc0_same : @Cert.Ffn.cc0_ffn_bwd Bits _ _ = @Cert.FfnIdeal.cc0_ffn_bwd Bits _ _ := by
  unfold Cert.Ffn.cc0_ffn_bwd Cert.FfnIdeal.cc0_ffn_bwd
  rw [part1_same, part2_same, part3_same, part4_same, part5_same]
  rfl

/-- The table of bodies is the idealization's. -/
theorem defs0_same : Cert.Ffn.defs₀ (F := Bits) = Cert.FfnIdeal.defs₀ (F := Bits) := by
  refine congrArg Defs.onTc (funext fun l => funext fun p => ?_)
  match l, p with
  | 0, (t, s) =>
    show Cert.Ffn.cc0_ffn_bwd (F := Bits) _ _ _ _ _ _ _ _ _ _ _ _ _ _ _ _ _ _ _ _ _ _ _ _ _ _ _ _ _ _ = _
    rw [cc0_same]
    rfl

/-- So are the bodies with the launch's pipeline, -/
theorem defs_same : Cert.Ffn.defs (F := Bits) = Cert.FfnIdeal.defs (F := Bits) :=
  congrArg (Pipeline.defs Cert.FfnIdeal.pcfgs) defs0_same

/-- and the whole program. -/
theorem main_same : Cert.Ffn.main (F := Bits) = Cert.FfnIdeal.main (F := Bits) := rfl

/-- The program's frame is its idealization's run at the float formats. -/
theorem frame_program : quiescent_Ffn (hFfn := Cert.Ffn.Gen.facts) := fun m ρ _ => by
  rw [main_same, defs_same]
  exact Cert.FfnIdeal.FfnP.frame (F := Bits) m ρ

end Cert.Ffn
end
-- ==== Proof.FfnP.Pay.lean ====
module

public import proofs.«01_k».proof.Proof.FfnP.State
public import Idealize.ShloMosaic.Lib.Pointwise
public import Idealize.ShloMosaic.Lib.Pointwise.Select

@[expose] public section

set_option maxRecDepth 16384

noncomputable section

/-!
  The functions of `State` over the reals, at one element.
-/

namespace Cert.FfnIdeal.FfnP

open Cert.FfnIdeal Cert.FfnIdeal.Gen
open Idealize.ShloMosaic Idealize.ShloMosaic.TcCoe Idealize.ShloMosaic.Pointwise

/-- The logistic function. -/
def sg (g : EReal) : EReal := Ideal.div 1 (1 + Ideal.exp (0 - g))
/-- The activation of a gate and an up value, -/
def acF (g u : EReal) : EReal := g * sg g * u
/-- the gradient of the gate value, of the activation's gradient `a`, -/
def dgF (a g u : EReal) : EReal := a * u * (sg g * (1 + g * (1 - sg g)))
/-- and that of the up value. -/
def duF (a g : EReal) : EReal := a * (g * sg g)

/-- A column of the first half of 512, -/
def lo (c : Fin 256) : Fin 512 := ⟨c.val, by omega⟩
/-- and one of the second. -/
def hi (c : Fin 256) : Fin 512 := ⟨256 + c.val, by omega⟩

theorem sum_lohi {A : Type} [AddCommMonoid A] (f : Fin 512 → A) : ∑ x, f x = (∑ x, f (lo x)) + ∑ x, f (hi x) :=
  Fin.sum_univ_add (a := 256) (b := 256) f

variable (g u : Vec Ideal S256x256 .bf16) (d w : Vec Ideal S256x1024 .bf16)

theorem act_at (r c : Fin 256) : act g u (ix2 r c) = acF (g (ix2 r c)) (u (ix2 r c)) := by
  unfold acF sg
  pointwise [act, k0_pay19, k0_pay10, k0_pay12, k0_pay11, k0_pay9]

theorem dgu_lo (r c : Fin 256) : dgu g u d w (ix2 r (lo c)) = dgF (∑ x, d (ix2 r x) * w (ix2 c x)) (g (ix2 r c)) (u (ix2 r c)) := by
  unfold dgF sg lo
  pointwise [dgu, k0_pay17, k0_pay9, k0_pay10, k0_pay11, k0_pay12, k0_pay13, k0_pay14, k0_pay15, k0_pay16]

theorem dgu_hi (r c : Fin 256) : dgu g u d w (ix2 r (hi c)) = duF (∑ x, d (ix2 r x) * w (ix2 c x)) (g (ix2 r c)) := by
  unfold duF sg hi
  pointwise [dgu, k0_pay17, k0_pay9, k0_pay10, k0_pay11, k0_pay12, k0_pay13, k0_pay14, k0_pay15, k0_pay16]

theorem cat_lo (wg wu : Vec Ideal S256x1024 .bf16) (c : Fin 256) (l : Fin 1024) : k0_pay8 wg wu (ix2 (lo c) l) = wg (ix2 c l) := by
  unfold lo
  pointwise [k0_pay8]

theorem cat_hi (wg wu : Vec Ideal S256x1024 .bf16) (c : Fin 256) (l : Fin 1024) : k0_pay8 wg wu (ix2 (hi c) l) = wu (ix2 c l) := by
  unfold hi
  pointwise [k0_pay8]

theorem dxPut_at (wg wu : Vec Ideal S256x1024 .bf16) (v : Vec Ideal S256x1024 .f32) (r : Fin 256) (l : Fin 1024) :
    dxPut wg wu g u d w v (ix2 r l) = v (ix2 r l) + ((∑ c, dgu g u d w (ix2 r (lo c)) * wg (ix2 c l)) + ∑ c, dgu g u d w (ix2 r (hi c)) * wu (ix2 c l)) := by
  have h : dxPut wg wu g u d w v (ix2 r l) = v (ix2 r l) + ∑ x, dgu g u d w (ix2 r x) * k0_pay8 wg wu (ix2 x l) := by
    unfold dgu
    generalize hD : k0_pay17 (k0_pay9 g) (k0_pay11 g) (k0_pay14 g d w) (k0_pay15 u d w) (k0_pay16 g) = D
    generalize hE : k0_pay8 wg wu = E
    pointwise [dxPut, k0_pay18, hD, hE]
  rw [h, sum_lohi]
  simp only [cat_lo, cat_hi]

/-- A row of a block of 1024, by its block of 256. -/
def rw4 (q : Fin 4) (r : Fin 256) : Fin 1024 := ⟨256 * q.val + r.val, by omega⟩

theorem sum_rw4 {A : Type} [AddCommMonoid A] (f : Fin 1024 → A) : ∑ x, f x = ∑ q : Fin 4, ∑ r, f (rw4 q r) := by
  have e := Fintype.sum_equiv (finProdFinEquiv (m := 4) (n := 256)) (fun p => f (rw4 p.1 p.2)) f
    (fun p => congrArg f (Fin.ext (show 256 * p.1.val + p.2.val = p.2.val + 256 * p.1.val from Nat.add_comm _ _)))
  rw [← e, Fintype.sum_prod_type]

theorem rowsQ_at (x : Vec Ideal S1024x256 .bf16) (q : Fin 4) (r c : Fin 256) : rowsQ x q (ix2 r c) = x (ix2 (rw4 q r) c) :=
  congrArg x (by funext a; fin_cases a; exacts [Fin.ext (show 256 * q.val + 1 * r.val = 256 * q.val + r.val by omega), Fin.ext (show 0 + 1 * c.val = c.val by omega)])

theorem rowsD_at (x : Vec Ideal S1024x1024 .bf16) (q : Fin 4) (r : Fin 256) (c : Fin 1024) : rowsD x q (ix2 r c) = x (ix2 (rw4 q r) c) :=
  congrArg x (by funext a; fin_cases a; exacts [Fin.ext (show 256 * q.val + 1 * r.val = 256 * q.val + r.val by omega), Fin.ext (show 0 + 1 * c.val = c.val by omega)])

variable (x0 x3 : Vec Ideal S1024x1024 .bf16) (x1 x2 : Vec Ideal S1024x256 .bf16) (x6 : Vec Ideal S256x1024 .bf16)

theorem cat4_at (D : Fin 4 → Vec Ideal S256x512 .bf16) (q : Fin 4) (r : Fin 256) (c : Fin 512) :
    concatenate S1024x512 0 [⟨S256x512, D 0⟩, ⟨S256x512, D 1⟩, ⟨S256x512, D 2⟩, ⟨S256x512, D 3⟩]
      concatenates_S256x512_S256x512_S256x512_S256x512_S1024x512_d0 (ix2 (rw4 q r) c) = D q (ix2 r c) := by
  unfold rw4
  fin_cases q <;> pointwise
  · rw [dif_neg (by omega), dif_neg (by omega), dif_pos (by omega)]
    exact congrArg (fun z => D 2 (ix2 z c)) (Fin.ext (show 512 + r.val - 256 - 256 = r.val by omega))
  · rw [dif_neg (by omega), dif_neg (by omega), dif_neg (by omega)]
    exact congrArg (fun z => D 3 (ix2 z c)) (Fin.ext (show 768 + r.val - 256 - 256 - 256 = r.val by omega))

theorem guNext_at (y : Vec Ideal S512x1024 .f32) (f : Fin 512) (l : Fin 1024) :
    guNext x0 x1 x2 x3 x6 y (ix2 f l) = y (ix2 f l) + ∑ q : Fin 4, ∑ r, dgu (rowsQ x1 q) (rowsQ x2 q) (rowsD x3 q) x6 (ix2 r f) * x0 (ix2 (rw4 q r) l) := by
  have h : ∀ D : Vec Ideal S1024x512 .bf16, k0_pay1 y D x0 (ix2 f l) = y (ix2 f l) + ∑ x, D (ix2 x f) * x0 (ix2 x l) := fun D => by
    pointwise [k0_pay1]
  unfold guNext
  rw [h, sum_rw4]
  refine congrArg (y (ix2 f l) + ·) (Finset.sum_congr rfl fun q _ => Finset.sum_congr rfl fun r _ => congrArg (· * x0 (ix2 (rw4 q r) l)) ?_)
  exact cat4_at (fun q => dgu (rowsQ x1 q) (rowsQ x2 q) (rowsD x3 q) x6) q r f

theorem dNext_at (y : Vec Ideal S256x1024 .f32) (f : Fin 256) (l : Fin 1024) :
    dNext x1 x2 x3 y (ix2 f l) = y (ix2 f l) + ∑ r : Fin 1024, acF (x1 (ix2 r f)) (x2 (ix2 r f)) * x3 (ix2 r l) := by
  have h : ∀ a b c : Vec Ideal S256x256 .bf16, ∀ D : Vec Ideal S256x256 .bf16, act (rowsQ x1 3) (rowsQ x2 3) = D → k0_pay45 a b c (k0_pay39 (rowsQ x2 3)) (k0_pay41 (rowsQ x1 3)) y x3 (ix2 f l) = y (ix2 f l)
      + ∑ x, concatenate S1024x256 0 [⟨S256x256, a⟩, ⟨S256x256, b⟩, ⟨S256x256, c⟩, ⟨S256x256, D⟩] concatenates_S256x256_S256x256_S256x256_S256x256_S1024x256_d0 (ix2 x f) * x3 (ix2 x l) := fun a b c D hD => by
    subst hD
    generalize hE : concatenate S1024x256 0 [⟨S256x256, a⟩, ⟨S256x256, b⟩, ⟨S256x256, c⟩, ⟨S256x256, act (rowsQ x1 3) (rowsQ x2 3)⟩] concatenates_S256x256_S256x256_S256x256_S256x256_S1024x256_d0 = E
    have e : k0_pay45 a b c (k0_pay39 (rowsQ x2 3)) (k0_pay41 (rowsQ x1 3)) y x3 = shapeCast S256x1024 (addf y (matmul (φ₁ := .bf16) (φ₂ := .bf16) dot_S1024x256_S1024x1024_S256x1024_0_0_1_1_n_n none E (shapeCast S1024x1024 x3 shapeCasts_S1024x1024_S1024x1024) (constant S256x1024 .f32 0x00000000#32))) shapeCasts_S256x1024_S256x1024 := by
      rw [← hE]; rfl
    rw [e]
    pointwise
  have hc : ∀ (D : Fin 4 → Vec Ideal S256x256 .bf16) (q : Fin 4) (r : Fin 256) (c : Fin 256),
      concatenate S1024x256 0 [⟨S256x256, D 0⟩, ⟨S256x256, D 1⟩, ⟨S256x256, D 2⟩, ⟨S256x256, D 3⟩] concatenates_S256x256_S256x256_S256x256_S256x256_S1024x256_d0 (ix2 (rw4 q r) c) = D q (ix2 r c) := fun D q r c => by
    unfold rw4
    fin_cases q <;> pointwise
    · rw [dif_neg (by omega), dif_neg (by omega), dif_pos (by omega)]
      exact congrArg (fun z => D 2 (ix2 z c)) (Fin.ext (show 512 + r.val - 256 - 256 = r.val by omega))
    · rw [dif_neg (by omega), dif_neg (by omega), dif_neg (by omega)]
      exact congrArg (fun z => D 3 (ix2 z c)) (Fin.ext (show 768 + r.val - 256 - 256 - 256 = r.val by omega))
  unfold dNext
  rw [h _ _ _ _ rfl, sum_rw4, sum_rw4]
  refine congrArg (y (ix2 f l) + ·) (Finset.sum_congr rfl fun q _ => Finset.sum_congr rfl fun r _ => congrArg (· * x3 (ix2 (rw4 q r) l)) ?_)
  refine (hc (fun q => act (rowsQ x1 q) (rowsQ x2 q)) q r f).trans ?_
  rw [act_at, rowsQ_at, rowsQ_at]

end Cert.FfnIdeal.FfnP
end
-- ==== Proof.FfnP.Arrays.lean ====
module

public import proofs.«01_k».proof.Proof.FfnP.Launch
public import proofs.«01_k».proof.Proof.FfnP.Pay
public import Idealize.ShloMosaic.Lib.Pipeline.ValueKit

@[expose] public section

set_option maxRecDepth 16384

noncomputable section

/-!
  The four arrays that the launch leaves, as sums over the rows and the features of the arrays that it is given.
-/

namespace Cert.FfnIdeal.FfnP

open Cert.FfnIdeal Cert.FfnIdeal.Gen
open Idealize.ShloMosaic Idealize.ShloMosaic.TcCoe Idealize.ShloMosaic.Pointwise
open Idealize.ShloMosaic.Pipeline (Dat)

/-- The sum of the first `N` of `n` terms. -/
def sumTo {n : ℕ} (f : Fin n → EReal) (N : ℕ) : EReal := ∑ i ∈ Finset.range N, if h : i < n then f ⟨i, h⟩ else 0

theorem sumTo_add {n : ℕ} (f : Fin n → EReal) (N k : ℕ) (h : N + k ≤ n) : sumTo f (N + k) = sumTo f N + ∑ x : Fin k, f ⟨N + x.val, by omega⟩ := by
  unfold sumTo
  rw [Finset.sum_range_add, Finset.sum_range (fun x => if h : N + x < n then f ⟨N + x, h⟩ else 0)]
  exact congrArg _ (Finset.sum_congr rfl fun x _ => dif_pos (by omega))

theorem sumTo_all {n : ℕ} (f : Fin n → EReal) : sumTo f n = ∑ x, f x := by
  unfold sumTo
  rw [Finset.sum_range (fun x => if h : x < n then f ⟨x, h⟩ else 0)]
  exact Finset.sum_congr rfl fun x _ => dif_pos x.isLt

section Arr

variable (H C : Vec Ideal S4096x1024 .bf16) (G U : Vec Ideal S4096x2816 .bf16) (A B W : Vec Ideal S2816x1024 .bf16)

/-- The gradient of the activation of row `Q` at feature `f`, -/
def daA (Q : Fin 4096) (f : Fin 2816) : EReal := ∑ x, C (ix2 Q x) * W (ix2 f x)
/-- of the gate value, -/
def dgA (Q : Fin 4096) (f : Fin 2816) : EReal := dgF (daA C W Q f) (G (ix2 Q f)) (U (ix2 Q f))
/-- and of the up value. -/
def duA (Q : Fin 4096) (f : Fin 2816) : EReal := duF (daA C W Q f) (G (ix2 Q f))
/-- The activation. -/
def acA (Q : Fin 4096) (f : Fin 2816) : EReal := acF (G (ix2 Q f)) (U (ix2 Q f))

end Arr

/-- The row of the arrays of a row of a point's block, -/
def rwP (t : Fin cfg0.N) (r : Fin 1024) : Fin 4096 := ⟨1024 * (t.val % 4) + r.val, by omega⟩
/-- and the feature. -/
def ftP (t : Fin cfg0.N) (f : Fin 256) : Fin 2816 := ⟨256 * (t.val / 4) + f.val, by have : t.val < 44 := Nat.lt_of_lt_of_eq t.isLt N_0; omega⟩

theorem idx : ∀ t : Fin cfg0.N, win0_0.index t = ![t.val % 4, 0] ∧ win0_1.index t = ![t.val % 4, t.val / 4] ∧ win0_2.index t = ![t.val % 4, t.val / 4]
    ∧ win0_3.index t = ![t.val % 4, 0] ∧ win0_4.index t = ![t.val / 4, 0] ∧ win0_5.index t = ![t.val / 4, 0] ∧ win0_6.index t = ![t.val / 4, 0]
    ∧ win0_7.index t = ![t.val / 4, 0] ∧ win0_8.index t = ![t.val / 4, 0] ∧ win0_9.index t = ![t.val / 4, 0] :=
  (by decide +kernel : ∀ t : Fin grid0.N, _)

variable (m : (ℓ : Loc nD τ sig) → Buf (Elt Ideal) ℓ) (c : Dev nD)

theorem emb_0 (t : Fin cfg0.N) (r : Fin 1024) (l : Fin 1024) : ((cfg0.win 0).blk t).view.emb (ix2 r l) = ix2 (rwP t r) l := by
  blk_ext [idx t] <;> simp only [rwP] <;> omega
theorem emb_1 (t : Fin cfg0.N) (r : Fin 1024) (l : Fin 256) : ((cfg0.win 1).blk t).view.emb (ix2 r l) = ix2 (rwP t r) (ftP t l) := by
  blk_ext [idx t] <;> simp only [rwP, ftP] <;> omega
theorem emb_2 (t : Fin cfg0.N) (r : Fin 1024) (l : Fin 256) : ((cfg0.win 2).blk t).view.emb (ix2 r l) = ix2 (rwP t r) (ftP t l) := by
  blk_ext [idx t] <;> simp only [rwP, ftP] <;> omega
theorem emb_3 (t : Fin cfg0.N) (r : Fin 1024) (l : Fin 1024) : ((cfg0.win 3).blk t).view.emb (ix2 r l) = ix2 (rwP t r) l := by
  blk_ext [idx t] <;> simp only [rwP] <;> omega
theorem emb_4 (t : Fin cfg0.N) (r : Fin 256) (l : Fin 1024) : ((cfg0.win 4).blk t).view.emb (ix2 r l) = ix2 (ftP t r) l := by
  blk_ext [idx t] <;> simp only [ftP] <;> omega
theorem emb_5 (t : Fin cfg0.N) (r : Fin 256) (l : Fin 1024) : ((cfg0.win 5).blk t).view.emb (ix2 r l) = ix2 (ftP t r) l := by
  blk_ext [idx t] <;> simp only [ftP] <;> omega
theorem emb_6 (t : Fin cfg0.N) (r : Fin 256) (l : Fin 1024) : ((cfg0.win 6).blk t).view.emb (ix2 r l) = ix2 (ftP t r) l := by
  blk_ext [idx t] <;> simp only [ftP] <;> omega
theorem emb_7 (t : Fin cfg0.N) (r : Fin 256) (l : Fin 1024) : ((cfg0.win 7).blk t).view.emb (ix2 r l) = ix2 (ftP t r) l := by
  blk_ext [idx t] <;> simp only [ftP] <;> omega
theorem emb_8 (t : Fin cfg0.N) (r : Fin 256) (l : Fin 1024) : ((cfg0.win 8).blk t).view.emb (ix2 r l) = ix2 (ftP t r) l := by
  blk_ext [idx t] <;> simp only [ftP] <;> omega
theorem emb_9 (t : Fin cfg0.N) (r : Fin 256) (l : Fin 1024) : ((cfg0.win 9).blk t).view.emb (ix2 r l) = ix2 (ftP t r) l := by
  blk_ext [idx t] <;> simp only [ftP] <;> omega

theorem blk_0 (t : Fin cfg0.N) (r : Fin 1024) (l : Fin 1024) : iblk m c 0 t (ix2 r l) = V m c main_v4 (ix2 (rwP t r) l) :=
  congrArg (V m c main_v4 : Vec Ideal S4096x1024 .bf16) (emb_0 t r l)
theorem blk_1 (t : Fin cfg0.N) (r : Fin 1024) (l : Fin 256) : iblk m c 1 t (ix2 r l) = V m c main_v1 (ix2 (rwP t r) (ftP t l)) :=
  congrArg (V m c main_v1 : Vec Ideal S4096x2816 .bf16) (emb_1 t r l)
theorem blk_2 (t : Fin cfg0.N) (r : Fin 1024) (l : Fin 256) : iblk m c 2 t (ix2 r l) = V m c main_v3 (ix2 (rwP t r) (ftP t l)) :=
  congrArg (V m c main_v3 : Vec Ideal S4096x2816 .bf16) (emb_2 t r l)
theorem blk_3 (t : Fin cfg0.N) (r : Fin 1024) (l : Fin 1024) : iblk m c 3 t (ix2 r l) = V m c main_v5 (ix2 (rwP t r) l) :=
  congrArg (V m c main_v5 : Vec Ideal S4096x1024 .bf16) (emb_3 t r l)
theorem blk_4 (t : Fin cfg0.N) (r : Fin 256) (l : Fin 1024) : iblk m c 4 t (ix2 r l) = V m c main_v7 (ix2 (ftP t r) l) :=
  congrArg (V m c main_v7 : Vec Ideal S2816x1024 .bf16) (emb_4 t r l)
theorem blk_5 (t : Fin cfg0.N) (r : Fin 256) (l : Fin 1024) : iblk m c 5 t (ix2 r l) = V m c main_v9 (ix2 (ftP t r) l) :=
  congrArg (V m c main_v9 : Vec Ideal S2816x1024 .bf16) (emb_5 t r l)
theorem blk_6 (t : Fin cfg0.N) (r : Fin 256) (l : Fin 1024) : iblk m c 6 t (ix2 r l) = V m c main_v10 (ix2 (ftP t r) l) :=
  congrArg (V m c main_v10 : Vec Ideal S2816x1024 .bf16) (emb_6 t r l)

/-! The gradients of the gate and the up values of one row of a point's block. -/

theorem da_at (t : Fin cfg0.N) (q : Fin 4) (r f : Fin 256) :
    (∑ x, rowsD (iblk m c 3 t) q (ix2 r x) * iblk m c 6 t (ix2 f x)) = daA (V m c main_v5) (V m c main_v10) (rwP t (rw4 q r)) (ftP t f) :=
  Finset.sum_congr rfl fun x _ => congrArg₂ (· * ·) ((rowsD_at _ q r x).trans (blk_3 m c t (rw4 q r) x)) (blk_6 m c t f x)

theorem dg_at (t : Fin cfg0.N) (q : Fin 4) (r f : Fin 256) :
    dgu (rowsQ (iblk m c 1 t) q) (rowsQ (iblk m c 2 t) q) (rowsD (iblk m c 3 t) q) (iblk m c 6 t) (ix2 r (lo f))
      = dgA (V m c main_v5) (V m c main_v1) (V m c main_v3) (V m c main_v10) (rwP t (rw4 q r)) (ftP t f) := by
  rw [dgu_lo, da_at, rowsQ_at, rowsQ_at]
  exact congrArg₂ (dgF _) (blk_1 m c t _ f) (blk_2 m c t _ f)

theorem du_at (t : Fin cfg0.N) (q : Fin 4) (r f : Fin 256) :
    dgu (rowsQ (iblk m c 1 t) q) (rowsQ (iblk m c 2 t) q) (rowsD (iblk m c 3 t) q) (iblk m c 6 t) (ix2 r (hi f))
      = duA (V m c main_v5) (V m c main_v1) (V m c main_v10) (rwP t (rw4 q r)) (ftP t f) := by
  rw [dgu_hi, da_at, rowsQ_at]
  exact congrArg (duF _) (blk_1 m c t _ f)

/-! What row `Q` adds to the three weight gradients. -/

def tG (f : Fin 2816) (l : Fin 1024) (Q : Fin 4096) : EReal := dgA (V m c main_v5) (V m c main_v1) (V m c main_v3) (V m c main_v10) Q f * V m c main_v4 (ix2 Q l)
def tU (f : Fin 2816) (l : Fin 1024) (Q : Fin 4096) : EReal := duA (V m c main_v5) (V m c main_v1) (V m c main_v10) Q f * V m c main_v4 (ix2 Q l)
def tD (f : Fin 2816) (l : Fin 1024) (Q : Fin 4096) : EReal := acA (V m c main_v1) (V m c main_v3) Q f * V m c main_v5 (ix2 Q l)

theorem pointG (t : Fin cfg0.N) (y : Vec Ideal S512x1024 .f32) (f : Fin 256) (l : Fin 1024) :
    guNext (iblk m c 0 t) (iblk m c 1 t) (iblk m c 2 t) (iblk m c 3 t) (iblk m c 6 t) y (ix2 (lo f) l) = y (ix2 (lo f) l) + ∑ r, tG m c (ftP t f) l (rwP t r) := by
  rw [guNext_at, sum_rw4]
  exact congrArg (y (ix2 (lo f) l) + ·) (Finset.sum_congr rfl fun q _ => Finset.sum_congr rfl fun r _ => congrArg₂ (· * ·) (dg_at m c t q r f) (blk_0 m c t _ l))

theorem pointU (t : Fin cfg0.N) (y : Vec Ideal S512x1024 .f32) (f : Fin 256) (l : Fin 1024) :
    guNext (iblk m c 0 t) (iblk m c 1 t) (iblk m c 2 t) (iblk m c 3 t) (iblk m c 6 t) y (ix2 (hi f) l) = y (ix2 (hi f) l) + ∑ r, tU m c (ftP t f) l (rwP t r) := by
  rw [guNext_at, sum_rw4]
  exact congrArg (y (ix2 (hi f) l) + ·) (Finset.sum_congr rfl fun q _ => Finset.sum_congr rfl fun r _ => congrArg₂ (· * ·) (du_at m c t q r f) (blk_0 m c t _ l))

theorem pointD (t : Fin cfg0.N) (y : Vec Ideal S256x1024 .f32) (f : Fin 256) (l : Fin 1024) :
    dNext (iblk m c 1 t) (iblk m c 2 t) (iblk m c 3 t) y (ix2 f l) = y (ix2 f l) + ∑ r, tD m c (ftP t f) l (rwP t r) := by
  rw [dNext_at]
  exact congrArg (y (ix2 f l) + ·) (Finset.sum_congr rfl fun r _ => congrArg₂ (· * ·) (congrArg₂ acF (blk_1 m c t r f) (blk_2 m c t r f)) (blk_3 m c t r l))

theorem zeroGU (i : S512x1024.Idx) : k0_pay6 (F := Ideal) i = 0 := by
  show Ideal.ofBits .f32 0x00000000#32 = 0
  simp [Ideal.ofBits, Ideal.ieee]

theorem zeroD (i : S256x1024.Idx) : k0_pay7 (F := Ideal) i = 0 := by
  show Ideal.ofBits .f32 0x00000000#32 = 0
  simp [Ideal.ofBits, Ideal.ieee]

/-- A quantity that the points of a block of features take up from zero and add their rows to: the sum over the rows so far. -/
theorem rows_sum (g : (n : ℕ) → n < cfg0.N → EReal) (T : Fin 2816 → Fin 4096 → EReal) (f : Fin 256)
    (h0 : ∀ n h, n % 4 = 0 → g n h = 0 + ∑ r, T (ftP ⟨n, h⟩ f) (rwP ⟨n, h⟩ r))
    (h1 : ∀ n h, (n + 1) % 4 ≠ 0 → g (n + 1) h = g n (Nat.lt_of_succ_lt h) + ∑ r, T (ftP ⟨n + 1, h⟩ f) (rwP ⟨n + 1, h⟩ r)) :
    ∀ (n : ℕ) (h : n < cfg0.N), g n h = sumTo (T (ftP ⟨n, h⟩ f)) (1024 * (n % 4) + 1024) := by
  intro n
  induction n with
  | zero =>
    intro h
    refine Eq.trans (h0 0 h rfl) ((sumTo_add _ _ 1024 (by decide)).trans ?_).symm
    exact congrArg₂ (· + ·) (Finset.sum_range_zero _) rfl
  | succ n ih =>
    intro h
    refine Eq.trans ?_ (sumTo_add _ _ 1024 (by omega)).symm
    by_cases e : (n + 1) % 4 = 0
    · refine (h0 (n + 1) h e).trans (congrArg₂ (· + ·) ?_ rfl)
      rw [e]
      exact (Finset.sum_range_zero _).symm
    · refine (h1 n h e).trans (congrArg₂ (· + ·) ((ih (Nat.lt_of_succ_lt h)).trans ?_) rfl)
      rw [show ftP ⟨n, Nat.lt_of_succ_lt h⟩ f = ftP ⟨n + 1, h⟩ f from Fin.ext (show 256 * (n / 4) + f.val = 256 * ((n + 1) / 4) + f.val by omega),
        show 1024 * (n % 4) + 1024 = 1024 * ((n + 1) % 4) by omega]

theorem guAfter_lo (f : Fin 256) (l : Fin 1024) (n : ℕ) (h : n < cfg0.N) :
    guAfter m c n h (ix2 (lo f) l) = sumTo (tG m c (ftP ⟨n, h⟩ f) l) (1024 * (n % 4) + 1024) := by
  refine rows_sum (fun n h => guAfter m c n h (ix2 (lo f) l)) (fun f => tG m c f l) f (fun n h e => ?_) (fun n h e => ?_) n h
  · cases n with
    | zero => exact (pointG m c ⟨0, h⟩ _ f l).trans (congrArg (· + _) (zeroGU _))
    | succ n => exact (pointG m c ⟨n + 1, h⟩ _ f l).trans (congrArg (· + _) ((congrFun (if_pos e) _).trans (zeroGU _)))
  · exact (pointG m c ⟨n + 1, h⟩ _ f l).trans (congrArg (· + _) (congrFun (if_neg e) _))

theorem guAfter_hi (f : Fin 256) (l : Fin 1024) (n : ℕ) (h : n < cfg0.N) :
    guAfter m c n h (ix2 (hi f) l) = sumTo (tU m c (ftP ⟨n, h⟩ f) l) (1024 * (n % 4) + 1024) := by
  refine rows_sum (fun n h => guAfter m c n h (ix2 (hi f) l)) (fun f => tU m c f l) f (fun n h e => ?_) (fun n h e => ?_) n h
  · cases n with
    | zero => exact (pointU m c ⟨0, h⟩ _ f l).trans (congrArg (· + _) (zeroGU _))
    | succ n => exact (pointU m c ⟨n + 1, h⟩ _ f l).trans (congrArg (· + _) ((congrFun (if_pos e) _).trans (zeroGU _)))
  · exact (pointU m c ⟨n + 1, h⟩ _ f l).trans (congrArg (· + _) (congrFun (if_neg e) _))

theorem dAfter_at (f : Fin 256) (l : Fin 1024) (n : ℕ) (h : n < cfg0.N) :
    dAfter m c n h (ix2 f l) = sumTo (tD m c (ftP ⟨n, h⟩ f) l) (1024 * (n % 4) + 1024) := by
  refine rows_sum (fun n h => dAfter m c n h (ix2 f l)) (fun f => tD m c f l) f (fun n h e => ?_) (fun n h e => ?_) n h
  · cases n with
    | zero => exact (pointD m c ⟨0, h⟩ _ f l).trans (congrArg (· + _) (zeroD _))
    | succ n => exact (pointD m c ⟨n + 1, h⟩ _ f l).trans (congrArg (· + _) ((congrFun (if_pos e) _).trans (zeroD _)))
  · exact (pointD m c ⟨n + 1, h⟩ _ f l).trans (congrArg (· + _) (congrFun (if_neg e) _))

/-- What feature `f` adds to the input's gradient at row `Q`. -/
def tX (Q : Fin 4096) (l : Fin 1024) (f : Fin 2816) : EReal :=
  dgA (V m c main_v5) (V m c main_v1) (V m c main_v3) (V m c main_v10) Q f * V m c main_v7 (ix2 f l) + duA (V m c main_v5) (V m c main_v1) (V m c main_v10) Q f * V m c main_v9 (ix2 f l)

/-- A row by its block of 256. -/
def rw16 (k : Fin 16) (r : Fin 256) : Fin 4096 := ⟨256 * k.val + r.val, by omega⟩

theorem accB_at (k : Fin 16) (r : Fin 256) (l : Fin 1024) : ∀ (n : ℕ) (h : n ≤ 11), accB m c k n h (ix2 r l) = sumTo (tX m c (rw16 k r) l) (256 * n) := by
  intro n
  induction n with
  | zero => intro h; exact (zeroD _).trans (Finset.sum_range_zero _).symm
  | succ n ih =>
    intro h
    have hk := k.isLt
    have hf : ∀ f : Fin 256, ftP (pt n k h) f = ⟨256 * n + f.val, by omega⟩ := fun f => Fin.ext (show 256 * ((4 * n + k.val / 4) / 4) + f.val = 256 * n + f.val by omega)
    have hq : rwP (pt n k h) (rw4 (sub k) r) = rw16 k r := Fin.ext (show 1024 * ((4 * n + k.val / 4) % 4) + (256 * (k.val % 4) + r.val) = 256 * k.val + r.val by omega)
    refine (dxPut_at ..).trans (Eq.trans ?_ (sumTo_add _ (256 * n) 256 (by omega)).symm)
    rw [← Finset.sum_add_distrib]
    refine congrArg₂ (· + ·) (ih (Nat.le_of_succ_le h)) (Finset.sum_congr rfl fun f _ => ?_)
    rw [dg_at, du_at, blk_4 m c (pt n k h) f l, blk_5 m c (pt n k h) f l, hf, hq]
    rfl

/-- The input's gradient after the launch. -/
theorem dxOut_at (Q : Fin 4096) (l : Fin 1024) : dxOut m c (ix2 Q l) = ∑ f, tX m c Q l f := by
  have hQ := Q.isLt
  refine (accB_at m c ⟨Q.val / 256, by omega⟩ ⟨Q.val % 256, by omega⟩ l 11 (Nat.le_refl _)).trans ?_
  rw [show rw16 ⟨Q.val / 256, by omega⟩ ⟨Q.val % 256, by omega⟩ = Q from Fin.ext (show 256 * (Q.val / 256) + Q.val % 256 = Q.val by omega)]
  exact sumTo_all _

/-! The weight gradients as the arrays that hold them. -/

def gA : Vec Ideal S2816x1024 .bf16 := fun z => ∑ Q, tG m c (z 0) (z 1) Q
def uA : Vec Ideal S2816x1024 .bf16 := fun z => ∑ Q, tU m c (z 0) (z 1) Q
def dA : Vec Ideal S2816x1024 .bf16 := fun z => ∑ Q, tD m c (z 0) (z 1) Q

/-- The gate weights' gradient after the launch. -/
theorem final_7 : (dats m 0 c).arrAt 7 (cfgs 0).N = gA m c := by
  refine (dats m 0 c).arrAt_eq_of_covers 7 _ (by decide +kernel) fun t hf y => ?_
  have h3 : t.val % 4 = 3 := (flush0_7 t).mp hf
  obtain ⟨r, l, rfl⟩ : ∃ (r : Fin 256) (l : Fin 1024), y = ix2 r l := ⟨y 0, y 1, eq_ix2 y⟩
  rw [after_7]
  refine Eq.trans (congrArg (guAfter m c t.val t.isLt) (?_ : _ = ix2 (lo r) l)) ((guAfter_lo m c r l t.val t.isLt).trans ?_)
  · funext a; fin_cases a
    · exact Fin.ext (show 0 + 1 * r.val = r.val by omega)
    · exact Fin.ext (show 0 + 1 * l.val = l.val by omega)
  · rw [h3, show 1024 * 3 + 1024 = 4096 from rfl, sumTo_all]
    exact (congrArg (gA m c) (emb_7 t r l)).symm

/-- The up weights' gradient after the launch. -/
theorem final_8 : (dats m 0 c).arrAt 8 (cfgs 0).N = uA m c := by
  refine (dats m 0 c).arrAt_eq_of_covers 8 _ (by decide +kernel) fun t hf y => ?_
  have h3 : t.val % 4 = 3 := (flush0_8 t).mp hf
  obtain ⟨r, l, rfl⟩ : ∃ (r : Fin 256) (l : Fin 1024), y = ix2 r l := ⟨y 0, y 1, eq_ix2 y⟩
  rw [after_8]
  refine Eq.trans (congrArg (guAfter m c t.val t.isLt) (?_ : _ = ix2 (hi r) l)) ((guAfter_hi m c r l t.val t.isLt).trans ?_)
  · funext a; fin_cases a
    · exact Fin.ext (show 256 + 1 * r.val = 256 + r.val by omega)
    · exact Fin.ext (show 0 + 1 * l.val = l.val by omega)
  · rw [h3, show 1024 * 3 + 1024 = 4096 from rfl, sumTo_all]
    exact (congrArg (uA m c) (emb_8 t r l)).symm

/-- The last weights' gradient after the launch. -/
theorem final_9 : (dats m 0 c).arrAt 9 (cfgs 0).N = dA m c := by
  refine (dats m 0 c).arrAt_eq_of_covers 9 _ (by decide +kernel) fun t hf y => ?_
  have h3 : t.val % 4 = 3 := (flush0_9 t).mp hf
  obtain ⟨r, l, rfl⟩ : ∃ (r : Fin 256) (l : Fin 1024), y = ix2 r l := ⟨y 0, y 1, eq_ix2 y⟩
  rw [after_9]
  refine Eq.trans (dAfter_at m c r l t.val t.isLt) ?_
  rw [h3, show 1024 * 3 + 1024 = 4096 from rfl, sumTo_all]
  exact (congrArg (dA m c) (emb_9 t r l)).symm

end Cert.FfnIdeal.FfnP
end
-- ==== Proof.FfnP.Entry.lean ====
module

public import proofs.«01_k».proof.Proof.FfnP.Arrays
public import Idealize.ShloMosaic.Lib.StableHlo.Run

@[expose] public section

set_option maxRecDepth 16384

noncomputable section

/-!
  What the host operations leave: the arrays that the launch is given, and the results read off the arrays that it leaves.
-/

namespace Cert.FfnIdeal.FfnP

open Cert.FfnIdeal Cert.FfnIdeal.Gen
open Idealize.ShloMosaic Idealize.ShloMosaic.TcCoe Idealize.ShloMosaic.StableHlo Idealize.ShloMosaic.Pointwise Idealize.SL.Sem

variable (m : (ℓ : Loc nD τ sig) → Buf (Elt Ideal) ℓ) (c : Dev nD)

/-! The arguments. -/

def arg0 : Vec Ideal S4096x1024 .f32 := m ((c : Thread nD τ).loc main_arg0)
def arg1 : Vec Ideal S1024x2816 .f32 := m ((c : Thread nD τ).loc main_arg1)
def arg2 : Vec Ideal S1024x2816 .f32 := m ((c : Thread nD τ).loc main_arg2)
def arg3 : Vec Ideal S2816x1024 .f32 := m ((c : Thread nD τ).loc main_arg3)
def arg4 : Vec Ideal S4096x1024 .f32 := m ((c : Thread nD τ).loc main_arg4)

theorem V1 (Q : Fin 4096) (f : Fin 2816) : (V m c main_v1 : Vec Ideal S4096x2816 .bf16) (ix2 Q f)
    = ∑ k : Fin 1024, (arg0 m c) (ix2 Q k) * (arg1 m c) (ix2 k f) := by
  have e : (V m c main_v1 : Vec Ideal S4096x2816 .bf16) = truncf (F := Ideal) .bf16 (Host.dotGeneral (φ₁ := .f32) (φ₂ := .f32) dot_S4096x1024_S1024x2816_S4096x2816_1_0_0_1_n_n none (arg0 m c) (arg1 m c)) bitsLt_bf16_f32 := by
    show StableHlo.after (List.flatten [hostOps0]) (fun b => m (c, b)) (Proc.devRef .tc main_v1) = _
    simp only [hostOps0, List.flatten_cons, List.flatten_nil, List.append_nil, List.cons_append, List.nil_append]
    after_results_simp <;> rfl
  rw [e]
  pointwise

theorem V3 (Q : Fin 4096) (f : Fin 2816) : (V m c main_v3 : Vec Ideal S4096x2816 .bf16) (ix2 Q f)
    = ∑ k : Fin 1024, (arg0 m c) (ix2 Q k) * (arg2 m c) (ix2 k f) := by
  have e : (V m c main_v3 : Vec Ideal S4096x2816 .bf16) = truncf (F := Ideal) .bf16 (Host.dotGeneral (φ₁ := .f32) (φ₂ := .f32) dot_S4096x1024_S1024x2816_S4096x2816_1_0_0_1_n_n none (arg0 m c) (arg2 m c)) bitsLt_bf16_f32 := by
    show StableHlo.after (List.flatten [hostOps0]) (fun b => m (c, b)) (Proc.devRef .tc main_v3) = _
    simp only [hostOps0, List.flatten_cons, List.flatten_nil, List.append_nil, List.cons_append, List.nil_append]
    after_results_simp <;> rfl
  rw [e]
  pointwise

theorem V4 (Q : Fin 4096) (l : Fin 1024) : (V m c main_v4 : Vec Ideal S4096x1024 .bf16) (ix2 Q l) = (arg0 m c) (ix2 Q l) := by
  have e : (V m c main_v4 : Vec Ideal S4096x1024 .bf16) = truncf (F := Ideal) .bf16 (arg0 m c) bitsLt_bf16_f32 := by
    show StableHlo.after (List.flatten [hostOps0]) (fun b => m (c, b)) (Proc.devRef .tc main_v4) = _
    simp only [hostOps0, List.flatten_cons, List.flatten_nil, List.append_nil, List.cons_append, List.nil_append]
    after_results_simp <;> rfl
  rw [e]
  rfl

theorem V5 (Q : Fin 4096) (l : Fin 1024) : (V m c main_v5 : Vec Ideal S4096x1024 .bf16) (ix2 Q l) = (arg4 m c) (ix2 Q l) := by
  have e : (V m c main_v5 : Vec Ideal S4096x1024 .bf16) = truncf (F := Ideal) .bf16 (arg4 m c) bitsLt_bf16_f32 := by
    show StableHlo.after (List.flatten [hostOps0]) (fun b => m (c, b)) (Proc.devRef .tc main_v5) = _
    simp only [hostOps0, List.flatten_cons, List.flatten_nil, List.append_nil, List.cons_append, List.nil_append]
    after_results_simp <;> rfl
  rw [e]
  rfl

theorem V7 (f : Fin 2816) (l : Fin 1024) : (V m c main_v7 : Vec Ideal S2816x1024 .bf16) (ix2 f l) = (arg1 m c) (ix2 l f) := by
  have e : (V m c main_v7 : Vec Ideal S2816x1024 .bf16) = truncf (F := Ideal) .bf16 (transpose S2816x1024 [1, 0] (arg1 m c) transposes_S1024x2816_S2816x1024_1_0) bitsLt_bf16_f32 := by
    show StableHlo.after (List.flatten [hostOps0]) (fun b => m (c, b)) (Proc.devRef .tc main_v7) = _
    simp only [hostOps0, List.flatten_cons, List.flatten_nil, List.append_nil, List.cons_append, List.nil_append]
    after_results_simp <;> rfl
  rw [e]
  pointwise

theorem V9 (f : Fin 2816) (l : Fin 1024) : (V m c main_v9 : Vec Ideal S2816x1024 .bf16) (ix2 f l) = (arg2 m c) (ix2 l f) := by
  have e : (V m c main_v9 : Vec Ideal S2816x1024 .bf16) = truncf (F := Ideal) .bf16 (transpose S2816x1024 [1, 0] (arg2 m c) transposes_S1024x2816_S2816x1024_1_0) bitsLt_bf16_f32 := by
    show StableHlo.after (List.flatten [hostOps0]) (fun b => m (c, b)) (Proc.devRef .tc main_v9) = _
    simp only [hostOps0, List.flatten_cons, List.flatten_nil, List.append_nil, List.cons_append, List.nil_append]
    after_results_simp <;> rfl
  rw [e]
  pointwise

theorem V10 (f : Fin 2816) (l : Fin 1024) : (V m c main_v10 : Vec Ideal S2816x1024 .bf16) (ix2 f l) = (arg3 m c) (ix2 f l) := by
  have e : (V m c main_v10 : Vec Ideal S2816x1024 .bf16) = truncf (F := Ideal) .bf16 (arg3 m c) bitsLt_bf16_f32 := by
    show StableHlo.after (List.flatten [hostOps0]) (fun b => m (c, b)) (Proc.devRef .tc main_v10) = _
    simp only [hostOps0, List.flatten_cons, List.flatten_nil, List.append_nil, List.cons_append, List.nil_append]
    after_results_simp <;> rfl
  rw [e]
  rfl

/-! The results. -/

theorem arr_inj : Function.Injective (Pipeline.arrRef spec0) := by decide

/-- What the host operations after the launch find. -/
def left : Valuation τ sig (Elt Ideal) := Pipeline.withArrays spec0 c (Pipeline.withR (V0 m c) R0 c (G m c)) fun w => (dats m 0 c).arrAt w cfg0.N

theorem left_7 : left m c (Proc.devRef .tc main_v11_0) = gA m c :=
  (Pipeline.withArrays_arr spec0 arr_inj c _ (fun w => (dats m 0 c).arrAt w cfg0.N) 7).trans (final_7 m c)
theorem left_8 : left m c (Proc.devRef .tc main_v11_1) = uA m c :=
  (Pipeline.withArrays_arr spec0 arr_inj c _ (fun w => (dats m 0 c).arrAt w cfg0.N) 8).trans (final_8 m c)
theorem left_9 : left m c (Proc.devRef .tc main_v11_2) = dA m c :=
  (Pipeline.withArrays_arr spec0 arr_inj c _ (fun w => (dats m 0 c).arrAt w cfg0.N) 9).trans (final_9 m c)

theorem end_x : endVal m c main_v11_3 = dxOut m c := by
  unfold endVal
  rw [StableHlo.after_of_forall_not_mem (b := Proc.devRef .tc main_v11_3) _ _ (List.forall_iff_forall_mem.mp (by
      simp only [hostOps1, List.flatten_cons, List.flatten_nil, List.append_nil, List.cons_append, List.nil_append, List.Forall, StableHlo.unary_writes, Finset.mem_singleton]
      repeat' apply And.intro
      all_goals exact StableHlo.devRef_ne_of_ne (by decide))),
    Pipeline.withArrays_of_ne _ c _ _ main_v11_3 (by exact (by decide : ∀ w, Pipeline.arrRef spec0 w ≠ main_v11_3))]
  exact (Pipeline.withR_of_mem _ _ _ _ main_v11_3 (by decide)).trans (G_dx m c)

theorem end_g (l : Fin 1024) (f : Fin 2816) : (endVal m c main_v13 : Vec Ideal S1024x2816 .f32) (ix2 l f) = gA m c (ix2 f l) := by
  have e : (endVal m c main_v13 : Vec Ideal S1024x2816 .f32) = transpose S1024x2816 [1, 0] (extf (F := Ideal) (φ := .bf16) .f32 (gA m c) bitsLt_bf16_f32) transposes_S2816x1024_S1024x2816_1_0 := by
    rw [← left_7]
    show StableHlo.after (List.flatten [hostOps1]) (left m c) (Proc.devRef .tc main_v13) = _
    simp only [hostOps1, List.flatten_cons, List.flatten_nil, List.append_nil, List.cons_append, List.nil_append]
    after_results_simp <;> rfl
  rw [e]
  pointwise

theorem end_u (l : Fin 1024) (f : Fin 2816) : (endVal m c main_v15 : Vec Ideal S1024x2816 .f32) (ix2 l f) = uA m c (ix2 f l) := by
  have e : (endVal m c main_v15 : Vec Ideal S1024x2816 .f32) = transpose S1024x2816 [1, 0] (extf (F := Ideal) (φ := .bf16) .f32 (uA m c) bitsLt_bf16_f32) transposes_S2816x1024_S1024x2816_1_0 := by
    rw [← left_8]
    show StableHlo.after (List.flatten [hostOps1]) (left m c) (Proc.devRef .tc main_v15) = _
    simp only [hostOps1, List.flatten_cons, List.flatten_nil, List.append_nil, List.cons_append, List.nil_append]
    after_results_simp <;> rfl
  rw [e]
  pointwise

theorem end_d (f : Fin 2816) (l : Fin 1024) : (endVal m c main_v16 : Vec Ideal S2816x1024 .f32) (ix2 f l) = dA m c (ix2 f l) := by
  have e : (endVal m c main_v16 : Vec Ideal S2816x1024 .f32) = extf (F := Ideal) (φ := .bf16) .f32 (dA m c) bitsLt_bf16_f32 := by
    rw [← left_9]
    show StableHlo.after (List.flatten [hostOps1]) (left m c) (Proc.devRef .tc main_v16) = _
    simp only [hostOps1, List.flatten_cons, List.flatten_nil, List.append_nil, List.cons_append, List.nil_append]
    after_results_simp <;> rfl
  rw [e]
  rfl

end Cert.FfnIdeal.FfnP
end
-- ==== Proof.FfnP.Math.lean ====
module

public import proofs.«01_k».proof.Proof.Gen.FfnRefIdeal.Read
public import proofs.«01_k».proof.Proof.FfnP.Pay
public import proofs.«01_k».proof.Proof.Attn.Reals
public import Mathlib.Tactic.Ring

@[expose] public section

set_option maxRecDepth 16384

noncomputable section

/-!
  The plain program's four gradients at real arguments, in the terms of the launch's sums.
-/

namespace Cert.FfnIdeal.FfnP

open Idealize.ShloMosaic Idealize.ShloMosaic.TcCoe Idealize.ShloMosaic.Pointwise
open Cert.FfnRefIdeal Cert.FfnRefIdeal.Gen Cert.FfnRefIdeal.Read

/-- An extended real that is a real number. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type} [Fintype ι] (f : ι → EReal) (h : ∀ i, IsR (f i)) : IsR (∑ i, f i) := by
  choose g hg using h
  exact ⟨∑ i, g i, (Finset.sum_congr rfl fun i _ => hg i).trans (Cert.Attn.coe_sum _ g).symm⟩

/-- The logistic function of a real number is a real number. -/
theorem sg_real (g : ℝ) : sg (g : EReal) = ((1 / (1 + Real.exp (-g)) : ℝ) : EReal) := by
  have h : (1 : EReal) + Ideal.exp (0 - (g : EReal)) = ((1 + Real.exp (-g) : ℝ) : EReal) := by
    rw [zero_sub, ← EReal.coe_neg, EReal.coe_add]; rfl
  unfold sg
  rw [h]
  exact Cert.Attn.div_real 1 _ (by positivity)

/-- The gate value's gradient as the product rule gives it. -/
theorem dgF_rule (a g u : EReal) (ha : IsR a) (hg : IsR g) (hu : IsR u) :
    a * u * sg g + g * (a * u) * (sg g * (1 - sg g)) = dgF a g u := by
  obtain ⟨a, rfl⟩ := ha
  obtain ⟨g, rfl⟩ := hg
  obtain ⟨u, rfl⟩ := hu
  unfold dgF
  rw [sg_real]
  generalize 1 / (1 + Real.exp (-g)) = s
  rw [← EReal.coe_one]
  simp only [← EReal.coe_mul, ← EReal.coe_add, ← EReal.coe_sub]
  exact congrArg _ (by ring)

variable (x0 x4 : (⟨2, ![4096, 1024]⟩ : Shape).Idx → EReal) (x1 x2 : (⟨2, ![1024, 2816]⟩ : Shape).Idx → EReal) (x3 : (⟨2, ![2816, 1024]⟩ : Shape).Idx → EReal)

/-- The gate or the up value of row `Q` at feature `f`, -/
def gtR (Q : Fin 4096) (f : Fin 2816) : EReal := ∑ k : Fin 1024, x0 (ix2 Q k) * x1 (ix2 k f)
/-- and the gradient of its activation. -/
def daR (Q : Fin 4096) (f : Fin 2816) : EReal := ∑ k : Fin 1024, x4 (ix2 Q k) * x3 (ix2 f k)

theorem r0 (Q : Fin 4096) (f : Fin 2816) : val_main_v0 (F := Ideal) x0 x1 (ix2 Q f) = gtR x0 x1 Q f := by
  unfold gtR
  pointwise [val_main_v0]

theorem r2 (Q : Fin 4096) (f : Fin 2816) : val_main_v2 (F := Ideal) x0 x2 (ix2 Q f) = gtR x0 x2 Q f := by
  unfold gtR
  pointwise [val_main_v2]

theorem r7 (Q : Fin 4096) (f : Fin 2816) : val_main_v7 (F := Ideal) x3 x4 (ix2 Q f) = daR x4 x3 Q f := by
  unfold daR
  pointwise [val_main_v7]

theorem one_bits : (FloatOps.ofBits (F := Ideal) .f32 0x3F800000#32 : EReal) = 1 := Cert.Attn.ofBits_one

theorem r12 (Q : Fin 4096) (f : Fin 2816) : val_main_v1_2 (F := Ideal) x0 x1 (ix2 Q f) = sg (gtR x0 x1 Q f) := by
  rw [val_main_v1_2_apply, val_main_call0_v4_apply, val_main_call0_v3_apply, val_main_call0_v2_apply, val_main_call0_v1_apply, val_main_call0_v0_apply,
    val_main_call0_cst_apply, val_main_call0_cst_0_apply, r0, one_bits]
  unfold sg
  rw [zero_sub]
  rfl

theorem r11 (Q : Fin 4096) (f : Fin 2816) : val_main_v1_1 (F := Ideal) x0 x1 (ix2 Q f) = sg (gtR x0 x1 Q f) * (1 - sg (gtR x0 x1 Q f)) := by
  rw [val_main_v1_1_apply, val_main_call0_v7_apply, val_main_call0_v6_apply, val_main_call0_cst_1_apply, r12, one_bits]
  rfl

theorem r10 (Q : Fin 4096) (f : Fin 2816) : val_main_v1_0 (F := Ideal) x0 x1 (ix2 Q f) = gtR x0 x1 Q f * sg (gtR x0 x1 Q f) := by
  rw [val_main_v1_0_apply, r12, r0]
  rfl

/-- The activation. -/
theorem r3 (Q : Fin 4096) (f : Fin 2816) : val_main_v3 (F := Ideal) x0 x1 x2 (ix2 Q f) = acF (gtR x0 x1 Q f) (gtR x0 x2 Q f) := by
  rw [val_main_v3_apply, r10, r2]
  rfl

/-- The up value's gradient. -/
theorem r8 (Q : Fin 4096) (f : Fin 2816) : val_main_v8 (F := Ideal) x0 x1 x3 x4 (ix2 Q f) = duF (daR x4 x3 Q f) (gtR x0 x1 Q f) := by
  rw [val_main_v8_apply, r10, r7]
  exact mul_comm _ _

/-- The gate value's gradient. -/
theorem r13 (h0 : ∀ i, IsR (x0 i)) (h1 : ∀ i, IsR (x1 i)) (h2 : ∀ i, IsR (x2 i)) (h3 : ∀ i, IsR (x3 i)) (h4 : ∀ i, IsR (x4 i)) (Q : Fin 4096) (f : Fin 2816) :
    val_main_v13 (F := Ideal) x0 x1 x2 x3 x4 (ix2 Q f) = dgF (daR x4 x3 Q f) (gtR x0 x1 Q f) (gtR x0 x2 Q f) := by
  refine Eq.trans ?_ (dgF_rule _ _ _ (IsR.sum _ fun k => (h4 _).mul (h3 _)) (IsR.sum _ fun k => (h0 _).mul (h1 _)) (IsR.sum _ fun k => (h0 _).mul (h2 _)))
  rw [val_main_v13_apply, val_main_call1_v1_apply, val_main_call1_v2_apply, val_main_call1_v0_apply, val_main_v9_apply, r12, r11, r0, r2, r7]
  rfl

theorem r6 (f : Fin 2816) (l : Fin 1024) : val_main_v6 (F := Ideal) x0 x1 x2 x4 (ix2 f l) = ∑ Q, acF (gtR x0 x1 Q f) (gtR x0 x2 Q f) * x4 (ix2 Q l) := by
  have h : val_main_v6 (F := Ideal) x0 x1 x2 x4 (ix2 f l) = ∑ Q, x4 (ix2 Q l) * val_main_v3 (F := Ideal) x0 x1 x2 (ix2 Q f) := by
    unfold val_main_v6 val_main_v5
    generalize val_main_v3 (F := Ideal) x0 x1 x2 = y
    pointwise
  rw [h]
  exact Finset.sum_congr rfl fun Q _ => (mul_comm _ _).trans (congrArg (· * x4 (ix2 Q l)) (r3 x0 x1 x2 Q f))

theorem r11w (l : Fin 1024) (f : Fin 2816) : val_main_v11 (F := Ideal) x0 x1 x3 x4 (ix2 l f) = ∑ Q, duF (daR x4 x3 Q f) (gtR x0 x1 Q f) * x0 (ix2 Q l) := by
  have h : val_main_v11 (F := Ideal) x0 x1 x3 x4 (ix2 l f) = ∑ Q, val_main_v8 (F := Ideal) x0 x1 x3 x4 (ix2 Q f) * x0 (ix2 Q l) := by
    unfold val_main_v11 val_main_v10
    generalize val_main_v8 (F := Ideal) x0 x1 x3 x4 = y
    pointwise
  rw [h]
  exact Finset.sum_congr rfl fun Q _ => congrArg (· * x0 (ix2 Q l)) (r8 x0 x4 x1 x3 Q f)

section
variable (h0 : ∀ i, IsR (x0 i)) (h1 : ∀ i, IsR (x1 i)) (h2 : ∀ i, IsR (x2 i)) (h3 : ∀ i, IsR (x3 i)) (h4 : ∀ i, IsR (x4 i))
include h0 h1 h2 h3 h4

theorem r15 (l : Fin 1024) (f : Fin 2816) :
    val_main_v15 (F := Ideal) x0 x1 x2 x3 x4 (ix2 l f) = ∑ Q, dgF (daR x4 x3 Q f) (gtR x0 x1 Q f) (gtR x0 x2 Q f) * x0 (ix2 Q l) := by
  have h : val_main_v15 (F := Ideal) x0 x1 x2 x3 x4 (ix2 l f) = ∑ Q, val_main_v13 (F := Ideal) x0 x1 x2 x3 x4 (ix2 Q f) * x0 (ix2 Q l) := by
    unfold val_main_v15 val_main_v14
    generalize val_main_v13 (F := Ideal) x0 x1 x2 x3 x4 = y
    pointwise
  rw [h]
  exact Finset.sum_congr rfl fun Q _ => congrArg (· * x0 (ix2 Q l)) (r13 x0 x4 x1 x2 x3 h0 h1 h2 h3 h4 Q f)

theorem r17 (Q : Fin 4096) (l : Fin 1024) : val_main_v17 (F := Ideal) x0 x1 x2 x3 x4 (ix2 Q l)
    = ∑ f, (dgF (daR x4 x3 Q f) (gtR x0 x1 Q f) (gtR x0 x2 Q f) * x1 (ix2 l f) + duF (daR x4 x3 Q f) (gtR x0 x1 Q f) * x2 (ix2 l f)) := by
  have h : val_main_v17 (F := Ideal) x0 x1 x2 x3 x4 (ix2 Q l) = (∑ f, val_main_v8 (F := Ideal) x0 x1 x3 x4 (ix2 Q f) * x2 (ix2 l f))
      + ∑ f, val_main_v13 (F := Ideal) x0 x1 x2 x3 x4 (ix2 Q f) * x1 (ix2 l f) := by
    unfold val_main_v17 val_main_v12 val_main_v16
    generalize val_main_v13 (F := Ideal) x0 x1 x2 x3 x4 = y
    generalize val_main_v8 (F := Ideal) x0 x1 x3 x4 = z
    pointwise
  rw [h, add_comm, ← Finset.sum_add_distrib]
  exact Finset.sum_congr rfl fun f _ => congrArg₂ (· + ·) (congrArg (· * x1 (ix2 l f)) (r13 x0 x4 x1 x2 x3 h0 h1 h2 h3 h4 Q f)) (congrArg (· * x2 (ix2 l f)) (r8 x0 x4 x1 x3 Q f))
end

end Cert.FfnIdeal.FfnP
end
-- ==== Proof.FfnP.Value.lean ====
module

public import proofs.«01_k».proof.Proof.FfnP.Entry
public import proofs.«01_k».proof.Proof.FfnP.Math

@[expose] public section

set_option maxRecDepth 16384

noncomputable section

/-!
  The program's four results at real arguments are the plain program's gradients.
-/

namespace Cert.FfnIdeal.FfnP

open Cert.FfnIdeal Cert.FfnIdeal.Gen
open Idealize.ShloMosaic Idealize.ShloMosaic.TcCoe Idealize.ShloMosaic.Pointwise Idealize.SL.Sem
open Cert.FfnRefIdeal.Read (val_main_v17 val_main_v15 val_main_v11 val_main_v6)

variable (m : (ℓ : Loc nD τ sig) → Buf (Elt Ideal) ℓ) (ρ : Dev nD → PrngReg) (c : Dev nD)

theorem V1R (Q : Fin 4096) (f : Fin 2816) : (V m c main_v1 : Vec Ideal S4096x2816 .bf16) (ix2 Q f) = gtR (arg0 m c) (arg1 m c) Q f := V1 m c Q f
theorem V3R (Q : Fin 4096) (f : Fin 2816) : (V m c main_v3 : Vec Ideal S4096x2816 .bf16) (ix2 Q f) = gtR (arg0 m c) (arg2 m c) Q f := V3 m c Q f

/-- The launch's gradient of the activation. -/
theorem da_eq (Q : Fin 4096) (f : Fin 2816) : daA (V m c main_v5) (V m c main_v10) Q f = daR (arg4 m c) (arg3 m c) Q f := by
  unfold daA daR
  exact Finset.sum_congr rfl fun k _ => congrArg₂ (· * ·) (V5 m c Q k) (V10 m c f k)

theorem dg_eq (Q : Fin 4096) (f : Fin 2816) : dgA (V m c main_v5) (V m c main_v1) (V m c main_v3) (V m c main_v10) Q f
    = dgF (daR (arg4 m c) (arg3 m c) Q f) (gtR (arg0 m c) (arg1 m c) Q f) (gtR (arg0 m c) (arg2 m c) Q f) := by
  unfold dgA
  rw [da_eq, V1R, V3R]

theorem du_eq (Q : Fin 4096) (f : Fin 2816) : duA (V m c main_v5) (V m c main_v1) (V m c main_v10) Q f
    = duF (daR (arg4 m c) (arg3 m c) Q f) (gtR (arg0 m c) (arg1 m c) Q f) := by
  unfold duA
  rw [da_eq, V1R]

theorem ac_eq (Q : Fin 4096) (f : Fin 2816) : acA (V m c main_v1) (V m c main_v3) Q f
    = acF (gtR (arg0 m c) (arg1 m c) Q f) (gtR (arg0 m c) (arg2 m c) Q f) := by
  unfold acA
  rw [V1R, V3R]

/-- The down weight's gradient. -/
theorem result_d : endVal m c main_v16 = val_main_v6 (F := Ideal) (arg0 m c) (arg1 m c) (arg2 m c) (arg4 m c) := by
  refine funext fun i => ?_
  refine (congrArg _ (eq_ix2 i)).trans ((end_d m c (i 0) (i 1)).trans (Eq.trans ?_ ((congrArg _ (eq_ix2 i)).trans (r6 _ _ _ _ (i 0) (i 1))).symm))
  exact Finset.sum_congr (M := EReal) rfl fun Q _ => congrArg₂ (· * ·) (ac_eq m c Q (i 0)) (V5 m c Q (i 1))

/-- The up weight's gradient. -/
theorem result_u : endVal m c main_v15 = val_main_v11 (F := Ideal) (arg0 m c) (arg1 m c) (arg3 m c) (arg4 m c) := by
  refine funext fun i => ?_
  refine (congrArg _ (eq_ix2 i)).trans ((end_u m c (i 0) (i 1)).trans (Eq.trans ?_ ((congrArg _ (eq_ix2 i)).trans (r11w _ _ _ _ (i 0) (i 1))).symm))
  exact Finset.sum_congr (M := EReal) rfl fun Q _ => congrArg₂ (· * ·) (du_eq m c Q (i 1)) (V4 m c Q (i 0))

section
variable (h0 : ∀ i, IsR (arg0 m c i)) (h1 : ∀ i, IsR (arg1 m c i)) (h2 : ∀ i, IsR (arg2 m c i)) (h3 : ∀ i, IsR (arg3 m c i)) (h4 : ∀ i, IsR (arg4 m c i))
include h0 h1 h2 h3 h4

/-- The gate weight's gradient. -/
theorem result_g : endVal m c main_v13 = val_main_v15 (F := Ideal) (arg0 m c) (arg1 m c) (arg2 m c) (arg3 m c) (arg4 m c) := by
  refine funext fun i => ?_
  refine (congrArg _ (eq_ix2 i)).trans ((end_g m c (i 0) (i 1)).trans (Eq.trans ?_ ((congrArg _ (eq_ix2 i)).trans (r15 _ _ _ _ _ h0 h1 h2 h3 h4 (i 0) (i 1))).symm))
  exact Finset.sum_congr (M := EReal) rfl fun Q _ => congrArg₂ (· * ·) (dg_eq m c Q (i 1)) (V4 m c Q (i 0))

/-- The input's gradient. -/
theorem result_x : endVal m c main_v11_3 = val_main_v17 (F := Ideal) (arg0 m c) (arg1 m c) (arg2 m c) (arg3 m c) (arg4 m c) := by
  rw [end_x]
  refine funext fun i => ?_
  refine (congrArg _ (eq_ix2 i)).trans ((dxOut_at m c (i 0) (i 1)).trans (Eq.trans ?_ ((congrArg _ (eq_ix2 i)).trans (r17 _ _ _ _ _ h0 h1 h2 h3 h4 (i 0) (i 1))).symm))
  exact Finset.sum_congr (M := EReal) rfl fun f _ => congrArg₂ (· + ·) (congrArg₂ (· * ·) (dg_eq m c (i 0) f) (V7 m c f (i 1))) (congrArg₂ (· * ·) (du_eq m c (i 0) f) (V9 m c f (i 1)))
end

/-- The run with what it leaves in its results. -/
theorem results : θ_run defs (onTc (τ := τ) (main (F := Ideal))) ⟨m, fun _ => 0, ρ⟩ (fun r => ∀ c : Dev nD,
      r.2.mem ((c.tc : Thread nD τ).loc main_v11_3) = endVal m c main_v11_3
      ∧ r.2.mem ((c.tc : Thread nD τ).loc main_v13) = endVal m c main_v13
      ∧ r.2.mem ((c.tc : Thread nD τ).loc main_v15) = endVal m c main_v15
      ∧ r.2.mem ((c.tc : Thread nD τ).loc main_v16) = endVal m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1 c).2 main_v11_3 (Pipeline.mem_restRefs_of main_v11_3 (by decide) (by decide)),
      (h.1.1 c).2 main_v13 (Pipeline.mem_restRefs_of main_v13 (by decide) (by decide)),
      (h.1.1 c).2 main_v15 (Pipeline.mem_restRefs_of main_v15 (by decide) (by decide)),
      (h.1.1 c).2 main_v16 (Pipeline.mem_restRefs_of main_v16 (by decide) (by decide)),
      h.2.1 c⟩) (θ_run_and (run_quiescent m ρ) (frame m ρ))

end Cert.FfnIdeal.FfnP

end
-- ==== Proof.FfnP.Finite.lean ====
module

public import proofs.«01_k».proof.Pre_ffn_finite
public import proofs.«01_k».proof.Proof.FfnP.Math

@[expose] public section

noncomputable section

/-!
  The precondition of the channel mixer's gradients: every element of an argument is a real number.
-/

namespace Cert.Pre_ffn_finite

open Idealize.ShloMosaic

/-- The shape relations of the precondition's operations. -/
theorem holds : Facts where
  bcast_S_S4096x1024 := by decide
  bcast_S_S1024x2816 := by decide
  bcast_S_S2816x1024 := by decide

/-- A number of absolute value less than `∞` is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    Cert.FfnIdeal.FfnP.IsR x := by
  rw [Cert.Attn.ofBits_top] at h
  have hx : max x (-x) < ⊤ := by
    by_contra hn
    exact absurd ((show FloatOps.cmpf (F := Ideal) (φ := .f32) .olt (FloatOps.hostAbsf (F := Ideal) (φ := .f32) x) (⊤ : EReal) = 0#1 from
      congrArg BitVec.ofBool (decide_eq_false hn)).symm.trans h) (by decide)
  induction x with
  | bot => exact absurd (lt_of_le_of_lt (le_max_right _ _) hx) (by rw [EReal.neg_bot]; exact lt_irrefl _)
  | top => exact absurd (lt_of_le_of_lt (le_max_left _ _) hx) (lt_irrefl _)
  | coe r => exact ⟨r, rfl⟩

/-- The elements of an array that the precondition holds of are real numbers. -/
theorem real_of_finite {s : Shape} (x : FVec Ideal s .f32) (hb : S_.BroadcastsInDim s (![] : Fin 0 → Fin s.rank))
    (h : cmpf .olt (Host.absf x) (broadcastInDim s ![] hb (constant S_ .f32 0x7F800000#32 : FVec Ideal S_ .f32)) = fun _ => 1#1) (i : s.Idx) :
    Cert.FfnIdeal.FfnP.IsR (x i) := real_of_lt (congrFun h i)

end Cert.Pre_ffn_finite

end
-- ==== Proof.FfnF.Stages.lean ====
module

public import proofs.«01_k».proof.Proof.Gen.FwdRefIdeal.Run
public import proofs.«01_k».proof.Proof.Gen.FwdRefIdeal.Read

@[expose] public section

noncomputable section

/-!
  The plain program's run with its results as stages of the arguments.
-/

namespace Cert.FwdRefIdeal

open Cert.FwdRefIdeal Cert.FwdRefIdeal.Gen Cert.FwdRefIdeal.Read
open Idealize.ShloMosaic Idealize.ShloMosaic.TcCoe Idealize.SL.Sem

/-- The plain program leaves the stages, and its arguments as they are. -/
theorem stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, h2, k⟩ := h c
    exact ⟨h0.trans (val_main_v58_eq m c), h1.trans (val_main_v59_eq (m ((c.tc : Thread nD τ).loc main_arg0)) (m ((c.tc : Thread nD τ).loc main_arg1)) (m ((c.tc : Thread nD τ).loc main_arg2))), h2.trans (val_main_v60_eq (m ((c.tc : Thread nD τ).loc main_arg0)) (m ((c.tc : Thread nD τ).loc main_arg1)) (m ((c.tc : Thread nD τ).loc main_arg3))), k⟩) (Cert.FwdRefIdeal.Value.run m ρ)

end Cert.FwdRefIdeal

end
-- ==== Proof.FfnF.Rows.lean ====
module

public import proofs.«01_k».proof.Proof.Gen.FwdIdeal.Skeleton
public import Idealize.ShloMosaic.Lib.Pointwise
public import Idealize.ShloMosaic.Lib.Pointwise.Select
public import Idealize.ShloMosaic.Lib.Pipeline.Value

@[expose] public section

set_option maxRecDepth 16384

noncomputable section

/-!
  One tile of the forward pass over the reals, row by row: the normalisation, the channel mixer, the per-layer embedding, the error.
-/

namespace Cert.FwdIdeal.FfnF

open Cert.FwdIdeal Cert.FwdIdeal.Gen
open Idealize.ShloMosaic Idealize.ShloMosaic.TcCoe Idealize.ShloMosaic.Pointwise

/-- The logistic function. -/
def sg (g : EReal) : EReal := Ideal.div 1 (1 + Ideal.exp (0 - g))
/-- The reciprocal root of a row's mean square, -/
def rs (x : Fin 1024 → EReal) : EReal :=
  Ideal.rsqrt (Ideal.div (∑ l, x l * x l) (Ideal.ofBits .f32 0x44800000#32) + Ideal.ofBits .f32 0x358637BD#32)
/-- and the row normalised and scaled by `g`. -/
def rms (x g : Fin 1024 → EReal) (l : Fin 1024) : EReal := x l * rs x * g l

/-- A row of the stacked weight, by its shard. -/
def fl (f : Fin 2816) : Fin 4 := ⟨f.val / 704, by omega⟩
/-- The row of the shard. -/
def fr (f : Fin 2816) : Fin 704 := ⟨f.val % 704, by omega⟩

/-- The shards' rows one after the other. -/
def flat (w : Vec Ideal S4x704x1024 .bf16) : Vec Ideal S2816x1024 .bf16 := fun i => w (ix3 (fl (i 0)) (fr (i 0)) (i 1))

theorem flat_eq (w : Vec Ideal S4x704x1024 .bf16) (h : S4x704x1024.ShapeCasts S4x704x1024) (h' : S4x704x1024.ShapeCasts S2816x1024) :
    shapeCast S2816x1024 (shapeCast S4x704x1024 w h) h' = flat w := by
  rw [shapeCast_self]
  funext i
  refine shapeCast_apply w h' i (ix3 (fl (i 0)) (fr (i 0)) (i 1)) ?_
  rewrite [Shape.rowMajor_val_two, Shape.rowMajor_val_three]
  have h0 : (i 0).val < 2816 := (i 0).isLt
  have h1 : (i 1).val < 1024 := (i 1).isLt
  show ((i 0).val / 704 * 704 + (i 0).val % 704) * 1024 + (i 1).val = (i 0).val * 1024 + (i 1).val
  omega

variable (x : Vec Ideal S256x1024 .f32) (g : Vec Ideal S1x1024 .f32) (w : Vec Ideal S4x704x1024 .bf16)

theorem hn_at (r : Fin 256) (l : Fin 1024) : k0_pay9 x g (ix2 r l) = rms (fun l => x (ix2 r l)) (fun l => g (ix2 0 l)) l := by
  unfold rms rs
  pointwise [k0_pay9]

theorem gate_at (r : Fin 256) (f : Fin 2816) : k0_pay10 x g w (ix2 r f) = ∑ l, k0_pay9 x g (ix2 r l) * w (ix3 (fl f) (fr f) l) := by
  unfold k0_pay10
  rw [flat_eq]
  generalize k0_pay9 x g = H
  have e : ∀ l, w (ix3 (fl f) (fr f) l) = flat w (ix2 f l) := fun _ => rfl
  simp only [e]
  generalize flat w = W
  pointwise

theorem up_at (r : Fin 256) (f : Fin 2816) : k0_pay11 x g w (ix2 r f) = ∑ l, k0_pay9 x g (ix2 r l) * w (ix3 (fl f) (fr f) l) := gate_at x g w r f

theorem ff_at (G U : FVec Ideal S256x2816 .f32) (r : Fin 256) (l : Fin 1024) :
    k0_pay14 G U w (ix2 r l) = ∑ f, (G (ix2 r f) * sg (G (ix2 r f)) * U (ix2 r f)) * w (ix3 (fl f) (fr f) l) := by
  unfold k0_pay14
  rw [flat_eq]
  have e : ∀ f l, w (ix3 (fl f) (fr f) l) = flat w (ix2 f l) := fun _ _ => rfl
  simp only [e]
  generalize flat w = W
  unfold sg
  pointwise

theorem h2_at (G U : FVec Ideal S256x2816 .f32) (r : Fin 256) (l : Fin 1024) :
    k0_pay18 x G U w g (ix2 r l) = x (ix2 r l) + rms (fun l => k0_pay14 G U w (ix2 r l)) (fun l => g (ix2 0 l)) l := by
  unfold k0_pay18 k0_pay16 k0_pay15
  generalize k0_pay14 G U w = F
  unfold rms rs
  pointwise [k0_pay17]

theorem pe_at (p : Vec Ideal S256x256 .f32) (v : Vec Ideal S256x1024 .bf16) (r : Fin 256) (l : Fin 1024) :
    k0_pay19 p v (ix2 r l) = ∑ k, p (ix2 r k) * v (ix2 k l) := by
  pointwise [k0_pay19]

theorem e_at (p : Vec Ideal S256x256 .f32) (v : Vec Ideal S256x1024 .bf16) (r : Fin 256) (l : Fin 1024) :
    k0_pay25 (k0_pay19 p v) (k0_pay20 p v) k0_pay21 g (ix2 r l) = rms (fun l => k0_pay19 p v (ix2 r l)) (fun l => g (ix2 0 l)) l := by
  unfold k0_pay25 k0_pay23 k0_pay22 k0_pay20
  generalize k0_pay19 p v = F
  unfold rms rs
  pointwise [k0_pay24, k0_pay21]

theorem sig_at (v : Vec Ideal S1024x1024 .bf16) (r : Fin 256) (l : Fin 1024) : k0_pay26 x v (ix2 r l) = sg (∑ k, x (ix2 r k) * v (ix2 k l)) := by
  unfold sg
  pointwise [k0_pay26]

/-- The loss block after one tile: the sum of the squared errors of its rows is added. -/
theorem loss_at (p : FVec Ideal S256x1024 .f32) (q s : FVec Ideal S256x1 .f32) (v : Vec Ideal S1024x1024 .bf16) (t : Vec Ideal S256x1024 .f32)
    (h : FVec Ideal S256x1024 .f32) (y : Vec Ideal S8x128 .f32) (a : Fin 8) (b : Fin 128) :
    k0_pay28 h p q s g v t y (ix2 a b) = y (ix2 a b) + ∑ r : Fin 256, ∑ l : Fin 1024,
      (h (ix2 r l) + k0_pay26 h v (ix2 r l) * k0_pay25 p q s g (ix2 r l) - t (ix2 r l)) * (h (ix2 r l) + k0_pay26 h v (ix2 r l) * k0_pay25 p q s g (ix2 r l) - t (ix2 r l)) := by
  unfold k0_pay28 k0_pay27
  generalize k0_pay26 h v = S
  generalize k0_pay25 p q s g = E
  pointwise

end Cert.FwdIdeal.FfnF
-- ==== Proof.FfnF.Out.lean ====
module

public import proofs.«01_k».proof.Proof.Gen.FwdIdeal.Value
public import proofs.«01_k».proof.Proof.FfnF.Rows

@[expose] public section

set_option maxRecDepth 16384

noncomputable section

/-!
  What one grid point leaves in the gate block, the up block and the loss block, as functions of the blocks that it reads.
-/

namespace Cert.FwdIdeal.FfnF

open Cert.FwdIdeal Cert.FwdIdeal.Gen
open Idealize.ShloMosaic Idealize.ShloMosaic.TcCoe Idealize.ShloMosaic.Tactic

theorem hz2 : (![0, 0] : Fin 2 → ℕ) = fun _ => 0 := funext (by decide)
theorem hz3 : (![0, 0, 0] : Fin 3 → ℕ) = fun _ => 0 := funext (by decide)

variable {F : FTy → Type} [FloatOps F]

/-- The loss block of one tile, the block before given. -/
def lossOf (x0 : Vec F S256x1024 .f32) (x1 : Vec F S1x1024 .f32) (x2 x3 x4 : Vec F S4x704x1024 .bf16) (x5 : Vec F S1x1024 .f32) (x6 : Vec F S256x256 .f32)
    (x7 : Vec F S256x1024 .bf16) (x8 : Vec F S1x1024 .f32) (x9 : Vec F S1024x1024 .bf16) (x10 : Vec F S256x1024 .f32) (y : Vec F S8x128 .f32) : Vec F S8x128 .f32 :=
  k0_pay28 (k0_pay18 x0 (k0_pay10 x0 x1 x2) (k0_pay11 x0 x1 x3) x4 x5) (k0_pay19 x6 x7) (k0_pay20 x6 x7) k0_pay21 x8 x9 x10 y

theorem out_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = k0_pay12 x0 x1 x2 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

theorem out_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = k0_pay13 x0 x1 x3 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

theorem out_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = lossOf x0 x1 x2 x3 x4 x5 x6 x7 x8 x9 x10 k0_pay4 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10)]
  unfold kernelRun0_A
  dsimp only
  sl_unfold_words
  rw [View.canon_cons_unit_zero (S := S8x128) hz2, View.readCov_unit_zero (S := S8x128) _ hz2]
  unfold lossOf
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

theorem out_B_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : ¬cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) (xo16 : Vec F S8x128 .f32) (xo17 : Vec F S1024x1024 .f32) (xo18 : Vec F S256x1024 .f32) (xo19 : Vec F S1x1024 .f32) (xo20 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20 = k0_pay12 x0 x1 x2 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

theorem out_B_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : ¬cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) (xo16 : Vec F S8x128 .f32) (xo17 : Vec F S1024x1024 .f32) (xo18 : Vec F S256x1024 .f32) (xo19 : Vec F S1x1024 .f32) (xo20 : Vec F S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20 = k0_pay13 x0 x1 x3 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

theorem out_B_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x128 .f32) (harg17 : arg17.IsWhole) (arg18 : Memref sig .tc .vmem S1024x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x1024 .f32) (harg21 : arg21.IsWhole) (hc0 : ¬cond0_0 i)
    (x0 : Vec F S256x1024 .f32) (x1 : Vec F S1x1024 .f32) (x2 : Vec F S4x704x1024 .bf16) (x3 : Vec F S4x704x1024 .bf16) (x4 : Vec F S4x704x1024 .bf16) (x5 : Vec F S1x1024 .f32) (x6 : Vec F S256x256 .f32) (x7 : Vec F S256x1024 .bf16) (x8 : Vec F S1x1024 .f32) (x9 : Vec F S1024x1024 .bf16) (x10 : Vec F S256x1024 .f32) (xo16 : Vec F S8x128 .f32) (xo17 : Vec F S1024x1024 .f32) (xo18 : Vec F S256x1024 .f32) (xo19 : Vec F S1x1024 .f32) (xo20 : Vec F S1x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20 = lossOf x0 x1 x2 x3 x4 x5 x6 x7 x8 x9 x10 xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo16 xo17 xo18 xo19 xo20)]
  unfold kernelRun0_B
  dsimp only
  sl_unfold_words
  rw [View.canon_unit_zero hz2]
  unfold lossOf
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, View.ld_unit_zero (S := S256x1024) hz2, View.ld_unit_zero (S := S1x1024) hz2, View.ld_unit_zero (S := S4x704x1024) hz3, View.ld_unit_zero (S := S256x256) hz2, View.ld_unit_zero (S := S1024x1024) hz2, View.ld_unit_zero (S := S8x128) hz2]

end Cert.FwdIdeal.FfnF
-- ==== Proof.FfnF.Entry.lean ====
module

public import proofs.«01_k».proof.Proof.FfnF.Out
public import Idealize.ShloMosaic.Lib.StableHlo.Run
public import Idealize.ShloMosaic.Lib.Pipeline.ValueKit

@[expose] public section

set_option maxRecDepth 16384

noncomputable section

/-!
  What the host operations leave in the arrays that the launch is given: the stacked weights and the small weights.
-/

namespace Cert.FwdIdeal.FfnF

open Cert.FwdIdeal Cert.FwdIdeal.Gen
open Idealize.ShloMosaic Idealize.ShloMosaic.TcCoe Idealize.ShloMosaic.StableHlo Idealize.ShloMosaic.Pointwise Idealize.SL.Sem

/-- The row of the stack of the row `r` of its piece `k`. -/
def st (k : Fin 3) (r : Fin 704) : Fin 2560 := ⟨704 * k.val + r.val, by omega⟩
/-- A feature by its shard and its row. -/
def ft (a : Fin 4) (r : Fin 704) : Fin 2816 := ⟨704 * a.val + r.val, by omega⟩

section
variable (x y z : Vec Ideal S4x704x1024 .f32) (w : Vec Ideal S4x448x1024 .f32)

/-- The stack of the three weights' pieces. -/
def stack : Vec Ideal S4x2560x1024 .f32 :=
  concatenate S4x2560x1024 1 [⟨S4x704x1024, x⟩, ⟨S4x704x1024, y⟩, ⟨S4x704x1024, z⟩, ⟨S4x448x1024, w⟩] concatenates_S4x704x1024_S4x704x1024_S4x704x1024_S4x448x1024_S4x2560x1024_d1

theorem stack_0 (a : Fin 4) (r : Fin 704) (l : Fin 1024) : stack x y z w (ix3 a (st 0 r) l) = x (ix3 a r l) := by
  unfold stack st
  pointwise

theorem stack_1 (a : Fin 4) (r : Fin 704) (l : Fin 1024) : stack x y z w (ix3 a (st 1 r) l) = y (ix3 a r l) := by
  unfold stack st
  pointwise

theorem stack_2 (a : Fin 4) (r : Fin 704) (l : Fin 1024) : stack x y z w (ix3 a (st 2 r) l) = z (ix3 a r l) := by
  unfold stack st
  pointwise
  rw [dif_neg (by omega), dif_neg (by omega), dif_pos (by omega)]
  exact congrArg (fun k => z (ix3 a k l)) (Fin.ext (show 1408 + r.val - 704 - 704 = r.val by omega))

/-- A weight's rows by the shards. -/
theorem shard (v : Vec Ideal S2816x1024 .f32) (a : Fin 4) (r : Fin 704) (l : Fin 1024) :
    shapeCast S4x704x1024 v shapeCasts_S2816x1024_S4x704x1024 (ix3 a r l) = v (ix2 (ft a r) l) := by
  refine shapeCast_apply v _ (ix3 a r l) (ix2 (ft a r) l) ?_
  rewrite [Shape.rowMajor_val_two, Shape.rowMajor_val_three]
  show (704 * a.val + r.val) * 1024 + l.val = (a.val * 704 + r.val) * 1024 + l.val
  omega

theorem swap (v : Vec Ideal S1024x2816 .f32) (f : Fin 2816) (l : Fin 1024) :
    transpose S2816x1024 [1, 0] v transposes_S1024x2816_S2816x1024_1_0 (ix2 f l) = v (ix2 l f) := by
  pointwise
end

variable (m : (ℓ : Loc nD τ sig) → Buf (Elt Ideal) ℓ) (c : Dev nD)

/-! The arguments. -/

def arg0 : Vec Ideal S4096x1024 .f32 := m ((c : Thread nD τ).loc main_arg0)
def arg1 : Vec Ideal S1024 .f32 := m ((c : Thread nD τ).loc main_arg1)
def arg2 : Vec Ideal S1024x2816 .f32 := m ((c : Thread nD τ).loc main_arg2)
def arg3 : Vec Ideal S1024x2816 .f32 := m ((c : Thread nD τ).loc main_arg3)
def arg4 : Vec Ideal S2816x1024 .f32 := m ((c : Thread nD τ).loc main_arg4)
def arg5 : Vec Ideal S1024 .f32 := m ((c : Thread nD τ).loc main_arg5)
def arg6 : Vec Ideal S4096x256 .f32 := m ((c : Thread nD τ).loc main_arg6)
def arg7 : Vec Ideal S256x1024 .f32 := m ((c : Thread nD τ).loc main_arg7)
def arg8 : Vec Ideal S1024 .f32 := m ((c : Thread nD τ).loc main_arg8)
def arg9 : Vec Ideal S1024x1024 .f32 := m ((c : Thread nD τ).loc main_arg9)
def arg10 : Vec Ideal S4096x1024 .f32 := m ((c : Thread nD τ).loc main_arg10)

/-- The stack that the launch is given. -/
theorem V7 : (V m c main_v7 : Vec Ideal S4x2560x1024 .bf16) = truncf (F := Ideal) .bf16 (stack
    (shapeCast S4x704x1024 (transpose S2816x1024 [1, 0] (arg2 m c) transposes_S1024x2816_S2816x1024_1_0) shapeCasts_S2816x1024_S4x704x1024)
    (shapeCast S4x704x1024 (transpose S2816x1024 [1, 0] (arg3 m c) transposes_S1024x2816_S2816x1024_1_0) shapeCasts_S2816x1024_S4x704x1024)
    (shapeCast S4x704x1024 (arg4 m c) shapeCasts_S2816x1024_S4x704x1024)
    (broadcastInDim S4x448x1024 ![] bcast_S_S4x448x1024 (constant (F := Ideal) S_ .f32 0x00000000#32))) bitsLt_bf16_f32 := by
  show StableHlo.after (List.flatten [hostOps0]) (fun b => m (c, b)) (Proc.devRef .tc main_v7) = _
  simp only [hostOps0, List.flatten_cons, List.flatten_nil, List.append_nil, List.cons_append, List.nil_append]
  after_results_simp <;> rfl

theorem V7_0 (a : Fin 4) (r : Fin 704) (l : Fin 1024) : (V m c main_v7 : Vec Ideal S4x2560x1024 .bf16) (ix3 a (st 0 r) l) = (arg2 m c) (ix2 l (ft a r)) := by
  rw [V7]
  exact (stack_0 _ _ _ _ a r l).trans ((shard _ a r l).trans (swap _ _ l))

theorem V7_1 (a : Fin 4) (r : Fin 704) (l : Fin 1024) : (V m c main_v7 : Vec Ideal S4x2560x1024 .bf16) (ix3 a (st 1 r) l) = (arg3 m c) (ix2 l (ft a r)) := by
  rw [V7]
  exact (stack_1 _ _ _ _ a r l).trans ((shard _ a r l).trans (swap _ _ l))

theorem V7_2 (a : Fin 4) (r : Fin 704) (l : Fin 1024) : (V m c main_v7 : Vec Ideal S4x2560x1024 .bf16) (ix3 a (st 2 r) l) = (arg4 m c) (ix2 (ft a r) l) := by
  rw [V7]
  exact (stack_2 _ _ _ _ a r l).trans (shard _ a r l)

theorem V8 (l : Fin 1024) : (V m c main_v8 : Vec Ideal S1x1024 .f32) (ix2 0 l) = (arg1 m c) (ix1 l) := by
  have e : (V m c main_v8 : Vec Ideal S1x1024 .f32) = broadcastInDim S1x1024 ![1] bcast_S1024_S1x1024_1 (arg1 m c) := by
    show StableHlo.after (List.flatten [hostOps0]) (fun b => m (c, b)) (Proc.devRef .tc main_v8) = _
    simp only [hostOps0, List.flatten_cons, List.flatten_nil, List.append_nil, List.cons_append, List.nil_append]
    after_results_simp <;> rfl
  rw [e]
  pointwise

theorem V9 (l : Fin 1024) : (V m c main_v9 : Vec Ideal S1x1024 .f32) (ix2 0 l) = (arg5 m c) (ix1 l) := by
  have e : (V m c main_v9 : Vec Ideal S1x1024 .f32) = broadcastInDim S1x1024 ![1] bcast_S1024_S1x1024_1 (arg5 m c) := by
    show StableHlo.after (List.flatten [hostOps0]) (fun b => m (c, b)) (Proc.devRef .tc main_v9) = _
    simp only [hostOps0, List.flatten_cons, List.flatten_nil, List.append_nil, List.cons_append, List.nil_append]
    after_results_simp <;> rfl
  rw [e]
  pointwise

theorem V11 (l : Fin 1024) : (V m c main_v11 : Vec Ideal S1x1024 .f32) (ix2 0 l) = (arg8 m c) (ix1 l) := by
  have e : (V m c main_v11 : Vec Ideal S1x1024 .f32) = broadcastInDim S1x1024 ![1] bcast_S1024_S1x1024_1 (arg8 m c) := by
    show StableHlo.after (List.flatten [hostOps0]) (fun b => m (c, b)) (Proc.devRef .tc main_v11) = _
    simp only [hostOps0, List.flatten_cons, List.flatten_nil, List.append_nil, List.cons_append, List.nil_append]
    after_results_simp <;> rfl
  rw [e]
  pointwise

theorem V10 (k : Fin 256) (l : Fin 1024) : (V m c main_v10 : Vec Ideal S256x1024 .bf16) (ix2 k l) = (arg7 m c) (ix2 k l) := by
  have e : (V m c main_v10 : Vec Ideal S256x1024 .bf16) = truncf (F := Ideal) .bf16 (arg7 m c) bitsLt_bf16_f32 := by
    show StableHlo.after (List.flatten [hostOps0]) (fun b => m (c, b)) (Proc.devRef .tc main_v10) = _
    simp only [hostOps0, List.flatten_cons, List.flatten_nil, List.append_nil, List.cons_append, List.nil_append]
    after_results_simp <;> rfl
  rw [e]
  rfl

theorem V12 (k : Fin 1024) (l : Fin 1024) : (V m c main_v12 : Vec Ideal S1024x1024 .bf16) (ix2 k l) = (arg9 m c) (ix2 k l) := by
  have e : (V m c main_v12 : Vec Ideal S1024x1024 .bf16) = truncf (F := Ideal) .bf16 (arg9 m c) bitsLt_bf16_f32 := by
    show StableHlo.after (List.flatten [hostOps0]) (fun b => m (c, b)) (Proc.devRef .tc main_v12) = _
    simp only [hostOps0, List.flatten_cons, List.flatten_nil, List.append_nil, List.cons_append, List.nil_append]
    after_results_simp <;> rfl
  rw [e]
  rfl

theorem VA0 : (V m c main_arg0 : Vec Ideal S4096x1024 .f32) = arg0 m c := by
  show StableHlo.after (List.flatten [hostOps0]) (fun b => m (c, b)) (Proc.devRef .tc main_arg0) = _
  simp only [hostOps0, List.flatten_cons, List.flatten_nil, List.append_nil, List.cons_append, List.nil_append]
  after_results_simp
  rfl

theorem VA6 : (V m c main_arg6 : Vec Ideal S4096x256 .f32) = arg6 m c := by
  show StableHlo.after (List.flatten [hostOps0]) (fun b => m (c, b)) (Proc.devRef .tc main_arg6) = _
  simp only [hostOps0, List.flatten_cons, List.flatten_nil, List.append_nil, List.cons_append, List.nil_append]
  after_results_simp
  rfl

theorem VA10 : (V m c main_arg10 : Vec Ideal S4096x1024 .f32) = arg10 m c := by
  show StableHlo.after (List.flatten [hostOps0]) (fun b => m (c, b)) (Proc.devRef .tc main_arg10) = _
  simp only [hostOps0, List.flatten_cons, List.flatten_nil, List.append_nil, List.cons_append, List.nil_append]
  after_results_simp
  rfl

end Cert.FwdIdeal.FfnF

end
-- ==== Proof.FfnF.Math.lean ====
module

public import proofs.«01_k».proof.Proof.Gen.FwdRefIdeal.Read
public import proofs.«01_k».proof.Proof.FfnF.Rows

@[expose] public section

set_option maxRecDepth 16384

noncomputable section

/-!
  The plain forward pass over the reals, row by row.
-/

namespace Cert.FwdIdeal.FfnF

open Idealize.ShloMosaic Idealize.ShloMosaic.TcCoe Idealize.ShloMosaic.Pointwise
open Cert.FwdRefIdeal Cert.FwdRefIdeal.Gen Cert.FwdRefIdeal.Read

variable (x0 : Vec Ideal S4096x1024 .f32) (x1 : Vec Ideal S1024 .f32) (x2 x3 : Vec Ideal S1024x2816 .f32) (x4 : Vec Ideal S2816x1024 .f32)
  (x5 : Vec Ideal S1024 .f32) (x6 : Vec Ideal S4096x256 .f32) (x7 : Vec Ideal S256x1024 .f32) (x8 : Vec Ideal S1024 .f32)
  (x9 : Vec Ideal S1024x1024 .f32) (x10 : Vec Ideal S4096x1024 .f32)

/-- The normalised input, -/
def hnR (Q : Fin 4096) (l : Fin 1024) : EReal := rms (fun l => x0 (ix2 Q l)) (fun l => x1 (ix1 l)) l
/-- a product of it with a weight (gate or up), -/
def gtR (w : Vec Ideal S1024x2816 .f32) (Q : Fin 4096) (f : Fin 2816) : EReal := ∑ k, hnR x0 x1 Q k * w (ix2 k f)
/-- the mixer's output, -/
def ffR (Q : Fin 4096) (l : Fin 1024) : EReal :=
  ∑ f, (gtR x0 x1 x2 Q f * sg (gtR x0 x1 x2 Q f) * gtR x0 x1 x3 Q f) * x4 (ix2 f l)
/-- the residual stream after it, -/
def h2R (Q : Fin 4096) (l : Fin 1024) : EReal := x0 (ix2 Q l) + rms (ffR x0 x1 x2 x3 x4 Q) (fun l => x5 (ix1 l)) l
/-- the per-layer embedding, -/
def peR (Q : Fin 4096) (l : Fin 1024) : EReal := ∑ k, x6 (ix2 Q k) * x7 (ix2 k l)
/-- and the error. -/
def dvR (Q : Fin 4096) (l : Fin 1024) : EReal :=
  h2R x0 x1 x2 x3 x4 x5 Q l + sg (∑ k, h2R x0 x1 x2 x3 x4 x5 Q k * x9 (ix2 k l)) * rms (peR x6 x7 Q) (fun l => x8 (ix1 l)) l - x10 (ix2 Q l)

theorem m12 (Q : Fin 4096) (l : Fin 1024) : val_main_v12 (F := Ideal) x0 x1 (ix2 Q l) = hnR x0 x1 Q l := by
  unfold hnR rms rs
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]

theorem m13 (Q : Fin 4096) (f : Fin 2816) : val_main_v13 (F := Ideal) x0 x1 x2 (ix2 Q f) = gtR x0 x1 x2 Q f := by
  unfold gtR
  simp only [← m12]
  unfold val_main_v13
  generalize val_main_v12 (F := Ideal) x0 x1 = H
  pointwise

theorem m14 (Q : Fin 4096) (f : Fin 2816) : val_main_v14 (F := Ideal) x0 x1 x3 (ix2 Q f) = gtR x0 x1 x3 Q f := m13 x0 x1 x3 Q f

theorem m17 (Q : Fin 4096) (l : Fin 1024) : val_main_v17 (F := Ideal) x0 x1 x2 x3 x4 (ix2 Q l) = ffR x0 x1 x2 x3 x4 Q l := by
  unfold ffR
  simp only [← m13 x0 x1 x2, ← m14 x0 x1 x3]
  unfold val_main_v17 val_main_v16 val_main_v15 val_main_call0_v5 val_main_call0_v3 val_main_call0_v1 val_main_call0_v0
  generalize val_main_v13 (F := Ideal) x0 x1 x2 = G
  generalize val_main_v14 (F := Ideal) x0 x1 x3 = U
  unfold sg
  simp only [zero_sub]
  pointwise [val_main_call0_v4, val_main_call0_v2, val_main_call0_cst, val_main_call0_cst_0]

theorem m31 (Q : Fin 4096) (l : Fin 1024) : val_main_v31 (F := Ideal) x0 x1 x2 x3 x4 x5 (ix2 Q l) = h2R x0 x1 x2 x3 x4 x5 Q l := by
  have e : ffR x0 x1 x2 x3 x4 Q = fun l => val_main_v17 (F := Ideal) x0 x1 x2 x3 x4 (ix2 Q l) := funext fun l => (m17 x0 x1 x2 x3 x4 Q l).symm
  unfold h2R
  rw [e]
  unfold val_main_v31 val_main_v30 val_main_v27 val_main_v26 val_main_v25 val_main_v24 val_main_v22 val_main_v20 val_main_v19 val_main_v18
  generalize val_main_v17 (F := Ideal) x0 x1 x2 x3 x4 = G
  unfold rms rs
  pointwise [val_main_v29, val_main_v28, val_main_v23, val_main_v21, val_main_cst_2, val_main_cst_3, val_main_cst_4]

theorem m39 (Q : Fin 4096) (l : Fin 1024) : val_main_v39 (F := Ideal) x6 x7 (ix2 Q l) = peR x6 x7 Q l := by
  unfold peR
  pointwise [val_main_v39]

theorem m52 (Q : Fin 4096) (l : Fin 1024) : val_main_v52 (F := Ideal) x6 x7 x8 (ix2 Q l) = rms (peR x6 x7 Q) (fun l => x8 (ix1 l)) l := by
  have e : peR x6 x7 Q = fun l => val_main_v39 (F := Ideal) x6 x7 (ix2 Q l) := funext fun l => (m39 x6 x7 Q l).symm
  rw [e]
  unfold val_main_v52 val_main_v49 val_main_v48 val_main_v47 val_main_v46 val_main_v44 val_main_v42 val_main_v41 val_main_v40
  generalize val_main_v39 (F := Ideal) x6 x7 = G
  unfold rms rs
  pointwise [val_main_v51, val_main_v50, val_main_v45, val_main_v43, val_main_cst_7, val_main_cst_8, val_main_cst_9]

theorem m38 (Q : Fin 4096) (l : Fin 1024) :
    val_main_v38 (F := Ideal) x0 x1 x2 x3 x4 x5 x9 (ix2 Q l) = sg (∑ k, h2R x0 x1 x2 x3 x4 x5 Q k * x9 (ix2 k l)) := by
  simp only [← m31]
  unfold val_main_v38 val_main_v36 val_main_v34 val_main_v33 val_main_v32
  generalize val_main_v31 (F := Ideal) x0 x1 x2 x3 x4 x5 = G
  unfold sg
  simp only [zero_sub]
  pointwise [val_main_v37, val_main_v35, val_main_cst_5, val_main_cst_6]

theorem m55 (Q : Fin 4096) (l : Fin 1024) :
    val_main_v55 (F := Ideal) x0 x1 x2 x3 x4 x5 x6 x7 x8 x9 x10 (ix2 Q l) = dvR x0 x1 x2 x3 x4 x5 x6 x7 x8 x9 x10 Q l := by
  unfold dvR
  rw [← m31, ← m52, ← m38]
  unfold val_main_v55 val_main_v54 val_main_v53
  generalize val_main_v31 (F := Ideal) x0 x1 x2 x3 x4 x5 = A
  generalize val_main_v52 (F := Ideal) x6 x7 x8 = B
  generalize val_main_v38 (F := Ideal) x0 x1 x2 x3 x4 x5 x9 = C
  pointwise

/-- The plain loss block: the sum of all squared errors, everywhere. -/
theorem m58 (a : Fin 8) (b : Fin 128) : val_main_v58 (F := Ideal) x0 x1 x2 x3 x4 x5 x6 x7 x8 x9 x10 (ix2 a b)
    = ∑ Q, ∑ l, dvR x0 x1 x2 x3 x4 x5 x6 x7 x8 x9 x10 Q l * dvR x0 x1 x2 x3 x4 x5 x6 x7 x8 x9 x10 Q l := by
  simp only [← m55]
  unfold val_main_v58 val_main_v57 val_main_v56
  generalize val_main_v55 (F := Ideal) x0 x1 x2 x3 x4 x5 x6 x7 x8 x9 x10 = A
  pointwise [val_main_cst_10]

end Cert.FwdIdeal.FfnF
-- ==== Proof.FfnF.Arrays.lean ====
module

public import proofs.«01_k».proof.Proof.FfnF.Entry
public import proofs.«01_k».proof.Proof.FfnF.Math

@[expose] public section

set_option maxRecDepth 16384

noncomputable section

/-!
  The blocks that a grid point reads, and the three arrays that the launch leaves.
-/

namespace Cert.FwdIdeal.FfnF

open Cert.FwdIdeal Cert.FwdIdeal.Gen
open Idealize.ShloMosaic Idealize.ShloMosaic.TcCoe Idealize.ShloMosaic.Pointwise
open Idealize.ShloMosaic.Pipeline (Dat)

/-- The sum of the first `N` of `n` terms. -/
def sumTo {n : ℕ} (f : Fin n → EReal) (N : ℕ) : EReal := ∑ i ∈ Finset.range N, if h : i < n then f ⟨i, h⟩ else 0

theorem sumTo_add {n : ℕ} (f : Fin n → EReal) (N k : ℕ) (h : N + k ≤ n) : sumTo f (N + k) = sumTo f N + ∑ x : Fin k, f ⟨N + x.val, by omega⟩ := by
  unfold sumTo
  rw [Finset.sum_range_add, Finset.sum_range (fun x => if h : N + x < n then f ⟨N + x, h⟩ else 0)]
  exact congrArg _ (Finset.sum_congr rfl fun x _ => dif_pos (by omega))

theorem sumTo_all {n : ℕ} (f : Fin n → EReal) : sumTo f n = ∑ x, f x := by
  unfold sumTo
  rw [Finset.sum_range (fun x => if h : x < n then f ⟨x, h⟩ else 0)]
  exact Finset.sum_congr rfl fun x _ => dif_pos x.isLt

/-- The row of the arrays of a row of a point's block. -/
def rwP (t : Fin cfg0.N) (r : Fin 256) : Fin 4096 := ⟨256 * t.val + r.val, by have : t.val < 16 := Nat.lt_of_lt_of_eq t.isLt N_0; omega⟩

theorem idx : ∀ t : Fin cfg0.N, win0_0.index t = ![t.val, 0] ∧ win0_1.index t = ![0, 0] ∧ win0_2.index t = ![0, 0, 0] ∧ win0_3.index t = ![0, 1, 0]
    ∧ win0_4.index t = ![0, 2, 0] ∧ win0_5.index t = ![0, 0] ∧ win0_6.index t = ![t.val, 0] ∧ win0_7.index t = ![0, 0] ∧ win0_8.index t = ![0, 0]
    ∧ win0_9.index t = ![0, 0] ∧ win0_10.index t = ![t.val, 0] ∧ win0_12.index t = ![t.val, 0] ∧ win0_13.index t = ![t.val, 0] ∧ win0_16.index t = ![0, 0] :=
  (by decide +kernel : ∀ t : Fin grid0.N, _)

variable (m : (ℓ : Loc nD τ sig) → Buf (Elt Ideal) ℓ) (c : Dev nD)

theorem emb_0 (t : Fin cfg0.N) (r : Fin 256) (l : Fin 1024) : ((cfg0.win 0).blk t).view.emb (ix2 r l) = ix2 (rwP t r) l := by
  blk_ext [idx t] <;> simp only [rwP] <;> omega
theorem emb_1 (t : Fin cfg0.N) (r : Fin 1) (l : Fin 1024) : ((cfg0.win 1).blk t).view.emb (ix2 r l) = ix2 r l := by
  blk_ext [idx t] <;> omega
theorem emb_5 (t : Fin cfg0.N) (r : Fin 1) (l : Fin 1024) : ((cfg0.win 5).blk t).view.emb (ix2 r l) = ix2 r l := by
  blk_ext [idx t] <;> omega
theorem emb_6 (t : Fin cfg0.N) (r : Fin 256) (l : Fin 256) : ((cfg0.win 6).blk t).view.emb (ix2 r l) = ix2 (rwP t r) l := by
  blk_ext [idx t] <;> simp only [rwP] <;> omega
theorem emb_7 (t : Fin cfg0.N) (r : Fin 256) (l : Fin 1024) : ((cfg0.win 7).blk t).view.emb (ix2 r l) = ix2 r l := by
  blk_ext [idx t] <;> omega
theorem emb_8 (t : Fin cfg0.N) (r : Fin 1) (l : Fin 1024) : ((cfg0.win 8).blk t).view.emb (ix2 r l) = ix2 r l := by
  blk_ext [idx t] <;> omega
theorem emb_9 (t : Fin cfg0.N) (r : Fin 1024) (l : Fin 1024) : ((cfg0.win 9).blk t).view.emb (ix2 r l) = ix2 r l := by
  blk_ext [idx t] <;> omega
theorem emb_10 (t : Fin cfg0.N) (r : Fin 256) (l : Fin 1024) : ((cfg0.win 10).blk t).view.emb (ix2 r l) = ix2 (rwP t r) l := by
  blk_ext [idx t] <;> simp only [rwP] <;> omega
theorem emb_12 (t : Fin cfg0.N) (r : Fin 256) (l : Fin 2816) : ((cfg0.win 12).blk t).view.emb (ix2 r l) = ix2 (rwP t r) l := by
  blk_ext [idx t] <;> simp only [rwP] <;> omega
theorem emb_13 (t : Fin cfg0.N) (r : Fin 256) (l : Fin 2816) : ((cfg0.win 13).blk t).view.emb (ix2 r l) = ix2 (rwP t r) l := by
  blk_ext [idx t] <;> simp only [rwP] <;> omega
theorem emb_16 (t : Fin cfg0.N) (r : Fin 8) (l : Fin 128) : ((cfg0.win 16).blk t).view.emb (ix2 r l) = ix2 r l := by
  blk_ext [idx t] <;> omega

/-! The blocks of the inputs, in the arguments. -/

theorem blk_0 (t : Fin cfg0.N) (r : Fin 256) (l : Fin 1024) : iblk m c 0 t (ix2 r l) = (arg0 m c) (ix2 (rwP t r) l) :=
  (congrArg (V m c main_arg0 : Vec Ideal S4096x1024 .f32) (emb_0 t r l)).trans (congrFun (VA0 m c) _)
theorem blk_1 (t : Fin cfg0.N) (l : Fin 1024) : iblk m c 1 t (ix2 0 l) = (arg1 m c) (ix1 l) :=
  (congrArg (V m c main_v8 : Vec Ideal S1x1024 .f32) (emb_1 t 0 l)).trans (V8 m c l)
theorem blk_5 (t : Fin cfg0.N) (l : Fin 1024) : iblk m c 5 t (ix2 0 l) = (arg5 m c) (ix1 l) :=
  (congrArg (V m c main_v9 : Vec Ideal S1x1024 .f32) (emb_5 t 0 l)).trans (V9 m c l)
theorem blk_6 (t : Fin cfg0.N) (r : Fin 256) (l : Fin 256) : iblk m c 6 t (ix2 r l) = (arg6 m c) (ix2 (rwP t r) l) :=
  (congrArg (V m c main_arg6 : Vec Ideal S4096x256 .f32) (emb_6 t r l)).trans (congrFun (VA6 m c) _)
theorem blk_7 (t : Fin cfg0.N) (r : Fin 256) (l : Fin 1024) : iblk m c 7 t (ix2 r l) = (arg7 m c) (ix2 r l) :=
  (congrArg (V m c main_v10 : Vec Ideal S256x1024 .bf16) (emb_7 t r l)).trans (V10 m c r l)
theorem blk_8 (t : Fin cfg0.N) (l : Fin 1024) : iblk m c 8 t (ix2 0 l) = (arg8 m c) (ix1 l) :=
  (congrArg (V m c main_v11 : Vec Ideal S1x1024 .f32) (emb_8 t 0 l)).trans (V11 m c l)
theorem blk_9 (t : Fin cfg0.N) (r : Fin 1024) (l : Fin 1024) : iblk m c 9 t (ix2 r l) = (arg9 m c) (ix2 r l) :=
  (congrArg (V m c main_v12 : Vec Ideal S1024x1024 .bf16) (emb_9 t r l)).trans (V12 m c r l)
theorem blk_10 (t : Fin cfg0.N) (r : Fin 256) (l : Fin 1024) : iblk m c 10 t (ix2 r l) = (arg10 m c) (ix2 (rwP t r) l) :=
  (congrArg (V m c main_arg10 : Vec Ideal S4096x1024 .f32) (emb_10 t r l)).trans (congrFun (VA10 m c) _)

theorem blk_2 (t : Fin cfg0.N) (a : Fin 4) (r : Fin 704) (l : Fin 1024) : X0_2 m c t (ix3 a r l) = (arg2 m c) (ix2 l (ft a r)) := by
  unfold X0_2 Pipeline.Window.fill
  rw [dif_pos (moved0_2 t (ix3 a r l))]
  refine Eq.trans (congrArg (V m c main_v7 : Vec Ideal S4x2560x1024 .bf16) (?_ : _ = ix3 a (st 0 r) l)) (V7_0 m c a r l)
  blk_ext [idx t] <;> simp only [st] <;> omega

theorem blk_3 (t : Fin cfg0.N) (a : Fin 4) (r : Fin 704) (l : Fin 1024) : X0_3 m c t (ix3 a r l) = (arg3 m c) (ix2 l (ft a r)) := by
  unfold X0_3 Pipeline.Window.fill
  rw [dif_pos (moved0_3 t (ix3 a r l))]
  refine Eq.trans (congrArg (V m c main_v7 : Vec Ideal S4x2560x1024 .bf16) (?_ : _ = ix3 a (st 1 r) l)) (V7_1 m c a r l)
  blk_ext [idx t] <;> simp only [st] <;> omega

theorem blk_4 (t : Fin cfg0.N) (a : Fin 4) (r : Fin 704) (l : Fin 1024) : X0_4 m c t (ix3 a r l) = (arg4 m c) (ix2 (ft a r) l) := by
  unfold X0_4 Pipeline.Window.fill
  rw [dif_pos (moved0_4 t (ix3 a r l))]
  refine Eq.trans (congrArg (V m c main_v7 : Vec Ideal S4x2560x1024 .bf16) (?_ : _ = ix3 a (st 2 r) l)) (V7_2 m c a r l)
  blk_ext [idx t] <;> simp only [st] <;> omega

end Cert.FwdIdeal.FfnF

end
-- ==== Proof.FfnF.Value.lean ====
module

public import proofs.«01_k».proof.Proof.FfnF.Arrays

@[expose] public section

set_option maxRecDepth 16384

noncomputable section

/-!
  The three results of the launch: the gate products, the up products and the sum of the squared errors.
-/

namespace Cert.FwdIdeal.FfnF

open Cert.FwdIdeal Cert.FwdIdeal.Gen
open Idealize.ShloMosaic Idealize.ShloMosaic.TcCoe Idealize.ShloMosaic.Pointwise Idealize.SL.Sem
open Idealize.ShloMosaic.Pipeline (Dat)
open Cert.FwdRefIdeal.Read (val_main_v58 val_main_v59 val_main_v60)

variable (m : (ℓ : Loc nD τ sig) → Buf (Elt Ideal) ℓ) (c : Dev nD)

theorem ft_fl (f : Fin 2816) : ft (fl f) (fr f) = f := Fin.ext (show 704 * (f.val / 704) + f.val % 704 = f.val by omega)

/-! The rows of a point's block are the plain pass's rows. -/

theorem p_hn (t : Fin cfg0.N) (r : Fin 256) (l : Fin 1024) :
    k0_pay9 (iblk m c 0 t) (iblk m c 1 t) (ix2 r l) = hnR (arg0 m c) (arg1 m c) (rwP t r) l :=
  (hn_at _ _ r l).trans (congrArg₂ (fun x g => rms x g l) (funext fun l => blk_0 m c t r l) (funext fun l => blk_1 m c t l))

theorem p_gate (t : Fin cfg0.N) (r : Fin 256) (f : Fin 2816) :
    k0_pay10 (iblk m c 0 t) (iblk m c 1 t) (X0_2 m c t) (ix2 r f) = gtR (arg0 m c) (arg1 m c) (arg2 m c) (rwP t r) f := by
  refine (gate_at _ _ _ r f).trans (Finset.sum_congr (M := EReal) rfl fun k _ => congrArg₂ (· * ·) (p_hn m c t r k) ?_)
  exact (blk_2 m c t _ _ k).trans (congrArg (fun f => (arg2 m c) (ix2 k f)) (ft_fl f))

theorem p_up (t : Fin cfg0.N) (r : Fin 256) (f : Fin 2816) :
    k0_pay11 (iblk m c 0 t) (iblk m c 1 t) (X0_3 m c t) (ix2 r f) = gtR (arg0 m c) (arg1 m c) (arg3 m c) (rwP t r) f := by
  refine (up_at _ _ _ r f).trans (Finset.sum_congr (M := EReal) rfl fun k _ => congrArg₂ (· * ·) (p_hn m c t r k) ?_)
  exact (blk_3 m c t _ _ k).trans (congrArg (fun f => (arg3 m c) (ix2 k f)) (ft_fl f))

/-- The residual stream of a point's block after the mixer. -/
abbrev hB (t : Fin cfg0.N) : FVec Ideal S256x1024 .f32 :=
  k0_pay18 (iblk m c 0 t) (k0_pay10 (iblk m c 0 t) (iblk m c 1 t) (X0_2 m c t)) (k0_pay11 (iblk m c 0 t) (iblk m c 1 t) (X0_3 m c t)) (X0_4 m c t) (iblk m c 5 t)

theorem p_ff (t : Fin cfg0.N) (r : Fin 256) (l : Fin 1024) :
    k0_pay14 (k0_pay10 (iblk m c 0 t) (iblk m c 1 t) (X0_2 m c t)) (k0_pay11 (iblk m c 0 t) (iblk m c 1 t) (X0_3 m c t)) (X0_4 m c t) (ix2 r l)
      = ffR (arg0 m c) (arg1 m c) (arg2 m c) (arg3 m c) (arg4 m c) (rwP t r) l := by
  refine (ff_at _ _ _ r l).trans (Finset.sum_congr (M := EReal) rfl fun f _ => congrArg₂ (· * ·) ?_ ?_)
  · rw [p_gate, p_up]
  · exact (blk_4 m c t _ _ l).trans (congrArg (fun f => (arg4 m c) (ix2 f l)) (ft_fl f))

theorem p_h2 (t : Fin cfg0.N) (r : Fin 256) (l : Fin 1024) :
    hB m c t (ix2 r l) = h2R (arg0 m c) (arg1 m c) (arg2 m c) (arg3 m c) (arg4 m c) (arg5 m c) (rwP t r) l :=
  (h2_at _ _ _ _ _ r l).trans (congrArg₂ (· + ·) (blk_0 m c t r l)
    (congrArg₂ (fun x g => rms x g l) (funext fun l => p_ff m c t r l) (funext fun l => blk_5 m c t l)))

theorem p_pe (t : Fin cfg0.N) (r : Fin 256) (l : Fin 1024) :
    k0_pay19 (iblk m c 6 t) (iblk m c 7 t) (ix2 r l) = peR (arg6 m c) (arg7 m c) (rwP t r) l :=
  (pe_at _ _ r l).trans (Finset.sum_congr (M := EReal) rfl fun k _ => congrArg₂ (· * ·) (blk_6 m c t r k) (blk_7 m c t k l))

/-- The error of one entry of a point's block. -/
theorem p_dv (t : Fin cfg0.N) (r : Fin 256) (l : Fin 1024) :
    hB m c t (ix2 r l) + k0_pay26 (hB m c t) (iblk m c 9 t) (ix2 r l)
        * k0_pay25 (k0_pay19 (iblk m c 6 t) (iblk m c 7 t)) (k0_pay20 (iblk m c 6 t) (iblk m c 7 t)) k0_pay21 (iblk m c 8 t) (ix2 r l) - iblk m c 10 t (ix2 r l)
      = dvR (arg0 m c) (arg1 m c) (arg2 m c) (arg3 m c) (arg4 m c) (arg5 m c) (arg6 m c) (arg7 m c) (arg8 m c) (arg9 m c) (arg10 m c) (rwP t r) l := by
  refine congrArg₂ (· - ·) (congrArg₂ (· + ·) (p_h2 m c t r l) (congrArg₂ (· * ·) ?_ ?_)) (blk_10 m c t r l)
  · exact (sig_at _ _ r l).trans (congrArg sg (Finset.sum_congr (M := EReal) rfl fun k _ => congrArg₂ (· * ·) (p_h2 m c t r k) (blk_9 m c t k l)))
  · exact (e_at _ _ _ r l).trans (congrArg₂ (fun x g => rms x g l) (funext fun l => p_pe m c t r l) (funext fun l => blk_8 m c t l))

/-- The sum of a row's squared errors. -/
def sqR (Q : Fin 4096) : EReal := ∑ l, dvR (arg0 m c) (arg1 m c) (arg2 m c) (arg3 m c) (arg4 m c) (arg5 m c) (arg6 m c) (arg7 m c) (arg8 m c) (arg9 m c) (arg10 m c) Q l
  * dvR (arg0 m c) (arg1 m c) (arg2 m c) (arg3 m c) (arg4 m c) (arg5 m c) (arg6 m c) (arg7 m c) (arg8 m c) (arg9 m c) (arg10 m c) Q l

/-- The loss block that a point leaves, the block before given. -/
abbrev lossB (t : Fin cfg0.N) (y : Vec Ideal S8x128 .f32) : Vec Ideal S8x128 .f32 :=
  lossOf (iblk m c 0 t) (iblk m c 1 t) (X0_2 m c t) (X0_3 m c t) (X0_4 m c t) (iblk m c 5 t) (iblk m c 6 t) (iblk m c 7 t) (iblk m c 8 t) (iblk m c 9 t) (iblk m c 10 t) y

theorem p_loss (t : Fin cfg0.N) (y : Vec Ideal S8x128 .f32) (a : Fin 8) (b : Fin 128) :
    lossB m c t y (ix2 a b) = y (ix2 a b) + ∑ r, sqR m c (rwP t r) := by
  unfold lossB lossOf
  refine (loss_at _ _ _ _ _ _ _ y a b).trans (congrArg (y (ix2 a b) + ·) ?_)
  exact Finset.sum_congr (M := EReal) rfl fun r _ => Finset.sum_congr (M := EReal) rfl fun l _ => congrArg₂ (· * ·) (p_dv m c t r l) (p_dv m c t r l)

/-! What a point leaves. -/

theorem o_gate (t : Fin cfg0.N) : (outsAt0 m c t.val t.isLt).2.1 = k0_pay12 (iblk m c 0 t) (iblk m c 1 t) (X0_2 m c t) := by
  by_cases h0 : t.val % 16 = 0
  · rw [outsAt0_A m c t h0]
    dsimp only
    exact out_A_12 ..
  · rw [outsAt0_B m c t h0]
    dsimp only
    exact out_B_12 ..

theorem o_up (t : Fin cfg0.N) : (outsAt0 m c t.val t.isLt).2.2.1 = k0_pay13 (iblk m c 0 t) (iblk m c 1 t) (X0_3 m c t) := by
  by_cases h0 : t.val % 16 = 0
  · rw [outsAt0_A m c t h0]
    dsimp only
    exact out_A_13 ..
  · rw [outsAt0_B m c t h0]
    dsimp only
    exact out_B_13 ..

/-- The loss block that a point leaves. -/
abbrev lossAt (n : ℕ) (h : n < cfg0.N) : Vec Ideal S8x128 .f32 := (outsAt0 m c n h).2.2.2.2.2.1

theorem o_loss_first (t : Fin cfg0.N) (h0 : t.val % 16 = 0) : lossAt m c t.val t.isLt = lossB m c t (k0_pay4 (F := Ideal)) := by
  unfold lossAt
  rw [outsAt0_A m c t h0]
  dsimp only
  exact out_A_16 ..

theorem o_loss_next (t : Fin cfg0.N) (h0 : ¬t.val % 16 = 0) :
    lossAt m c t.val t.isLt = lossB m c t (lossAt m c (t.val - 1) (Nat.lt_of_le_of_lt (Nat.sub_le _ _) t.isLt)) := by
  unfold lossAt
  rw [outsAt0_B m c t h0]
  dsimp only
  exact out_B_16 ..

theorem zero4 (i : S8x128.Idx) : k0_pay4 (F := Ideal) i = 0 := by
  show Ideal.ofBits .f32 0x00000000#32 = 0
  simp [Ideal.ofBits, Ideal.ieee]

theorem lossAt_at (a : Fin 8) (b : Fin 128) : ∀ (n : ℕ) (h : n < cfg0.N), lossAt m c n h (ix2 a b) = sumTo (sqR m c) (256 * n + 256) := by
  intro n
  induction n with
  | zero =>
    intro h
    refine (congrFun (o_loss_first m c ⟨0, h⟩ rfl) _).trans ((p_loss m c ⟨0, h⟩ _ a b).trans ?_)
    refine Eq.trans (congrArg₂ (· + ·) ((zero4 _).trans (Finset.sum_range_zero _).symm) rfl) (sumTo_add (sqR m c) (256 * 0) 256 (by decide)).symm
  | succ n ih =>
    intro h
    have hn : n + 1 < 16 := Nat.lt_of_lt_of_eq h N_0
    refine (congrFun (o_loss_next m c ⟨n + 1, h⟩ (show ¬(n + 1) % 16 = 0 by omega)) _).trans ((p_loss m c ⟨n + 1, h⟩ _ a b).trans ?_)
    exact Eq.trans (congrArg₂ (· + ·) (ih (Nat.lt_of_succ_lt h)) rfl) (sumTo_add (sqR m c) (256 * (n + 1)) 256 (by omega)).symm

/-! The arrays after the launch. -/

/-- The gate products, -/
def gA : Vec Ideal S4096x2816 .bf16 := fun i => gtR (arg0 m c) (arg1 m c) (arg2 m c) (i 0) (i 1)
/-- the up products -/
def uA : Vec Ideal S4096x2816 .bf16 := fun i => gtR (arg0 m c) (arg1 m c) (arg3 m c) (i 0) (i 1)
/-- and the sum of the squared errors, everywhere. -/
def lA : Vec Ideal S8x128 .f32 := fun _ => ∑ Q, sqR m c Q

theorem arr_gate : (dats m 0 c).arrAt 12 cfg0.N = gA m c := by
  refine (dats m 0 c).arrAt_eq_of_covers 12 _ (by decide +kernel) fun t hf y => ?_
  obtain ⟨r, l, rfl⟩ : ∃ (r : Fin 256) (l : Fin 2816), y = ix2 r l := ⟨y 0, y 1, eq_ix2 y⟩
  rw [after0_12, o_gate]
  exact (p_gate m c t r l).trans (congrArg (gA m c) (emb_12 t r l)).symm

theorem arr_up : (dats m 0 c).arrAt 13 cfg0.N = uA m c := by
  refine (dats m 0 c).arrAt_eq_of_covers 13 _ (by decide +kernel) fun t hf y => ?_
  obtain ⟨r, l, rfl⟩ : ∃ (r : Fin 256) (l : Fin 2816), y = ix2 r l := ⟨y 0, y 1, eq_ix2 y⟩
  rw [after0_13, o_up]
  exact (p_up m c t r l).trans (congrArg (uA m c) (emb_13 t r l)).symm

theorem arr_loss : (dats m 0 c).arrAt 16 cfg0.N = lA m c := by
  refine (dats m 0 c).arrAt_eq_of_covers 16 _ (by decide +kernel) fun t hf y => ?_
  have h15 : t.val % 16 = 15 := (flush0_16 t).mp hf
  have ht : t.val < 16 := Nat.lt_of_lt_of_eq t.isLt N_0
  obtain ⟨r, l, rfl⟩ : ∃ (r : Fin 8) (l : Fin 128), y = ix2 r l := ⟨y 0, y 1, eq_ix2 y⟩
  rw [after0_16]
  refine (lossAt_at m c r l t.val t.isLt).trans ?_
  rw [show 256 * t.val + 256 = 4096 by omega, sumTo_all]
  rfl

/-! They are the plain program's results. -/

theorem result_loss : (dats m 0 c).arrAt 16 cfg0.N = val_main_v58 (F := Ideal) (arg0 m c) (arg1 m c) (arg2 m c) (arg3 m c) (arg4 m c) (arg5 m c) (arg6 m c) (arg7 m c) (arg8 m c) (arg9 m c) (arg10 m c) := by
  refine (arr_loss m c).trans (funext fun i => ?_)
  exact ((congrArg _ (eq_ix2 i)).trans (m58 _ _ _ _ _ _ _ _ _ _ _ (i 0) (i 1))).symm

theorem result_gate : (dats m 0 c).arrAt 12 cfg0.N = val_main_v59 (F := Ideal) (arg0 m c) (arg1 m c) (arg2 m c) := by
  refine (arr_gate m c).trans (funext fun i => ?_)
  exact ((congrArg _ (eq_ix2 i)).trans (m13 _ _ _ (i 0) (i 1))).symm

theorem result_up : (dats m 0 c).arrAt 13 cfg0.N = val_main_v60 (F := Ideal) (arg0 m c) (arg1 m c) (arg3 m c) := by
  refine (arr_up m c).trans (funext fun i => ?_)
  exact ((congrArg _ (eq_ix2 i)).trans (m14 _ _ _ (i 0) (i 1))).symm

/-- The run with what it leaves in its results. -/
theorem results (ρ : Dev nD → PrngReg) : θ_run defs (onTc (τ := τ) (main (F := Ideal))) ⟨m, fun _ => 0, ρ⟩ (fun r => ∀ c : Dev nD,
      r.2.mem ((c.tc : Thread nD τ).loc main_v13_5) = (dats m 0 c).arrAt 16 cfg0.N
      ∧ r.2.mem ((c.tc : Thread nD τ).loc main_v13_1) = (dats m 0 c).arrAt 12 cfg0.N
      ∧ r.2.mem ((c.tc : Thread nD τ).loc main_v13_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨_, h1, h2, _, _, h5, _, _, _, _, k⟩ := h c
    exact ⟨h5, h1, h2, k⟩) (Cert.FwdIdeal.Value.run_blocks m ρ)

end Cert.FwdIdeal.FfnF

end
-- ==== Proof.lean ====
module

public import proofs.«01_k».proof.Proof.Gen.ReferenceIdeal.Read
public import proofs.«01_k».proof.Proof.Gen.FfnRefIdeal.Read
public import proofs.«01_k».proof.Proof.Gen.FwdRefIdeal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.Fwd
public import proofs.«01_k».proof.Proof.Gen.FwdIdeal
public import proofs.«01_k».proof.Proof.Gen.FwdIdeal.Frame
public import proofs.«01_k».proof.Proof.Gen.FwdIdeal.Value
public import proofs.«01_k».proof.Proof.Gen.Fwd.Frame
public import proofs.«01_k».proof.Proof.Gen.FwdRefIdeal
public import proofs.«01_k».proof.Proof.Gen.FwdRefIdeal.Run
public import proofs.«01_k».proof.Proof.Attn.Same
public import proofs.«01_k».proof.Proof.Attn.Launch
public import proofs.«01_k».proof.Proof.Attn.Results
public import proofs.«01_k».proof.Proof.Attn.Finite
public import proofs.«01_k».proof.Proof.FfnP.Same
public import proofs.«01_k».proof.Proof.FfnP.Value
public import proofs.«01_k».proof.Proof.FfnP.Finite
public import proofs.«01_k».proof.Proof.FfnF.Stages
public import proofs.«01_k».proof.Proof.FfnF.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference's frame: it has no semaphore, and its operations leave its arguments as they are. -/
theorem frame_reference : quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)

/-- At finite arguments the arguments are arrays of reals. -/
theorem reals (m : (ℓ : Loc Cert.KernelIdeal.nD Cert.KernelIdeal.τ Cert.KernelIdeal.sig) → Buf (Elt Ideal) ℓ)
    (h : Pre_KernelIdeal_finite (hPre_finite := Cert.Pre_finite.holds) m) (c : Dev Cert.KernelIdeal.nD) :
    ∃ (q k v d : Fin 4096 → Fin 8 → Fin 64 → ℝ) (a : Fin 4096 → Fin 8 → ℝ),
      m ((c.tc : Thread Cert.KernelIdeal.nD Cert.KernelIdeal.τ).loc Cert.KernelIdeal.main_arg0) = lift3 q
      ∧ m ((c.tc : Thread Cert.KernelIdeal.nD Cert.KernelIdeal.τ).loc Cert.KernelIdeal.main_arg1) = lift3 k
      ∧ m ((c.tc : Thread Cert.KernelIdeal.nD Cert.KernelIdeal.τ).loc Cert.KernelIdeal.main_arg2) = lift3 v
      ∧ m ((c.tc : Thread Cert.KernelIdeal.nD Cert.KernelIdeal.τ).loc Cert.KernelIdeal.main_arg3) = lift2 a
      ∧ m ((c.tc : Thread Cert.KernelIdeal.nD Cert.KernelIdeal.τ).loc Cert.KernelIdeal.main_arg4) = lift3 d := by
  obtain ⟨h0, h1, h2, h3, h4⟩ := h c
  obtain ⟨q, hq⟩ := Cert.Pre_finite.lift_of_finite3 _ _ rfl _ h0
  obtain ⟨k, hk⟩ := Cert.Pre_finite.lift_of_finite3 _ _ rfl _ h1
  obtain ⟨v, hv⟩ := Cert.Pre_finite.lift_of_finite3 _ _ rfl _ h2
  obtain ⟨a, ha⟩ := Cert.Pre_finite.lift_of_finite2 _ _ rfl _ h3
  obtain ⟨d, hd⟩ := Cert.Pre_finite.lift_of_finite3 _ _ rfl _ h4
  exact ⟨q, k, v, d, a, hq, hk, hv, ha, hd⟩

set_option maxHeartbeats 2000000 in
/-- The idealization's gradients are the reference's. -/
theorem gradients : algebraic_KernelIdeal_ReferenceIdeal_pre_finite (hKernelIdeal := Cert.KernelIdeal.Gen.facts) (hReferenceIdeal := Cert.ReferenceIdeal.Gen.facts)
    (hPre_finite := Cert.Pre_finite.holds) := by
  pair_intro
  · run_from Cert.KernelIdeal.Attn.results m g
  · run_from Cert.ReferenceIdeal.Value.run m' g'
    · obtain ⟨q, k, v, d, a, hq, hk, hv, ha, hd⟩ := reals m hpre c
      obtain ⟨e0, e1, e2, e3, e4⟩ := hagree c
      refine (Cert.ReferenceIdeal.Read.val_main_v80_eq m' c).trans (Eq.trans ?_ (Cert.KernelIdeal.Attn.result_q m c q k v d a hq hk hv ha hd).symm)
      rw [e0.trans hq, e1.trans hk, e2.trans hv, e3.trans ha, e4.trans hd]
    · obtain ⟨q, k, v, d, a, hq, hk, hv, ha, hd⟩ := reals m hpre c
      obtain ⟨e0, e1, e2, e3, e4⟩ := hagree c
      refine (Cert.ReferenceIdeal.Read.val_main_v78_eq m' c).trans (Eq.trans ?_ (Cert.KernelIdeal.Attn.result_k m c q k v d a hq hk hv ha hd).symm)
      rw [e0.trans hq, e1.trans hk, e2.trans hv, e3.trans ha, e4.trans hd]
    · obtain ⟨q, k, v, d, a, hq, hk, hv, ha, hd⟩ := reals m hpre c
      obtain ⟨e0, e1, e2, e3, e4⟩ := hagree c
      refine (Cert.ReferenceIdeal.Read.val_main_v51_eq m' c).trans (Eq.trans ?_ (Cert.KernelIdeal.Attn.result_v m c q k d a hq hk ha hd).symm)
      rw [e0.trans hq, e1.trans hk, e3.trans ha, e4.trans hd]
    · obtain ⟨q, k, v, d, a, hq, hk, hv, ha, hd⟩ := reals m hpre c
      obtain ⟨e0, e1, e2, e3, e4⟩ := hagree c
      refine (Cert.ReferenceIdeal.Read.val_main_v74_eq m' c).trans (Eq.trans ?_ (Cert.KernelIdeal.Attn.result_c m c q k v d a hq hk hv ha hd).symm)
      rw [e0.trans hq, e1.trans hk, e2.trans hv, e3.trans ha, e4.trans hd]

/-! The channel mixer. -/

/-- The reference's frame: it has no semaphore, and its operations leave its arguments as they are. -/
theorem frame_ffn_reference : quiescent_FfnRefIdeal (hFfnRefIdeal := Cert.FfnRefIdeal.Gen.facts) := fun m ρ _ =>
  (θ_run _ _ _).mono (fun r h => ⟨fun c => (h c).2.2.2.2, sem_eq_zero_of_no_sems (by decide) r.2⟩) (Cert.FfnRefIdeal.Value.run m ρ)

/-- At finite arguments every element of an argument is a real number. -/
theorem ffn_reals (m : (ℓ : Loc Cert.FfnIdeal.nD Cert.FfnIdeal.τ Cert.FfnIdeal.sig) → Buf (Elt Ideal) ℓ)
    (h : Pre_FfnIdeal_ffn_finite (hPre_ffn_finite := Cert.Pre_ffn_finite.holds) m) (c : Dev Cert.FfnIdeal.nD) :
    (∀ i, Cert.FfnIdeal.FfnP.IsR (Cert.FfnIdeal.FfnP.arg0 m c i)) ∧ (∀ i, Cert.FfnIdeal.FfnP.IsR (Cert.FfnIdeal.FfnP.arg1 m c i))
      ∧ (∀ i, Cert.FfnIdeal.FfnP.IsR (Cert.FfnIdeal.FfnP.arg2 m c i)) ∧ (∀ i, Cert.FfnIdeal.FfnP.IsR (Cert.FfnIdeal.FfnP.arg3 m c i))
      ∧ ∀ i, Cert.FfnIdeal.FfnP.IsR (Cert.FfnIdeal.FfnP.arg4 m c i) := by
  obtain ⟨h0, h1, h2, h3, h4⟩ := h c
  exact ⟨Cert.Pre_ffn_finite.real_of_finite _ _ h0, Cert.Pre_ffn_finite.real_of_finite _ _ h1, Cert.Pre_ffn_finite.real_of_finite _ _ h2,
    Cert.Pre_ffn_finite.real_of_finite _ _ h3, Cert.Pre_ffn_finite.real_of_finite _ _ h4⟩

set_option maxHeartbeats 2000000 in
/-- The idealization's gradients of the channel mixer are the reference's. -/
theorem ffn_gradients : algebraic_FfnIdeal_FfnRefIdeal_pre_ffn_finite (hFfnIdeal := Cert.FfnIdeal.Gen.facts) (hFfnRefIdeal := Cert.FfnRefIdeal.Gen.facts)
    (hPre_ffn_finite := Cert.Pre_ffn_finite.holds) := by
  pair_intro
  · run_from Cert.FfnIdeal.FfnP.results m g
  · run_from Cert.FfnRefIdeal.Value.run m' g'
    · obtain ⟨r0, r1, r2, r3, r4⟩ := ffn_reals m hpre c
      obtain ⟨e0, e1, e2, e3, e4⟩ := hagree c
      refine (Cert.FfnRefIdeal.Read.val_main_v17_eq _ _ _ _ _).trans (Eq.trans ?_ (Cert.FfnIdeal.FfnP.result_x m c r0 r1 r2 r3 r4).symm)
      rfl
    · obtain ⟨r0, r1, r2, r3, r4⟩ := ffn_reals m hpre c
      obtain ⟨e0, e1, e2, e3, e4⟩ := hagree c
      refine (Cert.FfnRefIdeal.Read.val_main_v15_eq _ _ _ _ _).trans (Eq.trans ?_ (Cert.FfnIdeal.FfnP.result_g m c r0 r1 r2 r3 r4).symm)
      rfl
    · obtain ⟨e0, e1, e2, e3, e4⟩ := hagree c
      refine (Cert.FfnRefIdeal.Read.val_main_v11_eq _ _ _ _).trans (Eq.trans ?_ (Cert.FfnIdeal.FfnP.result_u m c).symm)
      rfl
    · obtain ⟨e0, e1, e2, e3, e4⟩ := hagree c
      refine (Cert.FfnRefIdeal.Read.val_main_v6_eq _ _ _ _).trans (Eq.trans ?_ (Cert.FfnIdeal.FfnP.result_d m c).symm)
      rfl

/-! The forward pass of the channel mixer and of the loss. -/

/-- The reference's frame: it has no semaphore, and its operations leave its arguments as they are. -/
theorem frame_fwd_reference : quiescent_FwdRefIdeal (hFwdRefIdeal := Cert.FwdRefIdeal.Gen.facts) := fun m ρ _ =>
  (θ_run _ _ _).mono (fun r h => ⟨fun c => (h c).2.2.2, sem_eq_zero_of_no_sems (by decide) r.2⟩) (Cert.FwdRefIdeal.Value.run m ρ)

/-- The idealization's loss and products are the reference's. -/
theorem fwd_values : algebraic_FwdIdeal_FwdRefIdeal (hFwdIdeal := Cert.FwdIdeal.Gen.facts) (hFwdRefIdeal := Cert.FwdRefIdeal.Gen.facts) := by
  intro m g m' g' _ hagree
  refine ⟨fun c => (Cert.FwdIdeal.Gen.dats m 0 c).arrAt 16 Cert.FwdIdeal.cfg0.N, fun c => (Cert.FwdIdeal.Gen.dats m 0 c).arrAt 12 Cert.FwdIdeal.cfg0.N, fun c => (Cert.FwdIdeal.Gen.dats m 0 c).arrAt 13 Cert.FwdIdeal.cfg0.N,
    Cert.FwdIdeal.FfnF.results m g, ?_⟩
  refine (θ_run _ _ _).mono (fun r h c => ?_) (Cert.FwdRefIdeal.stages m' g')
  obtain ⟨h0, h1, h2, k⟩ := h c
  obtain ⟨e0, e1, e2, e3, e4, e5, e6, e7, e8, e9, e10⟩ := hagree c
  rw [e0, e1, e2, e3, e4, e5, e6, e7, e8, e9, e10] at h0
  rw [e0, e1, e2] at h1
  rw [e0, e1, e3] at h2
  exact ⟨h0.trans (Cert.FwdIdeal.FfnF.result_loss m c).symm, h1.trans (Cert.FwdIdeal.FfnF.result_gate m c).symm, h2.trans (Cert.FwdIdeal.FfnF.result_up m c).symm, k⟩

/-- The claims. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Fwd.Gen.facts, Cert.FwdIdeal.Gen.facts, Cert.FwdRefIdeal.Gen.facts,
  Cert.Pre_finite.holds, Cert.Pre_ffn_finite.holds,
  Cert.Kernel.frame_program, fun m ρ _ => Cert.KernelIdeal.Attn.frame m ρ, fun m ρ _ => Cert.KernelIdeal.Attn.frame m ρ,
  frame_reference, fun m ρ _ => frame_reference m ρ trivial,
  Cert.Ffn.frame_program, fun m ρ _ => Cert.FfnIdeal.FfnP.frame m ρ, fun m ρ _ => Cert.FfnIdeal.FfnP.frame m ρ,
  frame_ffn_reference, fun m ρ _ => frame_ffn_reference m ρ trivial,
  fun m ρ _ => Cert.Fwd.Gen.frame m ρ, fun m ρ _ => Cert.FwdIdeal.Gen.frame m ρ, frame_fwd_reference,
  trivial, gradients, trivial, ffn_gradients, trivial, fwd_values⟩

end Cert.Proof

end
